-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjAReferenceIdeal (m : (ℓ : Loc Cert.ProjAReferenceIdeal.nD Cert.ProjAReferenceIdeal.τ Cert.ProjAReferenceIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBReferenceIdeal (m : (ℓ : Loc Cert.ProjBReferenceIdeal.nD Cert.ProjBReferenceIdeal.τ Cert.ProjBReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_logits [hPre_finite_logits : Cert.Pre_finite_logits.Facts] (m : (ℓ : Loc Cert.CrossIdeal.nD Cert.CrossIdeal.τ Cert.CrossIdeal.sig) → Buf (Elt Ideal) ℓ) : Prop :=
  ∀ c : Dev Cert.CrossIdeal.nD,
    (Cert.Pre_finite_logits.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1))).1 = (fun _ => 1#1)
    ∧ (Cert.Pre_finite_logits.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1))).2 = (fun _ => 1#1)

def Pre_CrossReferenceIdeal (m : (ℓ : Loc Cert.CrossReferenceIdeal.nD Cert.CrossReferenceIdeal.τ Cert.CrossReferenceIdeal.sig) → Buf (Elt Ideal) ℓ) : Prop :=
  True

def Pre_CrossReferenceIdeal_finite_logits [hPre_finite_logits : Cert.Pre_finite_logits.Facts] (m : (ℓ : Loc Cert.CrossReferenceIdeal.nD Cert.CrossReferenceIdeal.τ Cert.CrossReferenceIdeal.sig) → Buf (Elt Ideal) ℓ) : Prop :=
  ∀ c : Dev Cert.CrossReferenceIdeal.nD,
    (Cert.Pre_finite_logits.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1))).1 = (fun _ => 1#1)
    ∧ (Cert.Pre_finite_logits.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1))).2 = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasReferenceIdeal (m : (ℓ : Loc Cert.BiasReferenceIdeal.nD Cert.BiasReferenceIdeal.τ Cert.BiasReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjAReferenceIdeal [hProjAReferenceIdeal : Cert.ProjAReferenceIdeal.Facts] : Prop :=
  ∀ (m : (ℓ : Loc Cert.ProjAReferenceIdeal.nD Cert.ProjAReferenceIdeal.τ Cert.ProjAReferenceIdeal.sig) → Buf (Elt Ideal) ℓ) (g : Dev Cert.ProjAReferenceIdeal.nD → PrngReg), Pre_ProjAReferenceIdeal m →
    θ_run (Cert.ProjAReferenceIdeal.defs (F := Ideal)) (onTc (τ := Cert.ProjAReferenceIdeal.τ) (Cert.ProjAReferenceIdeal.main (F := Ideal))) ⟨m, fun _ => 0, g⟩ (fun r => (∀ c : Dev Cert.ProjAReferenceIdeal.nD,
      r.2.mem ((c.tc : Thread Cert.ProjAReferenceIdeal.nD Cert.ProjAReferenceIdeal.τ).loc Cert.ProjAReferenceIdeal.main_arg0) = m ((c.tc : Thread Cert.ProjAReferenceIdeal.nD Cert.ProjAReferenceIdeal.τ).loc Cert.ProjAReferenceIdeal.main_arg0)
      ∧ r.2.mem ((c.tc : Thread Cert.ProjAReferenceIdeal.nD Cert.ProjAReferenceIdeal.τ).loc Cert.ProjAReferenceIdeal.main_arg1) = m ((c.tc : Thread Cert.ProjAReferenceIdeal.nD Cert.ProjAReferenceIdeal.τ).loc Cert.ProjAReferenceIdeal.main_arg1)
      ∧ r.2.mem ((c.tc : Thread Cert.ProjAReferenceIdeal.nD Cert.ProjAReferenceIdeal.τ).loc Cert.ProjAReferenceIdeal.main_arg2) = m ((c.tc : Thread Cert.ProjAReferenceIdeal.nD Cert.ProjAReferenceIdeal.τ).loc Cert.ProjAReferenceIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBReferenceIdeal [hProjBReferenceIdeal : Cert.ProjBReferenceIdeal.Facts] : Prop :=
  ∀ (m : (ℓ : Loc Cert.ProjBReferenceIdeal.nD Cert.ProjBReferenceIdeal.τ Cert.ProjBReferenceIdeal.sig) → Buf (Elt Ideal) ℓ) (g : Dev Cert.ProjBReferenceIdeal.nD → PrngReg), Pre_ProjBReferenceIdeal m →
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1)
      ∧ r.2.mem ((c.tc : Thread Cert.ProjBReferenceIdeal.nD Cert.ProjBReferenceIdeal.τ).loc Cert.ProjBReferenceIdeal.main_arg2) = m ((c.tc : Thread Cert.ProjBReferenceIdeal.nD Cert.ProjBReferenceIdeal.τ).loc Cert.ProjBReferenceIdeal.main_arg2))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossIdeal_pre_finite_logits [hCrossIdeal : Cert.CrossIdeal.Facts] [hPre_finite_logits : Cert.Pre_finite_logits.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_logits m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1))
      ∧ r.2.sem = fun _ => 0)

def quiescent_CrossReferenceIdeal_pre_finite_logits [hCrossReferenceIdeal : Cert.CrossReferenceIdeal.Facts] [hPre_finite_logits : Cert.Pre_finite_logits.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal_finite_logits m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v74) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_ProjA_ProjAIdeal : Prop :=
  True

def algebraic_ProjAIdeal_ProjAReferenceIdeal [hProjAIdeal : Cert.ProjAIdeal.Facts] [hProjAReferenceIdeal : Cert.ProjAReferenceIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjAReferenceIdeal.nD Cert.ProjAReferenceIdeal.τ Cert.ProjAReferenceIdeal.sig) → Buf (Elt Ideal) ℓ) (g' : Dev Cert.ProjAReferenceIdeal.nD → PrngReg), Pre_ProjAIdeal m →
    (∀ c : Dev Cert.ProjAIdeal.nD,
      m' ((c.tc : Thread Cert.ProjAReferenceIdeal.nD Cert.ProjAReferenceIdeal.τ).loc Cert.ProjAReferenceIdeal.main_arg0) = m ((c.tc : Thread Cert.ProjAIdeal.nD Cert.ProjAIdeal.τ).loc Cert.ProjAIdeal.main_arg0)
      ∧ m' ((c.tc : Thread Cert.ProjAReferenceIdeal.nD Cert.ProjAReferenceIdeal.τ).loc Cert.ProjAReferenceIdeal.main_arg1) = m ((c.tc : Thread Cert.ProjAIdeal.nD Cert.ProjAIdeal.τ).loc Cert.ProjAIdeal.main_arg1)
      ∧ m' ((c.tc : Thread Cert.ProjAReferenceIdeal.nD Cert.ProjAReferenceIdeal.τ).loc Cert.ProjAReferenceIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v48)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v48) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjAReferenceIdeal.defs (F := Ideal)) (onTc (τ := Cert.ProjAReferenceIdeal.τ) (Cert.ProjAReferenceIdeal.main (F := Ideal))) ⟨m', fun _ => 0, g'⟩ (fun r => ∀ c : Dev Cert.ProjAReferenceIdeal.nD,
          r.2.mem ((c.tc : Thread Cert.ProjAReferenceIdeal.nD Cert.ProjAReferenceIdeal.τ).loc Cert.ProjAReferenceIdeal.main_v38) = v0 c
          ∧ r.2.mem ((c.tc : Thread Cert.ProjAReferenceIdeal.nD Cert.ProjAReferenceIdeal.τ).loc Cert.ProjAReferenceIdeal.main_arg0) = m' ((c.tc : Thread Cert.ProjAReferenceIdeal.nD Cert.ProjAReferenceIdeal.τ).loc Cert.ProjAReferenceIdeal.main_arg0)
          ∧ r.2.mem ((c.tc : Thread Cert.ProjAReferenceIdeal.nD Cert.ProjAReferenceIdeal.τ).loc Cert.ProjAReferenceIdeal.main_arg1) = m' ((c.tc : Thread Cert.ProjAReferenceIdeal.nD Cert.ProjAReferenceIdeal.τ).loc Cert.ProjAReferenceIdeal.main_arg1)
          ∧ r.2.mem ((c.tc : Thread Cert.ProjAReferenceIdeal.nD Cert.ProjAReferenceIdeal.τ).loc Cert.ProjAReferenceIdeal.main_arg2) = m' ((c.tc : Thread Cert.ProjAReferenceIdeal.nD Cert.ProjAReferenceIdeal.τ).loc Cert.ProjAReferenceIdeal.main_arg2))

def preserves_ProjB_ProjBIdeal : Prop :=
  True

def algebraic_ProjBIdeal_ProjBReferenceIdeal [hProjBIdeal : Cert.ProjBIdeal.Facts] [hProjBReferenceIdeal : Cert.ProjBReferenceIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBReferenceIdeal.nD Cert.ProjBReferenceIdeal.τ Cert.ProjBReferenceIdeal.sig) → Buf (Elt Ideal) ℓ) (g' : Dev Cert.ProjBReferenceIdeal.nD → PrngReg), Pre_ProjBIdeal m →
    (∀ c : Dev Cert.ProjBIdeal.nD,
      m' ((c.tc : Thread Cert.ProjBReferenceIdeal.nD Cert.ProjBReferenceIdeal.τ).loc Cert.ProjBReferenceIdeal.main_arg0) = m ((c.tc : Thread Cert.ProjBIdeal.nD Cert.ProjBIdeal.τ).loc Cert.ProjBIdeal.main_arg0)
      ∧ m' ((c.tc : Thread Cert.ProjBReferenceIdeal.nD Cert.ProjBReferenceIdeal.τ).loc Cert.ProjBReferenceIdeal.main_arg1) = m ((c.tc : Thread Cert.ProjBIdeal.nD Cert.ProjBIdeal.τ).loc Cert.ProjBIdeal.main_arg1)
      ∧ m' ((c.tc : Thread Cert.ProjBReferenceIdeal.nD Cert.ProjBReferenceIdeal.τ).loc Cert.ProjBReferenceIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v48)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v48) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBReferenceIdeal.defs (F := Ideal)) (onTc (τ := Cert.ProjBReferenceIdeal.τ) (Cert.ProjBReferenceIdeal.main (F := Ideal))) ⟨m', fun _ => 0, g'⟩ (fun r => ∀ c : Dev Cert.ProjBReferenceIdeal.nD,
          r.2.mem ((c.tc : Thread Cert.ProjBReferenceIdeal.nD Cert.ProjBReferenceIdeal.τ).loc Cert.ProjBReferenceIdeal.main_v35) = v0 c
          ∧ r.2.mem ((c.tc : Thread Cert.ProjBReferenceIdeal.nD Cert.ProjBReferenceIdeal.τ).loc Cert.ProjBReferenceIdeal.main_arg0) = m' ((c.tc : Thread Cert.ProjBReferenceIdeal.nD Cert.ProjBReferenceIdeal.τ).loc Cert.ProjBReferenceIdeal.main_arg0)
          ∧ r.2.mem ((c.tc : Thread Cert.ProjBReferenceIdeal.nD Cert.ProjBReferenceIdeal.τ).loc Cert.ProjBReferenceIdeal.main_arg1) = m' ((c.tc : Thread Cert.ProjBReferenceIdeal.nD Cert.ProjBReferenceIdeal.τ).loc Cert.ProjBReferenceIdeal.main_arg1)
          ∧ r.2.mem ((c.tc : Thread Cert.ProjBReferenceIdeal.nD Cert.ProjBReferenceIdeal.τ).loc Cert.ProjBReferenceIdeal.main_arg2) = m' ((c.tc : Thread Cert.ProjBReferenceIdeal.nD Cert.ProjBReferenceIdeal.τ).loc Cert.ProjBReferenceIdeal.main_arg2))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)) →
    ∃ (v0 : (c : Dev Cert.MemIdeal.nD) → Buf (Elt Ideal) ((c.tc : Thread Cert.MemIdeal.nD Cert.MemIdeal.τ).loc Cert.MemIdeal.main_v8)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v8) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v17) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_Cross_CrossIdeal : Prop :=
  True

def algebraic_CrossIdeal_CrossReferenceIdeal_pre_finite_logits [hCrossIdeal : Cert.CrossIdeal.Facts] [hCrossReferenceIdeal : Cert.CrossReferenceIdeal.Facts] [hPre_finite_logits : Cert.Pre_finite_logits.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal_finite_logits m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)) →
    ∃ (v0 : (c : Dev Cert.CrossIdeal.nD) → Buf (Elt Ideal) ((c.tc : Thread Cert.CrossIdeal.nD Cert.CrossIdeal.τ).loc Cert.CrossIdeal.main_v30)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v30) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v42) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1))

def preserves_Bias_BiasIdeal : Prop :=
  True

def algebraic_BiasIdeal_BiasReferenceIdeal [hBiasIdeal : Cert.BiasIdeal.Facts] [hBiasReferenceIdeal : Cert.BiasReferenceIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v42) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProjA : Cert.ProjA.Facts) (hProjAIdeal : Cert.ProjAIdeal.Facts) (hProjAReferenceIdeal : Cert.ProjAReferenceIdeal.Facts) (hProjB : Cert.ProjB.Facts) (hProjBIdeal : Cert.ProjBIdeal.Facts) (hProjBReferenceIdeal : Cert.ProjBReferenceIdeal.Facts) (hMem : Cert.Mem.Facts) (hMemIdeal : Cert.MemIdeal.Facts) (hMemReferenceIdeal : Cert.MemReferenceIdeal.Facts) (hCross : Cert.Cross.Facts) (hCrossIdeal : Cert.CrossIdeal.Facts) (hCrossReferenceIdeal : Cert.CrossReferenceIdeal.Facts) (hBias : Cert.Bias.Facts) (hBiasIdeal : Cert.BiasIdeal.Facts) (hBiasReferenceIdeal : Cert.BiasReferenceIdeal.Facts) (hPre_finite_logits : Cert.Pre_finite_logits.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_ProjA (hProjA := hProjA)
    ∧ quiescent_ProjAIdeal (hProjAIdeal := hProjAIdeal)
    ∧ quiescent_ProjAReferenceIdeal (hProjAReferenceIdeal := hProjAReferenceIdeal)
    ∧ quiescent_ProjB (hProjB := hProjB)
    ∧ quiescent_ProjBIdeal (hProjBIdeal := hProjBIdeal)
    ∧ quiescent_ProjBReferenceIdeal (hProjBReferenceIdeal := hProjBReferenceIdeal)
    ∧ quiescent_Mem (hMem := hMem)
    ∧ quiescent_MemIdeal (hMemIdeal := hMemIdeal)
    ∧ quiescent_MemReferenceIdeal (hMemReferenceIdeal := hMemReferenceIdeal)
    ∧ quiescent_Cross (hCross := hCross)
    ∧ quiescent_CrossIdeal (hCrossIdeal := hCrossIdeal)
    ∧ quiescent_CrossIdeal_pre_finite_logits (hCrossIdeal := hCrossIdeal) (hPre_finite_logits := hPre_finite_logits)
    ∧ quiescent_CrossReferenceIdeal (hCrossReferenceIdeal := hCrossReferenceIdeal)
    ∧ quiescent_CrossReferenceIdeal_pre_finite_logits (hCrossReferenceIdeal := hCrossReferenceIdeal) (hPre_finite_logits := hPre_finite_logits)
    ∧ quiescent_Bias (hBias := hBias)
    ∧ quiescent_BiasIdeal (hBiasIdeal := hBiasIdeal)
    ∧ quiescent_BiasReferenceIdeal (hBiasReferenceIdeal := hBiasReferenceIdeal)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeReferenceIdeal (hMergeIdeal := hMergeIdeal) (hMergeReferenceIdeal := hMergeReferenceIdeal)
    ∧ preserves_ProjA_ProjAIdeal
    ∧ algebraic_ProjAIdeal_ProjAReferenceIdeal (hProjAIdeal := hProjAIdeal) (hProjAReferenceIdeal := hProjAReferenceIdeal)
    ∧ preserves_ProjB_ProjBIdeal
    ∧ algebraic_ProjBIdeal_ProjBReferenceIdeal (hProjBIdeal := hProjBIdeal) (hProjBReferenceIdeal := hProjBReferenceIdeal)
    ∧ preserves_Mem_MemIdeal
    ∧ algebraic_MemIdeal_MemReferenceIdeal (hMemIdeal := hMemIdeal) (hMemReferenceIdeal := hMemReferenceIdeal)
    ∧ preserves_Cross_CrossIdeal
    ∧ algebraic_CrossIdeal_CrossReferenceIdeal_pre_finite_logits (hCrossIdeal := hCrossIdeal) (hCrossReferenceIdeal := hCrossReferenceIdeal) (hPre_finite_logits := hPre_finite_logits)
    ∧ preserves_Bias_BiasIdeal
    ∧ algebraic_BiasIdeal_BiasReferenceIdeal (hBiasIdeal := hBiasIdeal) (hBiasReferenceIdeal := hBiasReferenceIdeal)
-- ==== Pre_finite_logits.lean ====
abbrev S4x4096x11352 : Shape := ⟨3, ![4, 4096, 11352]⟩
abbrev S1024x2048 : Shape := ⟨2, ![1024, 2048]⟩
abbrev S4x4096x1024 : Shape := ⟨3, ![4, 4096, 1024]⟩
abbrev S_ : Shape := ⟨0, ![]⟩
abbrev S1024x1024 : Shape := ⟨2, ![1024, 1024]⟩

class Facts : Prop where
  slices_S4x4096x11352_S4x4096x1024_0_0_6232 : S4x4096x11352.Slices ![0, 0, 6232] S4x4096x1024
  bcast_S_S4x4096x1024 : S_.BroadcastsInDim S4x4096x1024 (![] : Fin 0 → Fin S4x4096x1024.rank)
  slices_S1024x2048_S1024x1024_0_0 : S1024x2048.Slices ![0, 0] S1024x1024
  bitsLt_bf16_f32 : FTy.bits .bf16 < FTy.bits .f32
  bcast_S_S1024x1024 : S_.BroadcastsInDim S1024x1024 (![] : Fin 0 → Fin S1024x1024.rank)

variable [Facts]

def fn {F : FTy → Type} [FloatOps F] (main_arg0 : FVec F S4x4096x11352 .f32) (main_arg1 : FVec F S1024x2048 .bf16) : IVec S4x4096x1024 1 × IVec S1024x1024 1 :=
  let main_v0 : FVec F S4x4096x1024 .f32 := (extractStridedSlice S4x4096x1024 ![0, 0, 6232] · slices_S4x4096x11352_S4x4096x1024_0_0_6232) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_v4 : FVec F S1024x1024 .bf16 := (extractStridedSlice S1024x1024 ![0, 0] · slices_S1024x2048_S1024x1024_0_0) main_arg1
  let main_v5 : FVec F S1024x1024 .f32 := (extf .f32 · bitsLt_bf16_f32) main_v4
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  (main_v3, main_v8)
-- ==== Kernel.lean ====
abbrev S4x4096x11352 : Shape := ⟨3, ![4, 4096, 11352]⟩
abbrev S1x16x512 : Shape := ⟨3, ![1, 16, 512]⟩
abbrev S1x512 : Shape := ⟨2, ![1, 512]⟩
abbrev S1x256 : Shape := ⟨2, ![1, 256]⟩
abbrev S16384x11352 : Shape := ⟨2, ![16384, 11352]⟩
abbrev S_ : Shape := ⟨0, ![]⟩
abbrev S16384x64 : Shape := ⟨2, ![16384, 64]⟩
abbrev S16384x1024 : Shape := ⟨2, ![16384, 1024]⟩
abbrev S16384x256 : Shape := ⟨2, ![16384, 256]⟩
abbrev S16384x512 : Shape := ⟨2, ![16384, 512]⟩
abbrev S16384x128 : Shape := ⟨2, ![16384, 128]⟩
abbrev S16384x4352 : Shape := ⟨2, ![16384, 4352]⟩
abbrev S16384x16 : Shape := ⟨2, ![16384, 16]⟩
abbrev S16384x8 : Shape := ⟨2, ![16384, 8]⟩
abbrev S16384x104 : Shape := ⟨2, ![16384, 104]⟩
abbrev S16384x4224 : Shape := ⟨2, ![16384, 4224]⟩
abbrev S128x512 : Shape := ⟨2, ![128, 512]⟩
abbrev S16x512 : Shape := ⟨2, ![16, 512]⟩
abbrev S1 : Shape := ⟨1, ![1]⟩
abbrev S512 : Shape := ⟨1, ![512]⟩
abbrev S256 : Shape := ⟨1, ![256]⟩
abbrev S512x512 : Shape := ⟨2, ![512, 512]⟩
abbrev S512x1024 : Shape := ⟨2, ![512, 1024]⟩
abbrev S512x128 : Shape := ⟨2, ![512, 128]⟩
abbrev S4x256x128 : Shape := ⟨3, ![4, 256, 128]⟩
abbrev S64x64 : Shape := ⟨2, ![64, 64]⟩
abbrev S64x512 : Shape := ⟨2, ![64, 512]⟩
abbrev S64x256 : Shape := ⟨2, ![64, 256]⟩
abbrev S64x128 : Shape := ⟨2, ![64, 128]⟩
abbrev S1x256x128 : Shape := ⟨3, ![1, 256, 128]⟩
abbrev S256x128 : Shape := ⟨2, ![256, 128]⟩
abbrev S1x128 : Shape := ⟨2, ![1, 128]⟩
abbrev S64 : Shape := ⟨1, ![64]⟩
abbrev S64x1 : Shape := ⟨2, ![64, 1]⟩

abbrev nBuf : Space → Nat
  | .hbm => 51
  | .vmem => 16
  | .smem => 0
  | _ => 0

abbrev bufTy : (tb : Table) → Fin (tcTables nBuf tb) → BufTy
  | .hbm, ⟨0, _⟩ => ⟨S4x4096x11352, .f32⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S16384x11352, .f32⟩
  | .hbm, ⟨5, _⟩ => ⟨S_, .f32⟩
  | .hbm, ⟨6, _⟩ => ⟨S16384x64, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x256, .f32⟩
  | .hbm, ⟨11, _⟩ => ⟨S16384x256, .f32⟩
  | .hbm, ⟨12, _⟩ => ⟨S16384x512, .f32⟩
  | .hbm, ⟨13, _⟩ => ⟨S16384x64, .f32⟩
  | .hbm, ⟨14, _⟩ => ⟨S16384x128, .f32⟩
  | .hbm, ⟨15, _⟩ => ⟨S16384x64, .f32⟩
  | .hbm, ⟨16, _⟩ => ⟨S16384x128, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x4352, .f32⟩
  | .hbm, ⟨24, _⟩ => ⟨S16384x16, .f32⟩
  | .hbm, ⟨25, _⟩ => ⟨S16384x8, .f32⟩
  | .hbm, ⟨26, _⟩ => ⟨S_, .f32⟩
  | .hbm, ⟨27, _⟩ => ⟨S16384x104, .f32⟩
  | .hbm, ⟨28, _⟩ => ⟨S16384x128, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x4224, .f32⟩
  | .hbm, ⟨38, _⟩ => ⟨S16384x4352, .bf16⟩
  | .hbm, ⟨39, _⟩ => ⟨S_, .f32⟩
  | .hbm, ⟨40, _⟩ => ⟨S128x512, .f32⟩
  | .hbm, ⟨41, _⟩ => ⟨S16x512, .f32⟩
  | .hbm, ⟨42, _⟩ => ⟨S_, .i32⟩
  | .hbm, ⟨43, _⟩ => ⟨S1, .i32⟩
  | .hbm, ⟨44, _⟩ => ⟨S128x512, .f32⟩
  | .hbm, ⟨45, _⟩ => ⟨S128x512, .bf16⟩
  | .hbm, ⟨46, _⟩ => ⟨S512, .f32⟩
  | .hbm, ⟨47, _⟩ => ⟨S256, .f32⟩
  | .hbm, ⟨48, _⟩ => ⟨S1x512, .f32⟩
  | .hbm, ⟨49, _⟩ => ⟨S1x256, .f32⟩
  | .hbm, ⟨50, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S512x1024, .bf16⟩
  | .local _ .vmem, ⟨14, _⟩ => ⟨S512x1024, .bf16⟩
  | .local _ .vmem, ⟨15, _⟩ => ⟨S4x256x128, .f32⟩
  | _, _ => ⟨S4x4096x11352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let c0_i32 : BitVec 32 := 0#32
  ![v1.toNat, c32_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x11352 : Shape := ⟨3, ![4, 4096, 11352]⟩
abbrev S1x16x512 : Shape := ⟨3, ![1, 16, 512]⟩
abbrev S1x512 : Shape := ⟨2, ![1, 512]⟩
abbrev S1x256 : Shape := ⟨2, ![1, 256]⟩
abbrev S4x4096x512 : Shape := ⟨3, ![4, 4096, 512]⟩
abbrev S4x4096x1024 : Shape := ⟨3, ![4, 4096, 1024]⟩
abbrev S4x4096x16 : Shape := ⟨3, ![4, 4096, 16]⟩
abbrev S4x4096x256 : Shape := ⟨3, ![4, 4096, 256]⟩
abbrev S4x4096x64 : Shape := ⟨3, ![4, 4096, 64]⟩
abbrev S4x4096x8 : Shape := ⟨3, ![4, 4096, 8]⟩
abbrev S4x4096x3072 : Shape := ⟨3, ![4, 4096, 3072]⟩
abbrev S16x512 : Shape := ⟨2, ![16, 512]⟩
abbrev S512 : Shape := ⟨1, ![512]⟩
abbrev S4x64x64x4x128 : Shape := ⟨5, ![4, 64, 64, 4, 128]⟩
abbrev S_ : Shape := ⟨0, ![]⟩
abbrev S4x64x64x4x256 : Shape := ⟨5, ![4, 64, 64, 4, 256]⟩
abbrev S1x1x512 : Shape := ⟨3, ![1, 1, 512]⟩
abbrev S4x4x128x256 : Shape := ⟨4, ![4, 4, 128, 256]⟩
abbrev S64x4x64x4x128 : Shape := ⟨5, ![64, 4, 64, 4, 128]⟩
abbrev S64x4x64x4x256 : Shape := ⟨5, ![64, 4, 64, 4, 256]⟩
abbrev S1x4x64x4x128 : Shape := ⟨5, ![1, 4, 64, 4, 128]⟩
abbrev S4x64x4x128 : Shape := ⟨4, ![4, 64, 4, 128]⟩
abbrev S1x4x64x4x256 : Shape := ⟨5, ![1, 4, 64, 4, 256]⟩
abbrev S4x64x4x256 : Shape := ⟨4, ![4, 64, 4, 256]⟩
abbrev S64x64 : Shape := ⟨2, ![64, 64]⟩
abbrev S4x1x4x128 : Shape := ⟨4, ![4, 1, 4, 128]⟩
abbrev S4x4x128 : Shape := ⟨3, ![4, 4, 128]⟩
abbrev S4x4x64x64 : Shape := ⟨4, ![4, 4, 64, 64]⟩
abbrev S4x4x256x64 : Shape := ⟨4, ![4, 4, 256, 64]⟩
abbrev S4x4x128x1 : Shape := ⟨4, ![4, 4, 128, 1]⟩
abbrev S4x4096x4x256 : Shape := ⟨4, ![4, 4096, 4, 256]⟩
abbrev S256 : Shape := ⟨1, ![256]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩
abbrev S16384x1024 : Shape := ⟨2, ![16384, 1024]⟩

abbrev nBuf : Space → Nat
  | .hbm => 183
  | .vmem => 0
  | .smem => 0
  | _ => 0

abbrev hbmTy0_0 (i : Nat) : BufTy := match i % 128 with
  | 0 => ⟨S4x4096x11352, .f32⟩
  | 1 => ⟨S1x16x512, .f32⟩
  | 2 => ⟨S1x512, .f32⟩
  | 3 => ⟨S1x256, .f32⟩
  | 4 => ⟨S4x4096x512, .f32⟩
  | 5 => ⟨S4x4096x512, .f32⟩
  | 6 => ⟨S4x4096x1024, .f32⟩
  | 7 => ⟨S4x4096x16, .f32⟩
  | 8 => ⟨S4x4096x1024, .f32⟩
  | 9 => ⟨S4x4096x1024, .f32⟩
  | 10 => ⟨S4x4096x256, .f32⟩
  | 11 => ⟨S4x4096x256, .f32⟩
  | 12 => ⟨S4x4096x512, .f32⟩
  | 13 => ⟨S4x4096x64, .f32⟩
  | 14 => ⟨S4x4096x8, .f32⟩
  | 15 => ⟨S4x4096x1024, .f32⟩
  | 16 => ⟨S4x4096x1024, .f32⟩
  | 17 => ⟨S4x4096x1024, .f32⟩
  | 18 => ⟨S4x4096x3072, .f32⟩
  | 19 => ⟨S16x512, .f32⟩
  | 20 => ⟨S512, .f32⟩
  | 21 => ⟨S4x64x64x4x128, .f32⟩
  | 22 => ⟨S_, .f32⟩
  | 23 => ⟨S4x64x64x4x128, .f32⟩
  | 24 => ⟨S4x64x64x4x128, .f32⟩
  | 25 => ⟨S4x64x64x4x128, .f32⟩
  | 26 => ⟨S4x64x64x4x256, .f32⟩
  | 27 => ⟨S4x4096x512, .f32⟩
  | 28 => ⟨S1x1x512, .f32⟩
  | 29 => ⟨S4x4096x512, .f32⟩
  | 30 => ⟨S4x4096x512, .f32⟩
  | 31 => ⟨S4x4096x512, .f32⟩
  | 32 => ⟨S_, .f32⟩
  | 33 => ⟨S4x4096x512, .f32⟩
  | 34 => ⟨S4x4096x512, .f32⟩
  | 35 => ⟨S4x4096x512, .f32⟩
  | 36 => ⟨S4x4096x512, .f32⟩
  | 37 => ⟨S4x4096x512, .f32⟩
  | 38 => ⟨S4x4096x512, .f32⟩
  | 39 => ⟨S4x4096x512, .f32⟩
  | 40 => ⟨S4x4096x512, .f32⟩
  | 41 => ⟨S_, .f32⟩
  | 42 => ⟨S4x4096x512, .f32⟩
  | 43 => ⟨S4x4096x512, .f32⟩
  | 44 => ⟨S4x64x64x4x128, .f32⟩
  | 45 => ⟨S_, .f32⟩
  | 46 => ⟨S4x4x128x256, .f32⟩
  | 47 => ⟨S64x4x64x4x128, .f32⟩
  | 48 => ⟨S64x4x64x4x128, .f32⟩
  | 49 => ⟨S64x4x64x4x256, .f32⟩
  | 50 => ⟨S64x4x64x4x128, .f32⟩
  | 51 => ⟨S_, .f32⟩
  | 52 => ⟨S64x4x64x4x256, .f32⟩
  | 53 => ⟨S_, .i32⟩
  | 54 => ⟨S64x4x64x4x128, .f32⟩
  | 55 => ⟨S64x4x64x4x128, .f32⟩
  | 56 => ⟨S64x4x64x4x256, .f32⟩
  | 57 => ⟨S64x4x64x4x128, .f32⟩
  | 58 => ⟨S_, .i32⟩
  | 59 => ⟨S4x4x128x256, .f32⟩
  | 60 => ⟨S64x4x64x4x256, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S1x4x64x4x128, .f32⟩
  | 68 => ⟨S4x64x4x128, .f32⟩
  | 69 => ⟨S_, .i32⟩
  | 70 => ⟨S_, .i32⟩
  | 71 => ⟨S_, .i32⟩
  | 72 => ⟨S_, .i32⟩
  | 73 => ⟨S1x4x64x4x128, .f32⟩
  | 74 => ⟨S4x64x4x128, .f32⟩
  | 75 => ⟨S_, .i32⟩
  | 76 => ⟨S_, .i32⟩
  | 77 => ⟨S_, .i32⟩
  | 78 => ⟨S_, .i32⟩
  | 79 => ⟨S1x4x64x4x256, .f32⟩
  | 80 => ⟨S4x64x4x256, .f32⟩
  | 81 => ⟨S_, .i32⟩
  | 82 => ⟨S_, .i32⟩
  | 83 => ⟨S_, .i32⟩
  | 84 => ⟨S_, .i32⟩
  | 85 => ⟨S1x4x64x4x128, .f32⟩
  | 86 => ⟨S4x64x4x128, .f32⟩
  | 87 => ⟨S_, .i1⟩
  | 88 => ⟨S64x64, .i1⟩
  | 89 => ⟨S64x64, .i32⟩
  | 90 => ⟨S_, .i32⟩
  | 91 => ⟨S64x64, .i32⟩
  | 92 => ⟨S64x64, .i32⟩
  | 93 => ⟨S64x64, .i32⟩
  | 94 => ⟨S64x64, .i1⟩
  | 95 => ⟨S_, .i1⟩
  | 96 => ⟨S64x64, .i1⟩
  | 97 => ⟨S64x64, .i1⟩
  | 98 => ⟨S_, .f32⟩
  | 99 => ⟨S_, .f32⟩
  | 100 => ⟨S4x64x4x128, .f32⟩
  | 101 => ⟨S4x1x4x128, .f32⟩
  | 102 => ⟨S4x64x4x128, .f32⟩
  | 103 => ⟨S4x64x4x128, .f32⟩
  | 104 => ⟨S4x64x4x128, .f32⟩
  | 105 => ⟨S4x64x4x128, .f32⟩
  | 106 => ⟨S4x64x4x128, .f32⟩
  | 107 => ⟨S4x64x4x128, .f32⟩
  | 108 => ⟨S4x64x4x128, .f32⟩
  | 109 => ⟨S4x64x4x128, .f32⟩
  | 110 => ⟨S4x64x4x128, .f32⟩
  | 111 => ⟨S4x4x128, .f32⟩
  | 112 => ⟨S4x4x128, .f32⟩
  | 113 => ⟨S4x4x64x64, .f32⟩
  | 114 => ⟨S_, .f32⟩
  | 115 => ⟨S4x4x64x64, .f32⟩
  | 116 => ⟨S4x4x64x64, .i1⟩
  | 117 => ⟨S4x4x64x64, .f32⟩
  | 118 => ⟨S4x4x256x64, .f32⟩
  | 119 => ⟨S4x64x4x256, .f32⟩
  | 120 => ⟨S4x4x256x64, .f32⟩
  | 121 => ⟨S4x64x4x256, .f32⟩
  | 122 => ⟨S4x4x128x1, .f32⟩
  | 123 => ⟨S4x4x128x256, .f32⟩
  | 124 => ⟨S4x4x128x256, .f32⟩
  | 125 => ⟨S4x4x128x256, .f32⟩
  | 126 => ⟨S4x4x128x256, .f32⟩
  | 127 => ⟨S4x64x4x256, .f32⟩
  | _ => ⟨S4x4096x11352, .f32⟩

abbrev hbmTy0_1 (i : Nat) : BufTy := match i % 128 with
  | 0 => ⟨S1x4x64x4x256, .f32⟩
  | 1 => ⟨S_, .i32⟩
  | 2 => ⟨S_, .i32⟩
  | 3 => ⟨S_, .i32⟩
  | 4 => ⟨S_, .i32⟩
  | 5 => ⟨S64x4x64x4x256, .f32⟩
  | 6 => ⟨S_, .i32⟩
  | 7 => ⟨S_, .i32⟩
  | 8 => ⟨S4x64x64x4x256, .f32⟩
  | 9 => ⟨S4x4096x4x256, .f32⟩
  | 10 => ⟨S256, .f32⟩
  | 11 => ⟨S4x4096x4x256, .f32⟩
  | 12 => ⟨S_, .f32⟩
  | 13 => ⟨S4x4096x4, .f32⟩
  | 14 => ⟨S4x4096x4x1, .f32⟩
  | 15 => ⟨S_, .f32⟩
  | 16 => ⟨S4x4096x4x1, .f32⟩
  | 17 => ⟨S4x4096x4x1, .f32⟩
  | 18 => ⟨S_, .f32⟩
  | 19 => ⟨S4x4096x4x1, .f32⟩
  | 20 => ⟨S4x4096x4x1, .f32⟩
  | 21 => ⟨S4x4096x4x1, .f32⟩
  | 22 => ⟨S4x4096x4x256, .f32⟩
  | 23 => ⟨S4x4096x4x256, .f32⟩
  | 24 => ⟨S1x1x1x256, .f32⟩
  | 25 => ⟨S4x4096x4x256, .f32⟩
  | 26 => ⟨S4x4096x4x256, .f32⟩
  | 27 => ⟨S4x4096x512, .f32⟩
  | 28 => ⟨S4x4096x512, .f32⟩
  | 29 => ⟨S4x4096x1024, .f32⟩
  | 30 => ⟨S4x4096x16, .f32⟩
  | 31 => ⟨S4x4096x1024, .f32⟩
  | 32 => ⟨S4x4096x1024, .f32⟩
  | 33 => ⟨S4x4096x256, .f32⟩
  | 34 => ⟨S4x4096x256, .f32⟩
  | 35 => ⟨S4x4096x512, .f32⟩
  | 36 => ⟨S4x4096x64, .f32⟩
  | 37 => ⟨S4x4096x8, .f32⟩
  | 38 => ⟨S4x4096x1024, .f32⟩
  | 39 => ⟨S4x4096x1024, .f32⟩
  | 40 => ⟨S4x4096x1024, .f32⟩
  | 41 => ⟨S4x4096x3072, .f32⟩
  | 42 => ⟨S4x4096x1024, .f32⟩
  | 43 => ⟨S4x4096x1024, .f32⟩
  | 44 => ⟨S4x4096x1024, .f32⟩
  | 45 => ⟨S_, .f32⟩
  | 46 => ⟨S4x4096x1024, .f32⟩
  | 47 => ⟨S4x4096x1024, .f32⟩
  | 48 => ⟨S_, .f32⟩
  | 49 => ⟨S4x4096x1024, .f32⟩
  | 50 => ⟨S4x4096x1024, .f32⟩
  | 51 => ⟨S4x4096x1024, .f32⟩
  | 52 => ⟨S4x4096x1024, .f32⟩
  | 53 => ⟨S16384x1024, .f32⟩
  | 54 => ⟨S16384x1024, .bf16⟩
  | _ => ⟨S4x4096x11352, .f32⟩

abbrev hbmTy (i : Nat) : BufTy := match i / 128 with
  | 0 => hbmTy0_0 i
  | 1 => hbmTy0_1 i
  | _ => ⟨S4x4096x11352, .f32⟩

abbrev bufTy : (tb : Table) → Fin (tcTables nBuf tb) → BufTy
  | .hbm, ⟨i, _⟩ => hbmTy i
  | _, _ => ⟨S4x4096x11352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_c : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev main_v44_3 : Ref sig .tc := ⟨.hbm, 57, rfl⟩
abbrev main_v44_4 : Ref sig .tc := ⟨.hbm, 58, rfl⟩
abbrev main_v44_5 : Ref sig .tc := ⟨.hbm, 59, rfl⟩
abbrev main_v44_6 : Ref sig .tc := ⟨.hbm, 60, rfl⟩
abbrev main_while0c_c_13 : Ref sig .tc := ⟨.hbm, 61, rfl⟩
abbrev main_while0c_v81 : Ref sig .tc := ⟨.hbm, 62, rfl⟩
abbrev main_while0b_call0_c : Ref sig .tc := ⟨.hbm, 63, rfl⟩
abbrev main_while0b_call0_c_0 : Ref sig .tc := ⟨.hbm, 64, rfl⟩
abbrev main_while0b_call0_c_1 : Ref sig .tc := ⟨.hbm, 65, rfl⟩
abbrev main_while0b_call0_c_2 : Ref sig .tc := ⟨.hbm, 66, rfl⟩
abbrev main_while0b_call0_v0 : Ref sig .tc := ⟨.hbm, 67, rfl⟩
abbrev main_while0b_v81 : Ref sig .tc := ⟨.hbm, 68, rfl⟩
abbrev main_while0b_call1_c : Ref sig .tc := ⟨.hbm, 69, rfl⟩
abbrev main_while0b_call1_c_0 : Ref sig .tc := ⟨.hbm, 70, rfl⟩
abbrev main_while0b_call1_c_1 : Ref sig .tc := ⟨.hbm, 71, rfl⟩
abbrev main_while0b_call1_c_2 : Ref sig .tc := ⟨.hbm, 72, rfl⟩
abbrev main_while0b_call1_v0 : Ref sig .tc := ⟨.hbm, 73, rfl⟩
abbrev main_while0b_v82 : Ref sig .tc := ⟨.hbm, 74, rfl⟩
abbrev main_while0b_call2_c : Ref sig .tc := ⟨.hbm, 75, rfl⟩
abbrev main_while0b_call2_c_0 : Ref sig .tc := ⟨.hbm, 76, rfl⟩
abbrev main_while0b_call2_c_1 : Ref sig .tc := ⟨.hbm, 77, rfl⟩
abbrev main_while0b_call2_c_2 : Ref sig .tc := ⟨.hbm, 78, rfl⟩
abbrev main_while0b_call2_v0 : Ref sig .tc := ⟨.hbm, 79, rfl⟩
abbrev main_while0b_v83 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_c_2 : Ref sig .tc := ⟨.hbm, 84, rfl⟩
abbrev main_while0b_call3_v0 : Ref sig .tc := ⟨.hbm, 85, rfl⟩
abbrev main_while0b_v84 : Ref sig .tc := ⟨.hbm, 86, rfl⟩
abbrev main_while0b_c_13 : Ref sig .tc := ⟨.hbm, 87, rfl⟩
abbrev main_while0b_v85 : Ref sig .tc := ⟨.hbm, 88, rfl⟩
abbrev main_while0b_call4_v0 : Ref sig .tc := ⟨.hbm, 89, rfl⟩
abbrev main_while0b_call4_c : Ref sig .tc := ⟨.hbm, 90, rfl⟩
abbrev main_while0b_call4_v1 : Ref sig .tc := ⟨.hbm, 91, rfl⟩
abbrev main_while0b_call4_v2 : Ref sig .tc := ⟨.hbm, 92, rfl⟩
abbrev main_while0b_call4_v3 : Ref sig .tc := ⟨.hbm, 93, rfl⟩
abbrev main_while0b_call4_v4 : Ref sig .tc := ⟨.hbm, 94, rfl⟩
abbrev main_while0b_call4_c_0 : Ref sig .tc := ⟨.hbm, 95, rfl⟩
abbrev main_while0b_call4_v5 : Ref sig .tc := ⟨.hbm, 96, rfl⟩
abbrev main_while0b_v86 : Ref sig .tc := ⟨.hbm, 97, rfl⟩
abbrev main_while0b_call5_call0_cst : Ref sig .tc := ⟨.hbm, 98, rfl⟩
abbrev main_while0b_call5_call0_v0 : Ref sig .tc := ⟨.hbm, 99, rfl⟩
abbrev main_while0b_v87 : Ref sig .tc := ⟨.hbm, 100, rfl⟩
abbrev main_while0b_v88 : Ref sig .tc := ⟨.hbm, 101, rfl⟩
abbrev main_while0b_v89 : Ref sig .tc := ⟨.hbm, 102, rfl⟩
abbrev main_while0b_v90 : Ref sig .tc := ⟨.hbm, 103, rfl⟩
abbrev main_while0b_v91 : Ref sig .tc := ⟨.hbm, 104, rfl⟩
abbrev main_while0b_v92 : Ref sig .tc := ⟨.hbm, 105, rfl⟩
abbrev main_while0b_v93 : Ref sig .tc := ⟨.hbm, 106, rfl⟩
abbrev main_while0b_v94 : Ref sig .tc := ⟨.hbm, 107, rfl⟩
abbrev main_while0b_v95 : Ref sig .tc := ⟨.hbm, 108, rfl⟩
abbrev main_while0b_v96 : Ref sig .tc := ⟨.hbm, 109, rfl⟩
abbrev main_while0b_v97 : Ref sig .tc := ⟨.hbm, 110, rfl⟩
abbrev main_while0b_v98 : Ref sig .tc := ⟨.hbm, 111, rfl⟩
abbrev main_while0b_v99 : Ref sig .tc := ⟨.hbm, 112, rfl⟩
abbrev main_while0b_v100 : Ref sig .tc := ⟨.hbm, 113, rfl⟩
abbrev main_while0b_cst_14 : Ref sig .tc := ⟨.hbm, 114, rfl⟩
abbrev main_while0b_v101 : Ref sig .tc := ⟨.hbm, 115, rfl⟩
abbrev main_while0b_call6_v0 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_v112 : Ref sig .tc := ⟨.hbm, 127, rfl⟩
abbrev main_while0b_call7_v0 : Ref sig .tc := ⟨.hbm, 128, rfl⟩
abbrev main_while0b_call7_c : Ref sig .tc := ⟨.hbm, 129, rfl⟩
abbrev main_while0b_call7_c_0 : Ref sig .tc := ⟨.hbm, 130, rfl⟩
abbrev main_while0b_call7_c_1 : Ref sig .tc := ⟨.hbm, 131, rfl⟩
abbrev main_while0b_call7_c_2 : Ref sig .tc := ⟨.hbm, 132, rfl⟩
abbrev main_while0b_v113 : Ref sig .tc := ⟨.hbm, 133, rfl⟩
abbrev main_while0b_c_15 : Ref sig .tc := ⟨.hbm, 134, rfl⟩
abbrev main_while0b_v114 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_cst_4 : Ref sig .tc := ⟨.hbm, 140, rfl⟩
abbrev main_v49 : Ref sig .tc := ⟨.hbm, 141, rfl⟩
abbrev main_v50 : Ref sig .tc := ⟨.hbm, 142, rfl⟩
abbrev main_cst_5 : Ref sig .tc := ⟨.hbm, 143, rfl⟩
abbrev main_v51 : Ref sig .tc := ⟨.hbm, 144, rfl⟩
abbrev main_v52 : Ref sig .tc := ⟨.hbm, 145, rfl⟩
abbrev main_cst_6 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_call8_v0 : Ref sig .tc := ⟨.hbm, 171, rfl⟩
abbrev main_call8_v1 : Ref sig .tc := ⟨.hbm, 172, rfl⟩
abbrev main_call8_cst : Ref sig .tc := ⟨.hbm, 173, rfl⟩
abbrev main_call8_v2 : Ref sig .tc := ⟨.hbm, 174, rfl⟩
abbrev main_call8_v3 : Ref sig .tc := ⟨.hbm, 175, rfl⟩
abbrev main_call8_cst_0 : Ref sig .tc := ⟨.hbm, 176, rfl⟩
abbrev main_call8_v4 : Ref sig .tc := ⟨.hbm, 177, rfl⟩
abbrev main_call8_v5 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩

abbrev nD : Nat := 1
abbrev τ : Topo := Topo.v7x

variable {F : FTy → Type} [FloatOps F]

abbrev main_while0_count : Scf.Loop 32 := ⟨0#32, 64#32, 1#32⟩
-- ==== Merge.lean ====
abbrev S16384x1024 : Shape := ⟨2, ![16384, 1024]⟩
abbrev S4x4096x1024 : Shape := ⟨3, ![4, 4096, 1024]⟩
abbrev S1x1024 : Shape := ⟨2, ![1, 1024]⟩
abbrev S1x1024x11352 : Shape := ⟨3, ![1, 1024, 11352]⟩
abbrev S1x1024x1024 : Shape := ⟨3, ![1, 1024, 1024]⟩
abbrev S1024x11352 : Shape := ⟨2, ![1024, 11352]⟩
abbrev S11352x1024 : Shape := ⟨2, ![11352, 1024]⟩
abbrev S3072x1024 : Shape := ⟨2, ![3072, 1024]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S4x4096x1024, .f32⟩
  | .hbm, ⟨4, _⟩ => ⟨S1x1024, .f32⟩
  | .hbm, ⟨5, _⟩ => ⟨S1x1024, .f32⟩
  | .hbm, ⟨6, _⟩ => ⟨S1x1024x11352, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1024x11352, .f32⟩
  | .hbm, ⟨12, _⟩ => ⟨S11352x1024, .f32⟩
  | .hbm, ⟨13, _⟩ => ⟨S3072x1024, .f32⟩
  | .hbm, ⟨14, _⟩ => ⟨S3072x1024, .bf16⟩
  | .hbm, ⟨15, _⟩ => ⟨S16384x1024, .f32⟩
  | .hbm, ⟨16, _⟩ => ⟨S1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S3072x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S16384x1024 : Shape := ⟨2, ![16384, 1024]⟩
abbrev S4x4096x1024 : Shape := ⟨3, ![4, 4096, 1024]⟩
abbrev S1x1024 : Shape := ⟨2, ![1, 1024]⟩
abbrev S1x1024x11352 : Shape := ⟨3, ![1, 1024, 11352]⟩
abbrev S1x1024x1024 : Shape := ⟨3, ![1, 1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x11352 : Shape := ⟨2, ![1024, 11352]⟩
abbrev S4x4096x11352 : Shape := ⟨3, ![4, 4096, 11352]⟩
abbrev S4x4096x512 : Shape := ⟨3, ![4, 4096, 512]⟩
abbrev S4x4096x16 : Shape := ⟨3, ![4, 4096, 16]⟩
abbrev S4x4096x256 : Shape := ⟨3, ![4, 4096, 256]⟩
abbrev S4x4096x64 : Shape := ⟨3, ![4, 4096, 64]⟩
abbrev S4x4096x8 : Shape := ⟨3, ![4, 4096, 8]⟩
abbrev S4x4096x3072 : Shape := ⟨3, ![4, 4096, 3072]⟩
abbrev S1024x1024 : Shape := ⟨2, ![1024, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S4x4096x1024, .f32⟩
  | .hbm, ⟨4, _⟩ => ⟨S1x1024, .f32⟩
  | .hbm, ⟨5, _⟩ => ⟨S1x1024, .f32⟩
  | .hbm, ⟨6, _⟩ => ⟨S1x1024x11352, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S16384x1024, .f32⟩
  | .hbm, ⟨12, _⟩ => ⟨S4x4096x1024, .f32⟩
  | .hbm, ⟨13, _⟩ => ⟨S16384x1024, .f32⟩
  | .hbm, ⟨14, _⟩ => ⟨S4x4096x1024, .f32⟩
  | .hbm, ⟨15, _⟩ => ⟨S16384x1024, .f32⟩
  | .hbm, ⟨16, _⟩ => ⟨S4x4096x1024, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S1024x11352, .f32⟩
  | .hbm, ⟨35, _⟩ => ⟨S4x4096x11352, .f32⟩
  | .hbm, ⟨36, _⟩ => ⟨S4x4096x512, .f32⟩
  | .hbm, ⟨37, _⟩ => ⟨S4x4096x512, .f32⟩
  | .hbm, ⟨38, _⟩ => ⟨S4x4096x1024, .f32⟩
  | .hbm, ⟨39, _⟩ => ⟨S4x4096x16, .f32⟩
  | .hbm, ⟨40, _⟩ => ⟨S4x4096x1024, .f32⟩
  | .hbm, ⟨41, _⟩ => ⟨S4x4096x1024, .f32⟩
  | .hbm, ⟨42, _⟩ => ⟨S4x4096x256, .f32⟩
  | .hbm, ⟨43, _⟩ => ⟨S4x4096x256, .f32⟩
  | .hbm, ⟨44, _⟩ => ⟨S4x4096x512, .f32⟩
  | .hbm, ⟨45, _⟩ => ⟨S4x4096x64, .f32⟩
  | .hbm, ⟨46, _⟩ => ⟨S4x4096x8, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x3072, .f32⟩
  | .hbm, ⟨51, _⟩ => ⟨S4x4096x3072, .f32⟩
  | .hbm, ⟨52, _⟩ => ⟨S4x4096x3072, .f32⟩
  | .hbm, ⟨53, _⟩ => ⟨S_, .f32⟩
  | .hbm, ⟨54, _⟩ => ⟨S4x4096x3072, .f32⟩
  | .hbm, ⟨55, _⟩ => ⟨S4x4096x3072, .f32⟩
  | .hbm, ⟨56, _⟩ => ⟨S_, .f32⟩
  | .hbm, ⟨57, _⟩ => ⟨S4x4096x3072, .f32⟩
  | .hbm, ⟨58, _⟩ => ⟨S4x4096x3072, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S1024x1024, .f32⟩
  | .hbm, ⟨63, _⟩ => ⟨S4x4096x1024, .f32⟩
  | .hbm, ⟨64, _⟩ => ⟨S4x4096x1024, .f32⟩
  | .hbm, ⟨65, _⟩ => ⟨S1024x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S1024x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S1024x1024, .f32⟩
  | .hbm, ⟨74, _⟩ => ⟨S4x4096x1024, .f32⟩
  | .hbm, ⟨75, _⟩ => ⟨S1024, .f32⟩
  | .hbm, ⟨76, _⟩ => ⟨S4x4096x1024, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S_, .f32⟩
  | .hbm, ⟨81, _⟩ => ⟨S4x4096x1, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x1, .f32⟩
  | .hbm, ⟨87, _⟩ => ⟨S4x4096x1024, .f32⟩
  | .hbm, ⟨88, _⟩ => ⟨S4x4096x1024, .f32⟩
  | .hbm, ⟨89, _⟩ => ⟨S1x1x1024, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | .hbm, ⟨93, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_4 : Ref sig .tc := ⟨.hbm, 77, rfl⟩
abbrev main_v61 : Ref sig .tc := ⟨.hbm, 78, rfl⟩
abbrev main_v62 : Ref sig .tc := ⟨.hbm, 79, rfl⟩
abbrev main_cst_5 : Ref sig .tc := ⟨.hbm, 80, rfl⟩
abbrev main_v63 : Ref sig .tc := ⟨.hbm, 81, rfl⟩
abbrev main_v64 : Ref sig .tc := ⟨.hbm, 82, rfl⟩
abbrev main_cst_6 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== ProjA.lean ====
abbrev S4x4096x1024 : Shape := ⟨3, ![4, 4096, 1024]⟩
abbrev S1x1024 : Shape := ⟨2, ![1, 1024]⟩
abbrev S1x1024x11352 : Shape := ⟨3, ![1, 1024, 11352]⟩
abbrev S1024x11352 : Shape := ⟨2, ![1024, 11352]⟩
abbrev S11352x1024 : Shape := ⟨2, ![11352, 1024]⟩
abbrev S_ : Shape := ⟨0, ![]⟩
abbrev S64x1024 : Shape := ⟨2, ![64, 1024]⟩
abbrev S1024x1024 : Shape := ⟨2, ![1024, 1024]⟩
abbrev S256x1024 : Shape := ⟨2, ![256, 1024]⟩
abbrev S512x1024 : Shape := ⟨2, ![512, 1024]⟩
abbrev S128x1024 : Shape := ⟨2, ![128, 1024]⟩
abbrev S1024 : Shape := ⟨1, ![1024]⟩
abbrev S256 : Shape := ⟨1, ![256]⟩
abbrev S512 : Shape := ⟨1, ![512]⟩
abbrev S128 : Shape := ⟨1, ![128]⟩
abbrev S4352x1024 : Shape := ⟨2, ![4352, 1024]⟩
abbrev S4352 : Shape := ⟨1, ![4352]⟩
abbrev S16x1024 : Shape := ⟨2, ![16, 1024]⟩
abbrev S8x1024 : Shape := ⟨2, ![8, 1024]⟩
abbrev S104x1024 : Shape := ⟨2, ![104, 1024]⟩
abbrev S4224x1024 : Shape := ⟨2, ![4224, 1024]⟩
abbrev S4224 : Shape := ⟨1, ![4224]⟩
abbrev S3072x1024 : Shape := ⟨2, ![3072, 1024]⟩
abbrev S16384x1024 : Shape := ⟨2, ![16384, 1024]⟩
abbrev S1x4352 : Shape := ⟨2, ![1, 4352]⟩
abbrev S16384x4352 : Shape := ⟨2, ![16384, 4352]⟩
abbrev S512x4352 : Shape := ⟨2, ![512, 4352]⟩
abbrev S512x1 : Shape := ⟨2, ![512, 1]⟩

abbrev nBuf : Space → Nat
  | .hbm => 68
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x11352, .f32⟩
  | .hbm, ⟨3, _⟩ => ⟨S1024x11352, .f32⟩
  | .hbm, ⟨4, _⟩ => ⟨S11352x1024, .f32⟩
  | .hbm, ⟨5, _⟩ => ⟨S_, .f32⟩
  | .hbm, ⟨6, _⟩ => ⟨S64x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S256x1024, .f32⟩
  | .hbm, ⟨11, _⟩ => ⟨S256x1024, .f32⟩
  | .hbm, ⟨12, _⟩ => ⟨S512x1024, .f32⟩
  | .hbm, ⟨13, _⟩ => ⟨S64x1024, .f32⟩
  | .hbm, ⟨14, _⟩ => ⟨S128x1024, .f32⟩
  | .hbm, ⟨15, _⟩ => ⟨S64x1024, .f32⟩
  | .hbm, ⟨16, _⟩ => ⟨S128x1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S512, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S4352x1024, .f32⟩
  | .hbm, ⟨34, _⟩ => ⟨S4352x1024, .bf16⟩
  | .hbm, ⟨35, _⟩ => ⟨S4352, .f32⟩
  | .hbm, ⟨36, _⟩ => ⟨S16x1024, .f32⟩
  | .hbm, ⟨37, _⟩ => ⟨S8x1024, .f32⟩
  | .hbm, ⟨38, _⟩ => ⟨S_, .f32⟩
  | .hbm, ⟨39, _⟩ => ⟨S104x1024, .f32⟩
  | .hbm, ⟨40, _⟩ => ⟨S128x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S_, .f32⟩
  | .hbm, ⟨57, _⟩ => ⟨S128, .f32⟩
  | .hbm, ⟨58, _⟩ => ⟨S4224x1024, .f32⟩
  | .hbm, ⟨59, _⟩ => ⟨S4224x1024, .bf16⟩
  | .hbm, ⟨60, _⟩ => ⟨S4224, .f32⟩
  | .hbm, ⟨61, _⟩ => ⟨S3072x1024, .f32⟩
  | .hbm, ⟨62, _⟩ => ⟨S3072x1024, .bf16⟩
  | .hbm, ⟨63, _⟩ => ⟨S16384x1024, .f32⟩
  | .hbm, ⟨64, _⟩ => ⟨S1024, .f32⟩
  | .hbm, ⟨65, _⟩ => ⟨S1x1024, .f32⟩
  | .hbm, ⟨66, _⟩ => ⟨S1x4352, .f32⟩
  | .hbm, ⟨67, _⟩ => ⟨S16384x4352, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S1x4352, .f32⟩
  | .local _ .vmem, ⟨5, _⟩ => ⟨S512x4352, .bf16⟩
  | .local _ .vmem, ⟨6, _⟩ => ⟨S512x4352, .bf16⟩
  | .local _ .vmem, ⟨7, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_cst_13 : Ref sig .tc := ⟨.hbm, 54, rfl⟩
abbrev main_v37 : Ref sig .tc := ⟨.hbm, 55, rfl⟩
abbrev main_cst_14 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x4352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x4352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjAReferenceIdeal.lean ====
abbrev S4x4096x1024 : Shape := ⟨3, ![4, 4096, 1024]⟩
abbrev S1x1024 : Shape := ⟨2, ![1, 1024]⟩
abbrev S1x1024x11352 : Shape := ⟨3, ![1, 1024, 11352]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x11352 : Shape := ⟨2, ![1024, 11352]⟩
abbrev S4x4096x11352 : Shape := ⟨3, ![4, 4096, 11352]⟩
abbrev S4x4096x512 : Shape := ⟨3, ![4, 4096, 512]⟩
abbrev S4x4096x16 : Shape := ⟨3, ![4, 4096, 16]⟩
abbrev S4x4096x256 : Shape := ⟨3, ![4, 4096, 256]⟩
abbrev S4x4096x64 : Shape := ⟨3, ![4, 4096, 64]⟩
abbrev S4x4096x8 : Shape := ⟨3, ![4, 4096, 8]⟩
abbrev S4x4096x3072 : Shape := ⟨3, ![4, 4096, 3072]⟩
abbrev S4x4096x4352 : Shape := ⟨3, ![4, 4096, 4352]⟩
abbrev S16384x4352 : Shape := ⟨2, ![16384, 4352]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x11352, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x11352, .f32⟩
  | .hbm, ⟨21, _⟩ => ⟨S4x4096x11352, .f32⟩
  | .hbm, ⟨22, _⟩ => ⟨S4x4096x512, .f32⟩
  | .hbm, ⟨23, _⟩ => ⟨S4x4096x512, .f32⟩
  | .hbm, ⟨24, _⟩ => ⟨S4x4096x1024, .f32⟩
  | .hbm, ⟨25, _⟩ => ⟨S4x4096x16, .f32⟩
  | .hbm, ⟨26, _⟩ => ⟨S4x4096x1024, .f32⟩
  | .hbm, ⟨27, _⟩ => ⟨S4x4096x1024, .f32⟩
  | .hbm, ⟨28, _⟩ => ⟨S4x4096x256, .f32⟩
  | .hbm, ⟨29, _⟩ => ⟨S4x4096x256, .f32⟩
  | .hbm, ⟨30, _⟩ => ⟨S4x4096x512, .f32⟩
  | .hbm, ⟨31, _⟩ => ⟨S4x4096x64, .f32⟩
  | .hbm, ⟨32, _⟩ => ⟨S4x4096x8, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x3072, .f32⟩
  | .hbm, ⟨37, _⟩ => ⟨S_, .f32⟩
  | .hbm, ⟨38, _⟩ => ⟨S4x4096x64, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S4x4096x4352, .f32⟩
  | .hbm, ⟨46, _⟩ => ⟨S16384x4352, .f32⟩
  | .hbm, ⟨47, _⟩ => ⟨S16384x4352, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== ProjB.lean ====
abbrev S4x4096x1024 : Shape := ⟨3, ![4, 4096, 1024]⟩
abbrev S1x1024 : Shape := ⟨2, ![1, 1024]⟩
abbrev S1x1024x11352 : Shape := ⟨3, ![1, 1024, 11352]⟩
abbrev S1024x11352 : Shape := ⟨2, ![1024, 11352]⟩
abbrev S11352x1024 : Shape := ⟨2, ![11352, 1024]⟩
abbrev S_ : Shape := ⟨0, ![]⟩
abbrev S64x1024 : Shape := ⟨2, ![64, 1024]⟩
abbrev S1024x1024 : Shape := ⟨2, ![1024, 1024]⟩
abbrev S256x1024 : Shape := ⟨2, ![256, 1024]⟩
abbrev S512x1024 : Shape := ⟨2, ![512, 1024]⟩
abbrev S128x1024 : Shape := ⟨2, ![128, 1024]⟩
abbrev S1024 : Shape := ⟨1, ![1024]⟩
abbrev S256 : Shape := ⟨1, ![256]⟩
abbrev S512 : Shape := ⟨1, ![512]⟩
abbrev S128 : Shape := ⟨1, ![128]⟩
abbrev S4352x1024 : Shape := ⟨2, ![4352, 1024]⟩
abbrev S4352 : Shape := ⟨1, ![4352]⟩
abbrev S16x1024 : Shape := ⟨2, ![16, 1024]⟩
abbrev S8x1024 : Shape := ⟨2, ![8, 1024]⟩
abbrev S104x1024 : Shape := ⟨2, ![104, 1024]⟩
abbrev S4224x1024 : Shape := ⟨2, ![4224, 1024]⟩
abbrev S4224 : Shape := ⟨1, ![4224]⟩
abbrev S3072x1024 : Shape := ⟨2, ![3072, 1024]⟩
abbrev S16384x1024 : Shape := ⟨2, ![16384, 1024]⟩
abbrev S1x4224 : Shape := ⟨2, ![1, 4224]⟩
abbrev S16384x4224 : Shape := ⟨2, ![16384, 4224]⟩
abbrev S512x4224 : Shape := ⟨2, ![512, 4224]⟩
abbrev S512x1 : Shape := ⟨2, ![512, 1]⟩

abbrev nBuf : Space → Nat
  | .hbm => 68
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x11352, .f32⟩
  | .hbm, ⟨3, _⟩ => ⟨S1024x11352, .f32⟩
  | .hbm, ⟨4, _⟩ => ⟨S11352x1024, .f32⟩
  | .hbm, ⟨5, _⟩ => ⟨S_, .f32⟩
  | .hbm, ⟨6, _⟩ => ⟨S64x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S256x1024, .f32⟩
  | .hbm, ⟨11, _⟩ => ⟨S256x1024, .f32⟩
  | .hbm, ⟨12, _⟩ => ⟨S512x1024, .f32⟩
  | .hbm, ⟨13, _⟩ => ⟨S64x1024, .f32⟩
  | .hbm, ⟨14, _⟩ => ⟨S128x1024, .f32⟩
  | .hbm, ⟨15, _⟩ => ⟨S64x1024, .f32⟩
  | .hbm, ⟨16, _⟩ => ⟨S128x1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S512, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S4352x1024, .f32⟩
  | .hbm, ⟨34, _⟩ => ⟨S4352x1024, .bf16⟩
  | .hbm, ⟨35, _⟩ => ⟨S4352, .f32⟩
  | .hbm, ⟨36, _⟩ => ⟨S16x1024, .f32⟩
  | .hbm, ⟨37, _⟩ => ⟨S8x1024, .f32⟩
  | .hbm, ⟨38, _⟩ => ⟨S_, .f32⟩
  | .hbm, ⟨39, _⟩ => ⟨S104x1024, .f32⟩
  | .hbm, ⟨40, _⟩ => ⟨S128x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S_, .f32⟩
  | .hbm, ⟨57, _⟩ => ⟨S128, .f32⟩
  | .hbm, ⟨58, _⟩ => ⟨S4224x1024, .f32⟩
  | .hbm, ⟨59, _⟩ => ⟨S4224x1024, .bf16⟩
  | .hbm, ⟨60, _⟩ => ⟨S4224, .f32⟩
  | .hbm, ⟨61, _⟩ => ⟨S3072x1024, .f32⟩
  | .hbm, ⟨62, _⟩ => ⟨S3072x1024, .bf16⟩
  | .hbm, ⟨63, _⟩ => ⟨S16384x1024, .f32⟩
  | .hbm, ⟨64, _⟩ => ⟨S1024, .f32⟩
  | .hbm, ⟨65, _⟩ => ⟨S1x1024, .f32⟩
  | .hbm, ⟨66, _⟩ => ⟨S1x4224, .f32⟩
  | .hbm, ⟨67, _⟩ => ⟨S16384x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4224x1024, .bf16⟩
  | .local _ .vmem, ⟨4, _⟩ => ⟨S1x4224, .f32⟩
  | .local _ .vmem, ⟨5, _⟩ => ⟨S512x4224, .f32⟩
  | .local _ .vmem, ⟨6, _⟩ => ⟨S512x4224, .f32⟩
  | .local _ .vmem, ⟨7, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_cst_13 : Ref sig .tc := ⟨.hbm, 54, rfl⟩
abbrev main_v37 : Ref sig .tc := ⟨.hbm, 55, rfl⟩
abbrev main_cst_14 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4224x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x4224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x4224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjBReferenceIdeal.lean ====
abbrev S4x4096x1024 : Shape := ⟨3, ![4, 4096, 1024]⟩
abbrev S1x1024 : Shape := ⟨2, ![1, 1024]⟩
abbrev S1x1024x11352 : Shape := ⟨3, ![1, 1024, 11352]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x11352 : Shape := ⟨2, ![1024, 11352]⟩
abbrev S4x4096x11352 : Shape := ⟨3, ![4, 4096, 11352]⟩
abbrev S4x4096x512 : Shape := ⟨3, ![4, 4096, 512]⟩
abbrev S4x4096x16 : Shape := ⟨3, ![4, 4096, 16]⟩
abbrev S4x4096x256 : Shape := ⟨3, ![4, 4096, 256]⟩
abbrev S4x4096x64 : Shape := ⟨3, ![4, 4096, 64]⟩
abbrev S4x4096x8 : Shape := ⟨3, ![4, 4096, 8]⟩
abbrev S4x4096x3072 : Shape := ⟨3, ![4, 4096, 3072]⟩
abbrev S4x4096x104 : Shape := ⟨3, ![4, 4096, 104]⟩
abbrev S4x4096x4224 : Shape := ⟨3, ![4, 4096, 4224]⟩
abbrev S16384x4224 : Shape := ⟨2, ![16384, 4224]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x11352, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x11352, .f32⟩
  | .hbm, ⟨21, _⟩ => ⟨S4x4096x11352, .f32⟩
  | .hbm, ⟨22, _⟩ => ⟨S4x4096x512, .f32⟩
  | .hbm, ⟨23, _⟩ => ⟨S4x4096x512, .f32⟩
  | .hbm, ⟨24, _⟩ => ⟨S4x4096x1024, .f32⟩
  | .hbm, ⟨25, _⟩ => ⟨S4x4096x16, .f32⟩
  | .hbm, ⟨26, _⟩ => ⟨S4x4096x1024, .f32⟩
  | .hbm, ⟨27, _⟩ => ⟨S4x4096x1024, .f32⟩
  | .hbm, ⟨28, _⟩ => ⟨S4x4096x256, .f32⟩
  | .hbm, ⟨29, _⟩ => ⟨S4x4096x256, .f32⟩
  | .hbm, ⟨30, _⟩ => ⟨S4x4096x512, .f32⟩
  | .hbm, ⟨31, _⟩ => ⟨S4x4096x64, .f32⟩
  | .hbm, ⟨32, _⟩ => ⟨S4x4096x8, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x3072, .f32⟩
  | .hbm, ⟨37, _⟩ => ⟨S_, .f32⟩
  | .hbm, ⟨38, _⟩ => ⟨S4x4096x104, .f32⟩
  | .hbm, ⟨39, _⟩ => ⟨S_, .f32⟩
  | .hbm, ⟨40, _⟩ => ⟨S4x4096x512, .f32⟩
  | .hbm, ⟨41, _⟩ => ⟨S4x4096x512, .f32⟩
  | .hbm, ⟨42, _⟩ => ⟨S4x4096x4224, .f32⟩
  | .hbm, ⟨43, _⟩ => ⟨S16384x4224, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Mem.lean ====
abbrev S4x256x1024 : Shape := ⟨3, ![4, 256, 1024]⟩
abbrev S1x1024 : Shape := ⟨2, ![1, 1024]⟩
abbrev S1x1024x2048 : Shape := ⟨3, ![1, 1024, 2048]⟩
abbrev S1024x1024 : Shape := ⟨2, ![1024, 1024]⟩
abbrev S1024 : Shape := ⟨1, ![1024]⟩
abbrev S1024x2048 : Shape := ⟨2, ![1024, 2048]⟩
abbrev S2048x1024 : Shape := ⟨2, ![2048, 1024]⟩
abbrev S_ : Shape := ⟨0, ![]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S2048x1024, .f32⟩
  | .hbm, ⟨7, _⟩ => ⟨S2048x1024, .bf16⟩
  | .hbm, ⟨8, _⟩ => ⟨S_, .f32⟩
  | .hbm, ⟨9, _⟩ => ⟨S2048, .f32⟩
  | .hbm, ⟨10, _⟩ => ⟨S1x1024, .f32⟩
  | .hbm, ⟨11, _⟩ => ⟨S1x2048, .f32⟩
  | .hbm, ⟨12, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemReferenceIdeal.lean ====
abbrev S4x256x1024 : Shape := ⟨3, ![4, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x2048 : Shape := ⟨2, ![1024, 2048]⟩
abbrev S4x256x2048 : Shape := ⟨3, ![4, 256, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S1024x2048, .f32⟩
  | .hbm, ⟨21, _⟩ => ⟨S4x256x2048, .f32⟩
  | .hbm, ⟨22, _⟩ => ⟨S1024x2048, .f32⟩
  | .hbm, ⟨23, _⟩ => ⟨S1024x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Cross.lean ====
abbrev S4x4096x11352 : Shape := ⟨3, ![4, 4096, 11352]⟩
abbrev S1024x2048 : Shape := ⟨2, ![1024, 2048]⟩
abbrev S16384x11352 : Shape := ⟨2, ![16384, 11352]⟩
abbrev S_ : Shape := ⟨0, ![]⟩
abbrev S16384x64 : Shape := ⟨2, ![16384, 64]⟩
abbrev S16384x1024 : Shape := ⟨2, ![16384, 1024]⟩
abbrev S16384x256 : Shape := ⟨2, ![16384, 256]⟩
abbrev S16384x512 : Shape := ⟨2, ![16384, 512]⟩
abbrev S16384x128 : Shape := ⟨2, ![16384, 128]⟩
abbrev S16384x4352 : Shape := ⟨2, ![16384, 4352]⟩
abbrev S16384x16 : Shape := ⟨2, ![16384, 16]⟩
abbrev S16384x8 : Shape := ⟨2, ![16384, 8]⟩
abbrev S16384x104 : Shape := ⟨2, ![16384, 104]⟩
abbrev S16384x4224 : Shape := ⟨2, ![16384, 4224]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 38
  | .vmem => 10
  | .smem => 0
  | _ => 0

abbrev bufTy : (tb : Table) → Fin (tcTables nBuf tb) → BufTy
  | .hbm, ⟨0, _⟩ => ⟨S4x4096x11352, .f32⟩
  | .hbm, ⟨1, _⟩ => ⟨S1024x2048, .bf16⟩
  | .hbm, ⟨2, _⟩ => ⟨S16384x11352, .f32⟩
  | .hbm, ⟨3, _⟩ => ⟨S_, .f32⟩
  | .hbm, ⟨4, _⟩ => ⟨S16384x64, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x256, .f32⟩
  | .hbm, ⟨9, _⟩ => ⟨S16384x256, .f32⟩
  | .hbm, ⟨10, _⟩ => ⟨S16384x512, .f32⟩
  | .hbm, ⟨11, _⟩ => ⟨S16384x64, .f32⟩
  | .hbm, ⟨12, _⟩ => ⟨S16384x128, .f32⟩
  | .hbm, ⟨13, _⟩ => ⟨S16384x64, .f32⟩
  | .hbm, ⟨14, _⟩ => ⟨S16384x128, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x4352, .f32⟩
  | .hbm, ⟨22, _⟩ => ⟨S16384x16, .f32⟩
  | .hbm, ⟨23, _⟩ => ⟨S16384x8, .f32⟩
  | .hbm, ⟨24, _⟩ => ⟨S_, .f32⟩
  | .hbm, ⟨25, _⟩ => ⟨S16384x104, .f32⟩
  | .hbm, ⟨26, _⟩ => ⟨S16384x128, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S16384x4224, .f32⟩
  | .hbm, ⟨36, _⟩ => ⟨S16384x4352, .bf16⟩
  | .hbm, ⟨37, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | _, _ => ⟨S4x4096x11352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CrossReferenceIdeal.lean ====
abbrev S4x4096x11352 : Shape := ⟨3, ![4, 4096, 11352]⟩
abbrev S1024x2048 : Shape := ⟨2, ![1024, 2048]⟩
abbrev S4x256x2048 : Shape := ⟨3, ![4, 256, 2048]⟩
abbrev S4x4096x512 : Shape := ⟨3, ![4, 4096, 512]⟩
abbrev S4x4096x1024 : Shape := ⟨3, ![4, 4096, 1024]⟩
abbrev S4x4096x16 : Shape := ⟨3, ![4, 4096, 16]⟩
abbrev S4x4096x256 : Shape := ⟨3, ![4, 4096, 256]⟩
abbrev S4x4096x64 : Shape := ⟨3, ![4, 4096, 64]⟩
abbrev S4x4096x8 : Shape := ⟨3, ![4, 4096, 8]⟩
abbrev S4x4096x3072 : Shape := ⟨3, ![4, 4096, 3072]⟩
abbrev S4x256x1024 : Shape := ⟨3, ![4, 256, 1024]⟩
abbrev S4x256x4x256 : Shape := ⟨4, ![4, 256, 4, 256]⟩
abbrev S4x4096x4x256 : Shape := ⟨4, ![4, 4096, 4, 256]⟩
abbrev S_ : Shape := ⟨0, ![]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x11352, .f32⟩
  | .hbm, ⟨1, _⟩ => ⟨S1024x2048, .bf16⟩
  | .hbm, ⟨2, _⟩ => ⟨S1024x2048, .f32⟩
  | .hbm, ⟨3, _⟩ => ⟨S4x256x2048, .f32⟩
  | .hbm, ⟨4, _⟩ => ⟨S4x4096x512, .f32⟩
  | .hbm, ⟨5, _⟩ => ⟨S4x4096x512, .f32⟩
  | .hbm, ⟨6, _⟩ => ⟨S4x4096x1024, .f32⟩
  | .hbm, ⟨7, _⟩ => ⟨S4x4096x16, .f32⟩
  | .hbm, ⟨8, _⟩ => ⟨S4x4096x1024, .f32⟩
  | .hbm, ⟨9, _⟩ => ⟨S4x4096x1024, .f32⟩
  | .hbm, ⟨10, _⟩ => ⟨S4x4096x256, .f32⟩
  | .hbm, ⟨11, _⟩ => ⟨S4x4096x256, .f32⟩
  | .hbm, ⟨12, _⟩ => ⟨S4x4096x512, .f32⟩
  | .hbm, ⟨13, _⟩ => ⟨S4x4096x64, .f32⟩
  | .hbm, ⟨14, _⟩ => ⟨S4x4096x8, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x3072, .f32⟩
  | .hbm, ⟨19, _⟩ => ⟨S4x256x1024, .f32⟩
  | .hbm, ⟨20, _⟩ => ⟨S4x256x1024, .f32⟩
  | .hbm, ⟨21, _⟩ => ⟨S4x256x4x256, .f32⟩
  | .hbm, ⟨22, _⟩ => ⟨S4x256x4x256, .f32⟩
  | .hbm, ⟨23, _⟩ => ⟨S4x4096x4x256, .f32⟩
  | .hbm, ⟨24, _⟩ => ⟨S_, .f32⟩
  | .hbm, ⟨25, _⟩ => ⟨S4x4096x4x256, .f32⟩
  | .hbm, ⟨26, _⟩ => ⟨S4x4096x4x256, .f32⟩
  | .hbm, ⟨27, _⟩ => ⟨S4x4x4096x256, .f32⟩
  | .hbm, ⟨28, _⟩ => ⟨S_, .f32⟩
  | .hbm, ⟨29, _⟩ => ⟨S4x4x4096, .f32⟩
  | .hbm, ⟨30, _⟩ => ⟨S_, .f32⟩
  | .hbm, ⟨31, _⟩ => ⟨S4x4x4096, .f32⟩
  | .hbm, ⟨32, _⟩ => ⟨S4x4x4096, .f32⟩
  | .hbm, ⟨33, _⟩ => ⟨S4x4x4096x1, .f32⟩
  | .hbm, ⟨34, _⟩ => ⟨S4x4x4096x256, .f32⟩
  | .hbm, ⟨35, _⟩ => ⟨S4x4x4096x256, .f32⟩
  | .hbm, ⟨36, _⟩ => ⟨S4x4x4096x256, .f32⟩
  | .hbm, ⟨37, _⟩ => ⟨S_, .f32⟩
  | .hbm, ⟨38, _⟩ => ⟨S4x4x4096, .f32⟩
  | .hbm, ⟨39, _⟩ => ⟨S4x4x4096x1, .f32⟩
  | .hbm, ⟨40, _⟩ => ⟨S4x4x4096x256, .f32⟩
  | .hbm, ⟨41, _⟩ => ⟨S4x4x4096x256, .f32⟩
  | .hbm, ⟨42, _⟩ => ⟨S4x4x256x4096, .f32⟩
  | .hbm, ⟨43, _⟩ => ⟨S4x4096x4x256, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S16384x1024, .f32⟩
  | .hbm, ⟨56, _⟩ => ⟨S16384x1024, .bf16⟩
  | _, _ => ⟨S4x4096x11352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Bias.lean ====
abbrev S32x8 : Shape := ⟨2, ![32, 8]⟩
abbrev S2x256x256 : Shape := ⟨3, ![2, 256, 256]⟩
abbrev S2x256x2048 : Shape := ⟨3, ![2, 256, 2048]⟩
abbrev S1x1 : Shape := ⟨2, ![1, 1]⟩

abbrev nBuf : Space → Nat
  | .hbm => 3
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S2x256x256, .i32⟩
  | .hbm, ⟨2, _⟩ => ⟨S2x256x2048, .f32⟩
  | .local _ .vmem, ⟨0, _⟩ => ⟨S2x256x256, .i32⟩
  | .local _ .vmem, ⟨1, _⟩ => ⟨S2x256x256, .f32⟩
  | .local _ .vmem, ⟨2, _⟩ => ⟨S2x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_2 : Index := 0#32
  let arg0 : BitVec 32 := BitVec.ofNat 32 (i 0).val
  let v4 : Index := Scalar.indexCast arg0
  ![0, v4.toNat]
def k0_off2 (i : grid0.Coords) : Fin 2 → Nat :=
  let c1 : Index := 1#32
  let arg0 : BitVec 32 := BitVec.ofNat 32 (i 0).val
  let v10 : Index := Scalar.indexCast arg0
  ![1, v10.toNat]
def k0_off3 (i : grid0.Coords) : Fin 2 → Nat :=
  let c2 : Index := 2#32
  let arg0 : BitVec 32 := BitVec.ofNat 32 (i 0).val
  let v16 : Index := Scalar.indexCast arg0
  ![2, v16.toNat]
def k0_off4 (i : grid0.Coords) : Fin 2 → Nat :=
  let c3 : Index := 3#32
  let arg0 : BitVec 32 := BitVec.ofNat 32 (i 0).val
  let v22 : Index := Scalar.indexCast arg0
  ![3, v22.toNat]
def k0_off5 (i : grid0.Coords) : Fin 2 → Nat :=
  let c4 : Index := 4#32
  let arg0 : BitVec 32 := BitVec.ofNat 32 (i 0).val
  let v28 : Index := Scalar.indexCast arg0
  ![4, v28.toNat]
def k0_off6 (i : grid0.Coords) : Fin 2 → Nat :=
  let c5 : Index := 5#32
  let arg0 : BitVec 32 := BitVec.ofNat 32 (i 0).val
  let v34 : Index := Scalar.indexCast arg0
  ![5, v34.toNat]
def k0_off7 (i : grid0.Coords) : Fin 2 → Nat :=
  let c6 : Index := 6#32
  let arg0 : BitVec 32 := BitVec.ofNat 32 (i 0).val
  let v40 : Index := Scalar.indexCast arg0
  ![6, v40.toNat]
def k0_off8 (i : grid0.Coords) : Fin 2 → Nat :=
  let c7 : Index := 7#32
  let arg0 : BitVec 32 := BitVec.ofNat 32 (i 0).val
  let v46 : Index := Scalar.indexCast arg0
  ![7, v46.toNat]
def k0_off9 (i : grid0.Coords) : Fin 2 → Nat :=
  let c8 : Index := 8#32
  let arg0 : BitVec 32 := BitVec.ofNat 32 (i 0).val
  let v52 : Index := Scalar.indexCast arg0
  ![8, v52.toNat]
def k0_off10 (i : grid0.Coords) : Fin 2 → Nat :=
  let c9 : Index := 9#32
  let arg0 : BitVec 32 := BitVec.ofNat 32 (i 0).val
  let v58 : Index := Scalar.indexCast arg0
  ![9, v58.toNat]
def k0_off11 (i : grid0.Coords) : Fin 2 → Nat :=
  let c10 : Index := 10#32
  let arg0 : BitVec 32 := BitVec.ofNat 32 (i 0).val
  let v64 : Index := Scalar.indexCast arg0
  ![10, v64.toNat]
def k0_off12 (i : grid0.Coords) : Fin 2 → Nat :=
  let c11 : Index := 11#32
  let arg0 : BitVec 32 := BitVec.ofNat 32 (i 0).val
  let v70 : Index := Scalar.indexCast arg0
  ![11, v70.toNat]
def k0_off13 (i : grid0.Coords) : Fin 2 → Nat :=
  let c12 : Index := 12#32
  let arg0 : BitVec 32 := BitVec.ofNat 32 (i 0).val
  let v76 : Index := Scalar.indexCast arg0
  ![12, v76.toNat]
def k0_off14 (i : grid0.Coords) : Fin 2 → Nat :=
  let c13 : Index := 13#32
  let arg0 : BitVec 32 := BitVec.ofNat 32 (i 0).val
  let v82 : Index := Scalar.indexCast arg0
  ![13, v82.toNat]
def k0_off15 (i : grid0.Coords) : Fin 2 → Nat :=
  let c14 : Index := 14#32
  let arg0 : BitVec 32 := BitVec.ofNat 32 (i 0).val
  let v88 : Index := Scalar.indexCast arg0
  ![14, v88.toNat]
def k0_off16 (i : grid0.Coords) : Fin 2 → Nat :=
  let c15 : Index := 15#32
  let arg0 : BitVec 32 := BitVec.ofNat 32 (i 0).val
  let v94 : Index := Scalar.indexCast arg0
  ![15, v94.toNat]
def k0_off17 (i : grid0.Coords) : Fin 2 → Nat :=
  let c16 : Index := 16#32
  let arg0 : BitVec 32 := BitVec.ofNat 32 (i 0).val
  let v100 : Index := Scalar.indexCast arg0
  ![16, v100.toNat]
def k0_off18 (i : grid0.Coords) : Fin 2 → Nat :=
  let c17 : Index := 17#32
  let arg0 : BitVec 32 := BitVec.ofNat 32 (i 0).val
  let v106 : Index := Scalar.indexCast arg0
  ![17, v106.toNat]
def k0_off19 (i : grid0.Coords) : Fin 2 → Nat :=
  let c18 : Index := 18#32
  let arg0 : BitVec 32 := BitVec.ofNat 32 (i 0).val
  let v112 : Index := Scalar.indexCast arg0
  ![18, v112.toNat]
def k0_off20 (i : grid0.Coords) : Fin 2 → Nat :=
  let c19 : Index := 19#32
  let arg0 : BitVec 32 := BitVec.ofNat 32 (i 0).val
  let v118 : Index := Scalar.indexCast arg0
  ![19, v118.toNat]
def k0_off21 (i : grid0.Coords) : Fin 2 → Nat :=
  let c20 : Index := 20#32
  let arg0 : BitVec 32 := BitVec.ofNat 32 (i 0).val
  let v124 : Index := Scalar.indexCast arg0
  ![20, v124.toNat]
def k0_off22 (i : grid0.Coords) : Fin 2 → Nat :=
  let c21 : Index := 21#32
  let arg0 : BitVec 32 := BitVec.ofNat 32 (i 0).val
  let v130 : Index := Scalar.indexCast arg0
  ![21, v130.toNat]
def k0_off23 (i : grid0.Coords) : Fin 2 → Nat :=
  let c22 : Index := 22#32
  let arg0 : BitVec 32 := BitVec.ofNat 32 (i 0).val
  let v136 : Index := Scalar.indexCast arg0
  ![22, v136.toNat]
def k0_off24 (i : grid0.Coords) : Fin 2 → Nat :=
  let c23 : Index := 23#32
  let arg0 : BitVec 32 := BitVec.ofNat 32 (i 0).val
  let v142 : Index := Scalar.indexCast arg0
  ![23, v142.toNat]
def k0_off25 (i : grid0.Coords) : Fin 2 → Nat :=
  let c24 : Index := 24#32
  let arg0 : BitVec 32 := BitVec.ofNat 32 (i 0).val
  let v148 : Index := Scalar.indexCast arg0
  ![24, v148.toNat]
def k0_off26 (i : grid0.Coords) : Fin 2 → Nat :=
  let c25 : Index := 25#32
  let arg0 : BitVec 32 := BitVec.ofNat 32 (i 0).val
  let v154 : Index := Scalar.indexCast arg0
  ![25, v154.toNat]
def k0_off27 (i : grid0.Coords) : Fin 2 → Nat :=
  let c26 : Index := 26#32
  let arg0 : BitVec 32 := BitVec.ofNat 32 (i 0).val
  let v160 : Index := Scalar.indexCast arg0
  ![26, v160.toNat]
def k0_off28 (i : grid0.Coords) : Fin 2 → Nat :=
  let c27 : Index := 27#32
  let arg0 : BitVec 32 := BitVec.ofNat 32 (i 0).val
  let v166 : Index := Scalar.indexCast arg0
  ![27, v166.toNat]
def k0_off29 (i : grid0.Coords) : Fin 2 → Nat :=
  let c28 : Index := 28#32
  let arg0 : BitVec 32 := BitVec.ofNat 32 (i 0).val
  let v172 : Index := Scalar.indexCast arg0
  ![28, v172.toNat]
def k0_off30 (i : grid0.Coords) : Fin 2 → Nat :=
  let c29 : Index := 29#32
  let arg0 : BitVec 32 := BitVec.ofNat 32 (i 0).val
  let v178 : Index := Scalar.indexCast arg0
  ![29, v178.toNat]
def k0_off31 (i : grid0.Coords) : Fin 2 → Nat :=
  let c30 : Index := 30#32
  let arg0 : BitVec 32 := BitVec.ofNat 32 (i 0).val
  let v184 : Index := Scalar.indexCast arg0
  ![30, v184.toNat]
def k0_off32 (i : grid0.Coords) : Fin 2 → Nat :=
  let c31 : Index := 31#32
  let arg0 : BitVec 32 := BitVec.ofNat 32 (i 0).val
  let v190 : Index := Scalar.indexCast arg0
  ![31, v190.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2x256x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasReferenceIdeal.lean ====
abbrev S32x8 : Shape := ⟨2, ![32, 8]⟩
abbrev S512 : Shape := ⟨1, ![512]⟩
abbrev S2x1x256 : Shape := ⟨3, ![2, 1, 256]⟩
abbrev S256 : Shape := ⟨1, ![256]⟩
abbrev S1x256x1 : Shape := ⟨3, ![1, 256, 1]⟩
abbrev S2x256x256 : Shape := ⟨3, ![2, 256, 256]⟩
abbrev S_ : Shape := ⟨0, ![]⟩
abbrev S2x256x256x1 : Shape := ⟨4, ![2, 256, 256, 1]⟩
abbrev S2x256x256x8 : Shape := ⟨4, ![2, 256, 256, 8]⟩
abbrev S1x8 : Shape := ⟨2, ![1, 8]⟩
abbrev S8 : Shape := ⟨1, ![8]⟩
abbrev S1x1x1x8 : Shape := ⟨4, ![1, 1, 1, 8]⟩
abbrev S2x256x8x256 : Shape := ⟨4, ![2, 256, 8, 256]⟩
abbrev S2x256x2048 : Shape := ⟨3, ![2, 256, 2048]⟩

abbrev nBuf : Space → Nat
  | .hbm => 55
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S512, .i32⟩
  | .hbm, ⟨2, _⟩ => ⟨S2x1x256, .i32⟩
  | .hbm, ⟨3, _⟩ => ⟨S256, .i32⟩
  | .hbm, ⟨4, _⟩ => ⟨S1x256x1, .i32⟩
  | .hbm, ⟨5, _⟩ => ⟨S2x256x256, .i32⟩
  | .hbm, ⟨6, _⟩ => ⟨S2x256x256, .i32⟩
  | .hbm, ⟨7, _⟩ => ⟨S2x256x256, .i32⟩
  | .hbm, ⟨8, _⟩ => ⟨S_, .i32⟩
  | .hbm, ⟨9, _⟩ => ⟨S2x256x256, .i32⟩
  | .hbm, ⟨10, _⟩ => ⟨S2x256x256, .i32⟩
  | .hbm, ⟨11, _⟩ => ⟨S_, .i32⟩
  | .hbm, ⟨12, _⟩ => ⟨S2x256x256, .i32⟩
  | .hbm, ⟨13, _⟩ => ⟨S2x256x256, .i32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .i32⟩
  | .hbm, ⟨26, _⟩ => ⟨S_, .i32⟩
  | .hbm, ⟨27, _⟩ => ⟨S2x256x256, .i32⟩
  | .hbm, ⟨28, _⟩ => ⟨S2x256x256, .i32⟩
  | .hbm, ⟨29, _⟩ => ⟨S_, .i32⟩
  | .hbm, ⟨30, _⟩ => ⟨S2x256x256, .i32⟩
  | .hbm, ⟨31, _⟩ => ⟨S2x256x256, .i32⟩
  | .hbm, ⟨32, _⟩ => ⟨S_, .i32⟩
  | .hbm, ⟨33, _⟩ => ⟨S2x256x256, .i32⟩
  | .hbm, ⟨34, _⟩ => ⟨S2x256x256, .i1⟩
  | .hbm, ⟨35, _⟩ => ⟨S2x256x256, .i32⟩
  | .hbm, ⟨36, _⟩ => ⟨S_, .i32⟩
  | .hbm, ⟨37, _⟩ => ⟨S2x256x256, .i32⟩
  | .hbm, ⟨38, _⟩ => ⟨S2x256x256, .i1⟩
  | .hbm, ⟨39, _⟩ => ⟨S_, .i32⟩
  | .hbm, ⟨40, _⟩ => ⟨S2x256x256, .i32⟩
  | .hbm, ⟨41, _⟩ => ⟨S2x256x256, .i32⟩
  | .hbm, ⟨42, _⟩ => ⟨S2x256x256, .i32⟩
  | .hbm, ⟨43, _⟩ => ⟨S2x256x256x1, .i32⟩
  | .hbm, ⟨44, _⟩ => ⟨S2x256x256x8, .f32⟩
  | .hbm, ⟨45, _⟩ => ⟨S1x8, .f32⟩
  | .hbm, ⟨46, _⟩ => ⟨S8, .f32⟩
  | .hbm, ⟨47, _⟩ => ⟨S1x1x1x8, .f32⟩
  | .hbm, ⟨48, _⟩ => ⟨S2x256x256x8, .f32⟩
  | .hbm, ⟨49, _⟩ => ⟨S2x256x256x8, .f32⟩
  | .hbm, ⟨50, _⟩ => ⟨S_, .f32⟩
  | .hbm, ⟨51, _⟩ => ⟨S2x256x256x8, .f32⟩
  | .hbm, ⟨52, _⟩ => ⟨S2x256x256x8, .f32⟩
  | .hbm, ⟨53, _⟩ => ⟨S2x256x8x256, .f32⟩
  | .hbm, ⟨54, _⟩ => ⟨S2x256x2048, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.LoopRun.lean ====
/- The reference's run over its step module: at a valuation that holds a state (the state at the carried buffers the loop's
   body writes, the set-up values at the loop's constants, the trip's number at its counter) every value of one trip is the step
   module's, one lemma each, so one trip keeps holding with `step` applied; what @main leaves before the loop holds `init`; and
   the run's result is read from `step` iterated from `init`. The text follows the generated run over the step, which does not
   close at the carried result array (`step_6` below). -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v44_5) = s.main_v44_5
  f_6 : V0 (Proc.devRef .tc main_v44_6) = s.main_v44_6
  f_0 : V0 (Proc.devRef .tc main_v44_0) = s.main_v44_0
  f_1 : V0 (Proc.devRef .tc main_v44_1) = s.main_v44_1
  f_2 : V0 (Proc.devRef .tc main_v44_2) = s.main_v44_2
  f_3 : V0 (Proc.devRef .tc main_v44_3) = s.main_v44_3
  n_4 : V0 (Proc.devRef .tc main_v44_4) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x64x4x128 (V0 (Proc.devRef .tc main_v44_0)) (fun k => (((![V0 (Proc.devRef .tc main_v44_4), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x4x128_S1x4x64x4x128 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_4]
  try rfl
set_option maxRecDepth 8192 in
theorem al_5 (h : Holds V0 s j) : (shapeCast S4x64x4x128 (Host.dynamicSlice S1x4x64x4x128 (V0 (Proc.devRef .tc main_v44_0)) (fun k => (((![V0 (Proc.devRef .tc main_v44_4), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x4x128_S1x4x64x4x128) shapeCasts_S1x4x64x4x128_S4x64x4x128 : (Proc.devRef .tc main_while0b_v81 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x64x4x128 (V0 (Proc.devRef .tc main_v44_1)) (fun k => (((![V0 (Proc.devRef .tc main_v44_4), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x4x128_S1x4x64x4x128 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_4]
  try rfl
set_option maxRecDepth 8192 in
theorem al_11 (h : Holds V0 s j) : (res_main_while0b_v82 V0 : (Proc.devRef .tc main_while0b_v82 : DevRef τ sig).ty.Contents (Elt F)) = Cert.ReferenceIdeal.Step.b11 j s := by
  unfold res_main_while0b_v82 Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x64x4x256 (V0 (Proc.devRef .tc main_v44_2)) (fun k => (((![V0 (Proc.devRef .tc main_v44_4), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x4x256_S1x4x64x4x256 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_4]
  try rfl
set_option maxRecDepth 8192 in
theorem al_17 (h : Holds V0 s j) : (res_main_while0b_v83 V0 : (Proc.devRef .tc main_while0b_v83 : DevRef τ sig).ty.Contents (Elt F)) = Cert.ReferenceIdeal.Step.b17 j s := by
  unfold res_main_while0b_v83 Cert.ReferenceIdeal.Step.b17
  rw [← al_16 h]
  try rfl
set_option maxRecDepth 8192 in
theorem al_18 (h : Holds V0 s j) : (constantI S_ 32 0#32 : (Proc.devRef .tc main_while0b_call3_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call3_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x4x64x4x128 (V0 (Proc.devRef .tc main_v44_3)) (fun k => (((![V0 (Proc.devRef .tc main_v44_4), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x4x128_S1x4x64x4x128 : (Proc.devRef .tc main_while0b_call3_v0 : DevRef τ sig).ty.Contents (Elt F)) = Cert.ReferenceIdeal.Step.b22 j s := by
  unfold Cert.ReferenceIdeal.Step.b22
  rw [← al_18 h, ← al_19 h, ← al_20 h, ← al_21 h, h.f_3, h.n_4]
  try rfl
set_option maxRecDepth 8192 in
theorem al_23 (h : Holds V0 s j) : (shapeCast S4x64x4x128 (Host.dynamicSlice S1x4x64x4x128 (V0 (Proc.devRef .tc main_v44_3)) (fun k => (((![V0 (Proc.devRef .tc main_v44_4), constantI S_ 32 0#32, constantI S_ 32 0#32, constantI S_ 32 0#32, constantI S_ 32 0#32] : Fin 5 → (⟨S_, .i32⟩ : BufTy).Contents (Elt F))) k (Shape.Idx.first h_S_)).toInt) sliceFits_S64x4x64x4x128_S1x4x64x4x128) shapeCasts_S1x4x64x4x128_S4x64x4x128 : (Proc.devRef .tc main_while0b_v84 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 1 1#1 : (Proc.devRef .tc main_while0b_c_13 : DevRef τ sig).ty.Contents (Elt F)) = Cert.ReferenceIdeal.Step.b24 j s := by
  unfold Cert.ReferenceIdeal.Step.b24
  rfl
set_option maxRecDepth 8192 in
theorem al_25 (h : Holds V0 s j) : (broadcastInDim S64x64 ![] bcast_S_S64x64 (constantI S_ 1 1#1) : (Proc.devRef .tc main_while0b_v85 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (iotaInDim S64x64 32 0 : (Proc.devRef .tc main_while0b_call4_v0 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call4_c : DevRef τ sig).ty.Contents (Elt F)) = Cert.ReferenceIdeal.Step.b27 j s := by
  unfold Cert.ReferenceIdeal.Step.b27
  rfl
set_option maxRecDepth 8192 in
theorem al_28 (h : Holds V0 s j) : (broadcastInDim S64x64 ![] bcast_S_S64x64 (constantI S_ 32 0#32) : (Proc.devRef .tc main_while0b_call4_v1 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (addi (iotaInDim S64x64 32 0) (broadcastInDim S64x64 ![] bcast_S_S64x64 (constantI S_ 32 0#32)) : (Proc.devRef .tc main_while0b_call4_v2 : DevRef τ sig).ty.Contents (Elt F)) = Cert.ReferenceIdeal.Step.b29 j s := by
  unfold Cert.ReferenceIdeal.Step.b29
  rw [← al_26 h, ← al_28 h]
  try rfl
set_option maxRecDepth 8192 in
theorem al_30 (h : Holds V0 s j) : (iotaInDim S64x64 32 1 : (Proc.devRef .tc main_while0b_call4_v3 : DevRef τ sig).ty.Contents (Elt F)) = Cert.ReferenceIdeal.Step.b30 j s := by
  unfold Cert.ReferenceIdeal.Step.b30
  rfl
set_option maxRecDepth 8192 in
theorem al_31 (h : Holds V0 s j) : (cmpi .sge (addi (iotaInDim S64x64 32 0) (broadcastInDim S64x64 ![] bcast_S_S64x64 (constantI S_ 32 0#32))) (iotaInDim S64x64 32 1) : (Proc.devRef .tc main_while0b_call4_v4 : DevRef τ sig).ty.Contents (Elt F)) = Cert.ReferenceIdeal.Step.b31 j s := by
  unfold Cert.ReferenceIdeal.Step.b31
  rw [← al_29 h, ← al_30 h]
  try rfl
set_option maxRecDepth 8192 in
theorem al_32 (h : Holds V0 s j) : (constantI S_ 1 0#1 : (Proc.devRef .tc main_while0b_call4_c_0 : DevRef τ sig).ty.Contents (Elt F)) = Cert.ReferenceIdeal.Step.b32 j s := by
  unfold Cert.ReferenceIdeal.Step.b32
  rfl
set_option maxRecDepth 8192 in
theorem al_33 (h : Holds V0 s j) : (broadcastInDim S64x64 ![] bcast_S_S64x64 (constantI S_ 1 0#1) : (Proc.devRef .tc main_while0b_call4_v5 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v86 : DevRef τ sig).ty.Contents (Elt F)) = Cert.ReferenceIdeal.Step.b34 j s := by
  unfold Cert.ReferenceIdeal.Step.b34
  rw [← al_31 h, ← al_25 h, ← al_33 h]
  try rfl
set_option maxRecDepth 8192 in
theorem al_35 (h : Holds V0 s j) : (constant S_ .f32 0x00000000#32 : (Proc.devRef .tc main_while0b_call5_call0_cst : DevRef τ sig).ty.Contents (Elt F)) = Cert.ReferenceIdeal.Step.b35 j s := by
  unfold Cert.ReferenceIdeal.Step.b35
  rfl
set_option maxRecDepth 8192 in
theorem al_36 (h : Holds V0 s j) : (broadcastInDim S_ ![] bcast_S_S_ (constant S_ .f32 0x00000000#32) : (Proc.devRef .tc main_while0b_call5_call0_v0 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (res_main_while0b_v87 V0 : (Proc.devRef .tc main_while0b_v87 : DevRef τ sig).ty.Contents (Elt F)) = Cert.ReferenceIdeal.Step.b37 j s := by
  unfold res_main_while0b_v87 Cert.ReferenceIdeal.Step.b37
  rw [← al_23 h, ← al_36 h]
  try rfl
set_option maxRecDepth 8192 in
theorem al_38 (h : Holds V0 s j) : (res_main_while0b_v88 V0 : (Proc.devRef .tc main_while0b_v88 : DevRef τ sig).ty.Contents (Elt F)) = Cert.ReferenceIdeal.Step.b38 j s := by
  unfold res_main_while0b_v88 Cert.ReferenceIdeal.Step.b38
  rw [← al_37 h]
  try rfl
set_option maxRecDepth 8192 in
theorem al_39 (h : Holds V0 s j) : (Host.exp (res_main_while0b_v87 V0) : (Proc.devRef .tc main_while0b_v89 : DevRef τ sig).ty.Contents (Elt F)) = Cert.ReferenceIdeal.Step.b39 j s := by
  unfold Cert.ReferenceIdeal.Step.b39
  rw [← al_37 h]
  try rfl
set_option maxRecDepth 8192 in
theorem al_40 (h : Holds V0 s j) : (res_main_while0b_v90 V0 : (Proc.devRef .tc main_while0b_v90 : DevRef τ sig).ty.Contents (Elt F)) = Cert.ReferenceIdeal.Step.b40 j s := by
  unfold res_main_while0b_v90 Cert.ReferenceIdeal.Step.b40
  rw [← al_5 h, ← al_39 h]
  try rfl
set_option maxRecDepth 8192 in
theorem al_41 (h : Holds V0 s j) : (Host.negf (res_main_while0b_v87 V0) : (Proc.devRef .tc main_while0b_v91 : DevRef τ sig).ty.Contents (Elt F)) = Cert.ReferenceIdeal.Step.b41 j s := by
  unfold Cert.ReferenceIdeal.Step.b41
  rw [← al_37 h]
  try rfl
set_option maxRecDepth 8192 in
theorem al_42 (h : Holds V0 s j) : (Host.exp (Host.negf (res_main_while0b_v87 V0)) : (Proc.devRef .tc main_while0b_v92 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (mulf (res_main_while0b_v82 V0) (Host.exp (Host.negf (res_main_while0b_v87 V0))) : (Proc.devRef .tc main_while0b_v93 : DevRef τ sig).ty.Contents (Elt F)) = Cert.ReferenceIdeal.Step.b43 j s := by
  unfold Cert.ReferenceIdeal.Step.b43
  rw [← al_11 h, ← al_42 h]
  try rfl
set_option maxRecDepth 8192 in
theorem al_44 (h : Holds V0 s j) : (broadcastInDim S4x64x4x128 ![0, 1, 2, 3] bcast_S4x1x4x128_S4x64x4x128_0_1_2_3 (res_main_while0b_v88 V0) : (Proc.devRef .tc main_while0b_v94 : DevRef τ sig).ty.Contents (Elt F)) = Cert.ReferenceIdeal.Step.b44 j s := by
  unfold Cert.ReferenceIdeal.Step.b44
  rw [← al_38 h]
  try rfl
set_option maxRecDepth 8192 in
theorem al_45 (h : Holds V0 s j) : (subf (broadcastInDim S4x64x4x128 ![0, 1, 2, 3] bcast_S4x1x4x128_S4x64x4x128_0_1_2_3 (res_main_while0b_v88 V0)) (res_main_while0b_v87 V0) : (Proc.devRef .tc main_while0b_v95 : DevRef τ sig).ty.Contents (Elt F)) = Cert.ReferenceIdeal.Step.b45 j s := by
  unfold Cert.ReferenceIdeal.Step.b45
  rw [← al_44 h, ← al_37 h]
  try rfl
set_option maxRecDepth 8192 in
theorem al_46 (h : Holds V0 s j) : (Host.exp (subf (broadcastInDim S4x64x4x128 ![0, 1, 2, 3] bcast_S4x1x4x128_S4x64x4x128_0_1_2_3 (res_main_while0b_v88 V0)) (res_main_while0b_v87 V0)) : (Proc.devRef .tc main_while0b_v96 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (mulf (res_main_while0b_v82 V0) (Host.exp (subf (broadcastInDim S4x64x4x128 ![0, 1, 2, 3] bcast_S4x1x4x128_S4x64x4x128_0_1_2_3 (res_main_while0b_v88 V0)) (res_main_while0b_v87 V0))) : (Proc.devRef .tc main_while0b_v97 : DevRef τ sig).ty.Contents (Elt F)) = Cert.ReferenceIdeal.Step.b47 j s := by
  unfold Cert.ReferenceIdeal.Step.b47
  rw [← al_11 h, ← al_46 h]
  try rfl
set_option maxRecDepth 8192 in
theorem al_48 (h : Holds V0 s j) : (shapeCast S4x4x128 (res_main_while0b_v88 V0) shapeCasts_S4x1x4x128_S4x4x128 : (Proc.devRef .tc main_while0b_v98 : DevRef τ sig).ty.Contents (Elt F)) = Cert.ReferenceIdeal.Step.b48 j s := by
  unfold Cert.ReferenceIdeal.Step.b48
  rw [← al_38 h]
  try rfl
set_option maxRecDepth 8192 in
theorem al_49 (h : Holds V0 s j) : (Host.exp (shapeCast S4x4x128 (res_main_while0b_v88 V0) shapeCasts_S4x1x4x128_S4x4x128) : (Proc.devRef .tc main_while0b_v99 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (Host.dotGeneral dot_S4x64x4x128_S4x64x4x128_S4x4x64x64_3_3_1_1_02_02 none (res_main_while0b_v90 V0) (mulf (res_main_while0b_v82 V0) (Host.exp (Host.negf (res_main_while0b_v87 V0)))) : (Proc.devRef .tc main_while0b_v100 : DevRef τ sig).ty.Contents (Elt F)) = Cert.ReferenceIdeal.Step.b50 j s := by
  unfold Cert.ReferenceIdeal.Step.b50
  rw [← al_40 h, ← al_43 h]
  try rfl
set_option maxRecDepth 8192 in
theorem al_51 (h : Holds V0 s j) : (constant S_ .f32 0x00000000#32 : (Proc.devRef .tc main_while0b_cst_14 : DevRef τ sig).ty.Contents (Elt F)) = Cert.ReferenceIdeal.Step.b51 j s := by
  unfold Cert.ReferenceIdeal.Step.b51
  rfl
set_option maxRecDepth 8192 in
theorem al_52 (h : Holds V0 s j) : (broadcastInDim S4x4x64x64 ![] bcast_S_S4x4x64x64 (constant S_ .f32 0x00000000#32) : (Proc.devRef .tc main_while0b_v101 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (broadcastInDim S4x4x64x64 ![2, 3] bcast_S64x64_S4x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_call6_v0 : DevRef τ sig).ty.Contents (Elt F)) = Cert.ReferenceIdeal.Step.b53 j s := by
  unfold Cert.ReferenceIdeal.Step.b53
  rw [← al_34 h]
  try rfl
set_option maxRecDepth 8192 in
theorem al_54 (h : Holds V0 s j) : (select (broadcastInDim S4x4x64x64 ![2, 3] bcast_S64x64_S4x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x64x4x128_S4x64x4x128_S4x4x64x64_3_3_1_1_02_02 none (res_main_while0b_v90 V0) (mulf (res_main_while0b_v82 V0) (Host.exp (Host.negf (res_main_while0b_v87 V0))))) (broadcastInDim S4x4x64x64 ![] bcast_S_S4x4x64x64 (constant S_ .f32 0x00000000#32)) : (Proc.devRef .tc main_while0b_v102 : DevRef τ sig).ty.Contents (Elt F)) = Cert.ReferenceIdeal.Step.b54 j s := by
  unfold Cert.ReferenceIdeal.Step.b54
  rw [← al_53 h, ← al_50 h, ← al_52 h]
  try rfl
set_option maxRecDepth 8192 in
theorem al_55 (h : Holds V0 s j) : (Host.dotGeneral dot_S4x64x4x256_S4x4x64x64_S4x4x256x64_1_3_3_2_02_01 none (res_main_while0b_v83 V0) (select (broadcastInDim S4x4x64x64 ![2, 3] bcast_S64x64_S4x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x64x4x128_S4x64x4x128_S4x4x64x64_3_3_1_1_02_02 none (res_main_while0b_v90 V0) (mulf (res_main_while0b_v82 V0) (Host.exp (Host.negf (res_main_while0b_v87 V0))))) (broadcastInDim S4x4x64x64 ![] bcast_S_S4x4x64x64 (constant S_ .f32 0x00000000#32))) : (Proc.devRef .tc main_while0b_v103 : DevRef τ sig).ty.Contents (Elt F)) = Cert.ReferenceIdeal.Step.b55 j s := by
  unfold Cert.ReferenceIdeal.Step.b55
  rw [← al_17 h, ← al_54 h]
  try rfl
set_option maxRecDepth 8192 in
theorem al_56 (h : Holds V0 s j) : (transpose S4x64x4x256 [0, 3, 1, 2] (Host.dotGeneral dot_S4x64x4x256_S4x4x64x64_S4x4x256x64_1_3_3_2_02_01 none (res_main_while0b_v83 V0) (select (broadcastInDim S4x4x64x64 ![2, 3] bcast_S64x64_S4x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x64x4x128_S4x64x4x128_S4x4x64x64_3_3_1_1_02_02 none (res_main_while0b_v90 V0) (mulf (res_main_while0b_v82 V0) (Host.exp (Host.negf (res_main_while0b_v87 V0))))) (broadcastInDim S4x4x64x64 ![] bcast_S_S4x4x64x64 (constant S_ .f32 0x00000000#32)))) transposes_S4x4x256x64_S4x64x4x256_0_3_1_2 : (Proc.devRef .tc main_while0b_v104 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (Host.dotGeneral dot_S4x4x128x256_S4x64x4x128_S4x4x256x64_2_3_3_1_01_02 none (V0 (Proc.devRef .tc main_v44_5)) (res_main_while0b_v90 V0) : (Proc.devRef .tc main_while0b_v105 : DevRef τ sig).ty.Contents (Elt F)) = Cert.ReferenceIdeal.Step.b57 j s := by
  unfold Cert.ReferenceIdeal.Step.b57
  rw [← al_40 h, h.f_5]
  try rfl
set_option maxRecDepth 8192 in
theorem al_58 (h : Holds V0 s j) : (transpose S4x64x4x256 [0, 3, 1, 2] (Host.dotGeneral dot_S4x4x128x256_S4x64x4x128_S4x4x256x64_2_3_3_1_01_02 none (V0 (Proc.devRef .tc main_v44_5)) (res_main_while0b_v90 V0)) transposes_S4x4x256x64_S4x64x4x256_0_3_1_2 : (Proc.devRef .tc main_while0b_v106 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (broadcastInDim S4x4x128x1 ![0, 1, 2] bcast_S4x4x128_S4x4x128x1_0_1_2 (Host.exp (shapeCast S4x4x128 (res_main_while0b_v88 V0) shapeCasts_S4x1x4x128_S4x4x128)) : (Proc.devRef .tc main_while0b_v107 : DevRef τ sig).ty.Contents (Elt F)) = Cert.ReferenceIdeal.Step.b59 j s := by
  unfold Cert.ReferenceIdeal.Step.b59
  rw [← al_49 h]
  try rfl
set_option maxRecDepth 8192 in
theorem al_60 (h : Holds V0 s j) : (broadcastInDim S4x4x128x256 ![0, 1, 2, 3] bcast_S4x4x128x1_S4x4x128x256_0_1_2_3 (broadcastInDim S4x4x128x1 ![0, 1, 2] bcast_S4x4x128_S4x4x128x1_0_1_2 (Host.exp (shapeCast S4x4x128 (res_main_while0b_v88 V0) shapeCasts_S4x1x4x128_S4x4x128))) : (Proc.devRef .tc main_while0b_v108 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (mulf (broadcastInDim S4x4x128x256 ![0, 1, 2, 3] bcast_S4x4x128x1_S4x4x128x256_0_1_2_3 (broadcastInDim S4x4x128x1 ![0, 1, 2] bcast_S4x4x128_S4x4x128x1_0_1_2 (Host.exp (shapeCast S4x4x128 (res_main_while0b_v88 V0) shapeCasts_S4x1x4x128_S4x4x128)))) (V0 (Proc.devRef .tc main_v44_5)) : (Proc.devRef .tc main_while0b_v109 : DevRef τ sig).ty.Contents (Elt F)) = Cert.ReferenceIdeal.Step.b61 j s := by
  unfold Cert.ReferenceIdeal.Step.b61
  rw [← al_60 h, h.f_5]
  try rfl
set_option maxRecDepth 8192 in
theorem al_62 (h : Holds V0 s j) : (Host.dotGeneral dot_S4x64x4x128_S4x64x4x256_S4x4x128x256_1_1_3_3_02_02 none (mulf (res_main_while0b_v82 V0) (Host.exp (subf (broadcastInDim S4x64x4x128 ![0, 1, 2, 3] bcast_S4x1x4x128_S4x64x4x128_0_1_2_3 (res_main_while0b_v88 V0)) (res_main_while0b_v87 V0)))) (res_main_while0b_v83 V0) : (Proc.devRef .tc main_while0b_v110 : DevRef τ sig).ty.Contents (Elt F)) = Cert.ReferenceIdeal.Step.b62 j s := by
  unfold Cert.ReferenceIdeal.Step.b62
  rw [← al_47 h, ← al_17 h]
  try rfl
set_option maxRecDepth 8192 in
theorem al_63 (h : Holds V0 s j) : (addf (mulf (broadcastInDim S4x4x128x256 ![0, 1, 2, 3] bcast_S4x4x128x1_S4x4x128x256_0_1_2_3 (broadcastInDim S4x4x128x1 ![0, 1, 2] bcast_S4x4x128_S4x4x128x1_0_1_2 (Host.exp (shapeCast S4x4x128 (res_main_while0b_v88 V0) shapeCasts_S4x1x4x128_S4x4x128)))) (V0 (Proc.devRef .tc main_v44_5))) (Host.dotGeneral dot_S4x64x4x128_S4x64x4x256_S4x4x128x256_1_1_3_3_02_02 none (mulf (res_main_while0b_v82 V0) (Host.exp (subf (broadcastInDim S4x64x4x128 ![0, 1, 2, 3] bcast_S4x1x4x128_S4x64x4x128_0_1_2_3 (res_main_while0b_v88 V0)) (res_main_while0b_v87 V0)))) (res_main_while0b_v83 V0)) : (Proc.devRef .tc main_while0b_v111 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (addf (transpose S4x64x4x256 [0, 3, 1, 2] (Host.dotGeneral dot_S4x64x4x256_S4x4x64x64_S4x4x256x64_1_3_3_2_02_01 none (res_main_while0b_v83 V0) (select (broadcastInDim S4x4x64x64 ![2, 3] bcast_S64x64_S4x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x64x4x128_S4x64x4x128_S4x4x64x64_3_3_1_1_02_02 none (res_main_while0b_v90 V0) (mulf (res_main_while0b_v82 V0) (Host.exp (Host.negf (res_main_while0b_v87 V0))))) (broadcastInDim S4x4x64x64 ![] bcast_S_S4x4x64x64 (constant S_ .f32 0x00000000#32)))) transposes_S4x4x256x64_S4x64x4x256_0_3_1_2) (transpose S4x64x4x256 [0, 3, 1, 2] (Host.dotGeneral dot_S4x4x128x256_S4x64x4x128_S4x4x256x64_2_3_3_1_01_02 none (V0 (Proc.devRef .tc main_v44_5)) (res_main_while0b_v90 V0)) transposes_S4x4x256x64_S4x64x4x256_0_3_1_2) : (Proc.devRef .tc main_while0b_v112 : DevRef τ sig).ty.Contents (Elt F)) = Cert.ReferenceIdeal.Step.b64 j s := by
  unfold Cert.ReferenceIdeal.Step.b64
  rw [← al_56 h, ← al_58 h]
  try rfl
set_option maxRecDepth 8192 in
theorem al_65 (h : Holds V0 s j) : (broadcastInDim S1x4x64x4x256 ![1, 2, 3, 4] bcast_S4x64x4x256_S1x4x64x4x256_1_2_3_4 (addf (transpose S4x64x4x256 [0, 3, 1, 2] (Host.dotGeneral dot_S4x64x4x256_S4x4x64x64_S4x4x256x64_1_3_3_2_02_01 none (res_main_while0b_v83 V0) (select (broadcastInDim S4x4x64x64 ![2, 3] bcast_S64x64_S4x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x64x4x128_S4x64x4x128_S4x4x64x64_3_3_1_1_02_02 none (res_main_while0b_v90 V0) (mulf (res_main_while0b_v82 V0) (Host.exp (Host.negf (res_main_while0b_v87 V0))))) (broadcastInDim S4x4x64x64 ![] bcast_S_S4x4x64x64 (constant S_ .f32 0x00000000#32)))) transposes_S4x4x256x64_S4x64x4x256_0_3_1_2) (transpose S4x64x4x256 [0, 3, 1, 2] (Host.dotGeneral dot_S4x4x128x256_S4x64x4x128_S4x4x256x64_2_3_3_1_01_02 none (V0 (Proc.devRef .tc main_v44_5)) (res_main_while0b_v90 V0)) transposes_S4x4x256x64_S4x64x4x256_0_3_1_2)) : (Proc.devRef .tc main_while0b_call7_v0 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (constantI S_ 32 0#32 : (Proc.devRef .tc main_while0b_call7_c : DevRef τ sig).ty.Contents (Elt F)) = Cert.ReferenceIdeal.Step.b66 j s := by
  unfold Cert.ReferenceIdeal.Step.b66
  rfl
set_option maxRecDepth 8192 in
theorem al_67 (h : Holds V0 s j) : (constantI S_ 32 0#32 : (Proc.devRef .tc main_while0b_call7_c_0 : DevRef τ sig).ty.Contents (Elt F)) = Cert.ReferenceIdeal.Step.b67 j s := by
  unfold Cert.ReferenceIdeal.Step.b67
  rfl
set_option maxRecDepth 8192 in
theorem al_68 (h : Holds V0 s j) : (constantI S_ 32 0#32 : (Proc.devRef .tc main_while0b_call7_c_1 : DevRef τ sig).ty.Contents (Elt F)) = Cert.ReferenceIdeal.Step.b68 j s := by
  unfold Cert.ReferenceIdeal.Step.b68
  rfl
set_option maxRecDepth 8192 in
theorem al_69 (h : Holds V0 s j) : (constantI S_ 32 0#32 : (Proc.devRef .tc main_while0b_call7_c_2 : DevRef τ sig).ty.Contents (Elt F)) = Cert.ReferenceIdeal.Step.b69 j s := by
  unfold Cert.ReferenceIdeal.Step.b69
  rfl
set_option maxRecDepth 8192 in
theorem al_70 (h : Holds V0 s j) : (Host.dynamicUpdateSlice (V0 (Proc.devRef .tc main_v44_6)) (broadcastInDim S1x4x64x4x256 ![1, 2, 3, 4] bcast_S4x64x4x256_S1x4x64x4x256_1_2_3_4 (addf (transpose S4x64x4x256 [0, 3, 1, 2] (Host.dotGeneral dot_S4x64x4x256_S4x4x64x64_S4x4x256x64_1_3_3_2_02_01 none (res_main_while0b_v83 V0) (select (broadcastInDim S4x4x64x64 ![2, 3] bcast_S64x64_S4x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x64x4x128_S4x64x4x128_S4x4x64x64_3_3_1_1_02_02 none (res_main_while0b_v90 V0) (mulf (res_main_while0b_v82 V0) (Host.exp (Host.negf (res_main_while0b_v87 V0))))) (broadcastInDim S4x4x64x64 ![] bcast_S_S4x4x64x64 (constant S_ .f32 0x00000000#32)))) transposes_S4x4x256x64_S4x64x4x256_0_3_1_2) (transpose S4x64x4x256 [0, 3, 1, 2] (Host.dotGeneral dot_S4x4x128x256_S4x64x4x128_S4x4x256x64_2_3_3_1_01_02 none (V0 (Proc.devRef .tc main_v44_5)) (res_main_while0b_v90 V0)) transposes_S4x4x256x64_S4x64x4x256_0_3_1_2))) (fun k => (((![V0 (Proc.devRef .tc main_v44_4), constantI S_ 32 0#32, constantI S_ 32 0#32, constantI S_ 32 0#32, constantI S_ 32 0#32] : Fin 5 → (⟨S_, .i32⟩ : BufTy).Contents (Elt F))) k (Shape.Idx.first h_S_)).toInt) updateFits_S64x4x64x4x256_S1x4x64x4x256 : (Proc.devRef .tc main_while0b_v113 : DevRef τ sig).ty.Contents (Elt F)) = Cert.ReferenceIdeal.Step.b70 j s := by
  unfold Cert.ReferenceIdeal.Step.b70
  rw [← al_65 h, ← al_66 h, ← al_67 h, ← al_68 h, ← al_69 h, h.f_6, h.n_4]
  try rfl

/-! One trip's step of the carried values is `step`, field by field; a counter steps to the next number. -/

theorem step_5 (h : Holds V0 s j) : step_main_v44_5 V0 = (step j s).main_v44_5 := by
  unfold step_main_v44_5 Cert.ReferenceIdeal.Step.step
  show id (addf (mulf (broadcastInDim S4x4x128x256 ![0, 1, 2, 3] bcast_S4x4x128x1_S4x4x128x256_0_1_2_3 (broadcastInDim S4x4x128x1 ![0, 1, 2] bcast_S4x4x128_S4x4x128x1_0_1_2 (Host.exp (shapeCast S4x4x128 (res_main_while0b_v88 V0) shapeCasts_S4x1x4x128_S4x4x128)))) (V0 (Proc.devRef .tc main_v44_5))) (Host.dotGeneral dot_S4x64x4x128_S4x64x4x256_S4x4x128x256_1_1_3_3_02_02 none (mulf (res_main_while0b_v82 V0) (Host.exp (subf (broadcastInDim S4x64x4x128 ![0, 1, 2, 3] bcast_S4x1x4x128_S4x64x4x128_0_1_2_3 (res_main_while0b_v88 V0)) (res_main_while0b_v87 V0)))) (res_main_while0b_v83 V0))) = _
  rw [al_63 h]
  try rfl
theorem step_6 (h : Holds V0 s j) : step_main_v44_6 V0 = (step j s).main_v44_6 := by
  unfold step_main_v44_6 Cert.ReferenceIdeal.Step.step
  show id (Host.dynamicUpdateSlice (V0 (Proc.devRef .tc main_v44_6)) (broadcastInDim S1x4x64x4x256 ![1, 2, 3, 4] bcast_S4x64x4x256_S1x4x64x4x256_1_2_3_4 (addf (transpose S4x64x4x256 [0, 3, 1, 2] (Host.dotGeneral dot_S4x64x4x256_S4x4x64x64_S4x4x256x64_1_3_3_2_02_01 none (res_main_while0b_v83 V0) (select (broadcastInDim S4x4x64x64 ![2, 3] bcast_S64x64_S4x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x64x4x128_S4x64x4x128_S4x4x64x64_3_3_1_1_02_02 none (res_main_while0b_v90 V0) (mulf (res_main_while0b_v82 V0) (Host.exp (Host.negf (res_main_while0b_v87 V0))))) (broadcastInDim S4x4x64x64 ![] bcast_S_S4x4x64x64 (constant S_ .f32 0x00000000#32)))) transposes_S4x4x256x64_S4x64x4x256_0_3_1_2) (transpose S4x64x4x256 [0, 3, 1, 2] (Host.dotGeneral dot_S4x4x128x256_S4x64x4x128_S4x4x256x64_2_3_3_1_01_02 none (V0 (Proc.devRef .tc main_v44_5)) (res_main_while0b_v90 V0)) transposes_S4x4x256x64_S4x64x4x256_0_3_1_2))) (fun k => (((![V0 (Proc.devRef .tc main_v44_4), constantI S_ 32 0#32, constantI S_ 32 0#32, constantI S_ 32 0#32, constantI S_ 32 0#32] : Fin 5 → (⟨S_, .i32⟩ : BufTy).Contents (Elt F))) k (Shape.Idx.first h_S_)).toInt) updateFits_S64x4x64x4x256_S1x4x64x4x256) = _
  exact al_70 h
theorem step_4 (h : Holds V0 s j) : step_main_v44_4 V0 = constantI S_ 32 (BitVec.ofNat 32 (j + 1)) := by
  unfold step_main_v44_4
  rw [h.n_4]
  funext i
  show BitVec.ofNat 32 j + 1#32 = BitVec.ofNat 32 (j + 1)
  simp only [BitVec.ofNat_add]

set_option maxRecDepth 8192 in
theorem out_main_v80_holds (h : Holds V0 s j) {x_main_arg0 : (⟨S4x4096x11352, .f32⟩ : BufTy).Contents (Elt F)} (h_main_arg0 : V0 (Proc.devRef .tc main_arg0) = x_main_arg0) {x_main_arg3 : (⟨S1x256, .f32⟩ : BufTy).Contents (Elt F)} (h_main_arg3 : V0 (Proc.devRef .tc main_arg3) = x_main_arg3) : out_main_v80 V0 = Cert.ReferenceIdeal.Step.R_main_v80 s x_main_arg0 x_main_arg3 := by
  unfold out_main_v80 Cert.ReferenceIdeal.Step.R_main_v80
  rw [h.f_6, h_main_arg0, h_main_arg3]
  try rfl

/-- One trip keeps the valuation holding: `step` of the state, the same set-up values, the next number. -/
theorem holds_step (h : Holds V0 s j) : Holds (STEP V0) (step j s) (j + 1) where
  f_5 := (STEP_main_v44_5 V0).trans (step_5 h)
  f_6 := (STEP_main_v44_6 V0).trans (step_6 h)
  n_4 := (STEP_main_v44_4 V0).trans (step_4 h)
  f_0 := (STEP_main_v44_0 V0).trans h.f_0
  f_1 := (STEP_main_v44_1 V0).trans h.f_1
  f_2 := (STEP_main_v44_2 V0).trans h.f_2
  f_3 := (STEP_main_v44_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v80) = Cert.ReferenceIdeal.Step.R_main_v80 (it c 64) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 64
    ⟨(h c).1.trans (out_main_v80_holds hk (iter_main_arg0 m c 64) (iter_main_arg3 m c 64)), (h c).2.1, (h c).2.2.1, (h c).2.2.2.1, (h c).2.2.2.2⟩) (Value.run m ρ)

end Cert.ReferenceIdeal.StepRun

end
-- ==== Proof.Math.lean ====
module

public import Idealize.ShloMosaic.Lib.Pointwise
public import Idealize.ShloMosaic.Lib.IdealHost

/-! Extended-real arithmetic of the gated linear attention: the log decay, its running sum, the products of exponentials
    and the gate, together with one chunk of the recurrence as plain sums. -/

@[expose] public section

noncomputable section

namespace Cert.Gla

open Idealize.ShloMosaic

/-! ## Corners -/

theorem exp_bot : Ideal.exp ⊥ = 0 := rfl
theorem exp_top : Ideal.exp ⊤ = ⊤ := rfl
theorem exp_coe (r : ℝ) : Ideal.exp (r : EReal) = ((Real.exp r : ℝ) : EReal) := rfl
theorem tanh_bot : Ideal.tanh ⊥ = -1 := rfl
theorem tanh_top : Ideal.tanh ⊤ = 1 := rfl
theorem tanh_coe (r : ℝ) : Ideal.tanh (r : EReal) = ((Real.tanh r : ℝ) : EReal) := rfl

/-- Division by a number that is not zero. -/
theorem div_ne {x y : EReal} (h : y ≠ 0) : Ideal.div x y = x * y⁻¹ := by
  unfold Ideal.div
  rw [if_neg h]

/-! ## Constants -/

/-- The constant 16. -/
theorem c16 : Ideal.ofBits .f32 0x41800000#32 = ((16 : ℝ) : EReal) := by
  simp [Ideal.ofBits, Ideal.ieee, -EReal.coe_mul]; norm_num

/-- The constant one sixteenth. -/
theorem cSixteenth : Ideal.ofBits .f32 0x3D800000#32 = ((1 / 16 : ℝ) : EReal) := by
  simp [Ideal.ofBits, Ideal.ieee, -EReal.coe_mul]; norm_num

/-- The constant one half. -/
theorem cHalf : Ideal.ofBits .f32 0x3F000000#32 = ((1 / 2 : ℝ) : EReal) := by
  simp [Ideal.ofBits, Ideal.ieee, -EReal.coe_mul]; norm_num

/-! ## The log decay -/

/-- The log decay of a gate's argument: the log sigmoid, divided by 16. -/
def lg (a : EReal) : EReal :=
  Ideal.div (-(max (-a) 0 + Ideal.log1p (Ideal.exp (-(max a (-a)))))) (Ideal.ofBits .f32 0x41800000#32)

/-- The logarithm of one plus the exponential of minus a magnitude is a real number that is not negative. -/
theorem log_real (a : EReal) : ∃ r : ℝ, 0 ≤ r ∧ Ideal.log (1 + Ideal.exp (-(max a (-a)))) = (r : EReal) := by
  have key : ∀ x : ℝ, 0 ≤ x → ∃ r : ℝ, 0 ≤ r ∧ Ideal.log (1 + (x : EReal)) = (r : EReal) := by
    intro x hx
    refine ⟨Real.log (1 + x), Real.log_nonneg (by linarith), ?_⟩
    have : (1 : EReal) + (x : EReal) = ((1 + x : ℝ) : EReal) := by norm_cast
    rw [this]
    show (if 1 + x ≤ 0 then (⊥ : EReal) else (Real.log (1 + x) : EReal)) = _
    rw [if_neg (by linarith)]
  induction a using EReal.rec with
  | bot => simpa [exp_bot] using key 0 le_rfl
  | top => simpa [exp_bot] using key 0 le_rfl
  | coe a =>
    have : -(max (a : EReal) (-(a : EReal))) = ((-(max a (-a)) : ℝ) : EReal) := by
      norm_cast
    rw [this]
    exact key _ (Real.exp_pos _).le

/-- The two ways of writing the log decay agree. -/
theorem lg_eq (a : EReal) :
    (min a 0 - Ideal.log (1 + Ideal.exp (0 - max a (-a)))) * Ideal.ofBits .f32 0x3D800000#32 = lg a := by
  unfold lg Ideal.log1p
  obtain ⟨r, hr, h⟩ := log_real a
  rw [zero_sub, h, c16, cSixteenth]
  have h1 : -(max (-a) 0 + (r : EReal)) = min a 0 - (r : EReal) := by
    rw [EReal.neg_add (Or.inr (EReal.coe_ne_top r)) (Or.inr (EReal.coe_ne_bot r)), sub_eq_add_neg, sub_eq_add_neg]
    congr 1
    rcases le_total a 0 with h | h
    · rw [min_eq_left h, max_eq_left (by rw [← neg_zero]; exact EReal.neg_le_neg_iff.2 h), neg_neg]
    · rw [min_eq_right h, max_eq_right (by rw [← neg_zero]; exact EReal.neg_le_neg_iff.2 h), neg_zero]
  rw [h1, div_ne (by norm_cast)]
  congr 1
  rw [← EReal.coe_inv]
  norm_num

/-- The log decay is not positive. -/
theorem lg_nonpos (a : EReal) : lg a ≤ 0 := by
  rw [← lg_eq]
  obtain ⟨r, hr, h⟩ := log_real a
  rw [zero_sub, h, cSixteenth]
  have h1 : min a 0 - (r : EReal) ≤ 0 := by
    have := EReal.sub_le_sub (min_le_right a 0) (EReal.coe_nonneg.2 hr)
    simpa using this
  exact EReal.mul_nonpos_iff.2 (Or.inr ⟨h1, by norm_cast; norm_num⟩)

/-! ## The running sum -/

/-- Splitting a number in three parts, each the rounding of what is left, loses nothing. -/
theorem split3 {x : EReal} (h : x ≠ ⊤) : x + (x - x) + ((x - x) - (x - x)) = x := by
  induction x using EReal.rec with
  | bot => simp
  | top => exact absurd rfl h
  | coe x => norm_cast; ring

/-- The running sum of a chunk's log decay. -/
def B (la : Fin 64 → EReal) (t : Fin 64) : EReal := ∑ s : Fin 64, if s ≤ t then la s else 0

/-- The three products with the triangle of ones add up to the running sum. -/
theorem tri_sum (la : Fin 64 → EReal) (h : ∀ s, la s ≠ ⊤) (t : Fin 64) :
    (∑ s : Fin 64, (if s ≤ t then (1 : EReal) else 0) * la s) + (∑ s : Fin 64, (if s ≤ t then (1 : EReal) else 0) * (la s - la s))
      + (∑ s : Fin 64, (if s ≤ t then (1 : EReal) else 0) * ((la s - la s) - (la s - la s))) = B la t := by
  unfold B
  rw [← Finset.sum_add_distrib, ← Finset.sum_add_distrib]
  refine Finset.sum_congr rfl fun s _ => ?_
  split
  · rw [one_mul, one_mul, one_mul, split3 (h s)]
  · simp

/-- A sum of numbers that are not positive is not positive. -/
theorem B_nonpos (la : Fin 64 → EReal) (h : ∀ s, la s ≤ 0) (t : Fin 64) : B la t ≤ 0 :=
  Finset.sum_nonpos fun s _ => by split <;> simp [h]

/-- The whole sum is the sum up to a row plus something not positive. -/
theorem B_last (la : Fin 64 → EReal) (h : ∀ s, la s ≤ 0) (t : Fin 64) : ∃ r : EReal, B la 63 = B la t + r := by
  refine ⟨∑ s : Fin 64, if s ≤ t then 0 else la s, ?_⟩
  unfold B
  rw [← Finset.sum_add_distrib]
  refine Finset.sum_congr rfl fun s _ => ?_
  rw [if_pos (by have := s.isLt; exact Fin.le_def.2 (by show s.val ≤ 63; omega))]
  split <;> simp

/-- A key decayed from its row to the end of the chunk: the product of two exponentials is the exponential of the difference. -/
theorem carry (la : Fin 64 → EReal) (h : ∀ s, la s ≤ 0) (t : Fin 64) (k : EReal) :
    k * Ideal.exp (0 - B la t) * Ideal.exp (B la 63) = k * Ideal.exp (B la 63 - B la t) := by
  obtain ⟨r, hr⟩ := B_last la h t
  have h1 := B_nonpos la h t
  have h2 := B_nonpos la h 63
  generalize B la t = b at *
  generalize B la 63 = c at *
  rw [zero_sub, mul_assoc]
  congr 1
  induction b using EReal.rec with
  | bot => subst hr; rw [EReal.bot_add, EReal.neg_bot, exp_bot, exp_top, mul_zero]; rfl
  | top => simp at h1
  | coe b =>
    induction c using EReal.rec with
    | bot => rw [EReal.bot_sub, exp_bot, mul_zero]
    | top => simp at h2
    | coe c =>
      have e1 : Ideal.exp (-(b : EReal)) = ((Real.exp (-b) : ℝ) : EReal) := rfl
      have e2 : Ideal.exp (c : EReal) = ((Real.exp c : ℝ) : EReal) := rfl
      have e3 : Ideal.exp ((c : EReal) - (b : EReal)) = ((Real.exp (c - b) : ℝ) : EReal) := rfl
      rw [e1, e2, e3, ← EReal.coe_mul, ← Real.exp_add]
      congr 2
      ring

/-! ## The gate -/

/-- The logistic function through the hyperbolic tangent of half the argument. -/
theorem sigmoid_eq (z : EReal) :
    Ideal.ofBits .f32 0x3F000000#32 * Ideal.tanh (Ideal.ofBits .f32 0x3F000000#32 * z) + Ideal.ofBits .f32 0x3F000000#32
      = Ideal.div 1 (1 + Ideal.exp (-z)) := by
  rw [cHalf]
  induction z using EReal.rec with
  | bot =>
    rw [EReal.coe_mul_bot_of_pos (by norm_num), tanh_bot, EReal.neg_bot, exp_top, show (1 : EReal) + ⊤ = ⊤ from rfl,
      div_ne (by simp), EReal.inv_top, mul_zero, show (-1 : EReal) = ((-1 : ℝ) : EReal) by rw [EReal.coe_neg, EReal.coe_one], ← EReal.coe_mul,
      ← EReal.coe_add]
    norm_num
  | top =>
    rw [EReal.coe_mul_top_of_pos (by norm_num), tanh_top, EReal.neg_top, exp_bot, mul_one, add_zero, ← EReal.coe_add,
      div_ne (by simp), show (1 : EReal) = ((1 : ℝ) : EReal) by norm_cast, ← EReal.coe_inv, ← EReal.coe_mul]
    norm_num
  | coe z =>
    have hp : 0 < Real.exp (-z) := Real.exp_pos _
    have e1 : Ideal.exp (-(z : EReal)) = ((Real.exp (-z) : ℝ) : EReal) := rfl
    have e2 : Ideal.tanh (((1 / 2 : ℝ) : EReal) * (z : EReal)) = ((Real.tanh (1 / 2 * z) : ℝ) : EReal) := by
      rw [← EReal.coe_mul]; rfl
    have e3 : (1 : EReal) = ((1 : ℝ) : EReal) := by norm_cast
    rw [e1, e2, e3, ← EReal.coe_add, ← EReal.coe_mul, ← EReal.coe_add]
    rw [div_ne (by norm_cast; linarith), ← EReal.coe_inv, ← EReal.coe_mul]
    congr 1
    have ha : Real.exp (-z) = Real.exp (-(1 / 2 * z)) * Real.exp (-(1 / 2 * z)) := by rw [← Real.exp_add]; congr 1; ring
    have hb : Real.exp (1 / 2 * z) * Real.exp (-(1 / 2 * z)) = 1 := by rw [← Real.exp_add]; simp
    rw [Real.tanh_eq_sinh_div_cosh, Real.sinh_eq, Real.cosh_eq, ha]
    have p1 := Real.exp_pos (1 / 2 * z)
    have p2 := Real.exp_pos (-(1 / 2 * z))
    generalize Real.exp (1 / 2 * z) = x at *
    generalize Real.exp (-(1 / 2 * z)) = y at *
    have hx : x = 1 / y := by field_simp; linarith
    subst hx
    field_simp
    ring

/-! ## One chunk of the recurrence -/

/-- A head's state after a chunk. -/
def Sc (la k : Fin 64 → Fin 128 → EReal) (v : Fin 64 → Fin 256 → EReal) (st : Fin 128 → Fin 256 → EReal) (d : Fin 128) (w : Fin 256) : EReal :=
  st d w * Ideal.exp (B (fun s => la s d) 63)
    + ∑ s : Fin 64, v s w * (k s d * Ideal.exp (B (fun s => la s d) 63 - B (fun s => la s d) s))

/-- A head's attention output within a chunk. -/
def Oc (la q k : Fin 64 → Fin 128 → EReal) (v : Fin 64 → Fin 256 → EReal) (st : Fin 128 → Fin 256 → EReal) (t : Fin 64) (w : Fin 256) : EReal :=
  (∑ s : Fin 64, (if s ≤ t then ∑ d : Fin 128, (q t d * Ideal.exp (B (fun s => la s d) t)) * (k s d * Ideal.exp (-(B (fun s => la s d) s))) else 0) * v s w)
    + ∑ d : Fin 128, (q t d * Ideal.exp (B (fun s => la s d) t)) * st d w

/-- A head's output: the attention output normalised, scaled by the gain and gated. -/
def Yc (g o z : Fin 256 → EReal) (w : Fin 256) : EReal :=
  (o w * Ideal.rsqrt (Ideal.div (∑ x : Fin 256, o x * o x) (Ideal.ofBits .f32 0x43800000#32) + Ideal.ofBits .f32 0x358637BD#32) * g w)
    * (z w * Ideal.div 1 (1 + Ideal.exp (-(z w))))

/-- The recurrence's state before chunk `n`, from no state. -/
def Sn (la k : ℕ → Fin 64 → Fin 128 → EReal) (v : ℕ → Fin 64 → Fin 256 → EReal) : ℕ → Fin 128 → Fin 256 → EReal
  | 0 => fun _ _ => 0
  | n + 1 => Sc (la n) (k n) (v n) (Sn la k v n)

end Cert.Gla

end
-- ==== Proof.Spec.lean ====
module

public import proofs.«01_k».proof.Proof.Math
public import Idealize.ShloMosaic.Lib.Pointwise.Index

/-! The layer's gated linear attention as one formula of the launch's arrays: the per-chunk inputs read by natural-number
coordinates, the running state of a batch and head, and the element of the result. -/

@[expose] public section

noncomputable section

namespace Cert.Gla

open Idealize.ShloMosaic Idealize.ShloMosaic.Tactic

/-- An array's element at natural-number coordinates, zero outside. -/
def at3 {A B C : ℕ} (x : (⟨3, ![A, B, C]⟩ : Shape).Idx → EReal) (a b c : ℕ) : EReal :=
  if h : a < A ∧ b < B ∧ c < C then x (ix3 ⟨a, h.1⟩ ⟨b, h.2.1⟩ ⟨c, h.2.2⟩) else 0

/-- A matrix's element at natural-number coordinates, zero outside. -/
def at2 {A B : ℕ} (x : (⟨2, ![A, B]⟩ : Shape).Idx → EReal) (a b : ℕ) : EReal :=
  if h : a < A ∧ b < B then x (ix2 ⟨a, h.1⟩ ⟨b, h.2⟩) else 0

/-- Inside the bounds the element is the array's. -/
theorem at3_ix {A B C : ℕ} (x : (⟨3, ![A, B, C]⟩ : Shape).Idx → EReal) (a : Fin A) (b : Fin B) (c : Fin C) (a' b' c' : ℕ)
    (ha : a.val = a') (hb : b.val = b') (hc : c.val = c') : x (ix3 a b c) = at3 x a' b' c' := by
  subst ha hb hc
  unfold at3
  rw [dif_pos ⟨a.isLt, b.isLt, c.isLt⟩]

/-- Inside the bounds the element is the matrix's. -/
theorem at2_ix {A B : ℕ} (x : (⟨2, ![A, B]⟩ : Shape).Idx → EReal) (a : Fin A) (b : Fin B) (a' b' : ℕ)
    (ha : a.val = a') (hb : b.val = b') : x (ix2 a b) = at2 x a' b' := by
  subst ha hb
  unfold at2
  rw [dif_pos ⟨a.isLt, b.isLt⟩]

variable (u : (⟨3, ![4, 4096, 11352]⟩ : Shape).Idx → EReal) (wa : (⟨3, ![1, 16, 512]⟩ : Shape).Idx → EReal)
  (ba : (⟨2, ![1, 512]⟩ : Shape).Idx → EReal) (g : (⟨2, ![1, 256]⟩ : Shape).Idx → EReal)

/-- The queries of chunk `n`, scaled. -/
def qU (b h n : ℕ) (s : Fin 64) (d : Fin 128) : EReal :=
  at3 u b (64 * n + s.val) (128 * h + d.val) * Ideal.ofBits .f32 0x3DB504F3#32
/-- The keys of chunk `n`. -/
def kU (b h n : ℕ) (s : Fin 64) (d : Fin 128) : EReal := at3 u b (64 * n + s.val) (512 + (128 * h + d.val))
/-- The values of chunk `n`. -/
def vU (b h n : ℕ) (s : Fin 64) (w : Fin 256) : EReal := at3 u b (64 * n + s.val) (1024 + (256 * h + w.val))
/-- The output gate's inputs of chunk `n`. -/
def zU (b h n : ℕ) (s : Fin 64) (w : Fin 256) : EReal := at3 u b (64 * n + s.val) (2064 + (256 * h + w.val))
/-- The log decays of chunk `n`. -/
def laU (b h n : ℕ) (s : Fin 64) (d : Fin 128) : EReal :=
  lg ((∑ j : Fin 16, at3 u b (64 * n + s.val) (2048 + j.val) * at3 wa 0 j.val (128 * h + d.val)) + at2 ba 0 (128 * h + d.val))

/-- The log decays are at most zero. -/
theorem laU_nonpos (b h n : ℕ) (s : Fin 64) (d : Fin 128) : laU u wa ba b h n s d ≤ 0 := lg_nonpos _

/-- The state of batch `b` and head `h` before chunk `n`. -/
def SU (b h n : ℕ) : Fin 128 → Fin 256 → EReal := Sn (laU u wa ba b h) (kU u b h) (vU u b h) n

/-- The attention output of batch `b`, head `h`, chunk `n`. -/
def OU (b h n : ℕ) (s : Fin 64) (w : Fin 256) : EReal :=
  Oc (laU u wa ba b h n) (qU u b h n) (kU u b h n) (vU u b h n) (SU u wa ba b h n) s w

/-- The result's element at batch `b`, head `h`, chunk `n`, row `s` of the chunk, column `w` of the head. -/
def YU (b h n : ℕ) (s : Fin 64) (w : Fin 256) : EReal :=
  Yc (fun w => at2 g 0 w.val) (fun w => OU u wa ba b h n s w) (fun w => zU u b h n s w) w

end Cert.Gla
-- ==== Proof.HostIn.lean ====
module

public import proofs.«01_k».proof.Proof.Gen.KernelIdeal.Value
public import proofs.«01_k».proof.Proof.Spec
public import Idealize.ShloMosaic.Lib.Routing.OpsPair
public import Idealize.ShloMosaic.Lib.Claim
public import Idealize.ShloMosaic.Lib.StableHlo.ReadAt
public import Idealize.ShloMosaic.Lib.Pipeline.ValueKit

/-! What each window's block of a grid step holds, read at an index, in terms of the launch's arrays. -/

@[expose] public section

set_option maxRecDepth 16384
set_option pp.deepTerms false
set_option pp.maxSteps 1000

noncomputable section

namespace Cert.KernelIdeal.HostIn

open Cert.KernelIdeal Cert.KernelIdeal.Gen
open Idealize.ShloMosaic Idealize.ShloMosaic.TcCoe Idealize.ShloMosaic.Tactic
open Idealize.ShloMosaic.Pipeline

variable (m : (ℓ : Loc nD τ sig) → Buf (Elt Ideal) ℓ) (c : Dev nD)

open Cert.Gla

/-- A buffer's contents at launch. -/
abbrev U : (⟨3, ![4, 4096, 11352]⟩ : Shape).Idx → EReal := m ((c : Thread nD τ).loc main_arg0)
/-- The gate's up-projection at launch. -/
abbrev WA : (⟨3, ![1, 16, 512]⟩ : Shape).Idx → EReal := m ((c : Thread nD τ).loc main_arg1)
/-- The gate's bias at launch. -/
abbrev BA : (⟨2, ![1, 512]⟩ : Shape).Idx → EReal := m ((c : Thread nD τ).loc main_arg2)
/-- The norm's gain at launch. -/
abbrev GG : (⟨2, ![1, 256]⟩ : Shape).Idx → EReal := m ((c : Thread nD τ).loc main_arg3)

/-- A fold that takes the value of every position that hits, at a position list with at most one value at the hits. -/
theorem fold_hit {α β : Type} (L : List β) (p : β → Prop) [DecidablePred p] (f : β → α) (a w : α) (hw : ∀ n ∈ L, p n → f n = w)
    (hx : ∃ n ∈ L, p n) : L.foldl (fun a n => if p n then f n else a) a = w := by
  have key : ∀ (L : List β) (a : α), (∀ n ∈ L, p n → f n = w) → (a = w ∨ ∃ n ∈ L, p n) →
      L.foldl (fun a n => if p n then f n else a) a = w := by
    intro L
    induction L with
    | nil => intro a _ h; rcases h with h | ⟨n, hn, _⟩; exact h; cases hn
    | cons n l ih =>
      intro a hw h
      rw [List.foldl_cons]
      refine ih _ (fun k hk => hw k (List.mem_cons_of_mem _ hk)) ?_
      by_cases hp : p n
      · left; rw [if_pos hp]; exact hw n List.mem_cons_self hp
      · rw [if_neg hp]
        rcases h with h | ⟨k, hk, hpk⟩
        · exact Or.inl h
        · rcases List.mem_cons.1 hk with rfl | hk
          · exact absurd hpk hp
          · exact Or.inr ⟨k, hk, hpk⟩
  exact key L a hw (Or.inr hx)

/-- A fold at a position list nothing of which hits. -/
theorem fold_miss {α β : Type} (L : List β) (p : β → Prop) [DecidablePred p] (f : β → α) (a : α) (h : ∀ n ∈ L, ¬p n) :
    L.foldl (fun a n => if p n then f n else a) a = a := by
  induction L generalizing a with
  | nil => rfl
  | cons n l ih =>
    rw [List.foldl_cons, if_neg (h n List.mem_cons_self)]
    exact ih a fun k hk => h k (List.mem_cons_of_mem _ hk)

/-- Where an update of the zero-padded up-projection lands. -/
theorem lands (k : S16x512.Idx) (r : Fin 128) (j : Fin 512) :
    scatter_S128x512_S1_S16x512_01_n_0_0.resultIdx? k (broadcastInDim S1 ![] bcast_S_S1 (constantI S_ 32 0#32)) = some (ix2 r j)
      ↔ (k 0).val = r.val ∧ (k 1).val = j.val := by
  refine (Idealize.ShloMosaic.Routing.resultIdx?_ix2 (R := 128) (C := 512) scatter_S128x512_S1_S16x512_01_n_0_0 k _ r j).trans ?_
  have h0 : scatter_S128x512_S1_S16x512_01_n_0_0.start k (broadcastInDim S1 ![] bcast_S_S1 (constantI S_ 32 0#32)) 0 = 0 := rfl
  have h1 : scatter_S128x512_S1_S16x512_01_n_0_0.start k (broadcastInDim S1 ![] bcast_S_S1 (constantI S_ 32 0#32)) 1 = 0 := rfl
  have w0 : scatter_S128x512_S1_S16x512_01_n_0_0.window k 0 = (k 0).val := rfl
  have w1 : scatter_S128x512_S1_S16x512_01_n_0_0.window k 1 = (k 1).val := rfl
  rw [h0, h1, w0, w1]
  omega

/-- The up-projection padded with zero rows. -/
theorem v34_at (r : Fin 128) (j : Fin 512) :
    (V m c main_v34 : S128x512.Idx → EReal) (ix2 r j) = if r.val < 16 then at3 (WA m c) 0 r.val j.val else 0 := by
  unfold V
  after_reads_at
  refine (Idealize.ShloMosaic.Routing.scatter_at _ _ _ _ _ _).trans ?_
  by_cases h : r.val < 16
  · rw [if_pos h]
    refine fold_hit _ _ _ _ _ (fun n _ hn => ?_) ?_
    · have e := (lands _ r j).1 hn
      exact at3_ix (WA m c) _ _ _ _ _ _ rfl e.1 e.2
    · refine ⟨S16x512.rowMajor (ix2 ⟨r.val, h⟩ j), List.mem_finRange _, ?_⟩
      rw [Equiv.symm_apply_apply]
      exact (lands _ r j).2 ⟨rfl, rfl⟩
  · rw [if_neg h]
    refine (fold_miss _ _ _ _ fun n _ hn => ?_).trans ?_
    · have e := (lands _ r j).1 hn
      have : (S16x512.rowMajor.symm n 0).val < 16 := (S16x512.rowMajor.symm n 0).isLt
      omega
    · pointwise
      all_goals exact Ideal.ofBits_zero .f32

/-- The queries' columns of the regrouped projections, at batch `b` and position `t`. -/
theorem v28_q (r : Fin 16384) (j : Fin 512) (b t : ℕ) (hb : r.val / 4096 = b) (ht : r.val % 4096 = t) :
    (V m c main_v28 : S16384x4224.Idx → EReal) (ix2 r ⟨3072 + j.val, by omega⟩) = at3 (U m c) b t (0 + j.val) * Ideal.ofBits .f32 0x3DB504F3#32 := by
  unfold V
  after_reads_at
  rw [dif_neg (by omega), dif_neg (by omega), dif_neg (by omega), dif_pos (by omega)]
  after_reads_at
  refine congrArg (· * Ideal.ofBits .f32 0x3DB504F3#32) ?_
  exact at3_ix (U m c) _ _ _ _ _ _ hb ht (by try (first | (dsimp only; omega) | omega | rfl))

/-- The keys' columns of the regrouped projections, at batch `b` and position `t`. -/
theorem v28_k (r : Fin 16384) (j : Fin 512) (b t : ℕ) (hb : r.val / 4096 = b) (ht : r.val % 4096 = t) :
    (V m c main_v28 : S16384x4224.Idx → EReal) (ix2 r ⟨3584 + j.val, by omega⟩) = at3 (U m c) b t (512 + j.val) := by
  unfold V
  after_reads_at
  rw [dif_neg (by omega), dif_neg (by omega), dif_neg (by omega), dif_neg (by omega), dif_pos (by omega)]
  after_reads_at

  exact at3_ix (U m c) _ _ _ _ _ _ hb ht (by try (first | (dsimp only; omega) | omega | rfl))

/-- The output gate' columns of the regrouped projections, at batch `b` and position `t`. -/
theorem v28_z (r : Fin 16384) (j : Fin 1024) (b t : ℕ) (hb : r.val / 4096 = b) (ht : r.val % 4096 = t) :
    (V m c main_v28 : S16384x4224.Idx → EReal) (ix2 r ⟨0 + j.val, by omega⟩) = at3 (U m c) b t (2064 + j.val) := by
  unfold V
  after_reads_at
  skip
  after_reads_at

  exact at3_ix (U m c) _ _ _ _ _ _ hb ht (by try (first | (dsimp only; omega) | omega | rfl))

/-- The values' columns of the regrouped projections, at batch `b` and position `t`. -/
theorem v29_v (r : Fin 16384) (j : Fin 1024) (b t : ℕ) (hb : r.val / 4096 = b) (ht : r.val % 4096 = t) :
    (V m c main_v29 : S16384x4352.Idx → EReal) (ix2 r ⟨2048 + j.val, by omega⟩) = at3 (U m c) b t (1024 + j.val) := by
  unfold V
  after_reads_at
  rw [dif_neg (by omega), dif_neg (by omega), dif_pos (by omega)]
  after_reads_at

  exact at3_ix (U m c) _ _ _ _ _ _ hb ht (by try (first | (dsimp only; omega) | omega | rfl))

/-- The gate's low-rank columns of the regrouped projections, at batch `b` and position `t`. -/
theorem v28_a (r : Fin 16384) (j : Fin 128) (hj : j.val < 16) (b t : ℕ) (hb : r.val / 4096 = b) (ht : r.val % 4096 = t) :
    (V m c main_v28 : S16384x4224.Idx → EReal) (ix2 r ⟨4096 + j.val, by omega⟩) = at3 (U m c) b t (2048 + j.val) := by
  unfold V
  after_reads_at
  rw [dif_neg (by omega), dif_neg (by omega), dif_neg (by omega), dif_neg (by omega), dif_neg (by omega)]
  after_reads_at
  rw [dif_pos (by omega)]
  after_reads_at
  exact at3_ix (U m c) _ _ _ _ _ _ hb ht (by try (first | (dsimp only; omega) | omega | rfl))

/-- The bias as the kernel reads it. -/
theorem v37_at (j : Fin 512) : (V m c main_v37 : S1x512.Idx → EReal) (ix2 0 j) = at2 (BA m c) 0 j.val := by
  unfold V
  after_reads_at
  exact at2_ix (BA m c) _ _ _ _ rfl rfl

/-- The gain as the kernel reads it. -/
theorem v38_at (j : Fin 256) : (V m c main_v38 : S1x256.Idx → EReal) (ix2 0 j) = at2 (GG m c) 0 j.val := by
  unfold V
  after_reads_at
  exact at2_ix (GG m c) _ _ _ _ rfl rfl

/-- Window 0's block index at a point. -/
theorem idx0 : ∀ t : Fin cfg0.N, win0_0.index t = ![t.val, 6] := by decide +kernel

/-- Window 1's block index at a point. -/
theorem idx1 : ∀ t : Fin cfg0.N, win0_1.index t = ![t.val, 7] := by decide +kernel

/-- Window 2's block index at a point. -/
theorem idx2 : ∀ t : Fin cfg0.N, win0_2.index t = ![t.val, 2] := by decide +kernel

/-- Window 3's block index at a point. -/
theorem idx3 : ∀ t : Fin cfg0.N, win0_3.index t = ![t.val, 32] := by decide +kernel

/-- Window 4's block index at a point. -/
theorem idx4 : ∀ t : Fin cfg0.N, win0_4.index t = ![t.val, 0] := by decide +kernel

/-- Window 5's block index at a point. -/
theorem idx5 : ∀ t : Fin cfg0.N, win0_5.index t = ![0, 0] := by decide +kernel

/-- Window 6's block index at a point. -/
theorem idx6 : ∀ t : Fin cfg0.N, win0_6.index t = ![0, 0] := by decide +kernel

/-- Window 7's block index at a point. -/
theorem idx7 : ∀ t : Fin cfg0.N, win0_7.index t = ![0, 0] := by decide +kernel

/-- There are 32 points. -/
theorem point_lt (t : Fin cfg0.N) : t.val < 32 := lt_of_lt_of_eq t.isLt (show cfg0.N = 32 from N_0)

/-- A step's block of the queries. -/
theorem x0_at (t : Fin cfg0.N) (r : Fin 512) (j : Fin 512) : (X0_0 m c t : S512x512.Idx → EReal) (ix2 r j) = at3 (U m c) (t.val / 8) (512 * (t.val % 8) + r.val) (0 + j.val) * Ideal.ofBits .f32 0x3DB504F3#32 := by
  unfold X0_0 Pipeline.Window.fill
  rw [dif_pos (moved0_0 t _)]
  blk_simp [iblk]
  refine (congrArg (V m c (arrRef spec0 0)) (?_ : _ = ix2 (⟨512 * t.val + r.val, by have := point_lt t; omega⟩ : Fin 16384) (⟨3072 + j.val, by omega⟩ : Fin 4224))).trans ?_
  · funext a
    apply Fin.ext
    match a with
    | ⟨0, _⟩ => show win0_0.index t 0 * 512 + 1 * r.val = 512 * t.val + r.val; rw [idx0]; show t.val * 512 + 1 * r.val = 512 * t.val + r.val; omega
    | ⟨1, _⟩ => show win0_0.index t 1 * 512 + 1 * j.val = 3072 + j.val; rw [idx0]; show 6 * 512 + 1 * j.val = 3072 + j.val; omega
  · exact by simpa only [Nat.zero_add] using v28_q m c ⟨512 * t.val + r.val, by have := point_lt t; omega⟩ j (t.val / 8) (512 * (t.val % 8) + r.val) (by have := point_lt t; first | omega | (dsimp only; omega)) (by have := point_lt t; first | omega | (dsimp only; omega))

/-- A step's block of the keys. -/
theorem x1_at (t : Fin cfg0.N) (r : Fin 512) (j : Fin 512) : (X0_1 m c t : S512x512.Idx → EReal) (ix2 r j) = at3 (U m c) (t.val / 8) (512 * (t.val % 8) + r.val) (512 + j.val) := by
  unfold X0_1 Pipeline.Window.fill
  rw [dif_pos (moved0_1 t _)]
  blk_simp [iblk]
  refine (congrArg (V m c (arrRef spec0 1)) (?_ : _ = ix2 (⟨512 * t.val + r.val, by have := point_lt t; omega⟩ : Fin 16384) (⟨3584 + j.val, by omega⟩ : Fin 4224))).trans ?_
  · funext a
    apply Fin.ext
    match a with
    | ⟨0, _⟩ => show win0_1.index t 0 * 512 + 1 * r.val = 512 * t.val + r.val; rw [idx1]; show t.val * 512 + 1 * r.val = 512 * t.val + r.val; omega
    | ⟨1, _⟩ => show win0_1.index t 1 * 512 + 1 * j.val = 3584 + j.val; rw [idx1]; show 7 * 512 + 1 * j.val = 3584 + j.val; omega
  · exact v28_k m c ⟨512 * t.val + r.val, by have := point_lt t; omega⟩ j (t.val / 8) (512 * (t.val % 8) + r.val) (by have := point_lt t; first | omega | (dsimp only; omega)) (by have := point_lt t; first | omega | (dsimp only; omega))

/-- A step's block of the values. -/
theorem x2_at (t : Fin cfg0.N) (r : Fin 512) (j : Fin 1024) : (X0_2 m c t : S512x1024.Idx → EReal) (ix2 r j) = at3 (U m c) (t.val / 8) (512 * (t.val % 8) + r.val) (1024 + j.val) := by
  unfold X0_2 Pipeline.Window.fill
  rw [dif_pos (moved0_2 t _)]
  blk_simp [iblk]
  refine (congrArg (V m c (arrRef spec0 2)) (?_ : _ = ix2 (⟨512 * t.val + r.val, by have := point_lt t; omega⟩ : Fin 16384) (⟨2048 + j.val, by omega⟩ : Fin 4352))).trans ?_
  · funext a
    apply Fin.ext
    match a with
    | ⟨0, _⟩ => show win0_2.index t 0 * 512 + 1 * r.val = 512 * t.val + r.val; rw [idx2]; show t.val * 512 + 1 * r.val = 512 * t.val + r.val; omega
    | ⟨1, _⟩ => show win0_2.index t 1 * 1024 + 1 * j.val = 2048 + j.val; rw [idx2]; show 2 * 1024 + 1 * j.val = 2048 + j.val; omega
  · exact v29_v m c ⟨512 * t.val + r.val, by have := point_lt t; omega⟩ j (t.val / 8) (512 * (t.val % 8) + r.val) (by have := point_lt t; first | omega | (dsimp only; omega)) (by have := point_lt t; first | omega | (dsimp only; omega))

/-- A step's block of the low-rank gate columns. -/
theorem x3_at (t : Fin cfg0.N) (r : Fin 512) (j : Fin 128) (hj : j.val < 16) : (iblk m c 3 t : S512x128.Idx → EReal) (ix2 r j) = at3 (U m c) (t.val / 8) (512 * (t.val % 8) + r.val) (2048 + j.val) := by
  blk_simp [iblk]
  refine (congrArg (V m c (arrRef spec0 3)) (?_ : _ = ix2 (⟨512 * t.val + r.val, by have := point_lt t; omega⟩ : Fin 16384) (⟨4096 + j.val, by omega⟩ : Fin 4224))).trans ?_
  · funext a
    apply Fin.ext
    match a with
    | ⟨0, _⟩ => show win0_3.index t 0 * 512 + 1 * r.val = 512 * t.val + r.val; rw [idx3]; show t.val * 512 + 1 * r.val = 512 * t.val + r.val; omega
    | ⟨1, _⟩ => show win0_3.index t 1 * 128 + 1 * j.val = 4096 + j.val; rw [idx3]; show 32 * 128 + 1 * j.val = 4096 + j.val; omega
  · exact v28_a m c ⟨512 * t.val + r.val, by have := point_lt t; omega⟩ j hj (t.val / 8) (512 * (t.val % 8) + r.val) (by have := point_lt t; first | omega | (dsimp only; omega)) (by have := point_lt t; first | omega | (dsimp only; omega))

/-- A step's block of the output gate. -/
theorem x4_at (t : Fin cfg0.N) (r : Fin 512) (j : Fin 1024) : (X0_4 m c t : S512x1024.Idx → EReal) (ix2 r j) = at3 (U m c) (t.val / 8) (512 * (t.val % 8) + r.val) (2064 + j.val) := by
  unfold X0_4 Pipeline.Window.fill
  rw [dif_pos (moved0_4 t _)]
  blk_simp [iblk]
  refine (congrArg (V m c (arrRef spec0 4)) (?_ : _ = ix2 (⟨512 * t.val + r.val, by have := point_lt t; omega⟩ : Fin 16384) (⟨0 + j.val, by omega⟩ : Fin 4224))).trans ?_
  · funext a
    apply Fin.ext
    match a with
    | ⟨0, _⟩ => show win0_4.index t 0 * 512 + 1 * r.val = 512 * t.val + r.val; rw [idx4]; show t.val * 512 + 1 * r.val = 512 * t.val + r.val; omega
    | ⟨1, _⟩ => show win0_4.index t 1 * 1024 + 1 * j.val = 0 + j.val; rw [idx4]; show 0 * 1024 + 1 * j.val = 0 + j.val; omega
  · exact v28_z m c ⟨512 * t.val + r.val, by have := point_lt t; omega⟩ j (t.val / 8) (512 * (t.val % 8) + r.val) (by have := point_lt t; first | omega | (dsimp only; omega)) (by have := point_lt t; first | omega | (dsimp only; omega))

/-- A step's block of the padded up-projection. -/
theorem x5_at (t : Fin cfg0.N) (r : Fin 128) (j : Fin 512) : (iblk m c 5 t : S128x512.Idx → EReal) (ix2 r j) = if r.val < 16 then at3 (WA m c) 0 r.val j.val else 0 := by
  blk_simp [iblk]
  refine (congrArg (V m c (arrRef spec0 5)) (?_ : _ = ix2 r j)).trans ?_
  · funext a
    apply Fin.ext
    match a with
    | ⟨0, _⟩ => show win0_5.index t 0 * 128 + 1 * r.val = r.val; rw [idx5]; show 0 * 128 + 1 * r.val = r.val; omega
    | ⟨1, _⟩ => show win0_5.index t 1 * 512 + 1 * j.val = j.val; rw [idx5]; show 0 * 512 + 1 * j.val = j.val; omega
  · exact v34_at m c r j

/-- A step's block of the bias. -/
theorem x6_at (t : Fin cfg0.N) (j : Fin 512) : (iblk m c 6 t : S1x512.Idx → EReal) (ix2 0 j) = at2 (BA m c) 0 j.val := by
  blk_simp [iblk]
  refine (congrArg (V m c (arrRef spec0 6)) (?_ : _ = ix2 0 j)).trans ?_
  · funext a
    apply Fin.ext
    match a with
    | ⟨0, _⟩ => show win0_6.index t 0 * 1 + 1 * 0 = 0; rw [idx6]; rfl
    | ⟨1, _⟩ => show win0_6.index t 1 * 512 + 1 * j.val = j.val; rw [idx6]; show 0 * 512 + 1 * j.val = j.val; omega
  · exact v37_at m c j

/-- A step's block of the gain. -/
theorem x7_at (t : Fin cfg0.N) (j : Fin 256) : (iblk m c 7 t : S1x256.Idx → EReal) (ix2 0 j) = at2 (GG m c) 0 j.val := by
  blk_simp [iblk]
  refine (congrArg (V m c (arrRef spec0 7)) (?_ : _ = ix2 0 j)).trans ?_
  · funext a
    apply Fin.ext
    match a with
    | ⟨0, _⟩ => show win0_7.index t 0 * 1 + 1 * 0 = 0; rw [idx7]; rfl
    | ⟨1, _⟩ => show win0_7.index t 1 * 256 + 1 * j.val = j.val; rw [idx7]; show 0 * 256 + 1 * j.val = j.val; omega
  · exact v38_at m c j

end Cert.KernelIdeal.HostIn
-- ==== Proof.Block.lean ====
module

public import proofs.«01_k».proof.Proof.Gen.KernelIdeal.Frame
public import Idealize.ShloMosaic.Lib.WritesUnit

/-! What one grid step of the gated linear attention kernel computes, chunk by chunk and head by head, as
    terms over the step's input blocks. -/

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.ShloMosaic.Pipeline

variable {F : FTy → Type} [FloatOps F]

/-! ## The values of one chunk of 64 rows -/

/-- The running sum of a chunk's log decay: the triangle of ones times the log decay, split in three parts. -/
def cB (la : FVec F S64x512 .f32) : FVec F S64x512 .f32 :=
  have hi : FVec F S64x512 .bf16 := truncf .bf16 la bitsLt_bf16_f32
  have r1 : FVec F S64x512 .f32 := subf la (extf .f32 hi bitsLt_bf16_f32)
  have mid : FVec F S64x512 .bf16 := truncf .bf16 r1 bitsLt_bf16_f32
  k0_pay12 k0_pay5 hi r1 mid (extf .f32 mid bitsLt_bf16_f32)

/-- The chunk's queries times the exponential of the running sum. -/
def cQ (la q : FVec F S64x512 .f32) : FVec F S64x512 .bf16 :=
  truncf .bf16 (mulf (shapeCast S64x512 q shapeCasts_S64x512_S64x512) (exp (cB la))) bitsLt_bf16_f32

/-- The exponential of the chunk's last running sum. -/
def cDec (la : FVec F S64x512 .f32) : FVec F S1x512 .f32 :=
  exp (extractStridedSlice S1x512 ![63, 0] (cB la) slices_S64x512_o63_0_S1x512)

/-- The chunk's keys times the exponential of minus the running sum, before the cast. -/
def cK0 (la k : FVec F S64x512 .f32) : FVec F S64x512 .f32 :=
  mulf (shapeCast S64x512 k shapeCasts_S64x512_S64x512)
    (exp (subf (broadcast S64x512 (Scalar.ofBits .f32 0x00000000#32)) (cB la)))

/-- The chunk's keys times the exponential of minus the running sum. -/
def cK (la k : FVec F S64x512 .f32) : FVec F S64x512 .bf16 := truncf .bf16 (cK0 la k) bitsLt_bf16_f32

/-- The chunk's keys carried to the end of the chunk. -/
def cT (la k : FVec F S64x512 .f32) : FVec F S64x512 .bf16 :=
  truncf .bf16 (mulf (cK0 la k) (broadcastTo S64x512 (cDec la) broadcasts_S1x512_S64x512)) bitsLt_bf16_f32

/-- Head `h`'s columns of a chunk lie within it. -/
theorem headS (h : Fin 4) : S64x512.Slices ![0, 128 * h.val] S64x128 := by revert h; decide

/-- Head `h`'s columns of a row lie within it. -/
theorem headR (h : Fin 4) : S1x512.Slices ![0, 128 * h.val] S1x128 := by revert h; decide

/-- One head's state after a chunk. -/
def hS (h : Fin 4) (la k : FVec F S64x512 .f32) (v : FVec F S64x256 .bf16) (st : FVec F S1x256x128 .f32) : FVec F S1x256x128 .f32 :=
  shapeCast S1x256x128
    (addf (mulf (shapeCast S256x128 st shapeCasts_S1x256x128_S256x128)
        (broadcastTo S256x128 (extractStridedSlice S1x128 ![0, 128 * h.val] (cDec la) (headR h)) broadcasts_S1x128_S256x128))
      (matmul dot_S64x256_S64x128_S256x128_0_0_1_1_n_n none (shapeCast S64x256 v shapeCasts_S64x256_S64x256)
        (extractStridedSlice S64x128 ![0, 128 * h.val] (cT la k) (headS h)) (constant S256x128 .f32 0x00000000#32)))
    shapeCasts_S256x128_S1x256x128

/-- One head's attention output within a chunk: the causal part within the chunk and the part from the state. -/
def hO (h : Fin 4) (la q k : FVec F S64x512 .f32) (v : FVec F S64x256 .bf16) (st : FVec F S1x256x128 .f32) : FVec F S64x256 .f32 :=
  addf
    (matmul dot_S64x64_S64x256_S64x256_1_0_0_1_n_n none
      (truncf .bf16 (select k0_pay4
        (matmul dot_S64x128_S64x128_S64x64_1_1_0_0_n_n none (extractStridedSlice S64x128 ![0, 128 * h.val] (cQ la q) (headS h))
          (extractStridedSlice S64x128 ![0, 128 * h.val] (cK la k) (headS h)) (constant S64x64 .f32 0x00000000#32))
        (broadcast S64x64 (Scalar.ofBits .f32 0x00000000#32))) bitsLt_bf16_f32)
      (shapeCast S64x256 v shapeCasts_S64x256_S64x256) (constant S64x256 .f32 0x00000000#32))
    (matmul dot_S64x128_S256x128_S64x256_1_1_0_0_n_n none (extractStridedSlice S64x128 ![0, 128 * h.val] (cQ la q) (headS h))
      (truncf .bf16 (shapeCast S256x128 st shapeCasts_S1x256x128_S256x128) bitsLt_bf16_f32) (constant S64x256 .f32 0x00000000#32))

/-- One head's output of a chunk: the attention output normalised, scaled by the gain and gated. -/
def hY (g : FVec F S1x256 .f32) (o : FVec F S64x256 .f32) (z : FVec F S64x256 .f32) : FVec F S64x256 .bf16 :=
  k0_pay24 (k0_pay6 g) o z

/-- The states a step goes through: `ST … n h` is head `h`'s state before chunk `n`. -/
def ST (la k : ℕ → FVec F S64x512 .f32) (v : ℕ → Fin 4 → FVec F S64x256 .bf16) (s0 : Fin 4 → FVec F S1x256x128 .f32) :
    ℕ → Fin 4 → FVec F S1x256x128 .f32
  | 0, h => s0 h
  | n + 1, h => hS h (la n) (k n) (v n h) (ST la k v s0 n h)

/-! ## The blocks of a chunk -/

theorem rowsS' : ∀ n : Fin 8, S512x512.Slices ![64 * n.val, 0] S64x512 := by decide
theorem rowsS (n : ℕ) (h : n < 8) : S512x512.Slices ![64 * n, 0] S64x512 := rowsS' ⟨n, h⟩
theorem rowsI' : ∀ n : Fin 8, ∀ a : Fin 2, ![64 * n.val, 0] a + S64x512.size a ≤ S512x512.size a := by decide
theorem rowsI (n : ℕ) (h : n < 8) : ∀ a : Fin 2, ![64 * n, 0] a + S64x512.size a ≤ S512x512.size a := rowsI' ⟨n, h⟩
theorem rowsJ' : ∀ n : Fin 8, ∀ j : Fin 4, ∀ a : Fin 2, ![64 * n.val, 256 * j.val] a + S64x256.size a ≤ S512x1024.size a := by decide
theorem rowsJ (n : ℕ) (j : Fin 4) (h : n < 8) : ∀ a : Fin 2, ![64 * n, 256 * j.val] a + S64x256.size a ≤ S512x1024.size a := rowsJ' ⟨n, h⟩ j
theorem headI : ∀ h : Fin 4, ∀ a : Fin 3, ![h.val, 0, 0] a + S1x256x128.size a ≤ S4x256x128.size a := by decide

/-- Chunk `n`'s rows of the log decay. -/
def laC (la : FVec F S512x512 .f32) (n : ℕ) : FVec F S64x512 .f32 :=
  if h : n < 8 then extractStridedSlice S64x512 ![64 * n, 0] la (rowsS n h) else constant S64x512 .f32 0x00000000#32

/-- Chunk `n`'s rows of a block of 512 columns. -/
def ldC (x : FVec F S512x512 .f32) (n : ℕ) : FVec F S64x512 .f32 :=
  if h : n < 8 then fun y => x ((Rect.unit (s := S512x512) ![64 * n, 0] S64x512.size (rowsI n h)).emb y)
  else constant S64x512 .f32 0x00000000#32

/-- Chunk `n`'s rows and head `j`'s columns of a block of 1024 columns. -/
def ldH {f : FTy} (x : FVec F S512x1024 f) (n : ℕ) (j : Fin 4) : FVec F S64x256 f :=
  if h : n < 8 then fun y => x ((Rect.unit (s := S512x1024) ![64 * n, 256 * j.val] S64x256.size (rowsJ n j h)).emb y)
  else fun y => x ((Rect.unit (s := S512x1024) ![64 * 0, 256 * j.val] S64x256.size (rowsJ 0 j (by decide))).emb y)

/-- Head `h`'s part of the carried state. -/
def ldS (x : FVec F S4x256x128 .f32) (h : Fin 4) : FVec F S1x256x128 .f32 :=
  fun y => x ((Rect.unit (s := S4x256x128) ![h.val, 0, 0] S1x256x128.size (headI h)).emb y)

/-- The log decay of a step's block. -/
def LA (x3 : Vec F S512x128 .f32) (x5 : Vec F S128x512 .bf16) (x6 : Vec F S1x512 .f32) : FVec F S512x512 .f32 :=
  k0_pay3 (View.ld (Val := Elt F) (e' := .f32) x3 (Rect.unit (s := S512x128) ![0, 0] S512x128.size inb_S512x128_S512x128_0_0))
    (View.ld (Val := Elt F) (e' := .bf16) x5 (Rect.unit (s := S128x512) ![0, 0] S128x512.size inb_S128x512_S128x512_0_0))
    (View.ld (Val := Elt F) (e' := .f32) x6 (Rect.unit (s := S1x512) ![0, 0] S1x512.size inb_S1x512_S1x512_0_0))

/-- The states of a step, from its blocks and the state it starts from. -/
def SS (x1 : Vec F S512x512 .f32) (x2 : Vec F S512x1024 .bf16) (x3 : Vec F S512x128 .f32) (x5 : Vec F S128x512 .bf16) (x6 : Vec F S1x512 .f32)
    (s : FVec F S4x256x128 .f32) : ℕ → Fin 4 → FVec F S1x256x128 .f32 :=
  ST (laC (LA x3 x5 x6)) (ldC x1) (ldH x2) (ldS s)

/-- The output of chunk `n` and head `h` of a step. -/
def OY (x0 x1 : Vec F S512x512 .f32) (x2 : Vec F S512x1024 .bf16) (x3 : Vec F S512x128 .f32) (x4 : Vec F S512x1024 .f32) (x5 : Vec F S128x512 .bf16)
    (x6 : Vec F S1x512 .f32) (x7 : Vec F S1x256 .f32) (s : FVec F S4x256x128 .f32) (n : ℕ) (h : Fin 4) : FVec F S64x256 .bf16 :=
  hY (View.ld (Val := Elt F) (e' := .f32) x7 (Rect.unit (s := S1x256) ![0, 0] S1x256.size inb_S1x256_S1x256_0_0))
    (hO h (laC (LA x3 x5 x6) n) (ldC x0 n) (ldC x1 n) (ldH x2 n h) (SS x1 x2 x3 x5 x6 s n h)) (ldH x4 n h)

/-! ## Loads and stores -/

/-- A load of a whole buffer's contents. -/
theorem rd {sig : RefSig} {κ : Kind} {sp : Space} {s : Shape} {e : EltTy} (m : Memref sig κ sp s e) (h : m.IsWhole)
    (X : s.Idx → Elt F e) (r : Rect s) : View.readAt (Elt F) m.view r.toLoadRect (h.unread X) = View.ld (Val := Elt F) X r := by
  rw [View.readAt_eq_ld, h.read_unread]

/-- A load of the box the newest store wrote reads its payload. -/
theorem cov_hit {sig : RefSig} {κ : Kind} {sp : Space} {s : Shape} {e : EltTy} (v : View sig κ sp s e) {off size : Fin s.rank → ℕ}
    (inb inb' : ∀ a, off a + size a ≤ s.size a) (w : (Rect.unit off size inb).shape.Idx → Elt F e) (L : List (View.Piece (Elt F) s e)) :
    v.readCov (⟨Rect.unit off size inb, w⟩ :: L) (Rect.unit off size inb').toLoadRect = w :=
  funext fun x => View.read_writes_cons_emb v _ (Rect.unit off size inb) w L x

/-- A load of a box the newest store missed reads what the earlier stores left. -/
theorem cov_miss {sig : RefSig} {κ : Kind} {sp : Space} {s : Shape} {e : EltTy} (v : View sig κ sp s e) {off size off' size' : Fin s.rank → ℕ}
    (inb : ∀ a, off a + size a ≤ s.size a) (inb' : ∀ a, off' a + size' a ≤ s.size a)
    (w : (Rect.unit off size inb).shape.Idx → Elt F e) (L : List (View.Piece (Elt F) s e)) (a : Fin s.rank)
    (ha : off' a + size' a ≤ off a ∨ off a + size a ≤ off' a) :
    v.readCov (⟨Rect.unit off size inb, w⟩ :: L) (Rect.unit off' size' inb').toLoadRect = v.readCov L (Rect.unit off' size' inb').toLoadRect :=
  funext fun x => View.read_writes_cons_unit_of_not_mem v _ inb w L ((Rect.unit off' size' inb').emb x) rfl a (by
    have h1 : ((Rect.unit off' size' inb').emb x a).val = off' a + 1 * (x a).val := rfl
    have h2 : (x a).val < size' a := (x a).isLt
    rcases ha with h | h
    · left; omega
    · right; omega)

/-- A load of a box after a store of the whole buffer reads the payload there. -/
theorem cov_whole {sig : RefSig} {κ : Kind} {sp : Space} {s : Shape} {e : EltTy} (v : View sig κ sp s e) {off off' size' : Fin s.rank → ℕ}
    (inb : ∀ a, off a + s.size a ≤ s.size a) (inb' : ∀ a, off' a + size' a ≤ s.size a)
    (w : s.Idx → Elt F e) (L : List (View.Piece (Elt F) s e)) :
    v.readCov (⟨Rect.unit off s.size inb, w⟩ :: L) (Rect.unit off' size' inb').toLoadRect = View.ld (Val := Elt F) w (Rect.unit off' size' inb') :=
  funext fun x => View.read_writes_cons_unit_of_mem v _ inb w L ((Rect.unit off' size' inb').emb x) ((Rect.unit off' size' inb').emb x) rfl fun a => by
    have := inb a
    show ((Rect.unit off' size' inb').emb x a).val = off a + ((Rect.unit off' size' inb').emb x a).val
    omega

variable {c : Dev nD} {i : grid0.Coords} {arg2 : Memref sig .tc .vmem S512x512 .f32} {harg2 : arg2.IsWhole} {arg3 : Memref sig .tc .vmem S512x512 .f32} {harg3 : arg3.IsWhole} {arg4 : Memref sig .tc .vmem S512x1024 .bf16} {harg4 : arg4.IsWhole} {arg5 : Memref sig .tc .vmem S512x128 .f32} {harg5 : arg5.IsWhole} {arg6 : Memref sig .tc .vmem S512x1024 .f32} {harg6 : arg6.IsWhole} {arg7 : Memref sig .tc .vmem S128x512 .bf16} {harg7 : arg7.IsWhole} {arg8 : Memref sig .tc .vmem S1x512 .f32} {harg8 : arg8.IsWhole} {arg9 : Memref sig .tc .vmem S1x256 .f32} {harg9 : arg9.IsWhole} {arg10 : Memref sig .tc .vmem S512x1024 .bf16} {harg10 : arg10.IsWhole} {arg11 : Memref sig .tc .vmem S4x256x128 .f32} {harg11 : arg11.IsWhole}
    {x0 : Vec F S512x512 .f32} {x1 : Vec F S512x512 .f32} {x2 : Vec F S512x1024 .bf16} {x3 : Vec F S512x128 .f32} {x4 : Vec F S512x1024 .f32} {x5 : Vec F S128x512 .bf16} {x6 : Vec F S1x512 .f32} {x7 : Vec F S1x256 .f32} {xs0 : Vec F S4x256x128 .f32}

end Cert.KernelIdeal.Block
-- ==== Proof.StateA.lean ====
module

public import proofs.«01_k».proof.Proof.Block

/-! The states a grid step goes through in case A, as the step's values read them. -/

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.ShloMosaic.Pipeline

variable {F : FTy → Type} [FloatOps F]

variable {c : Dev nD} {i : grid0.Coords} {arg2 : Memref sig .tc .vmem S512x512 .f32} {harg2 : arg2.IsWhole} {arg3 : Memref sig .tc .vmem S512x512 .f32} {harg3 : arg3.IsWhole} {arg4 : Memref sig .tc .vmem S512x1024 .bf16} {harg4 : arg4.IsWhole} {arg5 : Memref sig .tc .vmem S512x128 .f32} {harg5 : arg5.IsWhole} {arg6 : Memref sig .tc .vmem S512x1024 .f32} {harg6 : arg6.IsWhole} {arg7 : Memref sig .tc .vmem S128x512 .bf16} {harg7 : arg7.IsWhole} {arg8 : Memref sig .tc .vmem S1x512 .f32} {harg8 : arg8.IsWhole} {arg9 : Memref sig .tc .vmem S1x256 .f32} {harg9 : arg9.IsWhole} {arg10 : Memref sig .tc .vmem S512x1024 .bf16} {harg10 : arg10.IsWhole} {arg11 : Memref sig .tc .vmem S4x256x128 .f32} {harg11 : arg11.IsWhole}
    {x0 : Vec F S512x512 .f32} {x1 : Vec F S512x512 .f32} {x2 : Vec F S512x1024 .bf16} {x3 : Vec F S512x128 .f32} {x4 : Vec F S512x1024 .f32} {x5 : Vec F S128x512 .bf16} {x6 : Vec F S1x512 .f32} {x7 : Vec F S1x256 .f32} {xs0 : Vec F S4x256x128 .f32}

/-- Head 0's state before chunk 0, as the step reads it (case A). -/
theorem stA_0_0 : kernelRun0_A.sl.v72 (F := F) c arg11 = ldS (F := F) k0_pay2 0 := by
  unfold kernelRun0_A.sl.v72 kernelRun0_A.sl.HS0_1
  exact cov_whole _ _ _ _ _

/-- Head 1's state before chunk 0, as the step reads it (case A). -/
theorem stA_0_1 : kernelRun0_A.sl.v121 c arg3 harg3 arg4 harg4 arg5 harg5 arg7 harg7 arg8 harg8 arg11 x1 x2 x3 x5 x6 = ldS (F := F) k0_pay2 1 := by
  unfold kernelRun0_A.sl.v121 kernelRun0_A.sl.HS0_2 kernelRun0_A.sl.HS0_1
  refine (cov_miss _ _ _ _ _ (0 : Fin 3) (by decide)).trans ?_
  exact cov_whole _ _ _ _ _

/-- Head 2's state before chunk 0, as the step reads it (case A). -/
theorem stA_0_2 : kernelRun0_A.sl.v170 c arg3 harg3 arg4 harg4 arg5 harg5 arg7 harg7 arg8 harg8 arg11 x1 x2 x3 x5 x6 = ldS (F := F) k0_pay2 2 := by
  unfold kernelRun0_A.sl.v170 kernelRun0_A.sl.HS0_3 kernelRun0_A.sl.HS0_2 kernelRun0_A.sl.HS0_1
  refine (cov_miss _ _ _ _ _ (0 : Fin 3) (by decide)).trans ?_
  refine (cov_miss _ _ _ _ _ (0 : Fin 3) (by decide)).trans ?_
  exact cov_whole _ _ _ _ _

/-- Head 3's state before chunk 0, as the step reads it (case A). -/
theorem stA_0_3 : kernelRun0_A.sl.v219 c arg3 harg3 arg4 harg4 arg5 harg5 arg7 harg7 arg8 harg8 arg11 x1 x2 x3 x5 x6 = ldS (F := F) k0_pay2 3 := by
  unfold kernelRun0_A.sl.v219 kernelRun0_A.sl.HS0_4 kernelRun0_A.sl.HS0_3 kernelRun0_A.sl.HS0_2 kernelRun0_A.sl.HS0_1
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  exact cov_whole _ _ _ _ _

/-- Head 0's state before chunk 1, as the step reads it (case A). -/
theorem stA_1_0 : kernelRun0_A.sl.v298 c arg3 harg3 arg4 harg4 arg5 harg5 arg7 harg7 arg8 harg8 arg11 x1 x2 x3 x5 x6 = SS x1 x2 x3 x5 x6 k0_pay2 1 0 := by
  unfold kernelRun0_A.sl.v298 kernelRun0_A.sl.HS0_5 kernelRun0_A.sl.HS0_4 kernelRun0_A.sl.HS0_3 kernelRun0_A.sl.HS0_2
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_13, kernelRun0_A.sl.r_5, kernelRun0_A.sl.r_4, kernelRun0_A.sl.r_3, kernelRun0_A.sl.r_2, kernelRun0_A.sl.r_12, kernelRun0_A.sl.r_10, stA_0_0, rd]
  rfl

/-- Head 1's state before chunk 1, as the step reads it (case A). -/
theorem stA_1_1 : kernelRun0_A.sl.v347 c arg3 harg3 arg4 harg4 arg5 harg5 arg7 harg7 arg8 harg8 arg11 x1 x2 x3 x5 x6 = SS x1 x2 x3 x5 x6 k0_pay2 1 1 := by
  unfold kernelRun0_A.sl.v347 kernelRun0_A.sl.HS0_6 kernelRun0_A.sl.HS0_5 kernelRun0_A.sl.HS0_4 kernelRun0_A.sl.HS0_3
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_14, kernelRun0_A.sl.r_9, kernelRun0_A.sl.r_5, kernelRun0_A.sl.r_4, kernelRun0_A.sl.r_3, kernelRun0_A.sl.r_2, kernelRun0_A.sl.r_7, stA_0_1, rd]
  rfl

/-- Head 2's state before chunk 1, as the step reads it (case A). -/
theorem stA_1_2 : kernelRun0_A.sl.v396 c arg3 harg3 arg4 harg4 arg5 harg5 arg7 harg7 arg8 harg8 arg11 x1 x2 x3 x5 x6 = SS x1 x2 x3 x5 x6 k0_pay2 1 2 := by
  unfold kernelRun0_A.sl.v396 kernelRun0_A.sl.HS0_7 kernelRun0_A.sl.HS0_6 kernelRun0_A.sl.HS0_5 kernelRun0_A.sl.HS0_4
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_9, kernelRun0_A.sl.r_5, kernelRun0_A.sl.r_4, kernelRun0_A.sl.r_3, kernelRun0_A.sl.r_2, kernelRun0_A.sl.r_7, stA_0_2, rd]
  rfl

/-- Head 3's state before chunk 1, as the step reads it (case A). -/
theorem stA_1_3 : kernelRun0_A.sl.v445 c arg3 harg3 arg4 harg4 arg5 harg5 arg7 harg7 arg8 harg8 arg11 x1 x2 x3 x5 x6 = SS x1 x2 x3 x5 x6 k0_pay2 1 3 := by
  unfold kernelRun0_A.sl.v445 kernelRun0_A.sl.HS0_8 kernelRun0_A.sl.HS0_7 kernelRun0_A.sl.HS0_6 kernelRun0_A.sl.HS0_5
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_9, kernelRun0_A.sl.r_5, kernelRun0_A.sl.r_4, kernelRun0_A.sl.r_3, kernelRun0_A.sl.r_2, kernelRun0_A.sl.r_7, stA_0_3, rd]
  rfl

/-- Head 0's state before chunk 2, as the step reads it (case A). -/
theorem stA_2_0 : kernelRun0_A.sl.v524 c arg3 harg3 arg4 harg4 arg5 harg5 arg7 harg7 arg8 harg8 arg11 x1 x2 x3 x5 x6 = SS x1 x2 x3 x5 x6 k0_pay2 2 0 := by
  unfold kernelRun0_A.sl.v524 kernelRun0_A.sl.HS0_9 kernelRun0_A.sl.HS0_8 kernelRun0_A.sl.HS0_7 kernelRun0_A.sl.HS0_6
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_24, kernelRun0_A.sl.r, kernelRun0_A.sl.r_23, kernelRun0_A.sl.r_21, stA_1_0, rd]
  rfl

/-- Head 1's state before chunk 2, as the step reads it (case A). -/
theorem stA_2_1 : kernelRun0_A.sl.v573 c arg3 harg3 arg4 harg4 arg5 harg5 arg7 harg7 arg8 harg8 arg11 x1 x2 x3 x5 x6 = SS x1 x2 x3 x5 x6 k0_pay2 2 1 := by
  unfold kernelRun0_A.sl.v573 kernelRun0_A.sl.HS0_10 kernelRun0_A.sl.HS0_9 kernelRun0_A.sl.HS0_8 kernelRun0_A.sl.HS0_7
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_26, kernelRun0_A.sl.r_24, kernelRun0_A.sl.r, kernelRun0_A.sl.r_23, kernelRun0_A.sl.r_21, stA_1_1, rd]
  rfl

/-- Head 2's state before chunk 2, as the step reads it (case A). -/
theorem stA_2_2 : kernelRun0_A.sl.v622 c arg3 harg3 arg4 harg4 arg5 harg5 arg7 harg7 arg8 harg8 arg11 x1 x2 x3 x5 x6 = SS x1 x2 x3 x5 x6 k0_pay2 2 2 := by
  unfold kernelRun0_A.sl.v622 kernelRun0_A.sl.HS0_11 kernelRun0_A.sl.HS0_10 kernelRun0_A.sl.HS0_9 kernelRun0_A.sl.HS0_8
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_33, kernelRun0_A.sl.r_23, kernelRun0_A.sl.r, kernelRun0_A.sl.r_31, kernelRun0_A.sl.r_30, kernelRun0_A.sl.r_26, kernelRun0_A.sl.r_24, kernelRun0_A.sl.r_21, stA_1_2, rd]
  rfl

/-- Head 3's state before chunk 2, as the step reads it (case A). -/
theorem stA_2_3 : kernelRun0_A.sl.v671 c arg3 harg3 arg4 harg4 arg5 harg5 arg7 harg7 arg8 harg8 arg11 x1 x2 x3 x5 x6 = SS x1 x2 x3 x5 x6 k0_pay2 2 3 := by
  unfold kernelRun0_A.sl.v671 kernelRun0_A.sl.HS0_12 kernelRun0_A.sl.HS0_11 kernelRun0_A.sl.HS0_10 kernelRun0_A.sl.HS0_9
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_34, kernelRun0_A.sl.r_26, kernelRun0_A.sl.r_24, kernelRun0_A.sl.r, kernelRun0_A.sl.r_23, kernelRun0_A.sl.r_21, stA_1_3, rd]
  rfl

/-- Head 0's state before chunk 3, as the step reads it (case A). -/
theorem stA_3_0 : kernelRun0_A.sl.v750 c arg3 harg3 arg4 harg4 arg5 harg5 arg7 harg7 arg8 harg8 arg11 x1 x2 x3 x5 x6 = SS x1 x2 x3 x5 x6 k0_pay2 3 0 := by
  unfold kernelRun0_A.sl.v750 kernelRun0_A.sl.HS0_13 kernelRun0_A.sl.HS0_12 kernelRun0_A.sl.HS0_11 kernelRun0_A.sl.HS0_10
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_42, kernelRun0_A.sl.r_41, kernelRun0_A.sl.r_40, kernelRun0_A.sl.r, kernelRun0_A.sl.r_38, stA_2_0, rd]
  rfl

/-- Head 1's state before chunk 3, as the step reads it (case A). -/
theorem stA_3_1 : kernelRun0_A.sl.v799 c arg3 harg3 arg4 harg4 arg5 harg5 arg7 harg7 arg8 harg8 arg11 x1 x2 x3 x5 x6 = SS x1 x2 x3 x5 x6 k0_pay2 3 1 := by
  unfold kernelRun0_A.sl.v799 kernelRun0_A.sl.HS0_14 kernelRun0_A.sl.HS0_13 kernelRun0_A.sl.HS0_12 kernelRun0_A.sl.HS0_11
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_45, kernelRun0_A.sl.r_40, kernelRun0_A.sl.r, kernelRun0_A.sl.r_38, stA_2_1, rd]
  rfl

/-- Head 2's state before chunk 3, as the step reads it (case A). -/
theorem stA_3_2 : kernelRun0_A.sl.v848 c arg3 harg3 arg4 harg4 arg5 harg5 arg7 harg7 arg8 harg8 arg11 x1 x2 x3 x5 x6 = SS x1 x2 x3 x5 x6 k0_pay2 3 2 := by
  unfold kernelRun0_A.sl.v848 kernelRun0_A.sl.HS0_15 kernelRun0_A.sl.HS0_14 kernelRun0_A.sl.HS0_13 kernelRun0_A.sl.HS0_12
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_40, kernelRun0_A.sl.r, kernelRun0_A.sl.r_38, stA_2_2, rd]
  rfl

/-- Head 3's state before chunk 3, as the step reads it (case A). -/
theorem stA_3_3 : kernelRun0_A.sl.v897 c arg3 harg3 arg4 harg4 arg5 harg5 arg7 harg7 arg8 harg8 arg11 x1 x2 x3 x5 x6 = SS x1 x2 x3 x5 x6 k0_pay2 3 3 := by
  unfold kernelRun0_A.sl.v897 kernelRun0_A.sl.HS0_16 kernelRun0_A.sl.HS0_15 kernelRun0_A.sl.HS0_14 kernelRun0_A.sl.HS0_13
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_40, kernelRun0_A.sl.r, kernelRun0_A.sl.r_38, stA_2_3, rd]
  rfl

/-- Head 0's state before chunk 4, as the step reads it (case A). -/
theorem stA_4_0 : kernelRun0_A.sl.v976 c arg3 harg3 arg4 harg4 arg5 harg5 arg7 harg7 arg8 harg8 arg11 x1 x2 x3 x5 x6 = SS x1 x2 x3 x5 x6 k0_pay2 4 0 := by
  unfold kernelRun0_A.sl.v976 kernelRun0_A.sl.HS0_17 kernelRun0_A.sl.HS0_16 kernelRun0_A.sl.HS0_15 kernelRun0_A.sl.HS0_14
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_57, kernelRun0_A.sl.r_55, kernelRun0_A.sl.r, kernelRun0_A.sl.r_54, stA_3_0, rd]
  rfl

/-- Head 1's state before chunk 4, as the step reads it (case A). -/
theorem stA_4_1 : kernelRun0_A.sl.v1025 c arg3 harg3 arg4 harg4 arg5 harg5 arg7 harg7 arg8 harg8 arg11 x1 x2 x3 x5 x6 = SS x1 x2 x3 x5 x6 k0_pay2 4 1 := by
  unfold kernelRun0_A.sl.v1025 kernelRun0_A.sl.HS0_18 kernelRun0_A.sl.HS0_17 kernelRun0_A.sl.HS0_16 kernelRun0_A.sl.HS0_15
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_65, kernelRun0_A.sl.r_61, kernelRun0_A.sl.r_57, kernelRun0_A.sl.r_55, kernelRun0_A.sl.r, kernelRun0_A.sl.r_54, kernelRun0_A.sl.r_59, stA_3_1, rd]
  rfl

/-- Head 2's state before chunk 4, as the step reads it (case A). -/
theorem stA_4_2 : kernelRun0_A.sl.v1074 c arg3 harg3 arg4 harg4 arg5 harg5 arg7 harg7 arg8 harg8 arg11 x1 x2 x3 x5 x6 = SS x1 x2 x3 x5 x6 k0_pay2 4 2 := by
  unfold kernelRun0_A.sl.v1074 kernelRun0_A.sl.HS0_19 kernelRun0_A.sl.HS0_18 kernelRun0_A.sl.HS0_17 kernelRun0_A.sl.HS0_16
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_68, kernelRun0_A.sl.r_66, kernelRun0_A.sl.r_61, kernelRun0_A.sl.r_57, kernelRun0_A.sl.r_55, kernelRun0_A.sl.r, kernelRun0_A.sl.r_54, kernelRun0_A.sl.r_59, stA_3_2, rd]
  rfl

/-- Head 3's state before chunk 4, as the step reads it (case A). -/
theorem stA_4_3 : kernelRun0_A.sl.v1123 c arg3 harg3 arg4 harg4 arg5 harg5 arg7 harg7 arg8 harg8 arg11 x1 x2 x3 x5 x6 = SS x1 x2 x3 x5 x6 k0_pay2 4 3 := by
  unfold kernelRun0_A.sl.v1123 kernelRun0_A.sl.HS0_20 kernelRun0_A.sl.HS0_19 kernelRun0_A.sl.HS0_18 kernelRun0_A.sl.HS0_17
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_69, kernelRun0_A.sl.r_61, kernelRun0_A.sl.r_57, kernelRun0_A.sl.r_55, kernelRun0_A.sl.r, kernelRun0_A.sl.r_54, kernelRun0_A.sl.r_59, stA_3_3, rd]
  rfl

/-- Head 0's state before chunk 5, as the step reads it (case A). -/
theorem stA_5_0 : kernelRun0_A.sl.v1202 c arg3 harg3 arg4 harg4 arg5 harg5 arg7 harg7 arg8 harg8 arg11 x1 x2 x3 x5 x6 = SS x1 x2 x3 x5 x6 k0_pay2 5 0 := by
  unfold kernelRun0_A.sl.v1202 kernelRun0_A.sl.HS0_21 kernelRun0_A.sl.HS0_20 kernelRun0_A.sl.HS0_19 kernelRun0_A.sl.HS0_18
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_77, kernelRun0_A.sl.r_76, kernelRun0_A.sl.r, kernelRun0_A.sl.r_74, stA_4_0, rd]
  rfl

/-- Head 1's state before chunk 5, as the step reads it (case A). -/
theorem stA_5_1 : kernelRun0_A.sl.v1251 c arg3 harg3 arg4 harg4 arg5 harg5 arg7 harg7 arg8 harg8 arg11 x1 x2 x3 x5 x6 = SS x1 x2 x3 x5 x6 k0_pay2 5 1 := by
  unfold kernelRun0_A.sl.v1251 kernelRun0_A.sl.HS0_22 kernelRun0_A.sl.HS0_21 kernelRun0_A.sl.HS0_20 kernelRun0_A.sl.HS0_19
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_76, kernelRun0_A.sl.r, kernelRun0_A.sl.r_74, stA_4_1, rd]
  rfl

/-- Head 2's state before chunk 5, as the step reads it (case A). -/
theorem stA_5_2 : kernelRun0_A.sl.v1300 c arg3 harg3 arg4 harg4 arg5 harg5 arg7 harg7 arg8 harg8 arg11 x1 x2 x3 x5 x6 = SS x1 x2 x3 x5 x6 k0_pay2 5 2 := by
  unfold kernelRun0_A.sl.v1300 kernelRun0_A.sl.HS0_23 kernelRun0_A.sl.HS0_22 kernelRun0_A.sl.HS0_21 kernelRun0_A.sl.HS0_20
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_76, kernelRun0_A.sl.r, kernelRun0_A.sl.r_74, stA_4_2, rd]
  rfl

/-- Head 3's state before chunk 5, as the step reads it (case A). -/
theorem stA_5_3 : kernelRun0_A.sl.v1349 c arg3 harg3 arg4 harg4 arg5 harg5 arg7 harg7 arg8 harg8 arg11 x1 x2 x3 x5 x6 = SS x1 x2 x3 x5 x6 k0_pay2 5 3 := by
  unfold kernelRun0_A.sl.v1349 kernelRun0_A.sl.HS0_24 kernelRun0_A.sl.HS0_23 kernelRun0_A.sl.HS0_22 kernelRun0_A.sl.HS0_21
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_86, kernelRun0_A.sl.r_76, kernelRun0_A.sl.r, kernelRun0_A.sl.r_85, kernelRun0_A.sl.r_74, stA_4_3, rd]
  rfl

/-- Head 0's state before chunk 6, as the step reads it (case A). -/
theorem stA_6_0 : kernelRun0_A.sl.v1428 c arg3 harg3 arg4 harg4 arg5 harg5 arg7 harg7 arg8 harg8 arg11 x1 x2 x3 x5 x6 = SS x1 x2 x3 x5 x6 k0_pay2 6 0 := by
  unfold kernelRun0_A.sl.v1428 kernelRun0_A.sl.HS0_25 kernelRun0_A.sl.HS0_24 kernelRun0_A.sl.HS0_23 kernelRun0_A.sl.HS0_22
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_87, kernelRun0_A.sl.r, stA_5_0, rd]
  rfl

/-- Head 1's state before chunk 6, as the step reads it (case A). -/
theorem stA_6_1 : kernelRun0_A.sl.v1477 c arg3 harg3 arg4 harg4 arg5 harg5 arg7 harg7 arg8 harg8 arg11 x1 x2 x3 x5 x6 = SS x1 x2 x3 x5 x6 k0_pay2 6 1 := by
  unfold kernelRun0_A.sl.v1477 kernelRun0_A.sl.HS0_26 kernelRun0_A.sl.HS0_25 kernelRun0_A.sl.HS0_24 kernelRun0_A.sl.HS0_23
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_94, kernelRun0_A.sl.r_93, kernelRun0_A.sl.r_91, kernelRun0_A.sl.r_87, kernelRun0_A.sl.r, kernelRun0_A.sl.r_89, stA_5_1, rd]
  rfl

/-- Head 2's state before chunk 6, as the step reads it (case A). -/
theorem stA_6_2 : kernelRun0_A.sl.v1526 c arg3 harg3 arg4 harg4 arg5 harg5 arg7 harg7 arg8 harg8 arg11 x1 x2 x3 x5 x6 = SS x1 x2 x3 x5 x6 k0_pay2 6 2 := by
  unfold kernelRun0_A.sl.v1526 kernelRun0_A.sl.HS0_27 kernelRun0_A.sl.HS0_26 kernelRun0_A.sl.HS0_25 kernelRun0_A.sl.HS0_24
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_96, kernelRun0_A.sl.r_91, kernelRun0_A.sl.r_87, kernelRun0_A.sl.r, kernelRun0_A.sl.r_89, stA_5_2, rd]
  rfl

/-- Head 3's state before chunk 6, as the step reads it (case A). -/
theorem stA_6_3 : kernelRun0_A.sl.v1575 c arg3 harg3 arg4 harg4 arg5 harg5 arg7 harg7 arg8 harg8 arg11 x1 x2 x3 x5 x6 = SS x1 x2 x3 x5 x6 k0_pay2 6 3 := by
  unfold kernelRun0_A.sl.v1575 kernelRun0_A.sl.HS0_28 kernelRun0_A.sl.HS0_27 kernelRun0_A.sl.HS0_26 kernelRun0_A.sl.HS0_25
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_91, kernelRun0_A.sl.r_87, kernelRun0_A.sl.r, kernelRun0_A.sl.r_89, stA_5_3, rd]
  rfl

/-- Head 0's state before chunk 7, as the step reads it (case A). -/
theorem stA_7_0 : kernelRun0_A.sl.v1654 c arg3 harg3 arg4 harg4 arg5 harg5 arg7 harg7 arg8 harg8 arg11 x1 x2 x3 x5 x6 = SS x1 x2 x3 x5 x6 k0_pay2 7 0 := by
  unfold kernelRun0_A.sl.v1654 kernelRun0_A.sl.HS0_29 kernelRun0_A.sl.HS0_28 kernelRun0_A.sl.HS0_27 kernelRun0_A.sl.HS0_26
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_105, kernelRun0_A.sl.r_104, kernelRun0_A.sl.r, kernelRun0_A.sl.r_102, stA_6_0, rd]
  rfl

/-- Head 1's state before chunk 7, as the step reads it (case A). -/
theorem stA_7_1 : kernelRun0_A.sl.v1703 c arg3 harg3 arg4 harg4 arg5 harg5 arg7 harg7 arg8 harg8 arg11 x1 x2 x3 x5 x6 = SS x1 x2 x3 x5 x6 k0_pay2 7 1 := by
  unfold kernelRun0_A.sl.v1703 kernelRun0_A.sl.HS0_30 kernelRun0_A.sl.HS0_29 kernelRun0_A.sl.HS0_28 kernelRun0_A.sl.HS0_27
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_104, kernelRun0_A.sl.r, kernelRun0_A.sl.r_102, stA_6_1, rd]
  rfl

/-- Head 2's state before chunk 7, as the step reads it (case A). -/
theorem stA_7_2 : kernelRun0_A.sl.v1752 c arg3 harg3 arg4 harg4 arg5 harg5 arg7 harg7 arg8 harg8 arg11 x1 x2 x3 x5 x6 = SS x1 x2 x3 x5 x6 k0_pay2 7 2 := by
  unfold kernelRun0_A.sl.v1752 kernelRun0_A.sl.HS0_31 kernelRun0_A.sl.HS0_30 kernelRun0_A.sl.HS0_29 kernelRun0_A.sl.HS0_28
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_112, kernelRun0_A.sl.r_104, kernelRun0_A.sl.r, kernelRun0_A.sl.r_102, stA_6_2, rd]
  rfl

/-- Head 3's state before chunk 7, as the step reads it (case A). -/
theorem stA_7_3 : kernelRun0_A.sl.v1801 c arg3 harg3 arg4 harg4 arg5 harg5 arg7 harg7 arg8 harg8 arg11 x1 x2 x3 x5 x6 = SS x1 x2 x3 x5 x6 k0_pay2 7 3 := by
  unfold kernelRun0_A.sl.v1801 kernelRun0_A.sl.HS0_32 kernelRun0_A.sl.HS0_31 kernelRun0_A.sl.HS0_30 kernelRun0_A.sl.HS0_29
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_A.sl.r_114, kernelRun0_A.sl.r_113, kernelRun0_A.sl.r_104, kernelRun0_A.sl.r, kernelRun0_A.sl.r_102, stA_6_3, rd]
  rfl

/-- The block of output the step stores for chunk 0 and head 0 (case A). -/
theorem outA_0_0 : k0_pay24 (kernelRun0_A.sl.r_1 c arg9 harg9 x7)
        (kernelRun0_A.sl.r_11 c arg2 harg2 arg3 harg3 arg4 harg4 arg5 harg5 arg7 harg7 arg8 harg8 arg11 x0 x1 x2 x3 x5
          x6)
        (View.readAt (Elt F) arg6.view (Rect.unit (s := S512x1024) ![0, 0] S64x256.size inb_S512x1024_S64x256_0_0).toLoadRect
          (harg6.unread x4)) = OY x0 x1 x2 x3 x4 x5 x6 x7 k0_pay2 0 0 := by
  simp only [kernelRun0_A.sl.r_11, kernelRun0_A.sl.r_5, kernelRun0_A.sl.r_4, kernelRun0_A.sl.r_3, kernelRun0_A.sl.r_2, kernelRun0_A.sl.r_1, stA_0_0, rd]
  rfl

/-- The block of output the step stores for chunk 0 and head 1 (case A). -/
theorem outA_0_1 : k0_pay29 (kernelRun0_A.sl.r_1 c arg9 harg9 x7)
        (kernelRun0_A.sl.r_6 c arg2 harg2 arg5 harg5 arg7 harg7 arg8 harg8 x0 x3 x5 x6)
        (kernelRun0_A.sl.r_14 c arg4 harg4 x2)
        (kernelRun0_A.sl.r_15 c arg2 harg2 arg3 harg3 arg5 harg5 arg7 harg7 arg8 harg8 x0 x1 x3 x5 x6)
        (kernelRun0_A.sl.v121 c arg3 harg3 arg4 harg4 arg5 harg5 arg7 harg7 arg8 harg8 arg11 x1 x2 x3 x5 x6)
        (View.readAt (Elt F) arg6.view (Rect.unit (s := S512x1024) ![0, 256] S64x256.size inb_S512x1024_S64x256_0_256).toLoadRect
          (harg6.unread x4)) = OY x0 x1 x2 x3 x4 x5 x6 x7 k0_pay2 0 1 := by
  simp only [kernelRun0_A.sl.r_15, kernelRun0_A.sl.r_8, kernelRun0_A.sl.r_5, kernelRun0_A.sl.r_4, kernelRun0_A.sl.r_3, kernelRun0_A.sl.r_2, kernelRun0_A.sl.r_6, kernelRun0_A.sl.r_14, kernelRun0_A.sl.r_1, stA_0_1, rd]
  rfl

/-- The block of output the step stores for chunk 0 and head 2 (case A). -/
theorem outA_0_2 : k0_pay36
        (kernelRun0_A.sl.r_16 c arg2 harg2 arg3 harg3 arg4 harg4 arg5 harg5 arg7 harg7 arg8 harg8 arg9 harg9 arg11 x0 x1
          x2 x3 x5 x6 x7)
        (kernelRun0_A.sl.r_17 c arg6 harg6 x4) (kernelRun0_A.sl.r_18 c arg6 harg6 x4) = OY x0 x1 x2 x3 x4 x5 x6 x7 k0_pay2 0 2 := by
  simp only [kernelRun0_A.sl.r_18, kernelRun0_A.sl.r_17, kernelRun0_A.sl.r_16, kernelRun0_A.sl.r_8, kernelRun0_A.sl.r_5, kernelRun0_A.sl.r_4, kernelRun0_A.sl.r_3, kernelRun0_A.sl.r_2, kernelRun0_A.sl.r_6, kernelRun0_A.sl.r_1, stA_0_2, rd]
  rfl

/-- The block of output the step stores for chunk 0 and head 3 (case A). -/
theorem outA_0_3 : k0_pay42 (kernelRun0_A.sl.r_1 c arg9 harg9 x7)
        (kernelRun0_A.sl.r_19 c arg2 harg2 arg3 harg3 arg4 harg4 arg5 harg5 arg7 harg7 arg8 harg8 arg11 x0 x1 x2 x3 x5
          x6)
        (kernelRun0_A.sl.r_20 c arg2 harg2 arg3 harg3 arg4 harg4 arg5 harg5 arg7 harg7 arg8 harg8 arg11 x0 x1 x2 x3 x5
          x6)
        kernelRun0_A.sl.cst_100
        (View.readAt (Elt F) arg6.view (Rect.unit (s := S512x1024) ![0, 768] S64x256.size inb_S512x1024_S64x256_0_768).toLoadRect
          (harg6.unread x4)) = OY x0 x1 x2 x3 x4 x5 x6 x7 k0_pay2 0 3 := by
  simp only [kernelRun0_A.sl.cst_100, kernelRun0_A.sl.r_20, kernelRun0_A.sl.r_8, kernelRun0_A.sl.r_5, kernelRun0_A.sl.r_4, kernelRun0_A.sl.r_3, kernelRun0_A.sl.r_2, kernelRun0_A.sl.r_6, kernelRun0_A.sl.r_19, kernelRun0_A.sl.r_1, stA_0_3, rd]
  rfl

/-- The block of output the step stores for chunk 1 and head 0 (case A). -/
theorem outA_1_0 : k0_pay55
        (kernelRun0_A.sl.r_27 c arg2 harg2 arg3 harg3 arg4 harg4 arg5 harg5 arg7 harg7 arg8 harg8 arg9 harg9 arg11 x0 x1
          x2 x3 x5 x6 x7)
        (View.readAt (Elt F) arg6.view (Rect.unit (s := S512x1024) ![64, 0] S64x256.size inb_S512x1024_S64x256_64_0).toLoadRect
          (harg6.unread x4)) = OY x0 x1 x2 x3 x4 x5 x6 x7 k0_pay2 1 0 := by
  simp only [kernelRun0_A.sl.r_27, kernelRun0_A.sl.r_24, kernelRun0_A.sl.r, kernelRun0_A.sl.r_22, kernelRun0_A.sl.r_21, kernelRun0_A.sl.r_1, stA_1_0, rd]
  rfl

/-- The block of output the step stores for chunk 1 and head 1 (case A). -/
theorem outA_1_1 : k0_pay61 (kernelRun0_A.sl.r_1 c arg9 harg9 x7)
        (kernelRun0_A.sl.r_28 c arg2 harg2 arg3 harg3 arg4 harg4 arg5 harg5 arg7 harg7 arg8 harg8 arg11 x0 x1 x2 x3 x5
          x6)
        (kernelRun0_A.sl.r_29 c arg2 harg2 arg3 harg3 arg4 harg4 arg5 harg5 arg7 harg7 arg8 harg8 arg11 x0 x1 x2 x3 x5
          x6)
        (View.readAt (Elt F) arg6.view (Rect.unit (s := S512x1024) ![64, 256] S64x256.size inb_S512x1024_S64x256_64_256).toLoadRect
          (harg6.unread x4)) = OY x0 x1 x2 x3 x4 x5 x6 x7 k0_pay2 1 1 := by
  simp only [kernelRun0_A.sl.r_29, kernelRun0_A.sl.r_25, kernelRun0_A.sl.r_24, kernelRun0_A.sl.r, kernelRun0_A.sl.r_21, kernelRun0_A.sl.r_22, kernelRun0_A.sl.r_28, kernelRun0_A.sl.r_1, stA_1_1, rd]
  rfl

/-- The block of output the step stores for chunk 1 and head 2 (case A). -/
theorem outA_1_2 : k0_pay67 (kernelRun0_A.sl.r_1 c arg9 harg9 x7)
        (kernelRun0_A.sl.r_32 c arg2 harg2 arg3 harg3 arg4 harg4 arg5 harg5 arg7 harg7 arg8 harg8 arg11 x0 x1 x2 x3 x5
          x6)
        (View.readAt (Elt F) arg6.view (Rect.unit (s := S512x1024) ![64, 512] S64x256.size inb_S512x1024_S64x256_64_512).toLoadRect
          (harg6.unread x4)) = OY x0 x1 x2 x3 x4 x5 x6 x7 k0_pay2 1 2 := by
  simp only [kernelRun0_A.sl.r_32, kernelRun0_A.sl.r_25, kernelRun0_A.sl.r_24, kernelRun0_A.sl.r, kernelRun0_A.sl.r_21, kernelRun0_A.sl.r_22, kernelRun0_A.sl.r_1, stA_1_2, rd]
  rfl

/-- The block of output the step stores for chunk 1 and head 3 (case A). -/
theorem outA_1_3 : kernelRun0_A.sl.r_36 c arg2 harg2 arg3 harg3 arg4 harg4 arg5 harg5 arg6 harg6 arg7 harg7 arg8 harg8 arg9 harg9
        arg11 x0 x1 x2 x3 x4 x5 x6 x7 = OY x0 x1 x2 x3 x4 x5 x6 x7 k0_pay2 1 3 := by
  simp only [kernelRun0_A.sl.r_36, kernelRun0_A.sl.r_35, kernelRun0_A.sl.r_25, kernelRun0_A.sl.r_24, kernelRun0_A.sl.r, kernelRun0_A.sl.r_21, kernelRun0_A.sl.r_22, kernelRun0_A.sl.r_34, kernelRun0_A.sl.r_1, stA_1_3, rd]
  rfl

/-- The block of output the step stores for chunk 2 and head 0 (case A). -/
theorem outA_2_0 : k0_pay84 (kernelRun0_A.sl.r_1 c arg9 harg9 x7)
        (kernelRun0_A.sl.r_42 c arg3 harg3 arg4 harg4 arg5 harg5 arg7 harg7 arg8 harg8 arg11 x1 x2 x3 x5 x6)
        (kernelRun0_A.sl.r_43 c arg2 harg2 arg3 harg3 arg4 harg4 arg5 harg5 arg7 harg7 arg8 harg8 x0 x1 x2 x3 x5 x6)
        (kernelRun0_A.sl.r_44 c arg2 harg2 arg5 harg5 arg7 harg7 arg8 harg8 x0 x3 x5 x6)
        (View.readAt (Elt F) arg6.view (Rect.unit (s := S512x1024) ![128, 0] S64x256.size inb_S512x1024_S64x256_128_0).toLoadRect
          (harg6.unread x4)) = OY x0 x1 x2 x3 x4 x5 x6 x7 k0_pay2 2 0 := by
  simp only [kernelRun0_A.sl.r_44, kernelRun0_A.sl.r, kernelRun0_A.sl.r_43, kernelRun0_A.sl.r_42, kernelRun0_A.sl.r_1, stA_2_0, rd]
  rfl

/-- The block of output the step stores for chunk 2 and head 1 (case A). -/
theorem outA_2_1 : k0_pay94
        (kernelRun0_A.sl.r_48 c arg2 harg2 arg3 harg3 arg4 harg4 arg5 harg5 arg7 harg7 arg8 harg8 arg9 harg9 arg11 x0 x1
          x2 x3 x5 x6 x7)
        (kernelRun0_A.sl.r_49 c arg6 harg6 x4) (kernelRun0_A.sl.r_50 c arg6 harg6 x4) k0_pay93 = OY x0 x1 x2 x3 x4 x5 x6 x7 k0_pay2 2 1 := by
  simp only [kernelRun0_A.sl.r_50, kernelRun0_A.sl.r_49, kernelRun0_A.sl.r_48, kernelRun0_A.sl.r_47, kernelRun0_A.sl.r_39, kernelRun0_A.sl.r, kernelRun0_A.sl.r_46, kernelRun0_A.sl.r_37, kernelRun0_A.sl.r_45, kernelRun0_A.sl.r_1, stA_2_1, rd]
  rfl

/-- The block of output the step stores for chunk 2 and head 2 (case A). -/
theorem outA_2_2 : k0_pay100
        (kernelRun0_A.sl.r_51 c arg2 harg2 arg3 harg3 arg4 harg4 arg5 harg5 arg7 harg7 arg8 harg8 arg11 x0 x1 x2 x3 x5
          x6)
        (kernelRun0_A.sl.r_52 c arg9 harg9 x7)
        (View.readAt (Elt F) arg6.view (Rect.unit (s := S512x1024) ![128, 512] S64x256.size inb_S512x1024_S64x256_128_512).toLoadRect
          (harg6.unread x4)) = OY x0 x1 x2 x3 x4 x5 x6 x7 k0_pay2 2 2 := by
  simp only [kernelRun0_A.sl.r_52, kernelRun0_A.sl.r_1, kernelRun0_A.sl.r_51, kernelRun0_A.sl.r_39, kernelRun0_A.sl.r, kernelRun0_A.sl.r_37, stA_2_2, rd]
  rfl

/-- The block of output the step stores for chunk 2 and head 3 (case A). -/
theorem outA_2_3 : k0_pay105 (kernelRun0_A.sl.r_1 c arg9 harg9 x7)
        (kernelRun0_A.sl.r_53 c arg2 harg2 arg3 harg3 arg4 harg4 arg5 harg5 arg7 harg7 arg8 harg8 arg11 x0 x1 x2 x3 x5
          x6)
        (View.readAt (Elt F) arg6.view (Rect.unit (s := S512x1024) ![128, 768] S64x256.size inb_S512x1024_S64x256_128_768).toLoadRect
          (harg6.unread x4)) = OY x0 x1 x2 x3 x4 x5 x6 x7 k0_pay2 2 3 := by
  simp only [kernelRun0_A.sl.r_53, kernelRun0_A.sl.r_39, kernelRun0_A.sl.r, kernelRun0_A.sl.r_37, kernelRun0_A.sl.r_1, stA_2_3, rd]
  rfl

/-- The block of output the step stores for chunk 3 and head 0 (case A). -/
theorem outA_3_0 : k0_pay119 (kernelRun0_A.sl.r_1 c arg9 harg9 x7)
        (kernelRun0_A.sl.r_62 c arg2 harg2 arg3 harg3 arg4 harg4 arg5 harg5 arg7 harg7 arg8 harg8 arg11 x0 x1 x2 x3 x5
          x6)
        (kernelRun0_A.sl.r_63 c arg2 harg2 arg3 harg3 arg4 harg4 arg5 harg5 arg7 harg7 arg8 harg8 arg11 x0 x1 x2 x3 x5
          x6)
        kernelRun0_A.sl.cst_100
        (View.readAt (Elt F) arg6.view (Rect.unit (s := S512x1024) ![192, 0] S64x256.size inb_S512x1024_S64x256_192_0).toLoadRect
          (harg6.unread x4)) = OY x0 x1 x2 x3 x4 x5 x6 x7 k0_pay2 3 0 := by
  simp only [kernelRun0_A.sl.cst_100, kernelRun0_A.sl.r_63, kernelRun0_A.sl.r_57, kernelRun0_A.sl.r_56, kernelRun0_A.sl.r_54, kernelRun0_A.sl.r, kernelRun0_A.sl.r_62, kernelRun0_A.sl.r_1, stA_3_0, rd]
  rfl

/-- The block of output the step stores for chunk 3 and head 1 (case A). -/
theorem outA_3_1 : k0_pay125 (kernelRun0_A.sl.r_1 c arg9 harg9 x7)
        (kernelRun0_A.sl.r_64 c arg2 harg2 arg3 harg3 arg4 harg4 arg5 harg5 arg7 harg7 arg8 harg8 arg11 x0 x1 x2 x3 x5
          x6)
        (View.readAt (Elt F) arg6.view (Rect.unit (s := S512x1024) ![192, 256] S64x256.size inb_S512x1024_S64x256_192_256).toLoadRect
          (harg6.unread x4)) = OY x0 x1 x2 x3 x4 x5 x6 x7 k0_pay2 3 1 := by
  simp only [kernelRun0_A.sl.r_64, kernelRun0_A.sl.r_60, kernelRun0_A.sl.r_57, kernelRun0_A.sl.r_54, kernelRun0_A.sl.r, kernelRun0_A.sl.r_58, kernelRun0_A.sl.r_56, kernelRun0_A.sl.r_1, stA_3_1, rd]
  rfl

/-- The block of output the step stores for chunk 3 and head 2 (case A). -/
theorem outA_3_2 : k0_pay130 (kernelRun0_A.sl.r_1 c arg9 harg9 x7)
        (kernelRun0_A.sl.r_58 c arg2 harg2 arg5 harg5 arg7 harg7 arg8 harg8 x0 x3 x5 x6)
        (kernelRun0_A.sl.r_66 c arg4 harg4 x2)
        (kernelRun0_A.sl.r_67 c arg2 harg2 arg3 harg3 arg5 harg5 arg7 harg7 arg8 harg8 x0 x1 x3 x5 x6)
        (kernelRun0_A.sl.r_68 c arg3 harg3 arg4 harg4 arg5 harg5 arg7 harg7 arg8 harg8 arg11 x1 x2 x3 x5 x6)
        kernelRun0_A.sl.cst_366
        (View.readAt (Elt F) arg6.view (Rect.unit (s := S512x1024) ![192, 512] S64x256.size inb_S512x1024_S64x256_192_512).toLoadRect
          (harg6.unread x4)) = OY x0 x1 x2 x3 x4 x5 x6 x7 k0_pay2 3 2 := by
  simp only [kernelRun0_A.sl.cst_366, kernelRun0_A.sl.r_68, kernelRun0_A.sl.r_67, kernelRun0_A.sl.r_60, kernelRun0_A.sl.r_57, kernelRun0_A.sl.r_54, kernelRun0_A.sl.r, kernelRun0_A.sl.r_58, kernelRun0_A.sl.r_56, kernelRun0_A.sl.r_66, kernelRun0_A.sl.r_1, stA_3_2, rd]
  rfl

/-- The block of output the step stores for chunk 3 and head 3 (case A). -/
theorem outA_3_3 : k0_pay137
        (kernelRun0_A.sl.r_70 c arg2 harg2 arg3 harg3 arg4 harg4 arg5 harg5 arg7 harg7 arg8 harg8 arg9 harg9 arg11 x0 x1
          x2 x3 x5 x6 x7)
        (kernelRun0_A.sl.r_71 c arg6 harg6 x4) (kernelRun0_A.sl.r_72 c arg6 harg6 x4) = OY x0 x1 x2 x3 x4 x5 x6 x7 k0_pay2 3 3 := by
  simp only [kernelRun0_A.sl.r_72, kernelRun0_A.sl.r_71, kernelRun0_A.sl.r_70, kernelRun0_A.sl.r_69, kernelRun0_A.sl.r_60, kernelRun0_A.sl.r_57, kernelRun0_A.sl.r_54, kernelRun0_A.sl.r, kernelRun0_A.sl.r_58, kernelRun0_A.sl.r_56, kernelRun0_A.sl.r_1, stA_3_3, rd]
  rfl

/-- The block of output the step stores for chunk 4 and head 0 (case A). -/
theorem outA_4_0 : kernelRun0_A.sl.r_79 c arg2 harg2 arg3 harg3 arg4 harg4 arg5 harg5 arg6 harg6 arg7 harg7 arg8 harg8 arg9 harg9
        arg11 x0 x1 x2 x3 x4 x5 x6 x7 = OY x0 x1 x2 x3 x4 x5 x6 x7 k0_pay2 4 0 := by
  simp only [kernelRun0_A.sl.r_79, kernelRun0_A.sl.r_78, kernelRun0_A.sl.r, kernelRun0_A.sl.r_77, kernelRun0_A.sl.r_73, kernelRun0_A.sl.r_1, stA_4_0, rd]
  rfl

/-- The block of output the step stores for chunk 4 and head 1 (case A). -/
theorem outA_4_1 : k0_pay154
        (kernelRun0_A.sl.r_80 c arg2 harg2 arg3 harg3 arg4 harg4 arg5 harg5 arg7 harg7 arg8 harg8 arg9 harg9 arg11 x0 x1
          x2 x3 x5 x6 x7)
        (kernelRun0_A.sl.r_81 c arg6 harg6 x4) kernelRun0_A.sl.cst_454 = OY x0 x1 x2 x3 x4 x5 x6 x7 k0_pay2 4 1 := by
  simp only [kernelRun0_A.sl.cst_454, kernelRun0_A.sl.r_81, kernelRun0_A.sl.r_80, kernelRun0_A.sl.r_75, kernelRun0_A.sl.r, kernelRun0_A.sl.r_73, kernelRun0_A.sl.r_1, stA_4_1, rd]
  rfl

/-- The block of output the step stores for chunk 4 and head 2 (case A). -/
theorem outA_4_2 : k0_pay161 (kernelRun0_A.sl.r_1 c arg9 harg9 x7)
        (kernelRun0_A.sl.r_82 c arg2 harg2 arg3 harg3 arg4 harg4 arg5 harg5 arg7 harg7 arg8 harg8 arg11 x0 x1 x2 x3 x5
          x6)
        (kernelRun0_A.sl.r_83 c arg2 harg2 arg3 harg3 arg4 harg4 arg5 harg5 arg7 harg7 arg8 harg8 arg11 x0 x1 x2 x3 x5
          x6)
        k0_pay160
        (View.readAt (Elt F) arg6.view (Rect.unit (s := S512x1024) ![256, 512] S64x256.size inb_S512x1024_S64x256_256_512).toLoadRect
          (harg6.unread x4)) = OY x0 x1 x2 x3 x4 x5 x6 x7 k0_pay2 4 2 := by
  simp only [kernelRun0_A.sl.r_83, kernelRun0_A.sl.r_75, kernelRun0_A.sl.r, kernelRun0_A.sl.r_73, kernelRun0_A.sl.r_82, kernelRun0_A.sl.r_1, stA_4_2, rd]
  rfl

/-- The block of output the step stores for chunk 4 and head 3 (case A). -/
theorem outA_4_3 : k0_pay168 (kernelRun0_A.sl.r_1 c arg9 harg9 x7)
        (kernelRun0_A.sl.r_84 c arg2 harg2 arg3 harg3 arg4 harg4 arg5 harg5 arg7 harg7 arg8 harg8 arg11 x0 x1 x2 x3 x5
          x6)
        (View.readAt (Elt F) arg6.view (Rect.unit (s := S512x1024) ![256, 768] S64x256.size inb_S512x1024_S64x256_256_768).toLoadRect
          (harg6.unread x4)) = OY x0 x1 x2 x3 x4 x5 x6 x7 k0_pay2 4 3 := by
  simp only [kernelRun0_A.sl.r_84, kernelRun0_A.sl.r_75, kernelRun0_A.sl.r, kernelRun0_A.sl.r_73, kernelRun0_A.sl.r_1, stA_4_3, rd]
  rfl

/-- The block of output the step stores for chunk 5 and head 0 (case A). -/
theorem outA_5_0 : k0_pay179 (kernelRun0_A.sl.r_1 c arg9 harg9 x7)
        (kernelRun0_A.sl.r_92 c arg2 harg2 arg3 harg3 arg4 harg4 arg5 harg5 arg7 harg7 arg8 harg8 arg11 x0 x1 x2 x3 x5
          x6)
        (View.readAt (Elt F) arg6.view (Rect.unit (s := S512x1024) ![320, 0] S64x256.size inb_S512x1024_S64x256_320_0).toLoadRect
          (harg6.unread x4)) = OY x0 x1 x2 x3 x4 x5 x6 x7 k0_pay2 5 0 := by
  simp only [kernelRun0_A.sl.r_92, kernelRun0_A.sl.r_87, kernelRun0_A.sl.r, kernelRun0_A.sl.r_1, stA_5_0, rd]
  rfl

/-- The block of output the step stores for chunk 5 and head 1 (case A). -/
theorem outA_5_1 : k0_pay184 (kernelRun0_A.sl.r_1 c arg9 harg9 x7)
        (kernelRun0_A.sl.r_95 c arg2 harg2 arg3 harg3 arg4 harg4 arg5 harg5 arg7 harg7 arg8 harg8 arg11 x0 x1 x2 x3 x5
          x6)
        (View.readAt (Elt F) arg6.view (Rect.unit (s := S512x1024) ![320, 256] S64x256.size inb_S512x1024_S64x256_320_256).toLoadRect
          (harg6.unread x4)) = OY x0 x1 x2 x3 x4 x5 x6 x7 k0_pay2 5 1 := by
  simp only [kernelRun0_A.sl.r_95, kernelRun0_A.sl.r_90, kernelRun0_A.sl.r_87, kernelRun0_A.sl.r, kernelRun0_A.sl.r_88, kernelRun0_A.sl.r_1, stA_5_1, rd]
  rfl

/-- The block of output the step stores for chunk 5 and head 2 (case A). -/
theorem outA_5_2 : kernelRun0_A.sl.r_98 c arg2 harg2 arg3 harg3 arg4 harg4 arg5 harg5 arg6 harg6 arg7 harg7 arg8 harg8 arg9 harg9
        arg11 x0 x1 x2 x3 x4 x5 x6 x7 = OY x0 x1 x2 x3 x4 x5 x6 x7 k0_pay2 5 2 := by
  simp only [kernelRun0_A.sl.r_98, kernelRun0_A.sl.r_97, kernelRun0_A.sl.r_90, kernelRun0_A.sl.r_87, kernelRun0_A.sl.r, kernelRun0_A.sl.r_88, kernelRun0_A.sl.r_96, kernelRun0_A.sl.r_1, stA_5_2, rd]
  rfl

/-- The block of output the step stores for chunk 5 and head 3 (case A). -/
theorem outA_5_3 : k0_pay195
        (kernelRun0_A.sl.r_99 c arg2 harg2 arg3 harg3 arg4 harg4 arg5 harg5 arg7 harg7 arg8 harg8 arg9 harg9 arg11 x0 x1
          x2 x3 x5 x6 x7)
        (kernelRun0_A.sl.r_100 c arg6 harg6 x4) = OY x0 x1 x2 x3 x4 x5 x6 x7 k0_pay2 5 3 := by
  simp only [kernelRun0_A.sl.r_100, kernelRun0_A.sl.r_99, kernelRun0_A.sl.r_90, kernelRun0_A.sl.r_87, kernelRun0_A.sl.r, kernelRun0_A.sl.r_88, kernelRun0_A.sl.r_1, stA_5_3, rd]
  rfl

/-- The block of output the step stores for chunk 6 and head 0 (case A). -/
theorem outA_6_0 : k0_pay208
        (kernelRun0_A.sl.r_106 c arg2 harg2 arg3 harg3 arg4 harg4 arg5 harg5 arg7 harg7 arg8 harg8 arg9 harg9 arg11 x0
          x1 x2 x3 x5 x6 x7)
        (kernelRun0_A.sl.r_107 c arg6 harg6 x4) (kernelRun0_A.sl.r_108 c arg6 harg6 x4) = OY x0 x1 x2 x3 x4 x5 x6 x7 k0_pay2 6 0 := by
  simp only [kernelRun0_A.sl.r_108, kernelRun0_A.sl.r_107, kernelRun0_A.sl.r_106, kernelRun0_A.sl.r_105, kernelRun0_A.sl.r_103, kernelRun0_A.sl.r, kernelRun0_A.sl.r_101, kernelRun0_A.sl.r_1, stA_6_0, rd]
  rfl

/-- The block of output the step stores for chunk 6 and head 1 (case A). -/
theorem outA_6_1 : k0_pay214 (kernelRun0_A.sl.r_1 c arg9 harg9 x7)
        (kernelRun0_A.sl.r_109 c arg2 harg2 arg3 harg3 arg4 harg4 arg5 harg5 arg7 harg7 arg8 harg8 arg11 x0 x1 x2 x3 x5
          x6)
        (kernelRun0_A.sl.r_110 c arg2 harg2 arg3 harg3 arg4 harg4 arg5 harg5 arg7 harg7 arg8 harg8 arg11 x0 x1 x2 x3 x5
          x6)
        (View.readAt (Elt F) arg6.view (Rect.unit (s := S512x1024) ![384, 256] S64x256.size inb_S512x1024_S64x256_384_256).toLoadRect
          (harg6.unread x4)) = OY x0 x1 x2 x3 x4 x5 x6 x7 k0_pay2 6 1 := by
  simp only [kernelRun0_A.sl.r_110, kernelRun0_A.sl.r_103, kernelRun0_A.sl.r, kernelRun0_A.sl.r_101, kernelRun0_A.sl.r_109, kernelRun0_A.sl.r_1, stA_6_1, rd]
  rfl

/-- The block of output the step stores for chunk 6 and head 2 (case A). -/
theorem outA_6_2 : k0_pay220 (kernelRun0_A.sl.r_1 c arg9 harg9 x7)
        (kernelRun0_A.sl.r_111 c arg2 harg2 arg3 harg3 arg4 harg4 arg5 harg5 arg7 harg7 arg8 harg8 arg11 x0 x1 x2 x3 x5
          x6)
        (View.readAt (Elt F) arg6.view (Rect.unit (s := S512x1024) ![384, 512] S64x256.size inb_S512x1024_S64x256_384_512).toLoadRect
          (harg6.unread x4)) = OY x0 x1 x2 x3 x4 x5 x6 x7 k0_pay2 6 2 := by
  simp only [kernelRun0_A.sl.r_111, kernelRun0_A.sl.r_103, kernelRun0_A.sl.r, kernelRun0_A.sl.r_101, kernelRun0_A.sl.r_1, stA_6_2, rd]
  rfl

/-- The block of output the step stores for chunk 6 and head 3 (case A). -/
theorem outA_6_3 : k0_pay227 (kernelRun0_A.sl.r_1 c arg9 harg9 x7)
        (kernelRun0_A.sl.r_115 c arg2 harg2 arg3 harg3 arg4 harg4 arg5 harg5 arg7 harg7 arg8 harg8 x0 x1 x2 x3 x5 x6)
        (kernelRun0_A.sl.r_116 c arg2 harg2 arg5 harg5 arg7 harg7 arg8 harg8 x0 x3 x5 x6)
        (kernelRun0_A.sl.r_117 c arg3 harg3 arg4 harg4 arg5 harg5 arg7 harg7 arg8 harg8 arg11 x1 x2 x3 x5 x6)
        kernelRun0_A.sl.cst_366
        (View.readAt (Elt F) arg6.view (Rect.unit (s := S512x1024) ![384, 768] S64x256.size inb_S512x1024_S64x256_384_768).toLoadRect
          (harg6.unread x4)) = OY x0 x1 x2 x3 x4 x5 x6 x7 k0_pay2 6 3 := by
  simp only [kernelRun0_A.sl.cst_366, kernelRun0_A.sl.r_117, kernelRun0_A.sl.r_116, kernelRun0_A.sl.r_101, kernelRun0_A.sl.r, kernelRun0_A.sl.r_115, kernelRun0_A.sl.r_103, kernelRun0_A.sl.r_1, stA_6_3, rd]
  rfl

/-- The block of output the step stores for chunk 7 and head 0 (case A). -/
theorem outA_7_0 : k0_pay245 (kernelRun0_A.sl.r_1 c arg9 harg9 x7)
        (kernelRun0_A.sl.r_125 c arg2 harg2 arg3 harg3 arg4 harg4 arg5 harg5 arg7 harg7 arg8 harg8 arg11 x0 x1 x2 x3 x5
          x6)
        (View.readAt (Elt F) arg6.view (Rect.unit (s := S512x1024) ![448, 0] S64x256.size inb_S512x1024_S64x256_448_0).toLoadRect
          (harg6.unread x4)) = OY x0 x1 x2 x3 x4 x5 x6 x7 k0_pay2 7 0 := by
  simp only [kernelRun0_A.sl.r_125, kernelRun0_A.sl.r_120, kernelRun0_A.sl.r, kernelRun0_A.sl.r_119, kernelRun0_A.sl.r_118, kernelRun0_A.sl.r_1, stA_7_0, rd]
  rfl

/-- The block of output the step stores for chunk 7 and head 1 (case A). -/
theorem outA_7_1 : k0_pay250 (kernelRun0_A.sl.r_1 c arg9 harg9 x7)
        (kernelRun0_A.sl.r_121 c arg2 harg2 arg5 harg5 arg7 harg7 arg8 harg8 x0 x3 x5 x6)
        (kernelRun0_A.sl.r_128 c arg4 harg4 x2)
        (kernelRun0_A.sl.r_129 c arg2 harg2 arg3 harg3 arg5 harg5 arg7 harg7 arg8 harg8 x0 x1 x3 x5 x6)
        (kernelRun0_A.sl.v1703 c arg3 harg3 arg4 harg4 arg5 harg5 arg7 harg7 arg8 harg8 arg11 x1 x2 x3 x5 x6)
        (View.readAt (Elt F) arg6.view (Rect.unit (s := S512x1024) ![448, 256] S64x256.size inb_S512x1024_S64x256_448_256).toLoadRect
          (harg6.unread x4)) = OY x0 x1 x2 x3 x4 x5 x6 x7 k0_pay2 7 1 := by
  simp only [kernelRun0_A.sl.r_129, kernelRun0_A.sl.r_123, kernelRun0_A.sl.r_120, kernelRun0_A.sl.r, kernelRun0_A.sl.r_119, kernelRun0_A.sl.r_118, kernelRun0_A.sl.r_121, kernelRun0_A.sl.r_128, kernelRun0_A.sl.r_1, stA_7_1, rd]
  rfl

/-- The block of output the step stores for chunk 7 and head 2 (case A). -/
theorem outA_7_2 : k0_pay257
        (kernelRun0_A.sl.r_130 c arg2 harg2 arg3 harg3 arg4 harg4 arg5 harg5 arg7 harg7 arg8 harg8 arg9 harg9 arg11 x0
          x1 x2 x3 x5 x6 x7)
        (kernelRun0_A.sl.r_131 c arg6 harg6 x4) (kernelRun0_A.sl.r_132 c arg6 harg6 x4) kernelRun0_A.sl.cst_454 = OY x0 x1 x2 x3 x4 x5 x6 x7 k0_pay2 7 2 := by
  simp only [kernelRun0_A.sl.cst_454, kernelRun0_A.sl.r_132, kernelRun0_A.sl.r_131, kernelRun0_A.sl.r_130, kernelRun0_A.sl.r_123, kernelRun0_A.sl.r_120, kernelRun0_A.sl.r, kernelRun0_A.sl.r_119, kernelRun0_A.sl.r_118, kernelRun0_A.sl.r_121, kernelRun0_A.sl.r_1, stA_7_2, rd]
  rfl

/-- The block of output the step stores for chunk 7 and head 3 (case A). -/
theorem outA_7_3 : k0_pay1
        (kernelRun0_A.sl.r_135 c arg2 harg2 arg3 harg3 arg4 harg4 arg5 harg5 arg7 harg7 arg8 harg8 arg9 harg9 arg11 x0
          x1 x2 x3 x5 x6 x7)
        (kernelRun0_A.sl.r_136 c arg6 harg6 x4) (kernelRun0_A.sl.r_137 c arg6 harg6 x4) k0_pay266 = OY x0 x1 x2 x3 x4 x5 x6 x7 k0_pay2 7 3 := by
  simp only [kernelRun0_A.sl.r_137, kernelRun0_A.sl.r_136, kernelRun0_A.sl.r_135, kernelRun0_A.sl.r_134, kernelRun0_A.sl.r_123, kernelRun0_A.sl.r_120, kernelRun0_A.sl.r, kernelRun0_A.sl.r_119, kernelRun0_A.sl.r_118, kernelRun0_A.sl.r_121, kernelRun0_A.sl.r_133, kernelRun0_A.sl.r_1, stA_7_3, rd]
  rfl

/-- Head 0's state after the step (case A). -/
theorem stA_8_0 : k0_pay244 (kernelRun0_A.sl.r_126 c arg3 harg3 arg4 harg4 arg5 harg5 arg7 harg7 arg8 harg8 arg11 x1 x2 x3 x5 x6)
      (kernelRun0_A.sl.r_127 c arg3 harg3 arg4 harg4 arg5 harg5 arg7 harg7 arg8 harg8 x1 x2 x3 x5 x6) = SS x1 x2 x3 x5 x6 k0_pay2 8 0 := by
  simp only [kernelRun0_A.sl.r_127, kernelRun0_A.sl.r_120, kernelRun0_A.sl.r, kernelRun0_A.sl.r_119, kernelRun0_A.sl.r_118, kernelRun0_A.sl.r_126, stA_7_0, rd]
  rfl

/-- Head 1's state after the step (case A). -/
theorem stA_8_1 : k0_pay249 (kernelRun0_A.sl.r_122 c arg5 harg5 arg7 harg7 arg8 harg8 x3 x5 x6)
      (kernelRun0_A.sl.r_124 c arg3 harg3 arg5 harg5 arg7 harg7 arg8 harg8 x1 x3 x5 x6)
      (kernelRun0_A.sl.r_128 c arg4 harg4 x2)
      (kernelRun0_A.sl.v1703 c arg3 harg3 arg4 harg4 arg5 harg5 arg7 harg7 arg8 harg8 arg11 x1 x2 x3 x5 x6) = SS x1 x2 x3 x5 x6 k0_pay2 8 1 := by
  simp only [kernelRun0_A.sl.r_128, kernelRun0_A.sl.r_124, kernelRun0_A.sl.r_120, kernelRun0_A.sl.r, kernelRun0_A.sl.r_119, kernelRun0_A.sl.r_118, kernelRun0_A.sl.r_122, stA_7_1, rd]
  rfl

/-- Head 2's state after the step (case A). -/
theorem stA_8_2 : k0_pay253 (kernelRun0_A.sl.r_122 c arg5 harg5 arg7 harg7 arg8 harg8 x3 x5 x6)
      (kernelRun0_A.sl.r_124 c arg3 harg3 arg5 harg5 arg7 harg7 arg8 harg8 x1 x3 x5 x6)
      (View.readAt (Elt F) arg4.view (Rect.unit (s := S512x1024) ![448, 512] S64x256.size inb_S512x1024_S64x256_448_512).toLoadRect
        (harg4.unread x2))
      (kernelRun0_A.sl.v1752 c arg3 harg3 arg4 harg4 arg5 harg5 arg7 harg7 arg8 harg8 arg11 x1 x2 x3 x5 x6) = SS x1 x2 x3 x5 x6 k0_pay2 8 2 := by
  simp only [kernelRun0_A.sl.r_124, kernelRun0_A.sl.r_120, kernelRun0_A.sl.r, kernelRun0_A.sl.r_119, kernelRun0_A.sl.r_118, kernelRun0_A.sl.r_122, stA_7_2, rd]
  rfl

/-- Head 3's state after the step (case A). -/
theorem stA_8_3 : k0_pay261 (kernelRun0_A.sl.r_122 c arg5 harg5 arg7 harg7 arg8 harg8 x3 x5 x6)
          (kernelRun0_A.sl.r_124 c arg3 harg3 arg5 harg5 arg7 harg7 arg8 harg8 x1 x3 x5 x6)
          (View.readAt (Elt F) arg4.view (Rect.unit (s := S512x1024) ![448, 768] S64x256.size inb_S512x1024_S64x256_448_768).toLoadRect
            (harg4.unread x2))
          (kernelRun0_A.sl.v1801 c arg3 harg3 arg4 harg4 arg5 harg5 arg7 harg7 arg8 harg8 arg11 x1 x2 x3 x5 x6) = SS x1 x2 x3 x5 x6 k0_pay2 8 3 := by
  simp only [kernelRun0_A.sl.r_124, kernelRun0_A.sl.r_120, kernelRun0_A.sl.r, kernelRun0_A.sl.r_119, kernelRun0_A.sl.r_118, kernelRun0_A.sl.r_122, stA_7_3, rd]
  rfl

end Cert.KernelIdeal.Block
-- ==== Proof.StateB.lean ====
module

public import proofs.«01_k».proof.Proof.Block

/-! The states a grid step goes through in case B, as the step's values read them. -/

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.ShloMosaic.Pipeline

variable {F : FTy → Type} [FloatOps F]

variable {c : Dev nD} {i : grid0.Coords} {arg2 : Memref sig .tc .vmem S512x512 .f32} {harg2 : arg2.IsWhole} {arg3 : Memref sig .tc .vmem S512x512 .f32} {harg3 : arg3.IsWhole} {arg4 : Memref sig .tc .vmem S512x1024 .bf16} {harg4 : arg4.IsWhole} {arg5 : Memref sig .tc .vmem S512x128 .f32} {harg5 : arg5.IsWhole} {arg6 : Memref sig .tc .vmem S512x1024 .f32} {harg6 : arg6.IsWhole} {arg7 : Memref sig .tc .vmem S128x512 .bf16} {harg7 : arg7.IsWhole} {arg8 : Memref sig .tc .vmem S1x512 .f32} {harg8 : arg8.IsWhole} {arg9 : Memref sig .tc .vmem S1x256 .f32} {harg9 : arg9.IsWhole} {arg10 : Memref sig .tc .vmem S512x1024 .bf16} {harg10 : arg10.IsWhole} {arg11 : Memref sig .tc .vmem S4x256x128 .f32} {harg11 : arg11.IsWhole}
    {x0 : Vec F S512x512 .f32} {x1 : Vec F S512x512 .f32} {x2 : Vec F S512x1024 .bf16} {x3 : Vec F S512x128 .f32} {x4 : Vec F S512x1024 .f32} {x5 : Vec F S128x512 .bf16} {x6 : Vec F S1x512 .f32} {x7 : Vec F S1x256 .f32} {xs0 : Vec F S4x256x128 .f32}

/-- Head 0's state before chunk 1, as the step reads it (case B). -/
theorem stB_1_0 : kernelRun0_B.sl.v298 c arg3 harg3 arg4 harg4 arg5 harg5 arg7 harg7 arg8 harg8 arg11 harg11 x1 x2 x3 x5 x6 xs0 = SS x1 x2 x3 x5 x6 xs0 1 0 := by
  unfold kernelRun0_B.sl.v298 kernelRun0_B.sl.HS0_4
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_13, kernelRun0_B.sl.r_5, kernelRun0_B.sl.r_4, kernelRun0_B.sl.r_3, kernelRun0_B.sl.r_2, kernelRun0_B.sl.r_12, kernelRun0_B.sl.r_10, kernelRun0_B.sl.v121, kernelRun0_B.sl.v170, kernelRun0_B.sl.v219, rd]
  rfl

/-- Head 1's state before chunk 1, as the step reads it (case B). -/
theorem stB_1_1 : kernelRun0_B.sl.v347 c arg3 harg3 arg4 harg4 arg5 harg5 arg7 harg7 arg8 harg8 arg11 harg11 x1 x2 x3 x5 x6 xs0 = SS x1 x2 x3 x5 x6 xs0 1 1 := by
  unfold kernelRun0_B.sl.v347 kernelRun0_B.sl.HS0_5 kernelRun0_B.sl.HS0_4
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_14, kernelRun0_B.sl.r_9, kernelRun0_B.sl.r_5, kernelRun0_B.sl.r_4, kernelRun0_B.sl.r_3, kernelRun0_B.sl.r_2, kernelRun0_B.sl.r_7, kernelRun0_B.sl.v121, kernelRun0_B.sl.v170, kernelRun0_B.sl.v219, rd]
  rfl

/-- Head 2's state before chunk 1, as the step reads it (case B). -/
theorem stB_1_2 : kernelRun0_B.sl.v396 c arg3 harg3 arg4 harg4 arg5 harg5 arg7 harg7 arg8 harg8 arg11 harg11 x1 x2 x3 x5 x6 xs0 = SS x1 x2 x3 x5 x6 xs0 1 2 := by
  unfold kernelRun0_B.sl.v396 kernelRun0_B.sl.HS0_6 kernelRun0_B.sl.HS0_5 kernelRun0_B.sl.HS0_4
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_9, kernelRun0_B.sl.r_5, kernelRun0_B.sl.r_4, kernelRun0_B.sl.r_3, kernelRun0_B.sl.r_2, kernelRun0_B.sl.r_7, kernelRun0_B.sl.v121, kernelRun0_B.sl.v170, kernelRun0_B.sl.v219, rd]
  rfl

/-- Head 3's state before chunk 1, as the step reads it (case B). -/
theorem stB_1_3 : kernelRun0_B.sl.v445 c arg3 harg3 arg4 harg4 arg5 harg5 arg7 harg7 arg8 harg8 arg11 harg11 x1 x2 x3 x5 x6 xs0 = SS x1 x2 x3 x5 x6 xs0 1 3 := by
  unfold kernelRun0_B.sl.v445 kernelRun0_B.sl.HS0_7 kernelRun0_B.sl.HS0_6 kernelRun0_B.sl.HS0_5 kernelRun0_B.sl.HS0_4
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_9, kernelRun0_B.sl.r_5, kernelRun0_B.sl.r_4, kernelRun0_B.sl.r_3, kernelRun0_B.sl.r_2, kernelRun0_B.sl.r_7, kernelRun0_B.sl.v121, kernelRun0_B.sl.v170, kernelRun0_B.sl.v219, rd]
  rfl

/-- Head 0's state before chunk 2, as the step reads it (case B). -/
theorem stB_2_0 : kernelRun0_B.sl.v524 c arg3 harg3 arg4 harg4 arg5 harg5 arg7 harg7 arg8 harg8 arg11 harg11 x1 x2 x3 x5 x6 xs0 = SS x1 x2 x3 x5 x6 xs0 2 0 := by
  unfold kernelRun0_B.sl.v524 kernelRun0_B.sl.HS0_8 kernelRun0_B.sl.HS0_7 kernelRun0_B.sl.HS0_6 kernelRun0_B.sl.HS0_5
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_24, kernelRun0_B.sl.r, kernelRun0_B.sl.r_23, kernelRun0_B.sl.r_21, stB_1_0, rd]
  rfl

/-- Head 1's state before chunk 2, as the step reads it (case B). -/
theorem stB_2_1 : kernelRun0_B.sl.v573 c arg3 harg3 arg4 harg4 arg5 harg5 arg7 harg7 arg8 harg8 arg11 harg11 x1 x2 x3 x5 x6 xs0 = SS x1 x2 x3 x5 x6 xs0 2 1 := by
  unfold kernelRun0_B.sl.v573 kernelRun0_B.sl.HS0_9 kernelRun0_B.sl.HS0_8 kernelRun0_B.sl.HS0_7 kernelRun0_B.sl.HS0_6
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_26, kernelRun0_B.sl.r_24, kernelRun0_B.sl.r, kernelRun0_B.sl.r_23, kernelRun0_B.sl.r_21, stB_1_1, rd]
  rfl

/-- Head 2's state before chunk 2, as the step reads it (case B). -/
theorem stB_2_2 : kernelRun0_B.sl.v622 c arg3 harg3 arg4 harg4 arg5 harg5 arg7 harg7 arg8 harg8 arg11 harg11 x1 x2 x3 x5 x6 xs0 = SS x1 x2 x3 x5 x6 xs0 2 2 := by
  unfold kernelRun0_B.sl.v622 kernelRun0_B.sl.HS0_10 kernelRun0_B.sl.HS0_9 kernelRun0_B.sl.HS0_8 kernelRun0_B.sl.HS0_7
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_33, kernelRun0_B.sl.r_23, kernelRun0_B.sl.r, kernelRun0_B.sl.r_31, kernelRun0_B.sl.r_30, kernelRun0_B.sl.r_26, kernelRun0_B.sl.r_24, kernelRun0_B.sl.r_21, stB_1_2, rd]
  rfl

/-- Head 3's state before chunk 2, as the step reads it (case B). -/
theorem stB_2_3 : kernelRun0_B.sl.v671 c arg3 harg3 arg4 harg4 arg5 harg5 arg7 harg7 arg8 harg8 arg11 harg11 x1 x2 x3 x5 x6 xs0 = SS x1 x2 x3 x5 x6 xs0 2 3 := by
  unfold kernelRun0_B.sl.v671 kernelRun0_B.sl.HS0_11 kernelRun0_B.sl.HS0_10 kernelRun0_B.sl.HS0_9 kernelRun0_B.sl.HS0_8
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_34, kernelRun0_B.sl.r_26, kernelRun0_B.sl.r_24, kernelRun0_B.sl.r, kernelRun0_B.sl.r_23, kernelRun0_B.sl.r_21, stB_1_3, rd]
  rfl

/-- Head 0's state before chunk 3, as the step reads it (case B). -/
theorem stB_3_0 : kernelRun0_B.sl.v750 c arg3 harg3 arg4 harg4 arg5 harg5 arg7 harg7 arg8 harg8 arg11 harg11 x1 x2 x3 x5 x6 xs0 = SS x1 x2 x3 x5 x6 xs0 3 0 := by
  unfold kernelRun0_B.sl.v750 kernelRun0_B.sl.HS0_12 kernelRun0_B.sl.HS0_11 kernelRun0_B.sl.HS0_10 kernelRun0_B.sl.HS0_9
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_42, kernelRun0_B.sl.r_41, kernelRun0_B.sl.r_40, kernelRun0_B.sl.r, kernelRun0_B.sl.r_38, stB_2_0, rd]
  rfl

/-- Head 1's state before chunk 3, as the step reads it (case B). -/
theorem stB_3_1 : kernelRun0_B.sl.v799 c arg3 harg3 arg4 harg4 arg5 harg5 arg7 harg7 arg8 harg8 arg11 harg11 x1 x2 x3 x5 x6 xs0 = SS x1 x2 x3 x5 x6 xs0 3 1 := by
  unfold kernelRun0_B.sl.v799 kernelRun0_B.sl.HS0_13 kernelRun0_B.sl.HS0_12 kernelRun0_B.sl.HS0_11 kernelRun0_B.sl.HS0_10
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_45, kernelRun0_B.sl.r_40, kernelRun0_B.sl.r, kernelRun0_B.sl.r_38, stB_2_1, rd]
  rfl

/-- Head 2's state before chunk 3, as the step reads it (case B). -/
theorem stB_3_2 : kernelRun0_B.sl.v848 c arg3 harg3 arg4 harg4 arg5 harg5 arg7 harg7 arg8 harg8 arg11 harg11 x1 x2 x3 x5 x6 xs0 = SS x1 x2 x3 x5 x6 xs0 3 2 := by
  unfold kernelRun0_B.sl.v848 kernelRun0_B.sl.HS0_14 kernelRun0_B.sl.HS0_13 kernelRun0_B.sl.HS0_12 kernelRun0_B.sl.HS0_11
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_40, kernelRun0_B.sl.r, kernelRun0_B.sl.r_38, stB_2_2, rd]
  rfl

/-- Head 3's state before chunk 3, as the step reads it (case B). -/
theorem stB_3_3 : kernelRun0_B.sl.v897 c arg3 harg3 arg4 harg4 arg5 harg5 arg7 harg7 arg8 harg8 arg11 harg11 x1 x2 x3 x5 x6 xs0 = SS x1 x2 x3 x5 x6 xs0 3 3 := by
  unfold kernelRun0_B.sl.v897 kernelRun0_B.sl.HS0_15 kernelRun0_B.sl.HS0_14 kernelRun0_B.sl.HS0_13 kernelRun0_B.sl.HS0_12
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_40, kernelRun0_B.sl.r, kernelRun0_B.sl.r_38, stB_2_3, rd]
  rfl

/-- Head 0's state before chunk 4, as the step reads it (case B). -/
theorem stB_4_0 : kernelRun0_B.sl.v976 c arg3 harg3 arg4 harg4 arg5 harg5 arg7 harg7 arg8 harg8 arg11 harg11 x1 x2 x3 x5 x6 xs0 = SS x1 x2 x3 x5 x6 xs0 4 0 := by
  unfold kernelRun0_B.sl.v976 kernelRun0_B.sl.HS0_16 kernelRun0_B.sl.HS0_15 kernelRun0_B.sl.HS0_14 kernelRun0_B.sl.HS0_13
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_57, kernelRun0_B.sl.r_55, kernelRun0_B.sl.r, kernelRun0_B.sl.r_54, stB_3_0, rd]
  rfl

/-- Head 1's state before chunk 4, as the step reads it (case B). -/
theorem stB_4_1 : kernelRun0_B.sl.v1025 c arg3 harg3 arg4 harg4 arg5 harg5 arg7 harg7 arg8 harg8 arg11 harg11 x1 x2 x3 x5 x6 xs0 = SS x1 x2 x3 x5 x6 xs0 4 1 := by
  unfold kernelRun0_B.sl.v1025 kernelRun0_B.sl.HS0_17 kernelRun0_B.sl.HS0_16 kernelRun0_B.sl.HS0_15 kernelRun0_B.sl.HS0_14
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_65, kernelRun0_B.sl.r_61, kernelRun0_B.sl.r_57, kernelRun0_B.sl.r_55, kernelRun0_B.sl.r, kernelRun0_B.sl.r_54, kernelRun0_B.sl.r_59, stB_3_1, rd]
  rfl

/-- Head 2's state before chunk 4, as the step reads it (case B). -/
theorem stB_4_2 : kernelRun0_B.sl.v1074 c arg3 harg3 arg4 harg4 arg5 harg5 arg7 harg7 arg8 harg8 arg11 harg11 x1 x2 x3 x5 x6 xs0 = SS x1 x2 x3 x5 x6 xs0 4 2 := by
  unfold kernelRun0_B.sl.v1074 kernelRun0_B.sl.HS0_18 kernelRun0_B.sl.HS0_17 kernelRun0_B.sl.HS0_16 kernelRun0_B.sl.HS0_15
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_68, kernelRun0_B.sl.r_66, kernelRun0_B.sl.r_61, kernelRun0_B.sl.r_57, kernelRun0_B.sl.r_55, kernelRun0_B.sl.r, kernelRun0_B.sl.r_54, kernelRun0_B.sl.r_59, stB_3_2, rd]
  rfl

/-- Head 3's state before chunk 4, as the step reads it (case B). -/
theorem stB_4_3 : kernelRun0_B.sl.v1123 c arg3 harg3 arg4 harg4 arg5 harg5 arg7 harg7 arg8 harg8 arg11 harg11 x1 x2 x3 x5 x6 xs0 = SS x1 x2 x3 x5 x6 xs0 4 3 := by
  unfold kernelRun0_B.sl.v1123 kernelRun0_B.sl.HS0_19 kernelRun0_B.sl.HS0_18 kernelRun0_B.sl.HS0_17 kernelRun0_B.sl.HS0_16
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_69, kernelRun0_B.sl.r_61, kernelRun0_B.sl.r_57, kernelRun0_B.sl.r_55, kernelRun0_B.sl.r, kernelRun0_B.sl.r_54, kernelRun0_B.sl.r_59, stB_3_3, rd]
  rfl

/-- Head 0's state before chunk 5, as the step reads it (case B). -/
theorem stB_5_0 : kernelRun0_B.sl.v1202 c arg3 harg3 arg4 harg4 arg5 harg5 arg7 harg7 arg8 harg8 arg11 harg11 x1 x2 x3 x5 x6 xs0 = SS x1 x2 x3 x5 x6 xs0 5 0 := by
  unfold kernelRun0_B.sl.v1202 kernelRun0_B.sl.HS0_20 kernelRun0_B.sl.HS0_19 kernelRun0_B.sl.HS0_18 kernelRun0_B.sl.HS0_17
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_77, kernelRun0_B.sl.r_76, kernelRun0_B.sl.r, kernelRun0_B.sl.r_74, stB_4_0, rd]
  rfl

/-- Head 1's state before chunk 5, as the step reads it (case B). -/
theorem stB_5_1 : kernelRun0_B.sl.v1251 c arg3 harg3 arg4 harg4 arg5 harg5 arg7 harg7 arg8 harg8 arg11 harg11 x1 x2 x3 x5 x6 xs0 = SS x1 x2 x3 x5 x6 xs0 5 1 := by
  unfold kernelRun0_B.sl.v1251 kernelRun0_B.sl.HS0_21 kernelRun0_B.sl.HS0_20 kernelRun0_B.sl.HS0_19 kernelRun0_B.sl.HS0_18
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_76, kernelRun0_B.sl.r, kernelRun0_B.sl.r_74, stB_4_1, rd]
  rfl

/-- Head 2's state before chunk 5, as the step reads it (case B). -/
theorem stB_5_2 : kernelRun0_B.sl.v1300 c arg3 harg3 arg4 harg4 arg5 harg5 arg7 harg7 arg8 harg8 arg11 harg11 x1 x2 x3 x5 x6 xs0 = SS x1 x2 x3 x5 x6 xs0 5 2 := by
  unfold kernelRun0_B.sl.v1300 kernelRun0_B.sl.HS0_22 kernelRun0_B.sl.HS0_21 kernelRun0_B.sl.HS0_20 kernelRun0_B.sl.HS0_19
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_76, kernelRun0_B.sl.r, kernelRun0_B.sl.r_74, stB_4_2, rd]
  rfl

/-- Head 3's state before chunk 5, as the step reads it (case B). -/
theorem stB_5_3 : kernelRun0_B.sl.v1349 c arg3 harg3 arg4 harg4 arg5 harg5 arg7 harg7 arg8 harg8 arg11 harg11 x1 x2 x3 x5 x6 xs0 = SS x1 x2 x3 x5 x6 xs0 5 3 := by
  unfold kernelRun0_B.sl.v1349 kernelRun0_B.sl.HS0_23 kernelRun0_B.sl.HS0_22 kernelRun0_B.sl.HS0_21 kernelRun0_B.sl.HS0_20
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_86, kernelRun0_B.sl.r_76, kernelRun0_B.sl.r, kernelRun0_B.sl.r_85, kernelRun0_B.sl.r_74, stB_4_3, rd]
  rfl

/-- Head 0's state before chunk 6, as the step reads it (case B). -/
theorem stB_6_0 : kernelRun0_B.sl.v1428 c arg3 harg3 arg4 harg4 arg5 harg5 arg7 harg7 arg8 harg8 arg11 harg11 x1 x2 x3 x5 x6 xs0 = SS x1 x2 x3 x5 x6 xs0 6 0 := by
  unfold kernelRun0_B.sl.v1428 kernelRun0_B.sl.HS0_24 kernelRun0_B.sl.HS0_23 kernelRun0_B.sl.HS0_22 kernelRun0_B.sl.HS0_21
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_87, kernelRun0_B.sl.r, stB_5_0, rd]
  rfl

/-- Head 1's state before chunk 6, as the step reads it (case B). -/
theorem stB_6_1 : kernelRun0_B.sl.v1477 c arg3 harg3 arg4 harg4 arg5 harg5 arg7 harg7 arg8 harg8 arg11 harg11 x1 x2 x3 x5 x6 xs0 = SS x1 x2 x3 x5 x6 xs0 6 1 := by
  unfold kernelRun0_B.sl.v1477 kernelRun0_B.sl.HS0_25 kernelRun0_B.sl.HS0_24 kernelRun0_B.sl.HS0_23 kernelRun0_B.sl.HS0_22
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_94, kernelRun0_B.sl.r_93, kernelRun0_B.sl.r_91, kernelRun0_B.sl.r_87, kernelRun0_B.sl.r, kernelRun0_B.sl.r_89, stB_5_1, rd]
  rfl

/-- Head 2's state before chunk 6, as the step reads it (case B). -/
theorem stB_6_2 : kernelRun0_B.sl.v1526 c arg3 harg3 arg4 harg4 arg5 harg5 arg7 harg7 arg8 harg8 arg11 harg11 x1 x2 x3 x5 x6 xs0 = SS x1 x2 x3 x5 x6 xs0 6 2 := by
  unfold kernelRun0_B.sl.v1526 kernelRun0_B.sl.HS0_26 kernelRun0_B.sl.HS0_25 kernelRun0_B.sl.HS0_24 kernelRun0_B.sl.HS0_23
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_96, kernelRun0_B.sl.r_91, kernelRun0_B.sl.r_87, kernelRun0_B.sl.r, kernelRun0_B.sl.r_89, stB_5_2, rd]
  rfl

/-- Head 3's state before chunk 6, as the step reads it (case B). -/
theorem stB_6_3 : kernelRun0_B.sl.v1575 c arg3 harg3 arg4 harg4 arg5 harg5 arg7 harg7 arg8 harg8 arg11 harg11 x1 x2 x3 x5 x6 xs0 = SS x1 x2 x3 x5 x6 xs0 6 3 := by
  unfold kernelRun0_B.sl.v1575 kernelRun0_B.sl.HS0_27 kernelRun0_B.sl.HS0_26 kernelRun0_B.sl.HS0_25 kernelRun0_B.sl.HS0_24
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_91, kernelRun0_B.sl.r_87, kernelRun0_B.sl.r, kernelRun0_B.sl.r_89, stB_5_3, rd]
  rfl

/-- Head 0's state before chunk 7, as the step reads it (case B). -/
theorem stB_7_0 : kernelRun0_B.sl.v1654 c arg3 harg3 arg4 harg4 arg5 harg5 arg7 harg7 arg8 harg8 arg11 harg11 x1 x2 x3 x5 x6 xs0 = SS x1 x2 x3 x5 x6 xs0 7 0 := by
  unfold kernelRun0_B.sl.v1654 kernelRun0_B.sl.HS0_28 kernelRun0_B.sl.HS0_27 kernelRun0_B.sl.HS0_26 kernelRun0_B.sl.HS0_25
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_105, kernelRun0_B.sl.r_104, kernelRun0_B.sl.r, kernelRun0_B.sl.r_102, stB_6_0, rd]
  rfl

/-- Head 1's state before chunk 7, as the step reads it (case B). -/
theorem stB_7_1 : kernelRun0_B.sl.v1703 c arg3 harg3 arg4 harg4 arg5 harg5 arg7 harg7 arg8 harg8 arg11 harg11 x1 x2 x3 x5 x6 xs0 = SS x1 x2 x3 x5 x6 xs0 7 1 := by
  unfold kernelRun0_B.sl.v1703 kernelRun0_B.sl.HS0_29 kernelRun0_B.sl.HS0_28 kernelRun0_B.sl.HS0_27 kernelRun0_B.sl.HS0_26
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_104, kernelRun0_B.sl.r, kernelRun0_B.sl.r_102, stB_6_1, rd]
  rfl

/-- Head 2's state before chunk 7, as the step reads it (case B). -/
theorem stB_7_2 : kernelRun0_B.sl.v1752 c arg3 harg3 arg4 harg4 arg5 harg5 arg7 harg7 arg8 harg8 arg11 harg11 x1 x2 x3 x5 x6 xs0 = SS x1 x2 x3 x5 x6 xs0 7 2 := by
  unfold kernelRun0_B.sl.v1752 kernelRun0_B.sl.HS0_30 kernelRun0_B.sl.HS0_29 kernelRun0_B.sl.HS0_28 kernelRun0_B.sl.HS0_27
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_112, kernelRun0_B.sl.r_104, kernelRun0_B.sl.r, kernelRun0_B.sl.r_102, stB_6_2, rd]
  rfl

/-- Head 3's state before chunk 7, as the step reads it (case B). -/
theorem stB_7_3 : kernelRun0_B.sl.v1801 c arg3 harg3 arg4 harg4 arg5 harg5 arg7 harg7 arg8 harg8 arg11 harg11 x1 x2 x3 x5 x6 xs0 = SS x1 x2 x3 x5 x6 xs0 7 3 := by
  unfold kernelRun0_B.sl.v1801 kernelRun0_B.sl.HS0_31 kernelRun0_B.sl.HS0_30 kernelRun0_B.sl.HS0_29 kernelRun0_B.sl.HS0_28
  refine (cov_miss _ _ _ _ _ (0 : Fin 3) (by decide)).trans ?_
  refine (cov_miss _ _ _ _ _ (0 : Fin 3) (by decide)).trans ?_
  refine (cov_miss _ _ _ _ _ (0 : Fin 3) (by decide)).trans ?_
  refine (cov_hit _ _ _ _ _).trans ?_
  simp only [kernelRun0_B.sl.r_114, kernelRun0_B.sl.r_113, kernelRun0_B.sl.r_104, kernelRun0_B.sl.r, kernelRun0_B.sl.r_102, stB_6_3, rd]
  rfl

/-- The block of output the step stores for chunk 0 and head 0 (case B). -/
theorem outB_0_0 : k0_pay24 (kernelRun0_B.sl.r_1 c arg9 harg9 x7)
        (kernelRun0_B.sl.r_11 c arg2 harg2 arg3 harg3 arg4 harg4 arg5 harg5 arg7 harg7 arg8 harg8 arg11 harg11 x0 x1 x2
          x3 x5 x6 xs0)
        (View.readAt (Elt F) arg6.view (Rect.unit (s := S512x1024) ![0, 0] S64x256.size inb_S512x1024_S64x256_0_0).toLoadRect
          (harg6.unread x4)) = OY x0 x1 x2 x3 x4 x5 x6 x7 xs0 0 0 := by
  simp only [kernelRun0_B.sl.r_11, kernelRun0_B.sl.r_5, kernelRun0_B.sl.r_4, kernelRun0_B.sl.r_3, kernelRun0_B.sl.r_2, kernelRun0_B.sl.r_1, kernelRun0_B.sl.v121, kernelRun0_B.sl.v170, kernelRun0_B.sl.v219, rd]
  rfl

/-- The block of output the step stores for chunk 0 and head 1 (case B). -/
theorem outB_0_1 : k0_pay29 (kernelRun0_B.sl.r_1 c arg9 harg9 x7)
        (kernelRun0_B.sl.r_6 c arg2 harg2 arg5 harg5 arg7 harg7 arg8 harg8 x0 x3 x5 x6)
        (kernelRun0_B.sl.r_14 c arg4 harg4 x2)
        (kernelRun0_B.sl.r_15 c arg2 harg2 arg3 harg3 arg5 harg5 arg7 harg7 arg8 harg8 x0 x1 x3 x5 x6)
        (kernelRun0_B.sl.v121 c arg11 harg11 xs0)
        (View.readAt (Elt F) arg6.view (Rect.unit (s := S512x1024) ![0, 256] S64x256.size inb_S512x1024_S64x256_0_256).toLoadRect
          (harg6.unread x4)) = OY x0 x1 x2 x3 x4 x5 x6 x7 xs0 0 1 := by
  simp only [kernelRun0_B.sl.r_15, kernelRun0_B.sl.r_8, kernelRun0_B.sl.r_5, kernelRun0_B.sl.r_4, kernelRun0_B.sl.r_3, kernelRun0_B.sl.r_2, kernelRun0_B.sl.r_6, kernelRun0_B.sl.r_14, kernelRun0_B.sl.r_1, kernelRun0_B.sl.v121, kernelRun0_B.sl.v170, kernelRun0_B.sl.v219, rd]
  rfl

/-- The block of output the step stores for chunk 0 and head 2 (case B). -/
theorem outB_0_2 : k0_pay36
        (kernelRun0_B.sl.r_16 c arg2 harg2 arg3 harg3 arg4 harg4 arg5 harg5 arg7 harg7 arg8 harg8 arg9 harg9 arg11
          harg11 x0 x1 x2 x3 x5 x6 x7 xs0)
        (kernelRun0_B.sl.r_17 c arg6 harg6 x4) (kernelRun0_B.sl.r_18 c arg6 harg6 x4) = OY x0 x1 x2 x3 x4 x5 x6 x7 xs0 0 2 := by
  simp only [kernelRun0_B.sl.r_18, kernelRun0_B.sl.r_17, kernelRun0_B.sl.r_16, kernelRun0_B.sl.r_8, kernelRun0_B.sl.r_5, kernelRun0_B.sl.r_4, kernelRun0_B.sl.r_3, kernelRun0_B.sl.r_2, kernelRun0_B.sl.r_6, kernelRun0_B.sl.r_1, kernelRun0_B.sl.v121, kernelRun0_B.sl.v170, kernelRun0_B.sl.v219, rd]
  rfl

/-- The block of output the step stores for chunk 0 and head 3 (case B). -/
theorem outB_0_3 : k0_pay42 (kernelRun0_B.sl.r_1 c arg9 harg9 x7)
        (kernelRun0_B.sl.r_19 c arg2 harg2 arg3 harg3 arg4 harg4 arg5 harg5 arg7 harg7 arg8 harg8 arg11 harg11 x0 x1 x2
          x3 x5 x6 xs0)
        (kernelRun0_B.sl.r_20 c arg2 harg2 arg3 harg3 arg4 harg4 arg5 harg5 arg7 harg7 arg8 harg8 arg11 harg11 x0 x1 x2
          x3 x5 x6 xs0)
        kernelRun0_B.sl.cst_100
        (View.readAt (Elt F) arg6.view (Rect.unit (s := S512x1024) ![0, 768] S64x256.size inb_S512x1024_S64x256_0_768).toLoadRect
          (harg6.unread x4)) = OY x0 x1 x2 x3 x4 x5 x6 x7 xs0 0 3 := by
  simp only [kernelRun0_B.sl.cst_100, kernelRun0_B.sl.r_20, kernelRun0_B.sl.r_8, kernelRun0_B.sl.r_5, kernelRun0_B.sl.r_4, kernelRun0_B.sl.r_3, kernelRun0_B.sl.r_2, kernelRun0_B.sl.r_6, kernelRun0_B.sl.r_19, kernelRun0_B.sl.r_1, kernelRun0_B.sl.v121, kernelRun0_B.sl.v170, kernelRun0_B.sl.v219, rd]
  rfl

/-- The block of output the step stores for chunk 1 and head 0 (case B). -/
theorem outB_1_0 : k0_pay55
        (kernelRun0_B.sl.r_27 c arg2 harg2 arg3 harg3 arg4 harg4 arg5 harg5 arg7 harg7 arg8 harg8 arg9 harg9 arg11
          harg11 x0 x1 x2 x3 x5 x6 x7 xs0)
        (View.readAt (Elt F) arg6.view (Rect.unit (s := S512x1024) ![64, 0] S64x256.size inb_S512x1024_S64x256_64_0).toLoadRect
          (harg6.unread x4)) = OY x0 x1 x2 x3 x4 x5 x6 x7 xs0 1 0 := by
  simp only [kernelRun0_B.sl.r_27, kernelRun0_B.sl.r_24, kernelRun0_B.sl.r, kernelRun0_B.sl.r_22, kernelRun0_B.sl.r_21, kernelRun0_B.sl.r_1, stB_1_0, rd]
  rfl

/-- The block of output the step stores for chunk 1 and head 1 (case B). -/
theorem outB_1_1 : k0_pay61 (kernelRun0_B.sl.r_1 c arg9 harg9 x7)
        (kernelRun0_B.sl.r_28 c arg2 harg2 arg3 harg3 arg4 harg4 arg5 harg5 arg7 harg7 arg8 harg8 arg11 harg11 x0 x1 x2
          x3 x5 x6 xs0)
        (kernelRun0_B.sl.r_29 c arg2 harg2 arg3 harg3 arg4 harg4 arg5 harg5 arg7 harg7 arg8 harg8 arg11 harg11 x0 x1 x2
          x3 x5 x6 xs0)
        (View.readAt (Elt F) arg6.view (Rect.unit (s := S512x1024) ![64, 256] S64x256.size inb_S512x1024_S64x256_64_256).toLoadRect
          (harg6.unread x4)) = OY x0 x1 x2 x3 x4 x5 x6 x7 xs0 1 1 := by
  simp only [kernelRun0_B.sl.r_29, kernelRun0_B.sl.r_25, kernelRun0_B.sl.r_24, kernelRun0_B.sl.r, kernelRun0_B.sl.r_21, kernelRun0_B.sl.r_22, kernelRun0_B.sl.r_28, kernelRun0_B.sl.r_1, stB_1_1, rd]
  rfl

/-- The block of output the step stores for chunk 1 and head 2 (case B). -/
theorem outB_1_2 : k0_pay67 (kernelRun0_B.sl.r_1 c arg9 harg9 x7)
        (kernelRun0_B.sl.r_32 c arg2 harg2 arg3 harg3 arg4 harg4 arg5 harg5 arg7 harg7 arg8 harg8 arg11 harg11 x0 x1 x2
          x3 x5 x6 xs0)
        (View.readAt (Elt F) arg6.view (Rect.unit (s := S512x1024) ![64, 512] S64x256.size inb_S512x1024_S64x256_64_512).toLoadRect
          (harg6.unread x4)) = OY x0 x1 x2 x3 x4 x5 x6 x7 xs0 1 2 := by
  simp only [kernelRun0_B.sl.r_32, kernelRun0_B.sl.r_25, kernelRun0_B.sl.r_24, kernelRun0_B.sl.r, kernelRun0_B.sl.r_21, kernelRun0_B.sl.r_22, kernelRun0_B.sl.r_1, stB_1_2, rd]
  rfl

/-- The block of output the step stores for chunk 1 and head 3 (case B). -/
theorem outB_1_3 : kernelRun0_B.sl.r_36 c arg2 harg2 arg3 harg3 arg4 harg4 arg5 harg5 arg6 harg6 arg7 harg7 arg8 harg8 arg9 harg9
        arg11 harg11 x0 x1 x2 x3 x4 x5 x6 x7 xs0 = OY x0 x1 x2 x3 x4 x5 x6 x7 xs0 1 3 := by
  simp only [kernelRun0_B.sl.r_36, kernelRun0_B.sl.r_35, kernelRun0_B.sl.r_25, kernelRun0_B.sl.r_24, kernelRun0_B.sl.r, kernelRun0_B.sl.r_21, kernelRun0_B.sl.r_22, kernelRun0_B.sl.r_34, kernelRun0_B.sl.r_1, stB_1_3, rd]
  rfl

/-- The block of output the step stores for chunk 2 and head 0 (case B). -/
theorem outB_2_0 : k0_pay84 (kernelRun0_B.sl.r_1 c arg9 harg9 x7)
        (kernelRun0_B.sl.r_42 c arg3 harg3 arg4 harg4 arg5 harg5 arg7 harg7 arg8 harg8 arg11 harg11 x1 x2 x3 x5 x6 xs0)
        (kernelRun0_B.sl.r_43 c arg2 harg2 arg3 harg3 arg4 harg4 arg5 harg5 arg7 harg7 arg8 harg8 x0 x1 x2 x3 x5 x6)
        (kernelRun0_B.sl.r_44 c arg2 harg2 arg5 harg5 arg7 harg7 arg8 harg8 x0 x3 x5 x6)
        (View.readAt (Elt F) arg6.view (Rect.unit (s := S512x1024) ![128, 0] S64x256.size inb_S512x1024_S64x256_128_0).toLoadRect
          (harg6.unread x4)) = OY x0 x1 x2 x3 x4 x5 x6 x7 xs0 2 0 := by
  simp only [kernelRun0_B.sl.r_44, kernelRun0_B.sl.r, kernelRun0_B.sl.r_43, kernelRun0_B.sl.r_42, kernelRun0_B.sl.r_1, stB_2_0, rd]
  rfl

/-- The block of output the step stores for chunk 2 and head 1 (case B). -/
theorem outB_2_1 : k0_pay94
        (kernelRun0_B.sl.r_48 c arg2 harg2 arg3 harg3 arg4 harg4 arg5 harg5 arg7 harg7 arg8 harg8 arg9 harg9 arg11
          harg11 x0 x1 x2 x3 x5 x6 x7 xs0)
        (kernelRun0_B.sl.r_49 c arg6 harg6 x4) (kernelRun0_B.sl.r_50 c arg6 harg6 x4) k0_pay93 = OY x0 x1 x2 x3 x4 x5 x6 x7 xs0 2 1 := by
  simp only [kernelRun0_B.sl.r_50, kernelRun0_B.sl.r_49, kernelRun0_B.sl.r_48, kernelRun0_B.sl.r_47, kernelRun0_B.sl.r_39, kernelRun0_B.sl.r, kernelRun0_B.sl.r_46, kernelRun0_B.sl.r_37, kernelRun0_B.sl.r_45, kernelRun0_B.sl.r_1, stB_2_1, rd]
  rfl

/-- The block of output the step stores for chunk 2 and head 2 (case B). -/
theorem outB_2_2 : k0_pay100
        (kernelRun0_B.sl.r_51 c arg2 harg2 arg3 harg3 arg4 harg4 arg5 harg5 arg7 harg7 arg8 harg8 arg11 harg11 x0 x1 x2
          x3 x5 x6 xs0)
        (kernelRun0_B.sl.r_52 c arg9 harg9 x7)
        (View.readAt (Elt F) arg6.view (Rect.unit (s := S512x1024) ![128, 512] S64x256.size inb_S512x1024_S64x256_128_512).toLoadRect
          (harg6.unread x4)) = OY x0 x1 x2 x3 x4 x5 x6 x7 xs0 2 2 := by
  simp only [kernelRun0_B.sl.r_52, kernelRun0_B.sl.r_1, kernelRun0_B.sl.r_51, kernelRun0_B.sl.r_39, kernelRun0_B.sl.r, kernelRun0_B.sl.r_37, stB_2_2, rd]
  rfl

/-- The block of output the step stores for chunk 2 and head 3 (case B). -/
theorem outB_2_3 : k0_pay105 (kernelRun0_B.sl.r_1 c arg9 harg9 x7)
        (kernelRun0_B.sl.r_53 c arg2 harg2 arg3 harg3 arg4 harg4 arg5 harg5 arg7 harg7 arg8 harg8 arg11 harg11 x0 x1 x2
          x3 x5 x6 xs0)
        (View.readAt (Elt F) arg6.view (Rect.unit (s := S512x1024) ![128, 768] S64x256.size inb_S512x1024_S64x256_128_768).toLoadRect
          (harg6.unread x4)) = OY x0 x1 x2 x3 x4 x5 x6 x7 xs0 2 3 := by
  simp only [kernelRun0_B.sl.r_53, kernelRun0_B.sl.r_39, kernelRun0_B.sl.r, kernelRun0_B.sl.r_37, kernelRun0_B.sl.r_1, stB_2_3, rd]
  rfl

/-- The block of output the step stores for chunk 3 and head 0 (case B). -/
theorem outB_3_0 : k0_pay119 (kernelRun0_B.sl.r_1 c arg9 harg9 x7)
        (kernelRun0_B.sl.r_62 c arg2 harg2 arg3 harg3 arg4 harg4 arg5 harg5 arg7 harg7 arg8 harg8 arg11 harg11 x0 x1 x2
          x3 x5 x6 xs0)
        (kernelRun0_B.sl.r_63 c arg2 harg2 arg3 harg3 arg4 harg4 arg5 harg5 arg7 harg7 arg8 harg8 arg11 harg11 x0 x1 x2
          x3 x5 x6 xs0)
        kernelRun0_B.sl.cst_100
        (View.readAt (Elt F) arg6.view (Rect.unit (s := S512x1024) ![192, 0] S64x256.size inb_S512x1024_S64x256_192_0).toLoadRect
          (harg6.unread x4)) = OY x0 x1 x2 x3 x4 x5 x6 x7 xs0 3 0 := by
  simp only [kernelRun0_B.sl.cst_100, kernelRun0_B.sl.r_63, kernelRun0_B.sl.r_57, kernelRun0_B.sl.r_56, kernelRun0_B.sl.r_54, kernelRun0_B.sl.r, kernelRun0_B.sl.r_62, kernelRun0_B.sl.r_1, stB_3_0, rd]
  rfl

/-- The block of output the step stores for chunk 3 and head 1 (case B). -/
theorem outB_3_1 : k0_pay125 (kernelRun0_B.sl.r_1 c arg9 harg9 x7)
        (kernelRun0_B.sl.r_64 c arg2 harg2 arg3 harg3 arg4 harg4 arg5 harg5 arg7 harg7 arg8 harg8 arg11 harg11 x0 x1 x2
          x3 x5 x6 xs0)
        (View.readAt (Elt F) arg6.view (Rect.unit (s := S512x1024) ![192, 256] S64x256.size inb_S512x1024_S64x256_192_256).toLoadRect
          (harg6.unread x4)) = OY x0 x1 x2 x3 x4 x5 x6 x7 xs0 3 1 := by
  simp only [kernelRun0_B.sl.r_64, kernelRun0_B.sl.r_60, kernelRun0_B.sl.r_57, kernelRun0_B.sl.r_54, kernelRun0_B.sl.r, kernelRun0_B.sl.r_58, kernelRun0_B.sl.r_56, kernelRun0_B.sl.r_1, stB_3_1, rd]
  rfl

/-- The block of output the step stores for chunk 3 and head 2 (case B). -/
theorem outB_3_2 : k0_pay130 (kernelRun0_B.sl.r_1 c arg9 harg9 x7)
        (kernelRun0_B.sl.r_58 c arg2 harg2 arg5 harg5 arg7 harg7 arg8 harg8 x0 x3 x5 x6)
        (kernelRun0_B.sl.r_66 c arg4 harg4 x2)
        (kernelRun0_B.sl.r_67 c arg2 harg2 arg3 harg3 arg5 harg5 arg7 harg7 arg8 harg8 x0 x1 x3 x5 x6)
        (kernelRun0_B.sl.r_68 c arg3 harg3 arg4 harg4 arg5 harg5 arg7 harg7 arg8 harg8 arg11 harg11 x1 x2 x3 x5 x6 xs0)
        kernelRun0_B.sl.cst_366
        (View.readAt (Elt F) arg6.view (Rect.unit (s := S512x1024) ![192, 512] S64x256.size inb_S512x1024_S64x256_192_512).toLoadRect
          (harg6.unread x4)) = OY x0 x1 x2 x3 x4 x5 x6 x7 xs0 3 2 := by
  simp only [kernelRun0_B.sl.cst_366, kernelRun0_B.sl.r_68, kernelRun0_B.sl.r_67, kernelRun0_B.sl.r_60, kernelRun0_B.sl.r_57, kernelRun0_B.sl.r_54, kernelRun0_B.sl.r, kernelRun0_B.sl.r_58, kernelRun0_B.sl.r_56, kernelRun0_B.sl.r_66, kernelRun0_B.sl.r_1, stB_3_2, rd]
  rfl

/-- The block of output the step stores for chunk 3 and head 3 (case B). -/
theorem outB_3_3 : k0_pay137
        (kernelRun0_B.sl.r_70 c arg2 harg2 arg3 harg3 arg4 harg4 arg5 harg5 arg7 harg7 arg8 harg8 arg9 harg9 arg11
          harg11 x0 x1 x2 x3 x5 x6 x7 xs0)
        (kernelRun0_B.sl.r_71 c arg6 harg6 x4) (kernelRun0_B.sl.r_72 c arg6 harg6 x4) = OY x0 x1 x2 x3 x4 x5 x6 x7 xs0 3 3 := by
  simp only [kernelRun0_B.sl.r_72, kernelRun0_B.sl.r_71, kernelRun0_B.sl.r_70, kernelRun0_B.sl.r_69, kernelRun0_B.sl.r_60, kernelRun0_B.sl.r_57, kernelRun0_B.sl.r_54, kernelRun0_B.sl.r, kernelRun0_B.sl.r_58, kernelRun0_B.sl.r_56, kernelRun0_B.sl.r_1, stB_3_3, rd]
  rfl

/-- The block of output the step stores for chunk 4 and head 0 (case B). -/
theorem outB_4_0 : kernelRun0_B.sl.r_79 c arg2 harg2 arg3 harg3 arg4 harg4 arg5 harg5 arg6 harg6 arg7 harg7 arg8 harg8 arg9 harg9
        arg11 harg11 x0 x1 x2 x3 x4 x5 x6 x7 xs0 = OY x0 x1 x2 x3 x4 x5 x6 x7 xs0 4 0 := by
  simp only [kernelRun0_B.sl.r_79, kernelRun0_B.sl.r_78, kernelRun0_B.sl.r, kernelRun0_B.sl.r_77, kernelRun0_B.sl.r_73, kernelRun0_B.sl.r_1, stB_4_0, rd]
  rfl

/-- The block of output the step stores for chunk 4 and head 1 (case B). -/
theorem outB_4_1 : k0_pay154
        (kernelRun0_B.sl.r_80 c arg2 harg2 arg3 harg3 arg4 harg4 arg5 harg5 arg7 harg7 arg8 harg8 arg9 harg9 arg11
          harg11 x0 x1 x2 x3 x5 x6 x7 xs0)
        (kernelRun0_B.sl.r_81 c arg6 harg6 x4) kernelRun0_B.sl.cst_454 = OY x0 x1 x2 x3 x4 x5 x6 x7 xs0 4 1 := by
  simp only [kernelRun0_B.sl.cst_454, kernelRun0_B.sl.r_81, kernelRun0_B.sl.r_80, kernelRun0_B.sl.r_75, kernelRun0_B.sl.r, kernelRun0_B.sl.r_73, kernelRun0_B.sl.r_1, stB_4_1, rd]
  rfl

/-- The block of output the step stores for chunk 4 and head 2 (case B). -/
theorem outB_4_2 : k0_pay161 (kernelRun0_B.sl.r_1 c arg9 harg9 x7)
        (kernelRun0_B.sl.r_82 c arg2 harg2 arg3 harg3 arg4 harg4 arg5 harg5 arg7 harg7 arg8 harg8 arg11 harg11 x0 x1 x2
          x3 x5 x6 xs0)
        (kernelRun0_B.sl.r_83 c arg2 harg2 arg3 harg3 arg4 harg4 arg5 harg5 arg7 harg7 arg8 harg8 arg11 harg11 x0 x1 x2
          x3 x5 x6 xs0)
        k0_pay160
        (View.readAt (Elt F) arg6.view (Rect.unit (s := S512x1024) ![256, 512] S64x256.size inb_S512x1024_S64x256_256_512).toLoadRect
          (harg6.unread x4)) = OY x0 x1 x2 x3 x4 x5 x6 x7 xs0 4 2 := by
  simp only [kernelRun0_B.sl.r_83, kernelRun0_B.sl.r_75, kernelRun0_B.sl.r, kernelRun0_B.sl.r_73, kernelRun0_B.sl.r_82, kernelRun0_B.sl.r_1, stB_4_2, rd]
  rfl

/-- The block of output the step stores for chunk 4 and head 3 (case B). -/
theorem outB_4_3 : k0_pay168 (kernelRun0_B.sl.r_1 c arg9 harg9 x7)
        (kernelRun0_B.sl.r_84 c arg2 harg2 arg3 harg3 arg4 harg4 arg5 harg5 arg7 harg7 arg8 harg8 arg11 harg11 x0 x1 x2
          x3 x5 x6 xs0)
        (View.readAt (Elt F) arg6.view (Rect.unit (s := S512x1024) ![256, 768] S64x256.size inb_S512x1024_S64x256_256_768).toLoadRect
          (harg6.unread x4)) = OY x0 x1 x2 x3 x4 x5 x6 x7 xs0 4 3 := by
  simp only [kernelRun0_B.sl.r_84, kernelRun0_B.sl.r_75, kernelRun0_B.sl.r, kernelRun0_B.sl.r_73, kernelRun0_B.sl.r_1, stB_4_3, rd]
  rfl

/-- The block of output the step stores for chunk 5 and head 0 (case B). -/
theorem outB_5_0 : k0_pay179 (kernelRun0_B.sl.r_1 c arg9 harg9 x7)
        (kernelRun0_B.sl.r_92 c arg2 harg2 arg3 harg3 arg4 harg4 arg5 harg5 arg7 harg7 arg8 harg8 arg11 harg11 x0 x1 x2
          x3 x5 x6 xs0)
        (View.readAt (Elt F) arg6.view (Rect.unit (s := S512x1024) ![320, 0] S64x256.size inb_S512x1024_S64x256_320_0).toLoadRect
          (harg6.unread x4)) = OY x0 x1 x2 x3 x4 x5 x6 x7 xs0 5 0 := by
  simp only [kernelRun0_B.sl.r_92, kernelRun0_B.sl.r_87, kernelRun0_B.sl.r, kernelRun0_B.sl.r_1, stB_5_0, rd]
  rfl

/-- The block of output the step stores for chunk 5 and head 1 (case B). -/
theorem outB_5_1 : k0_pay184 (kernelRun0_B.sl.r_1 c arg9 harg9 x7)
        (kernelRun0_B.sl.r_95 c arg2 harg2 arg3 harg3 arg4 harg4 arg5 harg5 arg7 harg7 arg8 harg8 arg11 harg11 x0 x1 x2
          x3 x5 x6 xs0)
        (View.readAt (Elt F) arg6.view (Rect.unit (s := S512x1024) ![320, 256] S64x256.size inb_S512x1024_S64x256_320_256).toLoadRect
          (harg6.unread x4)) = OY x0 x1 x2 x3 x4 x5 x6 x7 xs0 5 1 := by
  simp only [kernelRun0_B.sl.r_95, kernelRun0_B.sl.r_90, kernelRun0_B.sl.r_87, kernelRun0_B.sl.r, kernelRun0_B.sl.r_88, kernelRun0_B.sl.r_1, stB_5_1, rd]
  rfl

/-- The block of output the step stores for chunk 5 and head 2 (case B). -/
theorem outB_5_2 : kernelRun0_B.sl.r_98 c arg2 harg2 arg3 harg3 arg4 harg4 arg5 harg5 arg6 harg6 arg7 harg7 arg8 harg8 arg9 harg9
        arg11 harg11 x0 x1 x2 x3 x4 x5 x6 x7 xs0 = OY x0 x1 x2 x3 x4 x5 x6 x7 xs0 5 2 := by
  simp only [kernelRun0_B.sl.r_98, kernelRun0_B.sl.r_97, kernelRun0_B.sl.r_90, kernelRun0_B.sl.r_87, kernelRun0_B.sl.r, kernelRun0_B.sl.r_88, kernelRun0_B.sl.r_96, kernelRun0_B.sl.r_1, stB_5_2, rd]
  rfl

/-- The block of output the step stores for chunk 5 and head 3 (case B). -/
theorem outB_5_3 : k0_pay195
        (kernelRun0_B.sl.r_99 c arg2 harg2 arg3 harg3 arg4 harg4 arg5 harg5 arg7 harg7 arg8 harg8 arg9 harg9 arg11
          harg11 x0 x1 x2 x3 x5 x6 x7 xs0)
        (kernelRun0_B.sl.r_100 c arg6 harg6 x4) = OY x0 x1 x2 x3 x4 x5 x6 x7 xs0 5 3 := by
  simp only [kernelRun0_B.sl.r_100, kernelRun0_B.sl.r_99, kernelRun0_B.sl.r_90, kernelRun0_B.sl.r_87, kernelRun0_B.sl.r, kernelRun0_B.sl.r_88, kernelRun0_B.sl.r_1, stB_5_3, rd]
  rfl

/-- The block of output the step stores for chunk 6 and head 0 (case B). -/
theorem outB_6_0 : k0_pay208
        (kernelRun0_B.sl.r_106 c arg2 harg2 arg3 harg3 arg4 harg4 arg5 harg5 arg7 harg7 arg8 harg8 arg9 harg9 arg11
          harg11 x0 x1 x2 x3 x5 x6 x7 xs0)
        (kernelRun0_B.sl.r_107 c arg6 harg6 x4) (kernelRun0_B.sl.r_108 c arg6 harg6 x4) = OY x0 x1 x2 x3 x4 x5 x6 x7 xs0 6 0 := by
  simp only [kernelRun0_B.sl.r_108, kernelRun0_B.sl.r_107, kernelRun0_B.sl.r_106, kernelRun0_B.sl.r_105, kernelRun0_B.sl.r_103, kernelRun0_B.sl.r, kernelRun0_B.sl.r_101, kernelRun0_B.sl.r_1, stB_6_0, rd]
  rfl

/-- The block of output the step stores for chunk 6 and head 1 (case B). -/
theorem outB_6_1 : k0_pay214 (kernelRun0_B.sl.r_1 c arg9 harg9 x7)
        (kernelRun0_B.sl.r_109 c arg2 harg2 arg3 harg3 arg4 harg4 arg5 harg5 arg7 harg7 arg8 harg8 arg11 harg11 x0 x1 x2
          x3 x5 x6 xs0)
        (kernelRun0_B.sl.r_110 c arg2 harg2 arg3 harg3 arg4 harg4 arg5 harg5 arg7 harg7 arg8 harg8 arg11 harg11 x0 x1 x2
          x3 x5 x6 xs0)
        (View.readAt (Elt F) arg6.view (Rect.unit (s := S512x1024) ![384, 256] S64x256.size inb_S512x1024_S64x256_384_256).toLoadRect
          (harg6.unread x4)) = OY x0 x1 x2 x3 x4 x5 x6 x7 xs0 6 1 := by
  simp only [kernelRun0_B.sl.r_110, kernelRun0_B.sl.r_103, kernelRun0_B.sl.r, kernelRun0_B.sl.r_101, kernelRun0_B.sl.r_109, kernelRun0_B.sl.r_1, stB_6_1, rd]
  rfl

/-- The block of output the step stores for chunk 6 and head 2 (case B). -/
theorem outB_6_2 : k0_pay220 (kernelRun0_B.sl.r_1 c arg9 harg9 x7)
        (kernelRun0_B.sl.r_111 c arg2 harg2 arg3 harg3 arg4 harg4 arg5 harg5 arg7 harg7 arg8 harg8 arg11 harg11 x0 x1 x2
          x3 x5 x6 xs0)
        (View.readAt (Elt F) arg6.view (Rect.unit (s := S512x1024) ![384, 512] S64x256.size inb_S512x1024_S64x256_384_512).toLoadRect
          (harg6.unread x4)) = OY x0 x1 x2 x3 x4 x5 x6 x7 xs0 6 2 := by
  simp only [kernelRun0_B.sl.r_111, kernelRun0_B.sl.r_103, kernelRun0_B.sl.r, kernelRun0_B.sl.r_101, kernelRun0_B.sl.r_1, stB_6_2, rd]
  rfl

/-- The block of output the step stores for chunk 6 and head 3 (case B). -/
theorem outB_6_3 : k0_pay227 (kernelRun0_B.sl.r_1 c arg9 harg9 x7)
        (kernelRun0_B.sl.r_115 c arg2 harg2 arg3 harg3 arg4 harg4 arg5 harg5 arg7 harg7 arg8 harg8 x0 x1 x2 x3 x5 x6)
        (kernelRun0_B.sl.r_116 c arg2 harg2 arg5 harg5 arg7 harg7 arg8 harg8 x0 x3 x5 x6)
        (kernelRun0_B.sl.r_117 c arg3 harg3 arg4 harg4 arg5 harg5 arg7 harg7 arg8 harg8 arg11 harg11 x1 x2 x3 x5 x6 xs0)
        kernelRun0_B.sl.cst_366
        (View.readAt (Elt F) arg6.view (Rect.unit (s := S512x1024) ![384, 768] S64x256.size inb_S512x1024_S64x256_384_768).toLoadRect
          (harg6.unread x4)) = OY x0 x1 x2 x3 x4 x5 x6 x7 xs0 6 3 := by
  simp only [kernelRun0_B.sl.cst_366, kernelRun0_B.sl.r_117, kernelRun0_B.sl.r_116, kernelRun0_B.sl.r_101, kernelRun0_B.sl.r, kernelRun0_B.sl.r_115, kernelRun0_B.sl.r_103, kernelRun0_B.sl.r_1, stB_6_3, rd]
  rfl

/-- The block of output the step stores for chunk 7 and head 0 (case B). -/
theorem outB_7_0 : k0_pay245 (kernelRun0_B.sl.r_1 c arg9 harg9 x7)
        (kernelRun0_B.sl.r_125 c arg2 harg2 arg3 harg3 arg4 harg4 arg5 harg5 arg7 harg7 arg8 harg8 arg11 harg11 x0 x1 x2
          x3 x5 x6 xs0)
        (View.readAt (Elt F) arg6.view (Rect.unit (s := S512x1024) ![448, 0] S64x256.size inb_S512x1024_S64x256_448_0).toLoadRect
          (harg6.unread x4)) = OY x0 x1 x2 x3 x4 x5 x6 x7 xs0 7 0 := by
  simp only [kernelRun0_B.sl.r_125, kernelRun0_B.sl.r_120, kernelRun0_B.sl.r, kernelRun0_B.sl.r_119, kernelRun0_B.sl.r_118, kernelRun0_B.sl.r_1, stB_7_0, rd]
  rfl

/-- The block of output the step stores for chunk 7 and head 1 (case B). -/
theorem outB_7_1 : k0_pay250 (kernelRun0_B.sl.r_1 c arg9 harg9 x7)
        (kernelRun0_B.sl.r_121 c arg2 harg2 arg5 harg5 arg7 harg7 arg8 harg8 x0 x3 x5 x6)
        (kernelRun0_B.sl.r_128 c arg4 harg4 x2)
        (kernelRun0_B.sl.r_129 c arg2 harg2 arg3 harg3 arg5 harg5 arg7 harg7 arg8 harg8 x0 x1 x3 x5 x6)
        (kernelRun0_B.sl.v1703 c arg3 harg3 arg4 harg4 arg5 harg5 arg7 harg7 arg8 harg8 arg11 harg11 x1 x2 x3 x5 x6 xs0)
        (View.readAt (Elt F) arg6.view (Rect.unit (s := S512x1024) ![448, 256] S64x256.size inb_S512x1024_S64x256_448_256).toLoadRect
          (harg6.unread x4)) = OY x0 x1 x2 x3 x4 x5 x6 x7 xs0 7 1 := by
  simp only [kernelRun0_B.sl.r_129, kernelRun0_B.sl.r_123, kernelRun0_B.sl.r_120, kernelRun0_B.sl.r, kernelRun0_B.sl.r_119, kernelRun0_B.sl.r_118, kernelRun0_B.sl.r_121, kernelRun0_B.sl.r_128, kernelRun0_B.sl.r_1, stB_7_1, rd]
  rfl

/-- The block of output the step stores for chunk 7 and head 2 (case B). -/
theorem outB_7_2 : k0_pay257
        (kernelRun0_B.sl.r_130 c arg2 harg2 arg3 harg3 arg4 harg4 arg5 harg5 arg7 harg7 arg8 harg8 arg9 harg9 arg11
          harg11 x0 x1 x2 x3 x5 x6 x7 xs0)
        (kernelRun0_B.sl.r_131 c arg6 harg6 x4) (kernelRun0_B.sl.r_132 c arg6 harg6 x4) kernelRun0_B.sl.cst_454 = OY x0 x1 x2 x3 x4 x5 x6 x7 xs0 7 2 := by
  simp only [kernelRun0_B.sl.cst_454, kernelRun0_B.sl.r_132, kernelRun0_B.sl.r_131, kernelRun0_B.sl.r_130, kernelRun0_B.sl.r_123, kernelRun0_B.sl.r_120, kernelRun0_B.sl.r, kernelRun0_B.sl.r_119, kernelRun0_B.sl.r_118, kernelRun0_B.sl.r_121, kernelRun0_B.sl.r_1, stB_7_2, rd]
  rfl

/-- The block of output the step stores for chunk 7 and head 3 (case B). -/
theorem outB_7_3 : k0_pay1
        (kernelRun0_B.sl.r_135 c arg2 harg2 arg3 harg3 arg4 harg4 arg5 harg5 arg7 harg7 arg8 harg8 arg9 harg9 arg11
          harg11 x0 x1 x2 x3 x5 x6 x7 xs0)
        (kernelRun0_B.sl.r_136 c arg6 harg6 x4) (kernelRun0_B.sl.r_137 c arg6 harg6 x4) k0_pay266 = OY x0 x1 x2 x3 x4 x5 x6 x7 xs0 7 3 := by
  simp only [kernelRun0_B.sl.r_137, kernelRun0_B.sl.r_136, kernelRun0_B.sl.r_135, kernelRun0_B.sl.r_134, kernelRun0_B.sl.r_123, kernelRun0_B.sl.r_120, kernelRun0_B.sl.r, kernelRun0_B.sl.r_119, kernelRun0_B.sl.r_118, kernelRun0_B.sl.r_121, kernelRun0_B.sl.r_133, kernelRun0_B.sl.r_1, stB_7_3, rd]
  rfl

/-- Head 0's state after the step (case B). -/
theorem stB_8_0 : k0_pay244
      (kernelRun0_B.sl.r_126 c arg3 harg3 arg4 harg4 arg5 harg5 arg7 harg7 arg8 harg8 arg11 harg11 x1 x2 x3 x5 x6 xs0)
      (kernelRun0_B.sl.r_127 c arg3 harg3 arg4 harg4 arg5 harg5 arg7 harg7 arg8 harg8 x1 x2 x3 x5 x6) = SS x1 x2 x3 x5 x6 xs0 8 0 := by
  simp only [kernelRun0_B.sl.r_127, kernelRun0_B.sl.r_120, kernelRun0_B.sl.r, kernelRun0_B.sl.r_119, kernelRun0_B.sl.r_118, kernelRun0_B.sl.r_126, stB_7_0, rd]
  rfl

/-- Head 1's state after the step (case B). -/
theorem stB_8_1 : k0_pay249 (kernelRun0_B.sl.r_122 c arg5 harg5 arg7 harg7 arg8 harg8 x3 x5 x6)
      (kernelRun0_B.sl.r_124 c arg3 harg3 arg5 harg5 arg7 harg7 arg8 harg8 x1 x3 x5 x6)
      (kernelRun0_B.sl.r_128 c arg4 harg4 x2)
      (kernelRun0_B.sl.v1703 c arg3 harg3 arg4 harg4 arg5 harg5 arg7 harg7 arg8 harg8 arg11 harg11 x1 x2 x3 x5 x6
        xs0) = SS x1 x2 x3 x5 x6 xs0 8 1 := by
  simp only [kernelRun0_B.sl.r_128, kernelRun0_B.sl.r_124, kernelRun0_B.sl.r_120, kernelRun0_B.sl.r, kernelRun0_B.sl.r_119, kernelRun0_B.sl.r_118, kernelRun0_B.sl.r_122, stB_7_1, rd]
  rfl

/-- Head 2's state after the step (case B). -/
theorem stB_8_2 : k0_pay253 (kernelRun0_B.sl.r_122 c arg5 harg5 arg7 harg7 arg8 harg8 x3 x5 x6)
      (kernelRun0_B.sl.r_124 c arg3 harg3 arg5 harg5 arg7 harg7 arg8 harg8 x1 x3 x5 x6)
      (View.readAt (Elt F) arg4.view (Rect.unit (s := S512x1024) ![448, 512] S64x256.size inb_S512x1024_S64x256_448_512).toLoadRect
        (harg4.unread x2))
      (kernelRun0_B.sl.v1752 c arg3 harg3 arg4 harg4 arg5 harg5 arg7 harg7 arg8 harg8 arg11 harg11 x1 x2 x3 x5 x6
        xs0) = SS x1 x2 x3 x5 x6 xs0 8 2 := by
  simp only [kernelRun0_B.sl.r_124, kernelRun0_B.sl.r_120, kernelRun0_B.sl.r, kernelRun0_B.sl.r_119, kernelRun0_B.sl.r_118, kernelRun0_B.sl.r_122, stB_7_2, rd]
  rfl

/-- Head 3's state after the step (case B). -/
theorem stB_8_3 : k0_pay261 (kernelRun0_B.sl.r_122 c arg5 harg5 arg7 harg7 arg8 harg8 x3 x5 x6)
          (kernelRun0_B.sl.r_124 c arg3 harg3 arg5 harg5 arg7 harg7 arg8 harg8 x1 x3 x5 x6)
          (View.readAt (Elt F) arg4.view (Rect.unit (s := S512x1024) ![448, 768] S64x256.size inb_S512x1024_S64x256_448_768).toLoadRect
            (harg4.unread x2))
          (kernelRun0_B.sl.v1801 c arg3 harg3 arg4 harg4 arg5 harg5 arg7 harg7 arg8 harg8 arg11 harg11 x1 x2 x3 x5 x6
            xs0) = SS x1 x2 x3 x5 x6 xs0 8 3 := by
  simp only [kernelRun0_B.sl.r_124, kernelRun0_B.sl.r_120, kernelRun0_B.sl.r, kernelRun0_B.sl.r_119, kernelRun0_B.sl.r_118, kernelRun0_B.sl.r_122, stB_7_3, rd]
  rfl

end Cert.KernelIdeal.Block
-- ==== Proof.BlockOut.lean ====
module

public import proofs.«01_k».proof.Proof.StateA
public import proofs.«01_k».proof.Proof.StateB
public import Idealize.ShloMosaic.Lib.Pointwise.Index
public import Idealize.ShloMosaic.Lib.Writes

/-! A grid step's output block and the state it leaves, read at an index. -/

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.ShloMosaic.Pipeline

variable {F : FTy → Type} [FloatOps F]

variable {c : Dev nD} {i : grid0.Coords} {arg2 : Memref sig .tc .vmem S512x512 .f32} {harg2 : arg2.IsWhole} {arg3 : Memref sig .tc .vmem S512x512 .f32} {harg3 : arg3.IsWhole} {arg4 : Memref sig .tc .vmem S512x1024 .bf16} {harg4 : arg4.IsWhole} {arg5 : Memref sig .tc .vmem S512x128 .f32} {harg5 : arg5.IsWhole} {arg6 : Memref sig .tc .vmem S512x1024 .f32} {harg6 : arg6.IsWhole} {arg7 : Memref sig .tc .vmem S128x512 .bf16} {harg7 : arg7.IsWhole} {arg8 : Memref sig .tc .vmem S1x512 .f32} {harg8 : arg8.IsWhole} {arg9 : Memref sig .tc .vmem S1x256 .f32} {harg9 : arg9.IsWhole} {arg10 : Memref sig .tc .vmem S512x1024 .bf16} {harg10 : arg10.IsWhole} {arg11 : Memref sig .tc .vmem S4x256x128 .f32} {harg11 : arg11.IsWhole}
    {x0 : Vec F S512x512 .f32} {x1 : Vec F S512x512 .f32} {x2 : Vec F S512x1024 .bf16} {x3 : Vec F S512x128 .f32} {x4 : Vec F S512x1024 .f32} {x5 : Vec F S128x512 .bf16} {x6 : Vec F S1x512 .f32} {x7 : Vec F S1x256 .f32} {xs0 : Vec F S4x256x128 .f32}

/-- The output block of a step, index by index. -/
def GO (x0 x1 : Vec F S512x512 .f32) (x2 : Vec F S512x1024 .bf16) (x3 : Vec F S512x128 .f32) (x4 : Vec F S512x1024 .f32) (x5 : Vec F S128x512 .bf16)
    (x6 : Vec F S1x512 .f32) (x7 : Vec F S1x256 .f32) (s : FVec F S4x256x128 .f32) : FVec F S512x1024 .bf16 := fun y =>
  OY x0 x1 x2 x3 x4 x5 x6 x7 s ((y 0).val / 64) ⟨(y 1).val / 256, by have : (y 1).val < 1024 := (y 1).isLt; omega⟩
    (ix2 ⟨(y 0).val % 64, Nat.mod_lt _ (by decide)⟩ ⟨(y 1).val % 256, Nat.mod_lt _ (by decide)⟩)

/-- The state a step leaves, index by index. -/
def GS (x1 : Vec F S512x512 .f32) (x2 : Vec F S512x1024 .bf16) (x3 : Vec F S512x128 .f32) (x5 : Vec F S128x512 .bf16) (x6 : Vec F S1x512 .f32)
    (s : FVec F S4x256x128 .f32) : FVec F S4x256x128 .f32 := fun y => SS x1 x2 x3 x5 x6 s 8 (y 0) (ix3 (0 : Fin 1) (y 1) (y 2))

/-- A block the step stores is the part of `GO` at its place. -/
theorem GO_block {s : FVec F S4x256x128 .f32} (n : ℕ) (h : Fin 4) (inb : ∀ a : Fin 2, ![64 * n, 256 * h.val] a + S64x256.size a ≤ S512x1024.size a) (x : S64x256.Idx) :
    OY x0 x1 x2 x3 x4 x5 x6 x7 s n h x
      = GO x0 x1 x2 x3 x4 x5 x6 x7 s ((Rect.unit (s := S512x1024) ![64 * n, 256 * h.val] S64x256.size inb).emb x) := by
  have h0 : (x 0).val < 64 := (x 0).isLt
  have h1 : (x 1).val < 256 := (x 1).isLt
  have hy0 : ((Rect.unit (s := S512x1024) ![64 * n, 256 * h.val] S64x256.size inb).emb x 0).val = 64 * n + 1 * (x 0).val := rfl
  have hy1 : ((Rect.unit (s := S512x1024) ![64 * n, 256 * h.val] S64x256.size inb).emb x 1).val = 256 * h.val + 1 * (x 1).val := rfl
  have hh := h.isLt
  unfold GO
  generalize (Rect.unit (s := S512x1024) ![64 * n, 256 * h.val] S64x256.size inb).emb x = y at *
  have e1 : (y 0).val / 64 = n := by omega
  have e2 : (⟨(y 1).val / 256, by have : (y 1).val < 1024 := (y 1).isLt; omega⟩ : Fin 4) = h := Fin.ext (by show (y 1).val / 256 = h.val; omega)
  have e3 : ix2 (⟨(y 0).val % 64, Nat.mod_lt _ (by decide)⟩ : Fin 64) (⟨(y 1).val % 256, Nat.mod_lt _ (by decide)⟩ : Fin 256) = x := by
    funext a
    apply Fin.ext
    match a with
    | ⟨0, _⟩ => show (y 0).val % 64 = (x 0).val; omega
    | ⟨1, _⟩ => show (y 1).val % 256 = (x 1).val; omega
  rw [e1, e2, e3]

/-- Case A's output block is `GO`. -/
theorem outA {hc0 : cond0_0 i} : out0_A_8 c i arg2 harg2 arg3 harg3 arg4 harg4 arg5 harg5 arg6 harg6 arg7 harg7 arg8 harg8 arg9 harg9 arg10 harg10 arg11 harg11 hc0 x0 x1 x2 x3 x4 x5 x6 x7 = GO x0 x1 x2 x3 x4 x5 x6 x7 k0_pay2 := by
  funext y
  unfold out0_A_8
  refine View.read_writes_apply_of_pieces VO0_8 _ (GO x0 x1 x2 x3 x4 x5 x6 x7 k0_pay2) _ ?_ y (cover0_A_8 c i arg2 harg2 arg3 harg3 arg4 harg4 arg5 harg5 arg6 harg6 arg7 harg7 arg8 harg8 arg9 harg9 arg10 harg10 arg11 harg11 hc0 x0 x1 x2 x3 x4 x5 x6 x7 y)
  unfold kernelRun0_A
  dsimp only
  refine List.forall_mem_cons.2 ⟨fun x => (congrFun outA_7_3 x).trans (GO_block 7 3 (rowsJ 7 3 (by decide)) x), ?_⟩
  refine List.forall_mem_cons.2 ⟨fun x => (congrFun outA_7_2 x).trans (GO_block 7 2 (rowsJ 7 2 (by decide)) x), ?_⟩
  refine List.forall_mem_cons.2 ⟨fun x => (congrFun outA_7_1 x).trans (GO_block 7 1 (rowsJ 7 1 (by decide)) x), ?_⟩
  refine List.forall_mem_cons.2 ⟨fun x => (congrFun outA_7_0 x).trans (GO_block 7 0 (rowsJ 7 0 (by decide)) x), ?_⟩
  refine List.forall_mem_cons.2 ⟨fun x => (congrFun outA_6_3 x).trans (GO_block 6 3 (rowsJ 6 3 (by decide)) x), ?_⟩
  refine List.forall_mem_cons.2 ⟨fun x => (congrFun outA_6_2 x).trans (GO_block 6 2 (rowsJ 6 2 (by decide)) x), ?_⟩
  refine List.forall_mem_cons.2 ⟨fun x => (congrFun outA_6_1 x).trans (GO_block 6 1 (rowsJ 6 1 (by decide)) x), ?_⟩
  refine List.forall_mem_cons.2 ⟨fun x => (congrFun outA_6_0 x).trans (GO_block 6 0 (rowsJ 6 0 (by decide)) x), ?_⟩
  refine List.forall_mem_cons.2 ⟨fun x => (congrFun outA_5_3 x).trans (GO_block 5 3 (rowsJ 5 3 (by decide)) x), ?_⟩
  refine List.forall_mem_cons.2 ⟨fun x => (congrFun outA_5_2 x).trans (GO_block 5 2 (rowsJ 5 2 (by decide)) x), ?_⟩
  refine List.forall_mem_cons.2 ⟨fun x => (congrFun outA_5_1 x).trans (GO_block 5 1 (rowsJ 5 1 (by decide)) x), ?_⟩
  refine List.forall_mem_cons.2 ⟨fun x => (congrFun outA_5_0 x).trans (GO_block 5 0 (rowsJ 5 0 (by decide)) x), ?_⟩
  refine List.forall_mem_cons.2 ⟨fun x => (congrFun outA_4_3 x).trans (GO_block 4 3 (rowsJ 4 3 (by decide)) x), ?_⟩
  refine List.forall_mem_cons.2 ⟨fun x => (congrFun outA_4_2 x).trans (GO_block 4 2 (rowsJ 4 2 (by decide)) x), ?_⟩
  refine List.forall_mem_cons.2 ⟨fun x => (congrFun outA_4_1 x).trans (GO_block 4 1 (rowsJ 4 1 (by decide)) x), ?_⟩
  refine List.forall_mem_cons.2 ⟨fun x => (congrFun outA_4_0 x).trans (GO_block 4 0 (rowsJ 4 0 (by decide)) x), ?_⟩
  refine List.forall_mem_cons.2 ⟨fun x => (congrFun outA_3_3 x).trans (GO_block 3 3 (rowsJ 3 3 (by decide)) x), ?_⟩
  refine List.forall_mem_cons.2 ⟨fun x => (congrFun outA_3_2 x).trans (GO_block 3 2 (rowsJ 3 2 (by decide)) x), ?_⟩
  refine List.forall_mem_cons.2 ⟨fun x => (congrFun outA_3_1 x).trans (GO_block 3 1 (rowsJ 3 1 (by decide)) x), ?_⟩
  refine List.forall_mem_cons.2 ⟨fun x => (congrFun outA_3_0 x).trans (GO_block 3 0 (rowsJ 3 0 (by decide)) x), ?_⟩
  refine List.forall_mem_cons.2 ⟨fun x => (congrFun outA_2_3 x).trans (GO_block 2 3 (rowsJ 2 3 (by decide)) x), ?_⟩
  refine List.forall_mem_cons.2 ⟨fun x => (congrFun outA_2_2 x).trans (GO_block 2 2 (rowsJ 2 2 (by decide)) x), ?_⟩
  refine List.forall_mem_cons.2 ⟨fun x => (congrFun outA_2_1 x).trans (GO_block 2 1 (rowsJ 2 1 (by decide)) x), ?_⟩
  refine List.forall_mem_cons.2 ⟨fun x => (congrFun outA_2_0 x).trans (GO_block 2 0 (rowsJ 2 0 (by decide)) x), ?_⟩
  refine List.forall_mem_cons.2 ⟨fun x => (congrFun outA_1_3 x).trans (GO_block 1 3 (rowsJ 1 3 (by decide)) x), ?_⟩
  refine List.forall_mem_cons.2 ⟨fun x => (congrFun outA_1_2 x).trans (GO_block 1 2 (rowsJ 1 2 (by decide)) x), ?_⟩
  refine List.forall_mem_cons.2 ⟨fun x => (congrFun outA_1_1 x).trans (GO_block 1 1 (rowsJ 1 1 (by decide)) x), ?_⟩
  refine List.forall_mem_cons.2 ⟨fun x => (congrFun outA_1_0 x).trans (GO_block 1 0 (rowsJ 1 0 (by decide)) x), ?_⟩
  refine List.forall_mem_cons.2 ⟨fun x => (congrFun outA_0_3 x).trans (GO_block 0 3 (rowsJ 0 3 (by decide)) x), ?_⟩
  refine List.forall_mem_cons.2 ⟨fun x => (congrFun outA_0_2 x).trans (GO_block 0 2 (rowsJ 0 2 (by decide)) x), ?_⟩
  refine List.forall_mem_cons.2 ⟨fun x => (congrFun outA_0_1 x).trans (GO_block 0 1 (rowsJ 0 1 (by decide)) x), ?_⟩
  refine List.forall_mem_cons.2 ⟨fun x => (congrFun outA_0_0 x).trans (GO_block 0 0 (rowsJ 0 0 (by decide)) x), ?_⟩
  exact fun p hp => absurd hp List.not_mem_nil

/-- Case A's state, head by head. -/
theorem covA {hc0 : cond0_0 i} (h : Fin 4) :
    VS0_0.readCov (kernelRun0_A c i arg2 harg2 arg3 harg3 arg4 harg4 arg5 harg5 arg6 harg6 arg7 harg7 arg8 harg8 arg9 harg9 arg10 harg10 arg11 harg11 hc0 x0 x1 x2 x3 x4 x5 x6 x7).2.1 (Rect.unit (s := S4x256x128) ![h.val, 0, 0] S1x256x128.size (headI h)).toLoadRect
      = SS x1 x2 x3 x5 x6 k0_pay2 8 h := by
  unfold kernelRun0_A
  dsimp only
  unfold kernelRun0_A.sl.HS0_32 kernelRun0_A.sl.HS0_31 kernelRun0_A.sl.HS0_30
  match h with
  | 0 =>
    refine (cov_miss _ _ _ _ _ (0 : Fin 3) (by decide)).trans ?_
    refine (cov_miss _ _ _ _ _ (0 : Fin 3) (by decide)).trans ?_
    refine (cov_miss _ _ _ _ _ (0 : Fin 3) (by decide)).trans ?_
    exact (cov_hit _ _ _ _ _).trans stA_8_0
  | 1 =>
    refine (cov_miss _ _ _ _ _ (0 : Fin 3) (by decide)).trans ?_
    refine (cov_miss _ _ _ _ _ (0 : Fin 3) (by decide)).trans ?_
    exact (cov_hit _ _ _ _ _).trans stA_8_1
  | 2 =>
    refine (cov_miss _ _ _ _ _ (0 : Fin 3) (by decide)).trans ?_
    exact (cov_hit _ _ _ _ _).trans stA_8_2
  | 3 =>
    exact (cov_hit _ _ _ _ _).trans stA_8_3

/-- Case A's state is `GS`. -/
theorem soutA {hc0 : cond0_0 i} : sout0_A_0 c i arg2 harg2 arg3 harg3 arg4 harg4 arg5 harg5 arg6 harg6 arg7 harg7 arg8 harg8 arg9 harg9 arg10 harg10 arg11 harg11 hc0 x0 x1 x2 x3 x4 x5 x6 x7 = GS x1 x2 x3 x5 x6 k0_pay2 := by
  funext y
  have hy : y = (Rect.unit (s := S4x256x128) ![(y 0).val, 0, 0] S1x256x128.size (headI (y 0))).emb (ix3 (0 : Fin 1) (y 1) (y 2)) := by
    funext a
    apply Fin.ext
    match a with
    | ⟨0, _⟩ => show (y 0).val = (y 0).val + 1 * 0; omega
    | ⟨1, _⟩ => show (y 1).val = 0 + 1 * (y 1).val; omega
    | ⟨2, _⟩ => show (y 2).val = 0 + 1 * (y 2).val; omega
  unfold sout0_A_0
  exact (congrArg (VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6 x7).2.1)) hy).trans
    (congrFun (covA (F := F) (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (x0 := x0) (x1 := x1) (x2 := x2) (x3 := x3) (x4 := x4) (x5 := x5) (x6 := x6) (x7 := x7) (hc0 := hc0) (y 0)) (ix3 (0 : Fin 1) (y 1) (y 2)))

/-- Case B's output block is `GO`. -/
theorem outB {hc0 : ¬cond0_0 i} : out0_B_8 c i arg2 harg2 arg3 harg3 arg4 harg4 arg5 harg5 arg6 harg6 arg7 harg7 arg8 harg8 arg9 harg9 arg10 harg10 arg11 harg11 hc0 x0 x1 x2 x3 x4 x5 x6 x7 xs0 = GO x0 x1 x2 x3 x4 x5 x6 x7 xs0 := by
  funext y
  unfold out0_B_8
  refine View.read_writes_apply_of_pieces VO0_8 _ (GO x0 x1 x2 x3 x4 x5 x6 x7 xs0) _ ?_ y (cover0_B_8 c i arg2 harg2 arg3 harg3 arg4 harg4 arg5 harg5 arg6 harg6 arg7 harg7 arg8 harg8 arg9 harg9 arg10 harg10 arg11 harg11 hc0 x0 x1 x2 x3 x4 x5 x6 x7 xs0 y)
  unfold kernelRun0_B
  dsimp only
  refine List.forall_mem_cons.2 ⟨fun x => (congrFun outB_7_3 x).trans (GO_block 7 3 (rowsJ 7 3 (by decide)) x), ?_⟩
  refine List.forall_mem_cons.2 ⟨fun x => (congrFun outB_7_2 x).trans (GO_block 7 2 (rowsJ 7 2 (by decide)) x), ?_⟩
  refine List.forall_mem_cons.2 ⟨fun x => (congrFun outB_7_1 x).trans (GO_block 7 1 (rowsJ 7 1 (by decide)) x), ?_⟩
  refine List.forall_mem_cons.2 ⟨fun x => (congrFun outB_7_0 x).trans (GO_block 7 0 (rowsJ 7 0 (by decide)) x), ?_⟩
  refine List.forall_mem_cons.2 ⟨fun x => (congrFun outB_6_3 x).trans (GO_block 6 3 (rowsJ 6 3 (by decide)) x), ?_⟩
  refine List.forall_mem_cons.2 ⟨fun x => (congrFun outB_6_2 x).trans (GO_block 6 2 (rowsJ 6 2 (by decide)) x), ?_⟩
  refine List.forall_mem_cons.2 ⟨fun x => (congrFun outB_6_1 x).trans (GO_block 6 1 (rowsJ 6 1 (by decide)) x), ?_⟩
  refine List.forall_mem_cons.2 ⟨fun x => (congrFun outB_6_0 x).trans (GO_block 6 0 (rowsJ 6 0 (by decide)) x), ?_⟩
  refine List.forall_mem_cons.2 ⟨fun x => (congrFun outB_5_3 x).trans (GO_block 5 3 (rowsJ 5 3 (by decide)) x), ?_⟩
  refine List.forall_mem_cons.2 ⟨fun x => (congrFun outB_5_2 x).trans (GO_block 5 2 (rowsJ 5 2 (by decide)) x), ?_⟩
  refine List.forall_mem_cons.2 ⟨fun x => (congrFun outB_5_1 x).trans (GO_block 5 1 (rowsJ 5 1 (by decide)) x), ?_⟩
  refine List.forall_mem_cons.2 ⟨fun x => (congrFun outB_5_0 x).trans (GO_block 5 0 (rowsJ 5 0 (by decide)) x), ?_⟩
  refine List.forall_mem_cons.2 ⟨fun x => (congrFun outB_4_3 x).trans (GO_block 4 3 (rowsJ 4 3 (by decide)) x), ?_⟩
  refine List.forall_mem_cons.2 ⟨fun x => (congrFun outB_4_2 x).trans (GO_block 4 2 (rowsJ 4 2 (by decide)) x), ?_⟩
  refine List.forall_mem_cons.2 ⟨fun x => (congrFun outB_4_1 x).trans (GO_block 4 1 (rowsJ 4 1 (by decide)) x), ?_⟩
  refine List.forall_mem_cons.2 ⟨fun x => (congrFun outB_4_0 x).trans (GO_block 4 0 (rowsJ 4 0 (by decide)) x), ?_⟩
  refine List.forall_mem_cons.2 ⟨fun x => (congrFun outB_3_3 x).trans (GO_block 3 3 (rowsJ 3 3 (by decide)) x), ?_⟩
  refine List.forall_mem_cons.2 ⟨fun x => (congrFun outB_3_2 x).trans (GO_block 3 2 (rowsJ 3 2 (by decide)) x), ?_⟩
  refine List.forall_mem_cons.2 ⟨fun x => (congrFun outB_3_1 x).trans (GO_block 3 1 (rowsJ 3 1 (by decide)) x), ?_⟩
  refine List.forall_mem_cons.2 ⟨fun x => (congrFun outB_3_0 x).trans (GO_block 3 0 (rowsJ 3 0 (by decide)) x), ?_⟩
  refine List.forall_mem_cons.2 ⟨fun x => (congrFun outB_2_3 x).trans (GO_block 2 3 (rowsJ 2 3 (by decide)) x), ?_⟩
  refine List.forall_mem_cons.2 ⟨fun x => (congrFun outB_2_2 x).trans (GO_block 2 2 (rowsJ 2 2 (by decide)) x), ?_⟩
  refine List.forall_mem_cons.2 ⟨fun x => (congrFun outB_2_1 x).trans (GO_block 2 1 (rowsJ 2 1 (by decide)) x), ?_⟩
  refine List.forall_mem_cons.2 ⟨fun x => (congrFun outB_2_0 x).trans (GO_block 2 0 (rowsJ 2 0 (by decide)) x), ?_⟩
  refine List.forall_mem_cons.2 ⟨fun x => (congrFun outB_1_3 x).trans (GO_block 1 3 (rowsJ 1 3 (by decide)) x), ?_⟩
  refine List.forall_mem_cons.2 ⟨fun x => (congrFun outB_1_2 x).trans (GO_block 1 2 (rowsJ 1 2 (by decide)) x), ?_⟩
  refine List.forall_mem_cons.2 ⟨fun x => (congrFun outB_1_1 x).trans (GO_block 1 1 (rowsJ 1 1 (by decide)) x), ?_⟩
  refine List.forall_mem_cons.2 ⟨fun x => (congrFun outB_1_0 x).trans (GO_block 1 0 (rowsJ 1 0 (by decide)) x), ?_⟩
  refine List.forall_mem_cons.2 ⟨fun x => (congrFun outB_0_3 x).trans (GO_block 0 3 (rowsJ 0 3 (by decide)) x), ?_⟩
  refine List.forall_mem_cons.2 ⟨fun x => (congrFun outB_0_2 x).trans (GO_block 0 2 (rowsJ 0 2 (by decide)) x), ?_⟩
  refine List.forall_mem_cons.2 ⟨fun x => (congrFun outB_0_1 x).trans (GO_block 0 1 (rowsJ 0 1 (by decide)) x), ?_⟩
  refine List.forall_mem_cons.2 ⟨fun x => (congrFun outB_0_0 x).trans (GO_block 0 0 (rowsJ 0 0 (by decide)) x), ?_⟩
  exact fun p hp => absurd hp List.not_mem_nil

/-- Case B's state, head by head. -/
theorem covB {hc0 : ¬cond0_0 i} (h : Fin 4) :
    VS0_0.readCov (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1 (Rect.unit (s := S4x256x128) ![h.val, 0, 0] S1x256x128.size (headI h)).toLoadRect
      = SS x1 x2 x3 x5 x6 xs0 8 h := by
  unfold kernelRun0_B
  dsimp only
  unfold kernelRun0_B.sl.HS0_31 kernelRun0_B.sl.HS0_30 kernelRun0_B.sl.HS0_29
  match h with
  | 0 =>
    refine (cov_miss _ _ _ _ _ (0 : Fin 3) (by decide)).trans ?_
    refine (cov_miss _ _ _ _ _ (0 : Fin 3) (by decide)).trans ?_
    refine (cov_miss _ _ _ _ _ (0 : Fin 3) (by decide)).trans ?_
    exact (cov_hit _ _ _ _ _).trans stB_8_0
  | 1 =>
    refine (cov_miss _ _ _ _ _ (0 : Fin 3) (by decide)).trans ?_
    refine (cov_miss _ _ _ _ _ (0 : Fin 3) (by decide)).trans ?_
    exact (cov_hit _ _ _ _ _).trans stB_8_1
  | 2 =>
    refine (cov_miss _ _ _ _ _ (0 : Fin 3) (by decide)).trans ?_
    exact (cov_hit _ _ _ _ _).trans stB_8_2
  | 3 =>
    exact (cov_hit _ _ _ _ _).trans stB_8_3

/-- Case B's state is `GS`. -/
theorem soutB {hc0 : ¬cond0_0 i} : sout0_B_0 c i arg2 harg2 arg3 harg3 arg4 harg4 arg5 harg5 arg6 harg6 arg7 harg7 arg8 harg8 arg9 harg9 arg10 harg10 arg11 harg11 hc0 x0 x1 x2 x3 x4 x5 x6 x7 xs0 = GS x1 x2 x3 x5 x6 xs0 := by
  funext y
  have hy : y = (Rect.unit (s := S4x256x128) ![(y 0).val, 0, 0] S1x256x128.size (headI (y 0))).emb (ix3 (0 : Fin 1) (y 1) (y 2)) := by
    funext a
    apply Fin.ext
    match a with
    | ⟨0, _⟩ => show (y 0).val = (y 0).val + 1 * 0; omega
    | ⟨1, _⟩ => show (y 1).val = 0 + 1 * (y 1).val; omega
    | ⟨2, _⟩ => show (y 2).val = 0 + 1 * (y 2).val; omega
  unfold sout0_B_0
  exact (congrArg (VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1)) hy).trans
    (congrFun (covB (F := F) (c := c) (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (x0 := x0) (x1 := x1) (x2 := x2) (x3 := x3) (x4 := x4) (x5 := x5) (x6 := x6) (x7 := x7) (xs0 := xs0) (hc0 := hc0) (y 0)) (ix3 (0 : Fin 1) (y 1) (y 2)))

end Cert.KernelIdeal.Block
-- ==== Proof.BlockIdeal.lean ====
module

public import proofs.«01_k».proof.Proof.BlockOut
public import proofs.«01_k».proof.Proof.Math

/-! The block functions of the kernel read at an index, over the extended reals. -/

@[expose] public section

set_option maxRecDepth 16384

noncomputable section

namespace Cert.KernelIdeal.Block

open Cert.KernelIdeal Cert.KernelIdeal.Gen Cert.Gla
open Idealize.ShloMosaic

/-- The causal mask. -/
theorem pay4_apply (t s : Fin 64) : k0_pay4 (ix2 t s) = if s ≤ t then 1#1 else 0#1 := by
  revert t s
  decide +kernel

/-- The triangle of ones. -/
theorem pay5_apply (t s : Fin 64) : k0_pay5 (F := Ideal) (ix2 t s) = if s ≤ t then (1 : EReal) else 0 := by
  pointwise [k0_pay5]
  rw [pay4_apply]
  by_cases h : s ≤ t
  · rw [if_pos h, if_pos h]; rfl
  · rw [if_neg h, if_neg h]; rfl

/-- The running sum at an index. -/
theorem cB_apply (la : FVec Ideal S64x512 .f32) (h : ∀ i, la i ≠ ⊤) (t : Fin 64) (d : Fin 512) :
    cB la (ix2 t d) = B (fun s => la (ix2 s d)) t := by
  rw [← tri_sum _ (fun s => h _)]
  pointwise [cB, k0_pay12]
  simp only [pay5_apply]

/-- The column of head `h` and channel `d`. -/
def hc (h : Fin 4) (d : Fin 128) : Fin 512 := ⟨128 * h.val + d.val, by omega⟩

/-- The decayed queries. -/
theorem cQ_apply (la q : FVec Ideal S64x512 .f32) (h : ∀ i, la i ≠ ⊤) (t : Fin 64) (d : Fin 512) :
    cQ la q (ix2 t d) = q (ix2 t d) * Ideal.exp (B (fun s => la (ix2 s d)) t) := by
  pointwise [cQ]
  rw [cB_apply la h]

/-- The chunk's decay. -/
theorem cDec_apply (la : FVec Ideal S64x512 .f32) (h : ∀ i, la i ≠ ⊤) (d : Fin 512) :
    cDec la (ix2 (0 : Fin 1) d) = Ideal.exp (B (fun s => la (ix2 s d)) 63) := by
  pointwise [cDec]
  rw [← cB_apply la h]

/-- The keys with their decay taken off, before the cast. -/
theorem cK0_apply (la k : FVec Ideal S64x512 .f32) (h : ∀ i, la i ≠ ⊤) (t : Fin 64) (d : Fin 512) :
    cK0 la k (ix2 t d) = k (ix2 t d) * Ideal.exp (0 - B (fun s => la (ix2 s d)) t) := by
  pointwise [cK0]
  rw [cB_apply la h]

/-- The keys with their decay taken off. -/
theorem cK_apply (la k : FVec Ideal S64x512 .f32) (h : ∀ i, la i ≠ ⊤) (t : Fin 64) (d : Fin 512) :
    cK la k (ix2 t d) = k (ix2 t d) * Ideal.exp (-(B (fun s => la (ix2 s d)) t)) := by
  pointwise [cK]
  rw [cK0_apply la k h, zero_sub]

/-- The keys carried to the chunk's end. -/
theorem cT_apply (la k : FVec Ideal S64x512 .f32) (h : ∀ i, la i ≤ 0) (t : Fin 64) (d : Fin 512) :
    cT la k (ix2 t d) = k (ix2 t d) * Ideal.exp (B (fun s => la (ix2 s d)) 63 - B (fun s => la (ix2 s d)) t) := by
  have h' : ∀ i, la i ≠ ⊤ := fun i => ne_of_lt (lt_of_le_of_lt (h i) EReal.zero_lt_top)
  pointwise [cT]
  rw [cK0_apply la k h', cDec_apply la h']
  exact carry _ (fun s => h _) t _

/-- A head's state after a chunk. -/
theorem hS_apply (h : Fin 4) (la k : FVec Ideal S64x512 .f32) (v : FVec Ideal S64x256 .bf16) (st : FVec Ideal S1x256x128 .f32)
    (hl : ∀ i, la i ≤ 0) (w : Fin 256) (d : Fin 128) :
    hS h la k v st (ix3 (0 : Fin 1) w d)
      = Sc (fun s d => la (ix2 s (hc h d))) (fun s d => k (ix2 s (hc h d))) (fun s w => v (ix2 s w)) (fun d w => st (ix3 (0 : Fin 1) w d)) d w := by
  have h' : ∀ i, la i ≠ ⊤ := fun i => ne_of_lt (lt_of_le_of_lt (hl i) EReal.zero_lt_top)
  unfold Sc
  pointwise [hS]
  rw [cDec_apply la h']
  congr 1
  refine Finset.sum_congr rfl fun s _ => ?_
  rw [cT_apply la k hl]
  rfl

/-- A head's attention output. -/
theorem hO_apply (h : Fin 4) (la q k : FVec Ideal S64x512 .f32) (v : FVec Ideal S64x256 .bf16) (st : FVec Ideal S1x256x128 .f32)
    (hl : ∀ i, la i ≤ 0) (t : Fin 64) (w : Fin 256) :
    hO h la q k v st (ix2 t w)
      = Oc (fun s d => la (ix2 s (hc h d))) (fun s d => q (ix2 s (hc h d))) (fun s d => k (ix2 s (hc h d))) (fun s w => v (ix2 s w))
          (fun d w => st (ix3 (0 : Fin 1) w d)) t w := by
  have h' : ∀ i, la i ≠ ⊤ := fun i => ne_of_lt (lt_of_le_of_lt (hl i) EReal.zero_lt_top)
  unfold Oc
  pointwise [hO]
  congr 1
  · refine Finset.sum_congr rfl fun s _ => ?_
    rw [pay4_apply]
    by_cases hs : s ≤ t
    · rw [if_pos hs, if_pos hs]
      refine congrArg (· * v (ix2 s w)) ?_
      refine Finset.sum_congr rfl fun d _ => ?_
      rw [cQ_apply la q h', cK_apply la k h']
      rfl
    · rw [if_neg hs, if_neg hs, zero_mul]
      rfl
  · refine Finset.sum_congr rfl fun d _ => ?_
    rw [cQ_apply la q h']
    rfl

/-- A head's output. -/
theorem hY_apply (g : FVec Ideal S1x256 .f32) (o z : FVec Ideal S64x256 .f32) (t : Fin 64) (w : Fin 256) :
    hY g o z (ix2 t w) = Yc (fun w => g (ix2 (0 : Fin 1) w)) (fun w => o (ix2 t w)) (fun w => z (ix2 t w)) w := by
  unfold Yc
  pointwise [hY, k0_pay24, k0_pay6]
  rw [sigmoid_eq]

/-- The log decay of a step's block. -/
theorem LA_apply (x3 : Vec Ideal S512x128 .f32) (x5 : Vec Ideal S128x512 .bf16) (x6 : Vec Ideal S1x512 .f32) (r d : Fin 512) :
    LA x3 x5 x6 (ix2 r d) = lg ((∑ j : Fin 128, x3 (ix2 r j) * x5 (ix2 j d)) + x6 (ix2 (0 : Fin 1) d)) := by
  rw [← lg_eq]
  pointwise [LA, k0_pay3]
  rfl

end Cert.KernelIdeal.Block

end
-- ==== Proof.Fold.lean ====
module

public import proofs.«01_k».proof.Proof.HostIn
public import proofs.«01_k».proof.Proof.BlockIdeal

/-! The kernel's grid steps in order: the state carried between steps and the output blocks, in terms of the launch's
arrays. -/

@[expose] public section

set_option maxRecDepth 16384
set_option pp.deepTerms false
set_option pp.maxSteps 1000

noncomputable section

namespace Cert.KernelIdeal.Fold

open Cert.KernelIdeal Cert.KernelIdeal.Gen Cert.KernelIdeal.Block Cert.KernelIdeal.HostIn Cert.Gla
open Idealize.ShloMosaic Idealize.ShloMosaic.TcCoe Idealize.ShloMosaic.Tactic
open Idealize.ShloMosaic.Pipeline

variable (m : (ℓ : Loc nD τ sig) → Buf (Elt Ideal) ℓ) (c : Dev nD)

/-- A sum over 128 indices whose terms vanish from the sixteenth on. -/
theorem sum_pad (f : Fin 128 → EReal) (h : ∀ j : Fin 128, 16 ≤ j.val → f j = 0) : ∑ j, f j = ∑ j : Fin 16, f ⟨j.val, by omega⟩ := by
  refine (Fin.sum_univ_add (a := 16) (b := 112) f).trans ?_
  rw [Finset.sum_congr rfl fun (j : Fin 112) _ => h (Fin.natAdd 16 j) (by show 16 ≤ 16 + j.val; omega), Finset.sum_const_zero, add_zero]
  rfl

/-- A row by a column zero from the sixteenth row on. -/
theorem dot_pad (X : S512x128.Idx → EReal) (W : S128x512.Idx → EReal) (r : Fin 512) (d : Fin 512) (f g : ℕ → EReal)
    (hx : ∀ j : Fin 128, j.val < 16 → X (ix2 r j) = f j.val) (hw : ∀ j : Fin 128, W (ix2 j d) = if j.val < 16 then g j.val else 0) :
    ∑ j, X (ix2 r j) * W (ix2 j d) = ∑ j : Fin 16, f j.val * g j.val := by
  refine (sum_pad _ fun j hj => ?_).trans (Finset.sum_congr rfl fun j _ => ?_)
  · rw [hw, if_neg (by omega), mul_zero]
  · rw [hw, if_pos j.isLt, hx _ j.isLt]

/-- The log decay of a step's block is the formula's. -/
theorem la_at (t : Fin cfg0.N) (r : Fin 512) (d : Fin 512) :
    LA (F := Ideal) (iblk m c 3 t) (iblk m c 5 t) (iblk m c 6 t) (ix2 r d)
      = lg ((∑ j : Fin 16, at3 (U m c) (t.val / 8) (512 * (t.val % 8) + r.val) (2048 + j.val) * at3 (WA m c) 0 j.val d.val) + at2 (BA m c) 0 d.val) := by
  rw [LA_apply, x6_at]
  refine congrArg lg (congrArg (· + at2 (BA m c) 0 d.val) ?_)
  exact dot_pad (iblk m c 3 t) (iblk m c 5 t) r d (fun j => at3 (U m c) (t.val / 8) (512 * (t.val % 8) + r.val) (2048 + j)) (fun j => at3 (WA m c) 0 j d.val) (fun j hj => x3_at m c t r j hj) (fun j => x5_at m c t j d)

/-- Chunk `ci` of a step's log decay is the formula's. -/
theorem laC_at (t : Fin cfg0.N) (ci : ℕ) (hci : ci < 8) (h : Fin 4) (s : Fin 64) (d : Fin 128) :
    laC (LA (F := Ideal) (iblk m c 3 t) (iblk m c 5 t) (iblk m c 6 t)) ci (ix2 s (hc h d))
      = laU (U m c) (WA m c) (BA m c) (t.val / 8) h.val (8 * (t.val % 8) + ci) s d := by
  unfold laC
  rw [dif_pos hci]
  have e : (extractStridedSlice S64x512 ![64 * ci, 0] (LA (F := Ideal) (iblk m c 3 t) (iblk m c 5 t) (iblk m c 6 t)) (rowsS ci hci) (ix2 s (hc h d)) : EReal)
      = LA (F := Ideal) (iblk m c 3 t) (iblk m c 5 t) (iblk m c 6 t) (ix2 ⟨64 * ci + s.val, by omega⟩ (hc h d)) := by
    refine congrArg (LA (F := Ideal) (iblk m c 3 t) (iblk m c 5 t) (iblk m c 6 t)) ?_
    funext a
    apply Fin.ext
    match a with
    | ⟨0, _⟩ => rfl
    | ⟨1, _⟩ => show 0 + _ = _; exact Nat.zero_add _
  refine e.trans ?_
  rw [la_at]
  unfold laU
  have e1 : 512 * (t.val % 8) + (64 * ci + s.val) = 64 * (8 * (t.val % 8) + ci) + s.val := by omega
  show lg ((∑ j : Fin 16, at3 (U m c) (t.val / 8) (512 * (t.val % 8) + (64 * ci + s.val)) (2048 + j.val) * at3 (WA m c) 0 j.val (128 * h.val + d.val)) + at2 (BA m c) 0 (128 * h.val + d.val)) = _
  rw [e1]

/-- A chunk's log decays are at most zero. -/
theorem laC_nonpos (t : Fin cfg0.N) (ci : ℕ) (hci : ci < 8) (i : S64x512.Idx) :
    (laC (LA (F := Ideal) (iblk m c 3 t) (iblk m c 5 t) (iblk m c 6 t)) ci i : EReal) ≤ 0 := by
  have hi : i = ix2 (i 0) (hc ⟨(i 1).val / 128, by have : (i 1).val < 512 := (i 1).isLt; omega⟩ ⟨(i 1).val % 128, Nat.mod_lt _ (by decide)⟩) := by
    funext a
    apply Fin.ext
    match a with
    | ⟨0, _⟩ => rfl
    | ⟨1, _⟩ => show (i 1).val = 128 * ((i 1).val / 128) + (i 1).val % 128; omega
  rw [hi]
  exact (laC_at m c t ci hci _ _ _).trans_le (laU_nonpos _ _ _ _ _ _ _ _)

/-- Chunk `ci` of a step's queries. -/
theorem q_at (t : Fin cfg0.N) (ci : ℕ) (hci : ci < 8) (h : Fin 4) (s : Fin 64) (d : Fin 128) :
    (ldC (F := Ideal) (X0_0 m c t) ci (ix2 s (hc h d)) : EReal) = qU (U m c) (t.val / 8) h.val (8 * (t.val % 8) + ci) s d := by
  unfold ldC
  rw [dif_pos hci]
  refine (congrArg (X0_0 m c t : S512x512.Idx → EReal) (?_ : _ = ix2 ⟨64 * ci + s.val, by omega⟩ (hc h d))).trans ?_
  · funext a
    apply Fin.ext
    match a with
    | ⟨0, _⟩ => show 64 * ci + 1 * s.val = 64 * ci + s.val; omega
    | ⟨1, _⟩ => show 0 + 1 * (128 * h.val + d.val) = 128 * h.val + d.val; omega
  · rw [x0_at]
    unfold qU
    have e1 : 512 * (t.val % 8) + (64 * ci + s.val) = 64 * (8 * (t.val % 8) + ci) + s.val := by omega
    show at3 (U m c) (t.val / 8) (512 * (t.val % 8) + (64 * ci + s.val)) (0 + (128 * h.val + d.val)) * _ = _
    rw [e1, Nat.zero_add]

/-- Chunk `ci` of a step's keys. -/
theorem k_at (t : Fin cfg0.N) (ci : ℕ) (hci : ci < 8) (h : Fin 4) (s : Fin 64) (d : Fin 128) :
    (ldC (F := Ideal) (X0_1 m c t) ci (ix2 s (hc h d)) : EReal) = kU (U m c) (t.val / 8) h.val (8 * (t.val % 8) + ci) s d := by
  unfold ldC
  rw [dif_pos hci]
  refine (congrArg (X0_1 m c t : S512x512.Idx → EReal) (?_ : _ = ix2 ⟨64 * ci + s.val, by omega⟩ (hc h d))).trans ?_
  · funext a
    apply Fin.ext
    match a with
    | ⟨0, _⟩ => show 64 * ci + 1 * s.val = 64 * ci + s.val; omega
    | ⟨1, _⟩ => show 0 + 1 * (128 * h.val + d.val) = 128 * h.val + d.val; omega
  · rw [x1_at]
    unfold kU
    have e1 : 512 * (t.val % 8) + (64 * ci + s.val) = 64 * (8 * (t.val % 8) + ci) + s.val := by omega
    show at3 (U m c) (t.val / 8) (512 * (t.val % 8) + (64 * ci + s.val)) (512 + (128 * h.val + d.val)) = _
    rw [e1]

/-- Chunk `ci` of a step's values. -/
theorem v_at (t : Fin cfg0.N) (ci : ℕ) (hci : ci < 8) (h : Fin 4) (s : Fin 64) (w : Fin 256) :
    (ldH (F := Ideal) (f := .bf16) (X0_2 m c t) ci h (ix2 s w) : EReal) = vU (U m c) (t.val / 8) h.val (8 * (t.val % 8) + ci) s w := by
  unfold ldH
  rw [dif_pos hci]
  refine (congrArg (X0_2 m c t : S512x1024.Idx → EReal) (?_ : _ = ix2 ⟨64 * ci + s.val, by omega⟩ ⟨256 * h.val + w.val, by omega⟩)).trans ?_
  · funext a
    apply Fin.ext
    match a with
    | ⟨0, _⟩ => show 64 * ci + 1 * s.val = 64 * ci + s.val; omega
    | ⟨1, _⟩ => show 256 * h.val + 1 * w.val = 256 * h.val + w.val; omega
  · rw [x2_at]
    unfold vU
    have e1 : 512 * (t.val % 8) + (64 * ci + s.val) = 64 * (8 * (t.val % 8) + ci) + s.val := by omega
    show at3 (U m c) (t.val / 8) (512 * (t.val % 8) + (64 * ci + s.val)) (1024 + (256 * h.val + w.val)) = _
    rw [e1]

/-- Chunk `ci` of a step's output gate. -/
theorem z_at (t : Fin cfg0.N) (ci : ℕ) (hci : ci < 8) (h : Fin 4) (s : Fin 64) (w : Fin 256) :
    (ldH (F := Ideal) (f := .f32) (X0_4 m c t) ci h (ix2 s w) : EReal) = zU (U m c) (t.val / 8) h.val (8 * (t.val % 8) + ci) s w := by
  unfold ldH
  rw [dif_pos hci]
  refine (congrArg (X0_4 m c t : S512x1024.Idx → EReal) (?_ : _ = ix2 ⟨64 * ci + s.val, by omega⟩ ⟨256 * h.val + w.val, by omega⟩)).trans ?_
  · funext a
    apply Fin.ext
    match a with
    | ⟨0, _⟩ => show 64 * ci + 1 * s.val = 64 * ci + s.val; omega
    | ⟨1, _⟩ => show 256 * h.val + 1 * w.val = 256 * h.val + w.val; omega
  · rw [x4_at]
    unfold zU
    have e1 : 512 * (t.val % 8) + (64 * ci + s.val) = 64 * (8 * (t.val % 8) + ci) + s.val := by omega
    show at3 (U m c) (t.val / 8) (512 * (t.val % 8) + (64 * ci + s.val)) (2064 + (256 * h.val + w.val)) = _
    rw [e1]

/-- The states within a step, when the step starts from the formula's state. -/
theorem ss_at (t : Fin cfg0.N) (s : FVec Ideal S4x256x128 .f32)
    (hs : ∀ (h : Fin 4) (w : Fin 256) (d : Fin 128), (s (ix3 h w d) : EReal) = SU (U m c) (WA m c) (BA m c) (t.val / 8) h.val (8 * (t.val % 8)) d w) :
    ∀ (n : ℕ), n ≤ 8 → ∀ (h : Fin 4) (w : Fin 256) (d : Fin 128),
      (SS (F := Ideal) (X0_1 m c t) (X0_2 m c t) (iblk m c 3 t) (iblk m c 5 t) (iblk m c 6 t) s n h (ix3 0 w d) : EReal)
        = SU (U m c) (WA m c) (BA m c) (t.val / 8) h.val (8 * (t.val % 8) + n) d w := by
  intro n
  induction n with
  | zero =>
    intro _ h w d
    refine Eq.trans ?_ (hs h w d)
    refine congrArg s ?_
    funext a
    apply Fin.ext
    match a with
    | ⟨0, _⟩ => show h.val + 1 * 0 = h.val; omega
    | ⟨1, _⟩ => show 0 + 1 * w.val = w.val; omega
    | ⟨2, _⟩ => show 0 + 1 * d.val = d.val; omega
  | succ n ih =>
    intro hn h w d
    have hci : n < 8 := hn
    refine (hS_apply h (laC (LA (F := Ideal) (iblk m c 3 t) (iblk m c 5 t) (iblk m c 6 t)) n) (ldC (F := Ideal) (X0_1 m c t) n)
      (ldH (F := Ideal) (f := .bf16) (X0_2 m c t) n h) _ (laC_nonpos m c t n hci) w d).trans ?_
    have e1 := funext fun s => funext fun d => laC_at m c t n hci h s d
    have e2 := funext fun s => funext fun d => k_at m c t n hci h s d
    have e3 := funext fun s => funext fun w => v_at m c t n hci h s w
    have e4 := funext fun d => funext fun w => ih (by omega) h w d
    refine (congrArg (fun z => Sc z _ _ _ d w) e1).trans ?_
    refine (congrArg (fun z => Sc _ z _ _ d w) e2).trans ?_
    refine (congrArg (fun z => Sc _ _ z _ d w) e3).trans ?_
    exact congrArg (fun z => Sc _ _ _ z d w) e4

/-- The state a step leaves. -/
theorem gs_at (t : Fin cfg0.N) (s : FVec Ideal S4x256x128 .f32)
    (hs : ∀ (h : Fin 4) (w : Fin 256) (d : Fin 128), (s (ix3 h w d) : EReal) = SU (U m c) (WA m c) (BA m c) (t.val / 8) h.val (8 * (t.val % 8)) d w)
    (h : Fin 4) (w : Fin 256) (d : Fin 128) :
    (GS (F := Ideal) (X0_1 m c t) (X0_2 m c t) (iblk m c 3 t) (iblk m c 5 t) (iblk m c 6 t) s (ix3 h w d) : EReal)
      = SU (U m c) (WA m c) (BA m c) (t.val / 8) h.val (8 * (t.val % 8) + 8) d w :=
  ss_at m c t s hs 8 le_rfl h w d

/-- A step's output block. -/
theorem go_at (t : Fin cfg0.N) (s : FVec Ideal S4x256x128 .f32)
    (hs : ∀ (h : Fin 4) (w : Fin 256) (d : Fin 128), (s (ix3 h w d) : EReal) = SU (U m c) (WA m c) (BA m c) (t.val / 8) h.val (8 * (t.val % 8)) d w)
    (y : S512x1024.Idx) :
    (GO (F := Ideal) (X0_0 m c t) (X0_1 m c t) (X0_2 m c t) (iblk m c 3 t) (X0_4 m c t) (iblk m c 5 t) (iblk m c 6 t) (iblk m c 7 t) s y : EReal)
      = YU (U m c) (WA m c) (BA m c) (GG m c) (t.val / 8) ((y 1).val / 256) (8 * (t.val % 8) + (y 0).val / 64)
          ⟨(y 0).val % 64, Nat.mod_lt _ (by decide)⟩ ⟨(y 1).val % 256, Nat.mod_lt _ (by decide)⟩ := by
  have hy0 : (y 0).val < 512 := (y 0).isLt
  have hci : (y 0).val / 64 < 8 := by omega
  unfold GO OY
  generalize hh : (⟨(y 1).val / 256, _⟩ : Fin 4) = h
  have hv : h.val = (y 1).val / 256 := by rw [← hh]
  rw [← hv]
  generalize (y 0).val / 64 = n at hci ⊢
  generalize (⟨(y 0).val % 64, _⟩ : Fin 64) = r
  generalize (⟨(y 1).val % 256, _⟩ : Fin 256) = w
  refine (hY_apply _ _ _ r w).trans ?_
  have e0 : (fun w : Fin 256 => (View.ld (Val := Elt Ideal) (e' := .f32) (iblk m c 7 t) (Rect.unit (s := S1x256) ![0, 0] S1x256.size inb_S1x256_S1x256_0_0) (ix2 0 w) : EReal))
      = fun w => at2 (GG m c) 0 w.val := by
    funext w
    refine Eq.trans (congrArg (iblk m c 7 t : S1x256.Idx → EReal) ?_) (x7_at m c t w)
    funext a
    apply Fin.ext
    match a with
    | ⟨0, _⟩ => rfl
    | ⟨1, _⟩ => show 0 + 1 * w.val = w.val; omega
  have e1 : (fun w : Fin 256 => (hO (F := Ideal) h (laC (LA (iblk m c 3 t) (iblk m c 5 t) (iblk m c 6 t)) n) (ldC (X0_0 m c t) n) (ldC (X0_1 m c t) n) (ldH (X0_2 m c t) n h)
      (SS (X0_1 m c t) (X0_2 m c t) (iblk m c 3 t) (iblk m c 5 t) (iblk m c 6 t) s n h) (ix2 r w) : EReal))
      = fun w => OU (U m c) (WA m c) (BA m c) (t.val / 8) h.val (8 * (t.val % 8) + n) r w := by
    funext w
    refine (hO_apply h (laC (LA (F := Ideal) (iblk m c 3 t) (iblk m c 5 t) (iblk m c 6 t)) n) (ldC (F := Ideal) (X0_0 m c t) n) (ldC (F := Ideal) (X0_1 m c t) n)
      (ldH (F := Ideal) (f := .bf16) (X0_2 m c t) n h) _ (laC_nonpos m c t n hci) r w).trans ?_
    have e1 := funext fun s => funext fun d => laC_at m c t n hci h s d
    have e2 := funext fun s => funext fun d => q_at m c t n hci h s d
    have e3 := funext fun s => funext fun d => k_at m c t n hci h s d
    have e4 := funext fun s => funext fun w => v_at m c t n hci h s w
    have e5 := funext fun d => funext fun w => ss_at m c t s hs n (by omega) h w d
    refine (congrArg (fun z => Oc z _ _ _ _ r w) e1).trans ?_
    refine (congrArg (fun z => Oc _ z _ _ _ r w) e2).trans ?_
    refine (congrArg (fun z => Oc _ _ z _ _ r w) e3).trans ?_
    refine (congrArg (fun z => Oc _ _ _ z _ r w) e4).trans ?_
    exact congrArg (fun z => Oc _ _ _ _ z r w) e5
  have e2 := funext fun w => z_at m c t n hci h r w
  refine (congrArg (fun z => Yc z _ _ w) e0).trans ?_
  refine (congrArg (fun z => Yc _ z _ w) e1).trans ?_
  exact congrArg (fun z => Yc _ _ z w) e2

/-- The state of a step that starts a batch. -/
theorem start_at (t : Fin cfg0.N) (h0 : t.val % 8 = 0) (h : Fin 4) (w : Fin 256) (d : Fin 128) :
    ((k0_pay2 : FVec Ideal S4x256x128 .f32) (ix3 h w d) : EReal) = SU (U m c) (WA m c) (BA m c) (t.val / 8) h.val (8 * (t.val % 8)) d w := by
  rw [h0]
  exact Ideal.ofBits_zero .f32

/-- The contents after a step that starts a batch. -/
theorem step_A (t : Fin cfg0.N) (h0 : t.val % 8 = 0) :
    outsAt0 m c t.val t.isLt = (GO (F := Ideal) (X0_0 m c t) (X0_1 m c t) (X0_2 m c t) (iblk m c 3 t) (X0_4 m c t) (iblk m c 5 t) (iblk m c 6 t) (iblk m c 7 t) k0_pay2,
      GS (F := Ideal) (X0_1 m c t) (X0_2 m c t) (iblk m c 3 t) (iblk m c 5 t) (iblk m c 6 t) k0_pay2) :=
  (outsAt0_A m c t h0).trans (congrArg₂ Prod.mk (outA (F := Ideal)) (soutA (F := Ideal)))

/-- The contents after any other step. -/
theorem step_B (t : Fin cfg0.N) (h0 : ¬t.val % 8 = 0) :
    outsAt0 m c t.val t.isLt = (GO (F := Ideal) (X0_0 m c t) (X0_1 m c t) (X0_2 m c t) (iblk m c 3 t) (X0_4 m c t) (iblk m c 5 t) (iblk m c 6 t) (iblk m c 7 t)
        (outsAt0 m c (t.val - 1) (Nat.lt_of_le_of_lt (Nat.sub_le _ _) t.isLt)).2,
      GS (F := Ideal) (X0_1 m c t) (X0_2 m c t) (iblk m c 3 t) (iblk m c 5 t) (iblk m c 6 t)
        (outsAt0 m c (t.val - 1) (Nat.lt_of_le_of_lt (Nat.sub_le _ _) t.isLt)).2) :=
  (outsAt0_B m c t h0).trans (congrArg₂ Prod.mk (outB (F := Ideal)) (soutB (F := Ideal)))

/-- The state every step leaves. -/
theorem state_at : ∀ (n : ℕ) (hn : n < cfg0.N) (h : Fin 4) (w : Fin 256) (d : Fin 128),
    ((outsAt0 m c n hn).2 (ix3 h w d) : EReal) = SU (U m c) (WA m c) (BA m c) (n / 8) h.val (8 * (n % 8) + 8) d w := by
  intro n
  induction n with
  | zero =>
    intro hn h w d
    refine (congrArg (fun p : Vec Ideal S512x1024 .bf16 × Vec Ideal S4x256x128 .f32 => (p.2 (ix3 h w d) : EReal)) (step_A m c ⟨0, hn⟩ rfl)).trans ?_
    exact gs_at m c ⟨0, hn⟩ _ (start_at m c ⟨0, hn⟩ rfl) h w d
  | succ n ih =>
    intro hn h w d
    by_cases h0 : (n + 1) % 8 = 0
    · refine (congrArg (fun p : Vec Ideal S512x1024 .bf16 × Vec Ideal S4x256x128 .f32 => (p.2 (ix3 h w d) : EReal)) (step_A m c ⟨n + 1, hn⟩ h0)).trans ?_
      exact gs_at m c ⟨n + 1, hn⟩ _ (start_at m c ⟨n + 1, hn⟩ h0) h w d
    · refine (congrArg (fun p : Vec Ideal S512x1024 .bf16 × Vec Ideal S4x256x128 .f32 => (p.2 (ix3 h w d) : EReal)) (step_B m c ⟨n + 1, hn⟩ h0)).trans ?_
      refine gs_at m c ⟨n + 1, hn⟩ _ (fun h w d => (ih (by omega) h w d).trans ?_) h w d
      have e1 : (n + 1) / 8 = n / 8 := by omega
      have e2 : 8 * ((n + 1) % 8) = 8 * (n % 8) + 8 := by omega
      show _ = SU (U m c) (WA m c) (BA m c) ((n + 1) / 8) h.val (8 * ((n + 1) % 8)) d w
      rw [e1, e2]

/-- Every step's output block. -/
theorem out_at (n : ℕ) (hn : n < cfg0.N) (y : S512x1024.Idx) :
    ((outsAt0 m c n hn).1 y : EReal)
      = YU (U m c) (WA m c) (BA m c) (GG m c) (n / 8) ((y 1).val / 256) (8 * (n % 8) + (y 0).val / 64)
          ⟨(y 0).val % 64, Nat.mod_lt _ (by decide)⟩ ⟨(y 1).val % 256, Nat.mod_lt _ (by decide)⟩ := by
  by_cases h0 : n % 8 = 0
  · refine (congrArg (fun p : Vec Ideal S512x1024 .bf16 × Vec Ideal S4x256x128 .f32 => (p.1 y : EReal)) (step_A m c ⟨n, hn⟩ h0)).trans ?_
    exact go_at m c ⟨n, hn⟩ _ (start_at m c ⟨n, hn⟩ h0) y
  · refine (congrArg (fun p : Vec Ideal S512x1024 .bf16 × Vec Ideal S4x256x128 .f32 => (p.1 y : EReal)) (step_B m c ⟨n, hn⟩ h0)).trans ?_
    refine go_at m c ⟨n, hn⟩ _ (fun h w d => (state_at m c (n - 1) (by omega) h w d).trans ?_) y
    have e1 : n / 8 = (n - 1) / 8 := by omega
    have e2 : 8 * (n % 8) = 8 * ((n - 1) % 8) + 8 := by omega
    show _ = SU (U m c) (WA m c) (BA m c) (n / 8) h.val (8 * (n % 8)) d w
    rw [e1, e2]

/-- The result's element at a row and a column. -/
theorem result_at (i : S16384x1024.Idx) :
    (Value.G8 m c i : EReal)
      = YU (U m c) (WA m c) (BA m c) (GG m c) ((i 0).val / 4096) ((i 1).val / 256) ((i 0).val % 4096 / 64)
          ⟨(i 0).val % 64, Nat.mod_lt _ (by decide)⟩ ⟨(i 1).val % 256, Nat.mod_lt _ (by decide)⟩ := by
  have h0 : (i 0).val < 16384 := (i 0).isLt
  have h1 : (i 1).val < 1024 := (i 1).isLt
  have hp : Value.pt8Of i = (i 0).val / 512 := by unfold Value.pt8Of Value.run8Of; omega
  have hN : cfg0.N = 32 := N_0
  have hlt : Value.pt8Of i < cfg0.N := by rw [hp, hN]; omega
  unfold Value.G8
  rw [dif_pos hlt, ← Value.outsAt0_sweep m c _ hlt]
  refine (out_at m c _ hlt (Value.loc8Of i)).trans ?_
  rw [hp]
  have a0 : ((Value.loc8Of i) 0).val = (i 0).val % 512 := rfl
  have a1 : ((Value.loc8Of i) 1).val = (i 1).val % 1024 := rfl
  have e1 : (i 0).val / 512 / 8 = (i 0).val / 4096 := by omega
  have e2 : (i 1).val % 1024 / 256 = (i 1).val / 256 := by omega
  have e3 : 8 * ((i 0).val / 512 % 8) + (i 0).val % 512 / 64 = (i 0).val % 4096 / 64 := by omega
  have e4 : (i 0).val % 512 % 64 = (i 0).val % 64 := by omega
  have e5 : (i 1).val % 1024 % 256 = (i 1).val % 256 := by omega
  simp only [a0, a1, e1, e2, e3, e4, e5]

end Cert.KernelIdeal.Fold
-- ==== Proof.RefIdeal.lean ====
module

public import proofs.«01_k».proof.Proof.LoopRun
public import proofs.«01_k».proof.Proof.Spec
public import Idealize.ShloMosaic.Lib.Pointwise
public import Idealize.ShloMosaic.Lib.Claim
public import Idealize.ShloMosaic.Lib.DynamicIndex
public import Idealize.ShloMosaic.Lib.Pipeline.Value

/-! The reference at the extended reals: what its set-up hands the loop, what one trip makes of a state, and the loop's
iterates, all in terms of the launch's arrays. -/

@[expose] public section

set_option maxRecDepth 16384
set_option pp.deepTerms false
set_option pp.maxSteps 1000

noncomputable section

namespace Cert.ReferenceIdeal.RefIdeal

open Cert.ReferenceIdeal Cert.ReferenceIdeal.Gen Cert.ReferenceIdeal.Step Cert.Gla
open Idealize.ShloMosaic Idealize.ShloMosaic.TcCoe Idealize.ShloMosaic.Tactic

variable (u : S4x4096x11352.Idx → EReal) (wa : S1x16x512.Idx → EReal) (ba : S1x512.Idx → EReal) (g : S1x256.Idx → EReal)

/-- The scaled queries, chunk by chunk. -/
theorem q_at (n : Fin 64) (b : Fin 4) (s : Fin 64) (h : Fin 4) (d : Fin 128) :
    (A_main_v39 (F := Ideal) u wa ba (ix5 n b s h d) : EReal) = qU u b.val h.val n.val s d := by
  pointwise [A_main_v39, A_main_v19, A_main_v17, A_main_v0, K_main_v18, K_main_cst]
  exact congrArg (· * Ideal.ofBits .f32 0x3DB504F3#32) (at3_ix u _ _ _ _ _ _ rfl (by show n.val * 64 + s.val = _; omega) (by show h.val * 128 + d.val = _; omega))

/-- The keys, chunk by chunk. -/
theorem k_at (n : Fin 64) (b : Fin 4) (s : Fin 64) (h : Fin 4) (d : Fin 128) :
    (A_main_v40 (F := Ideal) u wa ba (ix5 n b s h d) : EReal) = kU u b.val h.val n.val s d := by
  pointwise [A_main_v40, A_main_v20, A_main_v1]
  exact at3_ix u _ _ _ _ _ _ rfl (by show n.val * 64 + s.val = _; omega) (by show 512 + (h.val * 128 + d.val) = _; omega)

/-- The values, chunk by chunk. -/
theorem v_at (n : Fin 64) (b : Fin 4) (s : Fin 64) (h : Fin 4) (w : Fin 256) :
    (A_main_v41 (F := Ideal) u wa ba (ix5 n b s h w) : EReal) = vU u b.val h.val n.val s w := by
  pointwise [A_main_v41, A_main_v21, A_main_v2]
  exact at3_ix u _ _ _ _ _ _ rfl (by show n.val * 64 + s.val = _; omega) (by show 1024 + (h.val * 256 + w.val) = _; omega)

/-- The log decays, chunk by chunk. -/
theorem la_at (n : Fin 64) (b : Fin 4) (s : Fin 64) (h : Fin 4) (d : Fin 128) :
    (A_main_v42 (F := Ideal) u wa ba (ix5 n b s h d) : EReal) = laU u wa ba b.val h.val n.val s d := by
  pointwise [A_main_v42, A_main_v37, A_main_v36, A_main_v34, A_main_v33, A_main_v32, A_main_v31, A_main_v30, A_main_v29, A_main_v28, A_main_v26, A_main_v25, A_main_v24, A_main_v23, A_main_v22, A_main_v16, A_main_v15, A_main_v3, K_main_v35, K_main_cst_1, K_main_v27, K_main_cst_0]
  refine Eq.trans (b := lg _) (rfl : _ = lg _) (congrArg lg ?_)
  refine congrArg₂ (fun a b : EReal => a + b) (Finset.sum_congr rfl fun x _ => congrArg₂ (fun a b : EReal => a * b) ?_ ?_) ?_
  · exact at3_ix u _ _ _ _ _ _ rfl (by show n.val * 64 + s.val = _; omega) rfl
  · exact at3_ix wa _ _ _ _ _ _ rfl rfl (by show h.val * 128 + d.val = _; omega)
  · exact at2_ix ba _ _ _ _ rfl (by show h.val * 128 + d.val = _; omega)

variable (j : ℕ) (st : State Ideal)

/-- Row `j` of a stack of 64 lies within it. -/
theorem row128 (hj : j < 64) : S64x4x64x4x128.Slices ![j, 0, 0, 0, 0] S1x4x64x4x128 := by
  have : ∀ j : Fin 64, S64x4x64x4x128.Slices ![j.val, 0, 0, 0, 0] S1x4x64x4x128 := by decide
  exact this ⟨j, hj⟩

/-- Row `j` of a stack of 64 lies within it. -/
theorem row256 (hj : j < 64) : S64x4x64x4x256.Slices ![j, 0, 0, 0, 0] S1x4x64x4x256 := by
  have : ∀ j : Fin 64, S64x4x64x4x256.Slices ![j.val, 0, 0, 0, 0] S1x4x64x4x256 := by decide
  exact this ⟨j, hj⟩

/-- A trip's start words, read signed. -/
theorem start_eq (hj : j < 64) (a : Fin 5) :
    ((![(constantI S_ 32 (BitVec.ofNat 32 j)), constantI S_ 32 0#32, constantI S_ 32 0#32, constantI S_ 32 0#32, constantI S_ 32 0#32] : Fin 5 → IVec S_ 32) a
      (Shape.Idx.first h_S_)).toInt = ((![j, 0, 0, 0, 0] : Fin 5 → ℕ) a : Int) := by
  match a with
  | ⟨0, _⟩ => exact toInt_ofNat_of_lt (by omega)
  | ⟨1, _⟩ => rfl
  | ⟨2, _⟩ => rfl
  | ⟨3, _⟩ => rfl
  | ⟨4, _⟩ => rfl

/-- Chunk `j`'s queries. -/
theorem b5_at (hj : j < 64) (b : Fin 4) (s : Fin 64) (h : Fin 4) (d : Fin 128) :
    (b5 (F := Ideal) j st (ix4 b s h d) : EReal) = st.main_v44_0 (ix5 ⟨j, hj⟩ b s h d) := by
  unfold b5 b4
  rw [Host.dynamicSlice_eq_extractStridedSlice _ _ _ ![j, 0, 0, 0, 0] _ (row128 j hj) (start_eq j hj)]
  pointwise

/-- Chunk `j`'s keys. -/
theorem b11_at (hj : j < 64) (b : Fin 4) (s : Fin 64) (h : Fin 4) (d : Fin 128) :
    (b11 (F := Ideal) j st (ix4 b s h d) : EReal) = st.main_v44_1 (ix5 ⟨j, hj⟩ b s h d) := by
  unfold b11 b10
  rw [Host.dynamicSlice_eq_extractStridedSlice _ _ _ ![j, 0, 0, 0, 0] _ (row128 j hj) (start_eq j hj)]
  pointwise

/-- Chunk `j`'s values. -/
theorem b17_at (hj : j < 64) (b : Fin 4) (s : Fin 64) (h : Fin 4) (w : Fin 256) :
    (b17 (F := Ideal) j st (ix4 b s h w) : EReal) = st.main_v44_2 (ix5 ⟨j, hj⟩ b s h w) := by
  unfold b17 b16
  rw [Host.dynamicSlice_eq_extractStridedSlice _ _ _ ![j, 0, 0, 0, 0] _ (row256 j hj) (start_eq j hj)]
  pointwise

/-- Chunk `j`'s log decays. -/
theorem b23_at (hj : j < 64) (b : Fin 4) (s : Fin 64) (h : Fin 4) (d : Fin 128) :
    (b23 (F := Ideal) j st (ix4 b s h d) : EReal) = st.main_v44_3 (ix5 ⟨j, hj⟩ b s h d) := by
  unfold b23 b22
  rw [Host.dynamicSlice_eq_extractStridedSlice _ _ _ ![j, 0, 0, 0, 0] _ (row128 j hj) (start_eq j hj)]
  pointwise

/-- A left fold of sums is the sum. -/
theorem fold_sum {β : Type} (L : List β) (f : β → EReal) (v : EReal) : L.foldl (fun r n => r + f n) v = v + (L.map f).sum := by
  induction L generalizing v with
  | nil => simp
  | cons a l ih => rw [List.foldl_cons, ih, List.map_cons, List.sum_cons, add_assoc]

/-- A window of 64 positions along the second axis. -/
abbrev Win : Shape := ⟨4, ![1, 64, 1, 1]⟩

/-- A window sum over the second axis, padded low by 63, is the running sum. -/
theorem window_sum (X : FVec Ideal S4x64x4x128 .f32) (z : FVec Ideal S_ .f32) (hz : (z (Shape.Idx.first h_S_) : EReal) = 0) (b h : Fin 4) (t : Fin 64) (d : Fin 128) :
    (Host.reduceWindowAdd (F := Ideal) (φ := .f32) (t := S4x64x4x128) ![1, 64, 1, 1] ![1, 1, 1, 1] ![0, 63, 0, 0] ![0, 0, 0, 0] X z
        reduceWindows_S4x64x4x128_S4x64x4x128_w1s1p0_0_w64s1p63_0_w1s1p0_0_w1s1p0_0 h_S_ (ix4 b t h d) : EReal)
      = B (fun s => X (ix4 b s h d)) t := by
  let G : Win.Idx → EReal := fun k =>
    if 63 ≤ t.val + (k 1).val then (if hk : t.val + (k 1).val - 63 < 64 then X (ix4 b ⟨t.val + (k 1).val - 63, hk⟩ h d) else 0) else 0
  have e1 : (Host.reduceWindowAdd (F := Ideal) (φ := .f32) (t := S4x64x4x128) ![1, 64, 1, 1] ![1, 1, 1, 1] ![0, 63, 0, 0] ![0, 0, 0, 0] X z
        reduceWindows_S4x64x4x128_S4x64x4x128_w1s1p0_0_w64s1p63_0_w1s1p0_0_w1s1p0_0 h_S_ (ix4 b t h d) : EReal)
      = (List.finRange Win.numel).foldl (fun r n => r + G (Win.rowMajor.symm n)) (z (Shape.Idx.first h_S_)) := by
    refine List.foldl_ext _ _ _ fun r n _ => congrArg (r + ·) ?_
    have k0 : (Win.rowMajor.symm n 0).val = 0 := by have : (Win.rowMajor.symm n 0).val < 1 := (Win.rowMajor.symm n 0).isLt; omega
    have k1 : (Win.rowMajor.symm n 1).val < 64 := (Win.rowMajor.symm n 1).isLt
    have k2 : (Win.rowMajor.symm n 2).val = 0 := by have : (Win.rowMajor.symm n 2).val < 1 := (Win.rowMajor.symm n 2).isLt; omega
    have k3 : (Win.rowMajor.symm n 3).val = 0 := by have : (Win.rowMajor.symm n 3).val < 1 := (Win.rowMajor.symm n 3).isLt; omega
    show _ = G (Win.rowMajor.symm n)
    unfold G
    by_cases c : 63 ≤ t.val + (Win.rowMajor.symm n 1).val
    · have hk : t.val + (Win.rowMajor.symm n 1).val - 63 < 64 := by omega
      rw [if_pos c, dif_pos hk]
      refine (dif_pos (fun a => ?_)).trans (congrArg X ?_)
      · match a with
        | ⟨0, _⟩ => show 0 ≤ b.val * 1 + (Win.rowMajor.symm n 0).val ∧ b.val * 1 + (Win.rowMajor.symm n 0).val - 0 < 4; omega
        | ⟨1, _⟩ => show 63 ≤ t.val * 1 + (Win.rowMajor.symm n 1).val ∧ t.val * 1 + (Win.rowMajor.symm n 1).val - 63 < 64; omega
        | ⟨2, _⟩ => show 0 ≤ h.val * 1 + (Win.rowMajor.symm n 2).val ∧ h.val * 1 + (Win.rowMajor.symm n 2).val - 0 < 4; omega
        | ⟨3, _⟩ => show 0 ≤ d.val * 1 + (Win.rowMajor.symm n 3).val ∧ d.val * 1 + (Win.rowMajor.symm n 3).val - 0 < 128; omega
      · funext a
        apply Fin.ext
        match a with
        | ⟨0, _⟩ => show b.val * 1 + (Win.rowMajor.symm n 0).val - 0 = b.val; omega
        | ⟨1, _⟩ => show t.val * 1 + (Win.rowMajor.symm n 1).val - 63 = t.val + (Win.rowMajor.symm n 1).val - 63; omega
        | ⟨2, _⟩ => show h.val * 1 + (Win.rowMajor.symm n 2).val - 0 = h.val; omega
        | ⟨3, _⟩ => show d.val * 1 + (Win.rowMajor.symm n 3).val - 0 = d.val; omega
    · rw [if_neg c]
      refine (dif_neg fun hin => c ?_).trans hz
      have := (hin 1).1
      change 63 ≤ t.val * 1 + (Win.rowMajor.symm n 1).val at this
      omega
  rw [e1, fold_sum, hz, zero_add, ← Fin.sum_univ_def, Equiv.sum_comp Win.rowMajor.symm G]
  unfold B G
  rw [← Finset.sum_filter, ← Finset.sum_filter]
  refine Finset.sum_bij' (fun k hk => (⟨t.val + (k 1).val - 63, by have : (k 1).val < 64 := (k 1).isLt; omega⟩ : Fin 64))
    (fun s hs => (ix4 (0 : Fin 1) (⟨s.val + 63 - t.val, by have := (Finset.mem_filter.1 hs).2; have := t.isLt; have : s.val ≤ t.val := (Finset.mem_filter.1 hs).2; omega⟩ : Fin 64) (0 : Fin 1) (0 : Fin 1) : Win.Idx)) ?_ ?_ ?_ ?_ ?_
  · intro k hk
    refine Finset.mem_filter.2 ⟨Finset.mem_univ _, ?_⟩
    have : (k 1).val < 64 := (k 1).isLt
    show t.val + (k 1).val - 63 ≤ t.val
    omega
  · intro s hs
    have : s.val ≤ t.val := (Finset.mem_filter.1 hs).2
    refine Finset.mem_filter.2 ⟨Finset.mem_univ _, ?_⟩
    show 63 ≤ t.val + (s.val + 63 - t.val)
    omega
  · intro k hk
    have c : 63 ≤ t.val + (k 1).val := (Finset.mem_filter.1 hk).2
    funext a
    apply Fin.ext
    match a with
    | ⟨0, _⟩ => show 0 = (k 0).val; have : (k 0).val < 1 := (k 0).isLt; omega
    | ⟨1, _⟩ => show t.val + (k 1).val - 63 + 63 - t.val = (k 1).val; omega
    | ⟨2, _⟩ => show 0 = (k 2).val; have : (k 2).val < 1 := (k 2).isLt; omega
    | ⟨3, _⟩ => show 0 = (k 3).val; have : (k 3).val < 1 := (k 3).isLt; omega
  · intro s hs
    have : s.val ≤ t.val := (Finset.mem_filter.1 hs).2
    apply Fin.ext
    show t.val + (s.val + 63 - t.val) - 63 = s.val
    omega
  · intro k hk
    have : (k 1).val < 64 := (k 1).isLt
    exact dif_pos (by omega)

/-- A chunk's running sums of the log decays. -/
theorem b37_at (b h : Fin 4) (t : Fin 64) (d : Fin 128) :
    (b37 (F := Ideal) j st (ix4 b t h d) : EReal) = B (fun s => b23 (F := Ideal) j st (ix4 b s h d)) t := by
  unfold b37
  have hz : (b36 (F := Ideal) j st (Shape.Idx.first h_S_) : EReal) = 0 := Ideal.ofBits_zero .f32
  exact window_sum (b23 (F := Ideal) j st) _ hz b h t d

/-- The mask of a chunk: position `s` is seen from `t` when it is not after it. -/
theorem mask : ∀ t s : Fin 64,
    Scalar.select (IntOp.cmpi CmpIPredicate.sge (IntOp.addi (BitVec.ofNat 32 t.val) 0#32) (BitVec.ofNat 32 s.val)) 1#1 0#1
      = if s ≤ t then 1#1 else 0#1 := by decide +kernel

/-- The masked scores of a chunk. -/
theorem b54_at (b h : Fin 4) (t s : Fin 64) :
    (b54 (F := Ideal) j st (ix4 b h t s) : EReal)
      = if s ≤ t then ∑ x : Fin 128, (b5 (F := Ideal) j st (ix4 b t h x) : EReal) * Ideal.exp (b37 (F := Ideal) j st (ix4 b t h x))
          * ((b11 (F := Ideal) j st (ix4 b s h x) : EReal) * Ideal.exp (-(b37 (F := Ideal) j st (ix4 b s h x) : EReal))) else 0 := by
  pointwise [b54, b53, b52, b51, b34, b33, b32, b31, b30, b29, b28, b27, b26, b25, b24]
  rw [mask]
  by_cases c : s ≤ t
  · rw [if_pos c, if_pos c]
    refine (if_pos rfl : _ = b50 (F := Ideal) j st (ix4 b h t s)).trans ?_
    pointwise [b50, b40, b43, b42, b41, b39]
  · rw [if_neg c, if_neg c]
    exact if_neg (by decide)

/-- The state after a trip, of the chunk's values. -/
theorem b63_at (b h : Fin 4) (d : Fin 128) (w : Fin 256) :
    (b63 (F := Ideal) j st (ix4 b h d w) : EReal)
      = Sc (fun s d => b23 (F := Ideal) j st (ix4 b s h d)) (fun s d => b11 (F := Ideal) j st (ix4 b s h d)) (fun s w => b17 (F := Ideal) j st (ix4 b s h w))
          (fun d w => st.main_v44_5 (ix4 b h d w)) d w := by
  pointwise [b63, b61, b62, b60, b59, b49, b48, b47, b46, b45, b44, b38]
  unfold Sc
  simp only [b37_at]
  rw [mul_comm (Ideal.exp _)]
  exact congrArg (_ + ·) (Finset.sum_congr rfl fun x _ => mul_comm _ _)

/-- The output of a trip, of the chunk's values. -/
theorem b64_at (b h : Fin 4) (t : Fin 64) (w : Fin 256) :
    (b64 (F := Ideal) j st (ix4 b t h w) : EReal)
      = Oc (fun s d => b23 (F := Ideal) j st (ix4 b s h d)) (fun s d => b5 (F := Ideal) j st (ix4 b s h d)) (fun s d => b11 (F := Ideal) j st (ix4 b s h d))
          (fun s w => b17 (F := Ideal) j st (ix4 b s h w)) (fun d w => st.main_v44_5 (ix4 b h d w)) t w := by
  pointwise [b64, b56, b55, b58, b57]
  unfold Oc
  refine congrArg₂ (fun a b : EReal => a + b) (Finset.sum_congr rfl fun x _ => ?_) (Finset.sum_congr rfl fun x _ => ?_)
  · rw [b54_at]
    simp only [b37_at]
    exact mul_comm _ _
  · pointwise [b40, b39]
    rw [b37_at]
    exact mul_comm _ _

/-- The outputs after a trip: the trip's row is new, the others are as before. -/
theorem b70_at (hj : j < 64) (n : Fin 64) (b : Fin 4) (t : Fin 64) (h : Fin 4) (w : Fin 256) :
    (b70 (F := Ideal) j st (ix5 n b t h w) : EReal)
      = if n.val = j then b64 (F := Ideal) j st (ix4 b t h w) else st.main_v44_6 (ix5 n b t h w) := by
  unfold b70
  rw [Host.dynamicUpdateSlice_eq_updateSlice _ _ _ _ ![j, 0, 0, 0, 0] (fun a => by
    refine (congrArg (fun z : Int => (min (max z 0) _).toNat) (start_eq j hj a)).trans ?_
    match a with
    | ⟨0, _⟩ => show (min (max (j : Int) 0) ((64 - 1 : ℕ) : Int)).toNat = j; omega
    | ⟨1, _⟩ => rfl
    | ⟨2, _⟩ => rfl
    | ⟨3, _⟩ => rfl
    | ⟨4, _⟩ => rfl) (row256 j hj)]
  pointwise [b65]
  by_cases c : n.val = j
  · rw [if_pos c, dif_pos (by omega)]
  · rw [if_neg c, dif_neg (by omega)]

/-- The loop's iterates: the constants stay, the state is the recurrence's, and the outputs of the chunks done are the
formula's. -/
theorem iter_at (it : ℕ → State Ideal) (h0 : it 0 = init (F := Ideal) u wa ba) (hs : ∀ n, it (n + 1) = step n (it n)) :
    ∀ n : ℕ, n ≤ 64 →
      ((it n).main_v44_0 = A_main_v39 (F := Ideal) u wa ba ∧ (it n).main_v44_1 = A_main_v40 (F := Ideal) u wa ba
        ∧ (it n).main_v44_2 = A_main_v41 (F := Ideal) u wa ba ∧ (it n).main_v44_3 = A_main_v42 (F := Ideal) u wa ba)
      ∧ (∀ (b h : Fin 4) (d : Fin 128) (w : Fin 256), ((it n).main_v44_5 (ix4 b h d w) : EReal) = SU u wa ba b.val h.val n d w)
      ∧ (∀ (k : Fin 64) (b : Fin 4) (t : Fin 64) (h : Fin 4) (w : Fin 256), k.val < n →
          ((it n).main_v44_6 (ix5 k b t h w) : EReal) = OU u wa ba b.val h.val k.val t w) := by
  intro n
  induction n with
  | zero =>
    intro _
    rw [h0]
    refine ⟨⟨rfl, rfl, rfl, rfl⟩, fun b h d w => Ideal.ofBits_zero .f32, fun k b t h w hk => absurd hk (Nat.not_lt_zero _)⟩
  | succ n ih =>
    intro hn
    have hj : n < 64 := hn
    obtain ⟨⟨c0, c1, c2, c3⟩, hS, hO⟩ := ih (by omega)
    have eq5 : ∀ b h : Fin 4, (fun (s : Fin 64) (d : Fin 128) => (b5 (F := Ideal) n (it n) (ix4 b s h d) : EReal)) = qU u b.val h.val n :=
      fun b h => funext fun s => funext fun d => (b5_at n (it n) hj b s h d).trans ((congrFun c0 _).trans (q_at u wa ba ⟨n, hj⟩ b s h d))
    have eq11 : ∀ b h : Fin 4, (fun (s : Fin 64) (d : Fin 128) => (b11 (F := Ideal) n (it n) (ix4 b s h d) : EReal)) = kU u b.val h.val n :=
      fun b h => funext fun s => funext fun d => (b11_at n (it n) hj b s h d).trans ((congrFun c1 _).trans (k_at u wa ba ⟨n, hj⟩ b s h d))
    have eq17 : ∀ b h : Fin 4, (fun (s : Fin 64) (w : Fin 256) => (b17 (F := Ideal) n (it n) (ix4 b s h w) : EReal)) = vU u b.val h.val n :=
      fun b h => funext fun s => funext fun d => (b17_at n (it n) hj b s h d).trans ((congrFun c2 _).trans (v_at u wa ba ⟨n, hj⟩ b s h d))
    have eq23 : ∀ b h : Fin 4, (fun (s : Fin 64) (d : Fin 128) => (b23 (F := Ideal) n (it n) (ix4 b s h d) : EReal)) = laU u wa ba b.val h.val n :=
      fun b h => funext fun s => funext fun d => (b23_at n (it n) hj b s h d).trans ((congrFun c3 _).trans (la_at u wa ba ⟨n, hj⟩ b s h d))
    have eqS : ∀ b h : Fin 4, (fun (d : Fin 128) (w : Fin 256) => ((it n).main_v44_5 (ix4 b h d w) : EReal)) = SU u wa ba b.val h.val n :=
      fun b h => funext fun d => funext fun w => hS b h d w
    rw [hs]
    refine ⟨⟨c0, c1, c2, c3⟩, fun b h d w => ?_, fun k b t h w hk => ?_⟩
    · refine (b63_at n (it n) b h d w).trans ?_
      rw [eq23, eq11, eq17, eqS]
      rfl
    · refine (b70_at n (it n) hj k b t h w).trans ?_
      by_cases c : k.val = n
      · rw [if_pos c]
        refine (b64_at n (it n) b h t w).trans ?_
        rw [eq23, eq5, eq11, eq17, eqS, c]
        rfl
      · rw [if_neg c]
        exact hO k b t h w (by omega)

/-- The operations after the loop, at a row and a column, of the loop's outputs. -/
theorem r80_at (o : Fin 256 → EReal) (r : Fin 16384) (w : Fin 1024)
    (hO : ∀ x : Fin 256, (st.main_v44_6 (ix5 ⟨r.val % 4096 / 64, by omega⟩ ⟨r.val / 4096, by omega⟩ ⟨r.val % 4096 % 64, by omega⟩ ⟨w.val / 256, by omega⟩ x) : EReal) = o x) :
    (R_main_v80 (F := Ideal) st u g (ix2 r w) : EReal)
      = Yc (fun w => at2 g 0 w.val) o (fun x => zU u (r.val / 4096) (w.val / 256) (r.val % 4096 / 64) ⟨r.val % 64, Nat.mod_lt _ (by decide)⟩ x)
          ⟨w.val % 256, Nat.mod_lt _ (by decide)⟩ := by
  pointwise [R_main_v80]
  simp only [hO]
  unfold Yc
  have ez : ∀ (p : r.val / 4096 < 4) (q : r.val % 4096 < 4096) (y : 2064 + w.val < 11352),
      u (ix3 ⟨r.val / 4096, p⟩ ⟨r.val % 4096, q⟩ ⟨2064 + w.val, y⟩)
        = zU u (r.val / 4096) (w.val / 256) (r.val % 4096 / 64) ⟨r.val % 64, Nat.mod_lt _ (by decide)⟩ ⟨w.val % 256, Nat.mod_lt _ (by decide)⟩ :=
    fun p q y => at3_ix u _ _ _ _ _ _ rfl (by show r.val % 4096 = 64 * (r.val % 4096 / 64) + r.val % 64; omega)
      (by show 2064 + w.val = 2064 + (256 * (w.val / 256) + w.val % 256); omega)
  have eg : ∀ q : w.val % 256 < 256, g (ix2 0 ⟨w.val % 256, q⟩) = at2 g 0 (w.val % 256) := fun q => at2_ix g _ _ _ _ rfl rfl
  rw [ez, eg]

/-- The reference's result at a row and a column. -/
theorem result_at (it : ℕ → State Ideal) (h0 : it 0 = init (F := Ideal) u wa ba) (hs : ∀ n, it (n + 1) = step n (it n)) (i : S16384x1024.Idx) :
    (R_main_v80 (F := Ideal) (it 64) u g i : EReal)
      = YU u wa ba g ((i 0).val / 4096) ((i 1).val / 256) ((i 0).val % 4096 / 64)
          ⟨(i 0).val % 64, Nat.mod_lt _ (by decide)⟩ ⟨(i 1).val % 256, Nat.mod_lt _ (by decide)⟩ := by
  have hO := (iter_at u wa ba it h0 hs 64 (Nat.le_refl 64)).2.2
  generalize it 64 = st at hO ⊢
  have hi : i = ix2 (i 0) (i 1) := by
    funext a
    match a with
    | ⟨0, _⟩ => rfl
    | ⟨1, _⟩ => rfl
  refine (congrArg (R_main_v80 (F := Ideal) st u g) hi).trans ?_
  refine r80_at u g st (fun x => OU u wa ba ((i 0).val / 4096) ((i 1).val / 256) ((i 0).val % 4096 / 64) ⟨(i 0).val % 64, Nat.mod_lt _ (by decide)⟩ x) (i 0) (i 1) fun x => ?_
  have hr : (⟨(i 0).val % 4096 % 64, Nat.mod_lt _ (by decide)⟩ : Fin 64) = ⟨(i 0).val % 64, Nat.mod_lt _ (by decide)⟩ := Fin.ext (by show (i 0).val % 4096 % 64 = (i 0).val % 64; omega)
  refine (hO _ _ _ _ x (Fin.isLt _)).trans ?_
  exact congrArg (fun t => OU u wa ba ((i 0).val / 4096) ((i 1).val / 256) ((i 0).val % 4096 / 64) t x) hr

end Cert.ReferenceIdeal.RefIdeal
-- ==== Proof.Layer.lean ====
module

public import proofs.«01_k».proof.Proof.Spec

/-! The layer's norm, gates, merge and output projection, and its input projections, as formulas of rows. -/

@[expose] public section

noncomputable section

namespace Cert.Layer

open Idealize.ShloMosaic Idealize.ShloMosaic.Tactic Cert.Gla

/-- A row normed by its root mean square and multiplied by a gain. -/
def hn (x g : Fin 1024 → EReal) (k : Fin 1024) : EReal :=
  x k * Ideal.rsqrt (Ideal.div (∑ j, x j * x j) (Ideal.ofBits .f32 0x44800000#32) + Ideal.ofBits .f32 0x358637BD#32) * g k

/-- The logistic function. -/
def sg (z : EReal) : EReal := Ideal.div 1 (1 + Ideal.exp (-z))

/-- A row through a matrix, at a column. -/
def dotc (x : Fin 1024 → EReal) (w : Fin 1024 → EReal) : EReal := ∑ k, x k * w k

/-- One branch's projected output under its gate, at a column: the normed row, the gate's column, the branch's row and the
projection's column. -/
def term (h wg y w : Fin 1024 → EReal) : EReal := sg (dotc h wg) * dotc y w

/-- The output row of the layer: the residual plus the normed projection of the merged branches. -/
def outRow (x gp : Fin 1024 → EReal) (mg : Fin 1024 → EReal) (wo : Fin 1024 → Fin 1024 → EReal) (j : Fin 1024) : EReal :=
  x j + hn (fun l => dotc mg (fun k => wo k l)) gp j

/-- A position's row of a batched array. -/
def row3 {A B : ℕ} (x : (⟨3, ![A, B, 1024]⟩ : Shape).Idx → EReal) (b t : ℕ) : Fin 1024 → EReal := fun k => at3 x b t k.val
/-- A row of a matrix. -/
def row2 {A : ℕ} (x : (⟨2, ![A, 1024]⟩ : Shape).Idx → EReal) (r : ℕ) : Fin 1024 → EReal := fun k => at2 x r k.val
/-- A column of a weight with a leading axis of one. -/
def col3 {B : ℕ} (w : (⟨3, ![1, 1024, B]⟩ : Shape).Idx → EReal) (j : ℕ) : Fin 1024 → EReal := fun k => at3 w 0 k.val j

section
variable (y0 y1 y2 : (⟨2, ![16384, 1024]⟩ : Shape).Idx → EReal) (x : (⟨3, ![4, 4096, 1024]⟩ : Shape).Idx → EReal)
  (g gp : (⟨2, ![1, 1024]⟩ : Shape).Idx → EReal) (wi : (⟨3, ![1, 1024, 11352]⟩ : Shape).Idx → EReal)
  (w0 w1 w2 wo : (⟨3, ![1, 1024, 1024]⟩ : Shape).Idx → EReal)

/-- The normed row of a position. -/
def hrow (b t : ℕ) : Fin 1024 → EReal := hn (row3 x b t) (row2 g 0)

/-- The merged row: each branch's projected output under its gate. -/
def mrow (R b t : ℕ) (k : Fin 1024) : EReal :=
  term (hrow x g b t) (col3 wi (8280 + k.val)) (row2 y0 R) (col3 w0 k.val)
    + term (hrow x g b t) (col3 wi (9304 + k.val)) (row2 y1 R) (col3 w1 k.val)
    + term (hrow x g b t) (col3 wi (10328 + k.val)) (row2 y2 R) (col3 w2 k.val)

/-- The merging call's result at row `R`, position `t` of batch `b`, and column `j`. -/
def mergeAt (R b t : ℕ) (j : Fin 1024) : EReal :=
  outRow (row3 x b t) (row2 gp 0) (mrow y0 y1 y2 x g wi w0 w1 w2 R b t) (fun k l => at3 wo 0 k.val l.val) j
end

/-- A column of the low-precision projections, regrouped and padded with zeros, of a normed row. -/
def projA (h : Fin 1024 → EReal) (wi : (⟨3, ![1, 1024, 11352]⟩ : Shape).Idx → EReal) (J : ℕ) : EReal :=
  if J < 1024 then dotc h (col3 wi (3088 + (J - 0))) * Ideal.ofBits .f32 0x3E0293EE#32 else
  if J < 2048 then dotc h (col3 wi (6232 + (J - 1024))) * Ideal.ofBits .f32 0x3D800000#32 else
  if J < 3072 then dotc h (col3 wi (1024 + (J - 2048))) else
  if J < 3328 then dotc h (col3 wi (4112 + (J - 3072))) else
  if J < 3584 then dotc h (col3 wi (4368 + (J - 3328))) else
  if J < 4096 then dotc h (col3 wi (4624 + (J - 3584))) else
  if J < 4160 then dotc h (col3 wi (5136 + (J - 4096))) else
  if J < 4224 then 0 else
  if J < 4288 then 0 else
  dotc h (col3 wi (5136 + (J - 4288)))

/-- A column of the full-precision projections, regrouped and padded with zeros, of a normed row. -/
def projB (h : Fin 1024 → EReal) (wi : (⟨3, ![1, 1024, 11352]⟩ : Shape).Idx → EReal) (J : ℕ) : EReal :=
  if J < 1024 then dotc h (col3 wi (2064 + (J - 0))) else
  if J < 2048 then dotc h (col3 wi (5208 + (J - 1024))) else
  if J < 3072 then dotc h (col3 wi (7256 + (J - 2048))) else
  if J < 3584 then dotc h (col3 wi (0 + (J - 3072))) * Ideal.ofBits .f32 0x3DB504F3#32 else
  if J < 4096 then dotc h (col3 wi (512 + (J - 3584))) else
  if J < 4112 then dotc h (col3 wi (2048 + (J - 4096))) else
  if J < 4120 then dotc h (col3 wi (5200 + (J - 4112))) else
  0

/-- A key or value column of a memory row: the normed row through the memory's projection. -/
def memAt (x : (⟨3, ![4, 256, 1024]⟩ : Shape).Idx → EReal) (g : (⟨2, ![1, 1024]⟩ : Shape).Idx → EReal)
    (w : (⟨3, ![1, 1024, 2048]⟩ : Shape).Idx → EReal) (R J : ℕ) : EReal :=
  dotc (hn (row3 x (R / 256) (R % 256)) (row2 g 0)) (col3 w J)

end Cert.Layer
-- ==== Proof.MergeBlock.lean ====
module

public import proofs.«01_k».proof.Proof.Gen.MergeIdeal.Value
public import proofs.«01_k».proof.Proof.Layer
public import Idealize.ShloMosaic.Lib.Claim
public import Idealize.ShloMosaic.Lib.Pointwise
public import Idealize.ShloMosaic.Lib.Pointwise.Index
public import Idealize.ShloMosaic.Lib.Pipeline.ValueKit

/-! A step of the merging kernel: the block it leaves, read at an index. -/

@[expose] public section

set_option maxRecDepth 16384
set_option pp.deepTerms false
set_option pp.maxSteps 1000

noncomputable section

namespace Cert.MergeIdeal.Block

open Cert.MergeIdeal Cert.MergeIdeal.Gen Cert.Layer Cert.Gla
open Idealize.ShloMosaic Idealize.ShloMosaic.TcCoe Idealize.ShloMosaic.Tactic
open Idealize.ShloMosaic.Pipeline

/-- Row `r` of a block. -/
abbrev rw' {A : ℕ} (x : (⟨2, ![A, 1024]⟩ : Shape).Idx → EReal) (r : Fin A) : Fin 1024 → EReal := fun k => x (ix2 r k)
/-- Column `j` of a matrix. -/
abbrev cl' {B : ℕ} (x : (⟨2, ![1024, B]⟩ : Shape).Idx → EReal) (j : Fin B) : Fin 1024 → EReal := fun k => x (ix2 k j)

variable (x0 x1 x2 x3 : S512x1024.Idx → EReal) (x4 x10 : S1x1024.Idx → EReal) (w1 w2 w3 w4 : S1024x1024.Idx → EReal)

/-- The normed row. -/
theorem pay3_at (r : Fin 512) (k : Fin 1024) : (k0_pay3 (F := Ideal) x3 x4 (ix2 r k) : EReal) = hn (rw' x3 r) (rw' x4 0) k := by
  pointwise [k0_pay3, k0_pay2]
  rfl

/-- The first branch's term. -/
theorem pay4_at (r : Fin 512) (j : Fin 1024) :
    (k0_pay4 (F := Ideal) x3 x4 w1 x0 w2 (ix2 r j) : EReal) = term (hn (rw' x3 r) (rw' x4 0)) (rw' w1 j) (rw' x0 r) (cl' w2 j) := by
  pointwise [k0_pay4]
  unfold term sg dotc
  rw [sigmoid_eq]
  simp only [pay3_at]

/-- The second gate's half argument. -/
theorem pay5_at (r : Fin 512) (j : Fin 1024) :
    (k0_pay5 (F := Ideal) x3 x4 w1 (ix2 r j) : EReal) = Ideal.ofBits .f32 0x3F000000#32 * dotc (hn (rw' x3 r) (rw' x4 0)) (rw' w1 j) := by
  pointwise [k0_pay5]
  unfold dotc
  simp only [pay3_at]

/-- The merged row through the output projection. -/
theorem pay6_at (v16 v31 v36 : S512x1024.Idx → EReal) (r : Fin 512) (l : Fin 1024) (h : Fin 1024 → EReal) (t1 a2 : Fin 1024 → EReal)
    (h16 : ∀ k, v16 (ix2 r k) = h k) (h31 : ∀ k, v31 (ix2 r k) = t1 k) (h36 : ∀ k, v36 (ix2 r k) = Ideal.ofBits .f32 0x3F000000#32 * a2 k) :
    (k0_pay6 (F := Ideal) v16 v31 v36 x1 w1 w2 x2 w3 w4 (ix2 r l) : EReal)
      = dotc (fun k => t1 k + sg (a2 k) * dotc (rw' x1 r) (cl' w1 k) + term h (rw' w2 k) (rw' x2 r) (cl' w3 k)) (cl' w4 l) := by
  pointwise [k0_pay6]
  simp only [h16, h31, h36, sigmoid_eq]
  rfl

/-- The mean square of the projected row. -/
theorem pay7_at (v16 v31 v36 : S512x1024.Idx → EReal) (r : Fin 512) :
    (k0_pay7 (F := Ideal) v16 v31 v36 x1 w1 w2 x2 w3 w4 (ix2 r 0) : EReal)
      = Ideal.div (∑ l, (k0_pay6 (F := Ideal) v16 v31 v36 x1 w1 w2 x2 w3 w4 (ix2 r l) : EReal) * (k0_pay6 (F := Ideal) v16 v31 v36 x1 w1 w2 x2 w3 w4 (ix2 r l) : EReal)) (Ideal.ofBits .f32 0x44800000#32) := by
  pointwise [k0_pay7]

/-- The stored block. -/
theorem pay1_at (v67 : S512x1024.Idx → EReal) (v72 : S512x1.Idx → EReal) (r : Fin 512) (j : Fin 1024) :
    (k0_pay1 (F := Ideal) (k0_pay2 (F := Ideal) x3) v67 v72 (Scalar.ofBits .f32 0x358637BD#32) x10 (ix2 r j) : EReal)
      = x3 (ix2 r j) + v67 (ix2 r j) * Ideal.rsqrt (v72 (ix2 r 0) + Ideal.ofBits .f32 0x358637BD#32) * x10 (ix2 0 j) := by
  pointwise [k0_pay1, k0_pay2]
  first | rfl | trace_state

variable (x5 : S3072x1024.Idx → EReal)

/-- The gates' weights, one third of the rows. -/
theorem ld5 (o : ℕ) (inb : ∀ a : Fin 2, ![o, 0] a + S1024x1024.size a ≤ S3072x1024.size a) (j k : Fin 1024) (h : o + j.val < 3072) :
    (View.ld (Val := Elt Ideal) (e' := .bf16) x5 (Rect.unit (s := S3072x1024) ![o, 0] S1024x1024.size inb) (ix2 j k) : EReal) = x5 (ix2 ⟨o + j.val, h⟩ k) := by
  refine congrArg x5 (funext fun a => Fin.ext ?_)
  match a with
  | ⟨0, _⟩ => show o + 1 * j.val = o + j.val; omega
  | ⟨1, _⟩ => show 0 + 1 * k.val = k.val; omega

/-- The block a step leaves, at an index. -/
theorem out_at (r : Fin 512) (j : Fin 1024) :
    (out0_11 (F := Ideal) x0 x1 x2 x3 x4 x5 w1 w2 w3 w4 x10 (ix2 r j) : EReal)
      = outRow (rw' x3 r) (rw' x10 0)
          (fun k => term (hn (rw' x3 r) (rw' x4 0)) (fun l => x5 (ix2 ⟨k.val, by omega⟩ l)) (rw' x0 r) (cl' w1 k)
            + term (hn (rw' x3 r) (rw' x4 0)) (fun l => x5 (ix2 ⟨1024 + k.val, by omega⟩ l)) (rw' x1 r) (cl' w2 k)
            + term (hn (rw' x3 r) (rw' x4 0)) (fun l => x5 (ix2 ⟨2048 + k.val, by omega⟩ l)) (rw' x2 r) (cl' w3 k))
          (fun k l => w4 (ix2 k l)) j := by
  unfold_out out0_11
  rw [View.canon_unit_zero (by decide)]
  have hz : (![0, 0] : Fin 2 → ℕ) = fun _ => 0 := by decide
  unfold r0_0 r0_1 r0_3
  rw [View.ld_unit_zero (S := S512x1024) hz, View.ld_unit_zero (S := S512x1024) hz, View.ld_unit_zero (S := S512x1024) hz, View.ld_unit_zero (S := S512x1024) hz,
    View.ld_unit_zero (S := S1x1024) hz, View.ld_unit_zero (S := S1x1024) hz, View.ld_unit_zero (S := S1024x1024) hz, View.ld_unit_zero (S := S1024x1024) hz,
    View.ld_unit_zero (S := S1024x1024) hz, View.ld_unit_zero (S := S1024x1024) hz]
  refine (pay1_at x3 x10 _ _ r j).trans ?_
  rw [pay7_at]
  have h6 : ∀ l : Fin 1024, _ = _ := fun l => pay6_at x1 x2 w2 (View.ld (Val := Elt Ideal) (e' := .bf16) x5 r0_5) w3 w4 (k0_pay3 (F := Ideal) x3 x4)
    (k0_pay4 (F := Ideal) x3 x4 (View.ld (Val := Elt Ideal) (e' := .bf16) x5 r0_2) x0 w1) (k0_pay5 (F := Ideal) x3 x4 (View.ld (Val := Elt Ideal) (e' := .bf16) x5 r0_4)) r l
    (hn (rw' x3 r) (rw' x4 0)) _ _ (pay3_at x3 x4 r) (fun k => pay4_at x0 x3 x4 _ w1 r k) (fun k => pay5_at x3 x4 _ r k)
  simp only [h6]
  have e2 : ∀ k : Fin 1024, rw' (View.ld (Val := Elt Ideal) (e' := .bf16) x5 r0_2) k = fun l => x5 (ix2 ⟨k.val, by omega⟩ l) := fun k => funext fun l =>
    (ld5 x5 0 _ k l (by omega)).trans (by simp only [Nat.zero_add])
  have e4 : ∀ k : Fin 1024, rw' (View.ld (Val := Elt Ideal) (e' := .bf16) x5 r0_4) k = fun l => x5 (ix2 ⟨1024 + k.val, by omega⟩ l) := fun k => funext fun l =>
    ld5 x5 1024 _ k l (by omega)
  have e5 : ∀ k : Fin 1024, rw' (View.ld (Val := Elt Ideal) (e' := .bf16) x5 r0_5) k = fun l => x5 (ix2 ⟨2048 + k.val, by omega⟩ l) := fun k => funext fun l =>
    ld5 x5 2048 _ k l (by omega)
  unfold outRow
  simp only [e2, e4, e5]
  rfl

end Cert.MergeIdeal.Block
-- ==== Proof.MergeHost.lean ====
module

public import proofs.«01_k».proof.Proof.MergeBlock
public import Idealize.ShloMosaic.Lib.StableHlo.ReadAt

/-! The merging kernel's windows, read at an index in terms of the launch's arrays, and the array it leaves. -/

@[expose] public section

set_option maxRecDepth 16384
set_option pp.deepTerms false
set_option pp.maxSteps 1000

noncomputable section

namespace Cert.MergeIdeal.HostIn

open Cert.MergeIdeal Cert.MergeIdeal.Gen Cert.MergeIdeal.Block Cert.Layer Cert.Gla
open Idealize.ShloMosaic Idealize.ShloMosaic.TcCoe Idealize.ShloMosaic.Tactic
open Idealize.ShloMosaic.Pipeline

variable (m : (ℓ : Loc nD τ sig) → Buf (Elt Ideal) ℓ) (c : Dev nD)

/-- The first branch's output at launch. -/
abbrev Y0 : S16384x1024.Idx → EReal := m ((c : Thread nD τ).loc main_arg0)
/-- The second branch's output at launch. -/
abbrev Y1 : S16384x1024.Idx → EReal := m ((c : Thread nD τ).loc main_arg1)
/-- The third branch's output at launch. -/
abbrev Y2 : S16384x1024.Idx → EReal := m ((c : Thread nD τ).loc main_arg2)
/-- The residual stream at launch. -/
abbrev XX : S4x4096x1024.Idx → EReal := m ((c : Thread nD τ).loc main_arg3)
/-- The gain before at launch. -/
abbrev GP : S1x1024.Idx → EReal := m ((c : Thread nD τ).loc main_arg4)
/-- The gain after at launch. -/
abbrev GQ : S1x1024.Idx → EReal := m ((c : Thread nD τ).loc main_arg5)
/-- The input projection at launch. -/
abbrev WI : S1x1024x11352.Idx → EReal := m ((c : Thread nD τ).loc main_arg6)
/-- The first branch's projection at launch. -/
abbrev W0 : S1x1024x1024.Idx → EReal := m ((c : Thread nD τ).loc main_arg7)
/-- The second branch's projection at launch. -/
abbrev W1 : S1x1024x1024.Idx → EReal := m ((c : Thread nD τ).loc main_arg8)
/-- The third branch's projection at launch. -/
abbrev W2 : S1x1024x1024.Idx → EReal := m ((c : Thread nD τ).loc main_arg9)
/-- The output projection at launch. -/
abbrev WO : S1x1024x1024.Idx → EReal := m ((c : Thread nD τ).loc main_arg10)

/-- The input projection's gate columns, as rows. -/
theorem wg_at (j k : Fin 1024) (o : ℕ) (ho : o + j.val < 3072) : (V m c main_v3 : S3072x1024.Idx → EReal) (ix2 ⟨o + j.val, ho⟩ k) = at3 (WI m c) 0 k.val (8280 + (o + j.val)) := by
  unfold V
  after_reads_at
  exact at3_ix (WI m c) _ _ _ _ _ _ rfl rfl rfl

/-- The residual stream's rows. -/
theorem xx_at (r : Fin 16384) (k : Fin 1024) : (V m c main_v4 : S16384x1024.Idx → EReal) (ix2 r k) = at3 (XX m c) (r.val / 4096) (r.val % 4096) k.val := by
  unfold V
  after_reads_at
  exact at3_ix (XX m c) _ _ _ _ _ _ rfl rfl rfl

/-- A gain as the kernel reads it. -/
theorem gp_at (k : Fin 1024) : (V m c main_v15 : S1x1024.Idx → EReal) (ix2 0 k) = at2 (GP m c) 0 k.val := by
  unfold V
  after_reads_at
  exact at2_ix (GP m c) _ _ _ _ rfl rfl

/-- A gain as the kernel reads it. -/
theorem gq_at (k : Fin 1024) : (V m c main_v16 : S1x1024.Idx → EReal) (ix2 0 k) = at2 (GQ m c) 0 k.val := by
  unfold V
  after_reads_at
  exact at2_ix (GQ m c) _ _ _ _ rfl rfl

/-- A weight as the kernel reads it. -/
theorem w0_at (k j : Fin 1024) : (V m c main_v7 : S1024x1024.Idx → EReal) (ix2 k j) = at3 (W0 m c) 0 k.val j.val := by
  unfold V
  after_reads_at
  exact at3_ix (W0 m c) _ _ _ _ _ _ rfl rfl rfl

/-- A weight as the kernel reads it. -/
theorem w1_at (k j : Fin 1024) : (V m c main_v9 : S1024x1024.Idx → EReal) (ix2 k j) = at3 (W1 m c) 0 k.val j.val := by
  unfold V
  after_reads_at
  exact at3_ix (W1 m c) _ _ _ _ _ _ rfl rfl rfl

/-- A weight as the kernel reads it. -/
theorem w2_at (k j : Fin 1024) : (V m c main_v11 : S1024x1024.Idx → EReal) (ix2 k j) = at3 (W2 m c) 0 k.val j.val := by
  unfold V
  after_reads_at
  exact at3_ix (W2 m c) _ _ _ _ _ _ rfl rfl rfl

/-- A weight as the kernel reads it. -/
theorem wo_at (k j : Fin 1024) : (V m c main_v13 : S1024x1024.Idx → EReal) (ix2 k j) = at3 (WO m c) 0 k.val j.val := by
  unfold V
  after_reads_at
  exact at3_ix (WO m c) _ _ _ _ _ _ rfl rfl rfl

/-- There are 32 points. -/
theorem point_lt (t : Fin cfg0.N) : t.val < 32 := lt_of_lt_of_eq t.isLt (show cfg0.N = 32 from N_0)

/-- Window 0's block index at a point. -/
theorem idx0 : ∀ t : Fin cfg0.N, win0_0.index t = ![t.val, 0] := by decide +kernel

/-- Window 1's block index at a point. -/
theorem idx1 : ∀ t : Fin cfg0.N, win0_1.index t = ![t.val, 0] := by decide +kernel

/-- Window 2's block index at a point. -/
theorem idx2 : ∀ t : Fin cfg0.N, win0_2.index t = ![t.val, 0] := by decide +kernel

/-- Window 3's block index at a point. -/
theorem idx3 : ∀ t : Fin cfg0.N, win0_3.index t = ![t.val, 0] := by decide +kernel

/-- Window 4's block index at a point. -/
theorem idx4 : ∀ t : Fin cfg0.N, win0_4.index t = ![0, 0] := by decide +kernel

/-- Window 5's block index at a point. -/
theorem idx5 : ∀ t : Fin cfg0.N, win0_5.index t = ![0, 0] := by decide +kernel

/-- Window 6's block index at a point. -/
theorem idx6 : ∀ t : Fin cfg0.N, win0_6.index t = ![0, 0] := by decide +kernel

/-- Window 7's block index at a point. -/
theorem idx7 : ∀ t : Fin cfg0.N, win0_7.index t = ![0, 0] := by decide +kernel

/-- Window 8's block index at a point. -/
theorem idx8 : ∀ t : Fin cfg0.N, win0_8.index t = ![0, 0] := by decide +kernel

/-- Window 9's block index at a point. -/
theorem idx9 : ∀ t : Fin cfg0.N, win0_9.index t = ![0, 0] := by decide +kernel

/-- Window 10's block index at a point. -/
theorem idx10 : ∀ t : Fin cfg0.N, win0_10.index t = ![0, 0] := by decide +kernel

/-- Window 11's block index at a point. -/
theorem idx11 : ∀ t : Fin cfg0.N, win0_11.index t = ![t.val, 0] := by decide +kernel

/-- A step's block of window 0. -/
theorem x0_at (t : Fin cfg0.N) (r : Fin 512) (k : Fin 1024) : (iblk m c 0 t : S512x1024.Idx → EReal) (ix2 r k) = at2 (Y0 m c) (512 * t.val + r.val) k.val := by
  blk_simp [iblk]
  refine (congrArg (V m c (arrRef spec0 0)) (?_ : _ = ix2 (⟨512 * t.val + r.val, by have := point_lt t; omega⟩ : Fin 16384) k)).trans ?_
  · funext a
    apply Fin.ext
    match a with
    | ⟨0, _⟩ => show win0_0.index t 0 * 512 + 1 * r.val = 512 * t.val + r.val; rw [idx0]; show t.val * 512 + 1 * r.val = 512 * t.val + r.val; omega
    | ⟨1, _⟩ => show win0_0.index t 1 * 1024 + 1 * k.val = k.val; rw [idx0]; show 0 * 1024 + 1 * k.val = k.val; omega
  · exact (congrFun (V_main_arg0 m c) _).trans (at2_ix (Y0 m c) _ _ _ _ rfl rfl)

/-- A step's block of window 1. -/
theorem x1_at (t : Fin cfg0.N) (r : Fin 512) (k : Fin 1024) : (iblk m c 1 t : S512x1024.Idx → EReal) (ix2 r k) = at2 (Y1 m c) (512 * t.val + r.val) k.val := by
  blk_simp [iblk]
  refine (congrArg (V m c (arrRef spec0 1)) (?_ : _ = ix2 (⟨512 * t.val + r.val, by have := point_lt t; omega⟩ : Fin 16384) k)).trans ?_
  · funext a
    apply Fin.ext
    match a with
    | ⟨0, _⟩ => show win0_1.index t 0 * 512 + 1 * r.val = 512 * t.val + r.val; rw [idx1]; show t.val * 512 + 1 * r.val = 512 * t.val + r.val; omega
    | ⟨1, _⟩ => show win0_1.index t 1 * 1024 + 1 * k.val = k.val; rw [idx1]; show 0 * 1024 + 1 * k.val = k.val; omega
  · exact (congrFun (V_main_arg1 m c) _).trans (at2_ix (Y1 m c) _ _ _ _ rfl rfl)

/-- A step's block of window 2. -/
theorem x2_at (t : Fin cfg0.N) (r : Fin 512) (k : Fin 1024) : (iblk m c 2 t : S512x1024.Idx → EReal) (ix2 r k) = at2 (Y2 m c) (512 * t.val + r.val) k.val := by
  blk_simp [iblk]
  refine (congrArg (V m c (arrRef spec0 2)) (?_ : _ = ix2 (⟨512 * t.val + r.val, by have := point_lt t; omega⟩ : Fin 16384) k)).trans ?_
  · funext a
    apply Fin.ext
    match a with
    | ⟨0, _⟩ => show win0_2.index t 0 * 512 + 1 * r.val = 512 * t.val + r.val; rw [idx2]; show t.val * 512 + 1 * r.val = 512 * t.val + r.val; omega
    | ⟨1, _⟩ => show win0_2.index t 1 * 1024 + 1 * k.val = k.val; rw [idx2]; show 0 * 1024 + 1 * k.val = k.val; omega
  · exact (congrFun (V_main_arg2 m c) _).trans (at2_ix (Y2 m c) _ _ _ _ rfl rfl)

/-- A step's block of window 3. -/
theorem x3_at (t : Fin cfg0.N) (r : Fin 512) (k : Fin 1024) : (iblk m c 3 t : S512x1024.Idx → EReal) (ix2 r k) = at3 (XX m c) ((512 * t.val + r.val) / 4096) ((512 * t.val + r.val) % 4096) k.val := by
  blk_simp [iblk]
  refine (congrArg (V m c (arrRef spec0 3)) (?_ : _ = ix2 (⟨512 * t.val + r.val, by have := point_lt t; omega⟩ : Fin 16384) k)).trans ?_
  · funext a
    apply Fin.ext
    match a with
    | ⟨0, _⟩ => show win0_3.index t 0 * 512 + 1 * r.val = 512 * t.val + r.val; rw [idx3]; show t.val * 512 + 1 * r.val = 512 * t.val + r.val; omega
    | ⟨1, _⟩ => show win0_3.index t 1 * 1024 + 1 * k.val = k.val; rw [idx3]; show 0 * 1024 + 1 * k.val = k.val; omega
  · exact xx_at m c (⟨512 * t.val + r.val, by have := point_lt t; omega⟩ : Fin 16384) k

/-- A step's block of window 4. -/
theorem x4_at (t : Fin cfg0.N) (k : Fin 1024) : (iblk m c 4 t : S1x1024.Idx → EReal) (ix2 0 k) = at2 (GP m c) 0 k.val := by
  blk_simp [iblk]
  refine (congrArg (V m c (arrRef spec0 4)) (?_ : _ = ix2 0 k)).trans ?_
  · funext a
    apply Fin.ext
    match a with
    | ⟨0, _⟩ => show win0_4.index t 0 * 1 + 1 * 0 = 0; rw [idx4]; rfl
    | ⟨1, _⟩ => show win0_4.index t 1 * 1024 + 1 * k.val = k.val; rw [idx4]; show 0 * 1024 + 1 * k.val = k.val; omega
  · exact gp_at m c k

/-- A step's block of window 5. -/
theorem x5_at (t : Fin cfg0.N) (r : Fin 3072) (k : Fin 1024) : (iblk m c 5 t : S3072x1024.Idx → EReal) (ix2 r k) = (V m c main_v3 : S3072x1024.Idx → EReal) (ix2 r k) := by
  blk_simp [iblk]
  refine (congrArg (V m c (arrRef spec0 5)) (?_ : _ = ix2 r k)).trans ?_
  · funext a
    apply Fin.ext
    match a with
    | ⟨0, _⟩ => show win0_5.index t 0 * 3072 + 1 * r.val = r.val; rw [idx5]; show 0 * 3072 + 1 * r.val = r.val; omega
    | ⟨1, _⟩ => show win0_5.index t 1 * 1024 + 1 * k.val = k.val; rw [idx5]; show 0 * 1024 + 1 * k.val = k.val; omega
  · rfl

/-- A step's block of window 6. -/
theorem x6_at (t : Fin cfg0.N) (r k : Fin 1024) : (iblk m c 6 t : S1024x1024.Idx → EReal) (ix2 r k) = at3 (W0 m c) 0 r.val k.val := by
  blk_simp [iblk]
  refine (congrArg (V m c (arrRef spec0 6)) (?_ : _ = ix2 r k)).trans ?_
  · funext a
    apply Fin.ext
    match a with
    | ⟨0, _⟩ => show win0_6.index t 0 * 1024 + 1 * r.val = r.val; rw [idx6]; show 0 * 1024 + 1 * r.val = r.val; omega
    | ⟨1, _⟩ => show win0_6.index t 1 * 1024 + 1 * k.val = k.val; rw [idx6]; show 0 * 1024 + 1 * k.val = k.val; omega
  · exact w0_at m c r k

/-- A step's block of window 7. -/
theorem x7_at (t : Fin cfg0.N) (r k : Fin 1024) : (iblk m c 7 t : S1024x1024.Idx → EReal) (ix2 r k) = at3 (W1 m c) 0 r.val k.val := by
  blk_simp [iblk]
  refine (congrArg (V m c (arrRef spec0 7)) (?_ : _ = ix2 r k)).trans ?_
  · funext a
    apply Fin.ext
    match a with
    | ⟨0, _⟩ => show win0_7.index t 0 * 1024 + 1 * r.val = r.val; rw [idx7]; show 0 * 1024 + 1 * r.val = r.val; omega
    | ⟨1, _⟩ => show win0_7.index t 1 * 1024 + 1 * k.val = k.val; rw [idx7]; show 0 * 1024 + 1 * k.val = k.val; omega
  · exact w1_at m c r k

/-- A step's block of window 8. -/
theorem x8_at (t : Fin cfg0.N) (r k : Fin 1024) : (iblk m c 8 t : S1024x1024.Idx → EReal) (ix2 r k) = at3 (W2 m c) 0 r.val k.val := by
  blk_simp [iblk]
  refine (congrArg (V m c (arrRef spec0 8)) (?_ : _ = ix2 r k)).trans ?_
  · funext a
    apply Fin.ext
    match a with
    | ⟨0, _⟩ => show win0_8.index t 0 * 1024 + 1 * r.val = r.val; rw [idx8]; show 0 * 1024 + 1 * r.val = r.val; omega
    | ⟨1, _⟩ => show win0_8.index t 1 * 1024 + 1 * k.val = k.val; rw [idx8]; show 0 * 1024 + 1 * k.val = k.val; omega
  · exact w2_at m c r k

/-- A step's block of window 9. -/
theorem x9_at (t : Fin cfg0.N) (r k : Fin 1024) : (iblk m c 9 t : S1024x1024.Idx → EReal) (ix2 r k) = at3 (WO m c) 0 r.val k.val := by
  blk_simp [iblk]
  refine (congrArg (V m c (arrRef spec0 9)) (?_ : _ = ix2 r k)).trans ?_
  · funext a
    apply Fin.ext
    match a with
    | ⟨0, _⟩ => show win0_9.index t 0 * 1024 + 1 * r.val = r.val; rw [idx9]; show 0 * 1024 + 1 * r.val = r.val; omega
    | ⟨1, _⟩ => show win0_9.index t 1 * 1024 + 1 * k.val = k.val; rw [idx9]; show 0 * 1024 + 1 * k.val = k.val; omega
  · exact wo_at m c r k

/-- A step's block of window 10. -/
theorem x10_at (t : Fin cfg0.N) (k : Fin 1024) : (iblk m c 10 t : S1x1024.Idx → EReal) (ix2 0 k) = at2 (GQ m c) 0 k.val := by
  blk_simp [iblk]
  refine (congrArg (V m c (arrRef spec0 10)) (?_ : _ = ix2 0 k)).trans ?_
  · funext a
    apply Fin.ext
    match a with
    | ⟨0, _⟩ => show win0_10.index t 0 * 1 + 1 * 0 = 0; rw [idx10]; rfl
    | ⟨1, _⟩ => show win0_10.index t 1 * 1024 + 1 * k.val = k.val; rw [idx10]; show 0 * 1024 + 1 * k.val = k.val; omega
  · exact gq_at m c k

/-- Every point writes its block back. -/
theorem flush_all : ∀ t : Fin cfg0.N, (cfg0.win 11).flush t = true := by decide +kernel

/-- What a point leaves, at an index. -/
theorem step_at (t : Fin cfg0.N) (r : Fin 512) (j : Fin 1024) (R : ℕ) (hR : 512 * t.val + r.val = R) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j) : EReal)
      = mergeAt (Y0 m c) (Y1 m c) (Y2 m c) (XX m c) (GP m c) (GQ m c) (WI m c) (W0 m c) (W1 m c) (W2 m c) (WO m c) R (R / 4096) (R % 4096) j := by
  subst hR
  refine (out_at (iblk m c 0 t) (iblk m c 1 t) (iblk m c 2 t) (iblk m c 3 t) (iblk m c 4 t) (iblk m c 10 t) (iblk m c 6 t) (iblk m c 7 t) (iblk m c 8 t) (iblk m c 9 t) (iblk m c 5 t) r j).trans ?_
  have h0 : rw' (iblk m c 0 t : S512x1024.Idx → EReal) r = row2 (Y0 m c) (512 * t.val + r.val) := funext fun k => x0_at m c t r k
  have h1 : rw' (iblk m c 1 t : S512x1024.Idx → EReal) r = row2 (Y1 m c) (512 * t.val + r.val) := funext fun k => x1_at m c t r k
  have h2 : rw' (iblk m c 2 t : S512x1024.Idx → EReal) r = row2 (Y2 m c) (512 * t.val + r.val) := funext fun k => x2_at m c t r k
  have h3 : rw' (iblk m c 3 t : S512x1024.Idx → EReal) r = row3 (XX m c) ((512 * t.val + r.val) / 4096) ((512 * t.val + r.val) % 4096) := funext fun k => x3_at m c t r k
  have h4 : rw' (iblk m c 4 t : S1x1024.Idx → EReal) 0 = row2 (GP m c) 0 := funext fun k => x4_at m c t k
  have h10 : rw' (iblk m c 10 t : S1x1024.Idx → EReal) 0 = row2 (GQ m c) 0 := funext fun k => x10_at m c t k
  have h6 : ∀ k, cl' (iblk m c 6 t : S1024x1024.Idx → EReal) k = col3 (W0 m c) k.val := fun k => funext fun l => x6_at m c t l k
  have h7 : ∀ k, cl' (iblk m c 7 t : S1024x1024.Idx → EReal) k = col3 (W1 m c) k.val := fun k => funext fun l => x7_at m c t l k
  have h8 : ∀ k, cl' (iblk m c 8 t : S1024x1024.Idx → EReal) k = col3 (W2 m c) k.val := fun k => funext fun l => x8_at m c t l k
  have h9 : (fun k l : Fin 1024 => (iblk m c 9 t : S1024x1024.Idx → EReal) (ix2 k l)) = fun k l => at3 (WO m c) 0 k.val l.val := funext fun k => funext fun l => x9_at m c t k l
  have g0 : ∀ k : Fin 1024, (fun l : Fin 1024 => (iblk m c 5 t : S3072x1024.Idx → EReal) (ix2 ⟨k.val, by omega⟩ l)) = col3 (WI m c) (8280 + k.val) := fun k => funext fun l =>
    (x5_at m c t _ l).trans (by have := wg_at m c k l 0 (by omega); simp only [Nat.zero_add] at this; exact this)
  have g1 : ∀ k : Fin 1024, (fun l : Fin 1024 => (iblk m c 5 t : S3072x1024.Idx → EReal) (ix2 ⟨1024 + k.val, by omega⟩ l)) = col3 (WI m c) (9304 + k.val) := fun k => funext fun l =>
    ((x5_at m c t _ l).trans (wg_at m c k l 1024 (by omega))).trans (congrArg (at3 (WI m c) 0 l.val) (by omega))
  have g2 : ∀ k : Fin 1024, (fun l : Fin 1024 => (iblk m c 5 t : S3072x1024.Idx → EReal) (ix2 ⟨2048 + k.val, by omega⟩ l)) = col3 (WI m c) (10328 + k.val) := fun k => funext fun l =>
    ((x5_at m c t _ l).trans (wg_at m c k l 2048 (by omega))).trans (congrArg (at3 (WI m c) 0 l.val) (by omega))
  rw [h0, h1, h2, h3, h4, h10, h9]
  simp only [h6, h7, h8, g0, g1, g2]
  rfl

/-- The array the kernel leaves, at an index. -/
theorem arr_at (R : Fin 16384) (j : Fin 1024) :
    ((dats m 0 c).arrAt 11 cfg0.N : S16384x1024.Idx → EReal) (ix2 R j)
      = mergeAt (Y0 m c) (Y1 m c) (Y2 m c) (XX m c) (GP m c) (GQ m c) (WI m c) (W0 m c) (W1 m c) (W2 m c) (WO m c) R.val (R.val / 4096) (R.val % 4096) j := by
  let t : Fin cfg0.N := ⟨R.val / 512, by rw [show cfg0.N = 32 from N_0]; omega⟩
  let r : Fin 512 := ⟨R.val % 512, by omega⟩
  have h := congrFun (Cert.MergeIdeal.Value.blocks11 m c t (flush_all t)) (ix2 r j)
  rw [Cert.MergeIdeal.Value.flushed11] at h
  have e : ((cfg0.win 11).blk t).view.emb (ix2 r j) = ix2 R j := by
    funext a
    apply Fin.ext
    match a with
    | ⟨0, _⟩ => show win0_11.index t 0 * 512 + 1 * r.val = R.val; rw [idx11]; show (R.val / 512) * 512 + 1 * (R.val % 512) = R.val; omega
    | ⟨1, _⟩ => show win0_11.index t 1 * 1024 + 1 * j.val = j.val; rw [idx11]; show 0 * 1024 + 1 * j.val = j.val; omega
  refine ((congrArg ((dats m 0 c).arrAt 11 cfg0.N : S16384x1024.Idx → EReal) e).symm.trans h).trans ?_
  exact step_at m c t r j R.val (by show 512 * (R.val / 512) + R.val % 512 = R.val; omega)

end Cert.MergeIdeal.HostIn
-- ==== Proof.MergeRef.lean ====
module

public import proofs.«01_k».proof.Proof.Gen.MergeReferenceIdeal.Run
public import proofs.«01_k».proof.Proof.Layer
public import Idealize.ShloMosaic.Lib.Claim
public import Idealize.ShloMosaic.Lib.Pointwise
public import Idealize.ShloMosaic.Lib.Pointwise.Index

/-! The merging call's reference, read at an index in terms of the launch's arrays. -/

@[expose] public section

set_option maxRecDepth 16384
set_option pp.deepTerms false
set_option pp.maxSteps 1000

noncomputable section

namespace Cert.MergeReferenceIdeal.RefAt

open Cert.MergeReferenceIdeal Cert.MergeReferenceIdeal.Gen Cert.MergeReferenceIdeal.Value Cert.Layer Cert.Gla
open Idealize.ShloMosaic Idealize.ShloMosaic.TcCoe Idealize.ShloMosaic.Tactic

variable (m : (ℓ : Loc nD τ sig) → Buf (Elt Ideal) ℓ) (c : Dev nD)

/-- The norm of every position's row. -/
def Nm (x : FVec Ideal S4x4096x1024 .f32) (g : FVec Ideal S1x1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))

/-- The three branches' gates. -/
def Gt (h : FVec Ideal S4x4096x1024 .f32) (wi : FVec Ideal S1x1024x11352 .f32) : FVec Ideal S4x4096x3072 .f32 :=
  Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf (extractStridedSlice S4x4096x3072 ![0, 0, 8280] (Host.dotGeneral dot_S4x4096x1024_S1024x11352_S4x4096x11352_2_0_01_1_n_n none h (shapeCast _ wi shapeCasts_S1x1024x11352_S1024x11352)) slices_S4x4096x11352_S4x4096x3072_0_0_8280))))

/-- The merged branches. -/
def Mg (gt : FVec Ideal S4x4096x3072 .f32) (y0 y1 y2 : FVec Ideal S16384x1024 .bf16) (w0 w1 w2 : FVec Ideal S1x1024x1024 .f32) : FVec Ideal S4x4096x1024 .f32 :=
  addf (addf (mulf (extractStridedSlice S4x4096x1024 ![0, 0, 0] gt slices_S4x4096x3072_S4x4096x1024_0_0_0) (Host.dotGeneral dot_S4x4096x1024_S1024x1024_S4x4096x1024_2_0_01_1_n_n none (shapeCast _ (extf .f32 y0 bitsLt_bf16_f32) shapeCasts_S16384x1024_S4x4096x1024) (shapeCast _ w0 shapeCasts_S1x1024x1024_S1024x1024))) (mulf (extractStridedSlice S4x4096x1024 ![0, 0, 1024] gt slices_S4x4096x3072_S4x4096x1024_0_0_1024) (Host.dotGeneral dot_S4x4096x1024_S1024x1024_S4x4096x1024_2_0_01_1_n_n none (shapeCast _ (extf .f32 y1 bitsLt_bf16_f32) shapeCasts_S16384x1024_S4x4096x1024) (shapeCast _ w1 shapeCasts_S1x1024x1024_S1024x1024)))) (mulf (extractStridedSlice S4x4096x1024 ![0, 0, 2048] gt slices_S4x4096x3072_S4x4096x1024_0_0_2048) (Host.dotGeneral dot_S4x4096x1024_S1024x1024_S4x4096x1024_2_0_01_1_n_n none (shapeCast _ (extf .f32 y2 bitsLt_bf16_f32) shapeCasts_S16384x1024_S4x4096x1024) (shapeCast _ w2 shapeCasts_S1x1024x1024_S1024x1024)))

/-- A row through a weight. -/
def Pj (z : FVec Ideal S4x4096x1024 .f32) (w : FVec Ideal S1x1024x1024 .f32) : FVec Ideal S4x4096x1024 .f32 :=
  Host.dotGeneral dot_S4x4096x1024_S1024x1024_S4x4096x1024_2_0_01_1_n_n none z (shapeCast _ w shapeCasts_S1x1024x1024_S1024x1024)

/-- The result from the merged branches. -/
def Rs (x : FVec Ideal S4x4096x1024 .f32) (n : FVec Ideal S4x4096x1024 .f32) : FVec Ideal S16384x1024 .f32 :=
  shapeCast _ (addf x n) shapeCasts_S4x4096x1024_S16384x1024

/-- The reference's result is these, one after the other. -/
theorem res_eq : res_main_v74 (F := Ideal) m c = Rs (m ((c : Thread nD τ).loc main_arg3)) (Nm (Pj (Mg (Gt (Nm (m ((c : Thread nD τ).loc main_arg3)) (m ((c : Thread nD τ).loc main_arg4))) (m ((c : Thread nD τ).loc main_arg6)))
      (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)))
      (m ((c : Thread nD τ).loc main_arg10))) (m ((c : Thread nD τ).loc main_arg5))) := rfl

variable (x z n h : S4x4096x1024.Idx → EReal) (g : S1x1024.Idx → EReal) (wi : S1x1024x11352.Idx → EReal) (gt : S4x4096x3072.Idx → EReal)
  (y0 y1 y2 : S16384x1024.Idx → EReal) (w0 w1 w2 : S1x1024x1024.Idx → EReal)

/-- A gain at a column. -/
theorem at2_one (k : Fin 1024) : g (ix2 0 k) = row2 g 0 k := at2_ix g _ _ _ _ rfl rfl

/-- The norm at an index. -/
theorem Nm_at (b : Fin 4) (t : Fin 4096) (k : Fin 1024) : (Nm x g (ix3 b t k) : EReal) = hn (fun l => x (ix3 b t l)) (row2 g 0) k := by
  pointwise [Nm]
  unfold hn
  rw [at2_one g k]

/-- A gate at an index. -/
theorem Gt_at (b : Fin 4) (t : Fin 4096) (k : Fin 3072) : (Gt h wi (ix3 b t k) : EReal) = sg (dotc (fun l => h (ix3 b t l)) (col3 wi (8280 + k.val))) := by
  pointwise [Gt]
  unfold sg dotc
  exact congrArg (fun z : EReal => Ideal.div 1 (1 + Ideal.exp (-z))) (Finset.sum_congr rfl fun l _ => congrArg (fun y : EReal => h (ix3 b t l) * y) (at3_ix wi _ _ _ _ _ _ rfl rfl rfl))

/-- The merged branches at an index. -/
theorem Mg_at (b : Fin 4) (t : Fin 4096) (k : Fin 1024) (R : Fin 16384) (hR : 4096 * b.val + t.val = R.val) : (Mg gt y0 y1 y2 w0 w1 w2 (ix3 b t k) : EReal)
    = gt (ix3 b t ⟨0 + k.val, by omega⟩) * dotc (row2 y0 R.val) (col3 w0 k.val) + gt (ix3 b t ⟨1024 + k.val, by omega⟩) * dotc (row2 y1 R.val) (col3 w1 k.val)
      + gt (ix3 b t ⟨2048 + k.val, by omega⟩) * dotc (row2 y2 R.val) (col3 w2 k.val) := by
  pointwise [Mg]
  have hr : ∀ y : S16384x1024.Idx → EReal, ∀ l : Fin 1024, y (ix2 ⟨b.val * 4096 + t.val, by omega⟩ l) = row2 y R.val l := fun y l => at2_ix y _ _ _ _ (by show b.val * 4096 + t.val = R.val; omega) rfl
  have hc : ∀ w : S1x1024x1024.Idx → EReal, ∀ l : Fin 1024, w (ix3 0 l k) = col3 w k.val l := fun w l => at3_ix w _ _ _ _ _ _ rfl rfl rfl
  unfold dotc
  simp only [hr, hc]

/-- A row through a weight, at an index. -/
theorem Pj_at (b : Fin 4) (t : Fin 4096) (k : Fin 1024) : (Pj z w0 (ix3 b t k) : EReal) = dotc (fun l => z (ix3 b t l)) (col3 w0 k.val) := by
  pointwise [Pj]
  exact Finset.sum_congr rfl fun l _ => congrArg (fun y : EReal => z (ix3 b t l) * y) (at3_ix w0 _ _ _ _ _ _ rfl rfl rfl)

/-- The result at an index. -/
theorem Rs_at (R : Fin 16384) (k : Fin 1024) (b : Fin 4) (t : Fin 4096) (hb : b.val = R.val / 4096) (ht : t.val = R.val % 4096) :
    (Rs x n (ix2 R k) : EReal) = x (ix3 b t k) + n (ix3 b t k) := by
  have h1 : R.val / 4096 < 4 := by omega
  have h2 : R.val % 4096 < 4096 := by omega
  rw [show b = ⟨R.val / 4096, h1⟩ from Fin.ext hb, show t = ⟨R.val % 4096, h2⟩ from Fin.ext ht]
  pointwise [Rs]

variable (gp : S1x1024.Idx → EReal) (wo : S1x1024x1024.Idx → EReal)

/-- The whole reference at an index, of any arrays. -/
theorem all_at (R : Fin 16384) (j : Fin 1024) :
    (Rs x (Nm (Pj (Mg (Gt (Nm x g) wi) y0 y1 y2 w0 w1 w2) wo) gp) (ix2 R j) : EReal)
      = mergeAt y0 y1 y2 x g gp wi w0 w1 w2 wo R.val (R.val / 4096) (R.val % 4096) j := by
  have hR : R.val = 4096 * (R.val / 4096) + R.val % 4096 := by omega
  have hb : R.val / 4096 < 4 := by omega
  have ht : R.val % 4096 < 4096 := by omega
  refine (Rs_at x _ R j ⟨_, hb⟩ ⟨_, ht⟩ rfl rfl).trans ?_
  have hx : ∀ l : Fin 1024, x (ix3 ⟨_, hb⟩ ⟨_, ht⟩ l) = row3 x (R.val / 4096) (R.val % 4096) l :=
    fun l => at3_ix _ _ _ _ _ _ _ rfl rfl rfl
  have hh : ∀ l : Fin 1024, (Nm x g (ix3 ⟨_, hb⟩ ⟨_, ht⟩ l) : EReal) = hrow x g (R.val / 4096) (R.val % 4096) l := fun l => by
    rw [Nm_at]
    simp only [hx]
    rfl
  have hg : ∀ l : Fin 3072, (Gt (Nm x g) wi (ix3 ⟨_, hb⟩ ⟨_, ht⟩ l) : EReal) = sg (dotc (hrow x g (R.val / 4096) (R.val % 4096)) (col3 wi (8280 + l.val))) := fun l => by
    rw [Gt_at]
    simp only [hh]
  have hm : ∀ l : Fin 1024, (Mg (Gt (Nm x g) wi) y0 y1 y2 w0 w1 w2 (ix3 ⟨_, hb⟩ ⟨_, ht⟩ l) : EReal) = mrow y0 y1 y2 x g wi w0 w1 w2 R.val (R.val / 4096) (R.val % 4096) l := fun l => by
    refine (Mg_at _ y0 y1 y2 w0 w1 w2 ⟨_, hb⟩ ⟨_, ht⟩ l R hR.symm).trans ?_
    rw [hg, hg, hg]
    unfold mrow term
    rw [show 8280 + (⟨0 + l.val, by omega⟩ : Fin 3072).val = 8280 + l.val by dsimp only; omega, show 8280 + (⟨1024 + l.val, by omega⟩ : Fin 3072).val = 9304 + l.val by dsimp only; omega,
      show 8280 + (⟨2048 + l.val, by omega⟩ : Fin 3072).val = 10328 + l.val by dsimp only; omega]
  rw [Nm_at, hx]
  simp only [Pj_at, hm]
  rfl

/-- The reference's result at an index. -/
theorem res_at (R : Fin 16384) (j : Fin 1024) : (res_main_v74 (F := Ideal) m c : S16384x1024.Idx → EReal) (ix2 R j)
    = mergeAt (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      R.val (R.val / 4096) (R.val % 4096) j := by
  rw [res_eq]
  exact all_at _ _ _ _ _ _ _ _ _ _ _ R j

end Cert.MergeReferenceIdeal.RefAt
-- ==== Proof.MergeAlg.lean ====
module

public import proofs.«01_k».proof.Defs
public import proofs.«01_k».proof.Proof.MergeHost
public import proofs.«01_k».proof.Proof.MergeRef
public import Idealize.ShloMosaic.Lib.Claim

/-! The kernel's result against its reference's. -/

@[expose] public section

set_option maxRecDepth 16384

noncomputable section

namespace Cert.Proof

open Idealize.ShloMosaic Idealize.ShloMosaic.TcCoe Idealize.ShloMosaic.Tactic

/-- At the extended reals the kernel leaves what its reference leaves. -/
theorem algebraic_Merge : Cert.algebraic_MergeIdeal_MergeReferenceIdeal (hMergeIdeal := Cert.MergeIdeal.Gen.facts)
    (hMergeReferenceIdeal := Cert.MergeReferenceIdeal.Gen.facts) := by
  intro m g m' g' _ hargs
  refine ⟨_, Cert.MergeIdeal.Value.run_blocks m g, ?_⟩
  refine (θ_run Cert.MergeReferenceIdeal.defs _ _).mono (fun r h c => ⟨(h c).1.trans ?_, (h c).2⟩) (Cert.MergeReferenceIdeal.Value.run m' g')
  obtain ⟨e0, e1, e2, e3, e4, e5, e6, e7, e8, e9, e10⟩ := hargs c
  funext i
  obtain ⟨R, j, rfl⟩ : ∃ (R : Fin 16384) (j : Fin 1024), i = ix2 R j := ⟨i 0, i 1, by funext a; match a with | ⟨0, _⟩ => rfl | ⟨1, _⟩ => rfl⟩
  refine (Cert.MergeReferenceIdeal.RefAt.res_at m' c R j).trans ?_
  rw [e0, e1, e2, e3, e4, e5, e6, e7, e8, e9, e10]
  exact (Cert.MergeIdeal.HostIn.arr_at m c R j).symm

/-- The reference runs, leaves its arguments as they were, and has no semaphore whose counter could be off zero. -/
theorem frame_Merge : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run m ρ)

end Cert.Proof

end
-- ==== Proof.ProjABlock.lean ====
module

public import proofs.«01_k».proof.Proof.Gen.ProjAIdeal.Value
public import proofs.«01_k».proof.Proof.Layer
public import Idealize.ShloMosaic.Lib.Claim
public import Idealize.ShloMosaic.Lib.Pointwise
public import Idealize.ShloMosaic.Lib.Pointwise.Index
public import Idealize.ShloMosaic.Lib.Writes
public import Idealize.ShloMosaic.Lib.Pipeline.ValueKit

/-! A step of the projecting kernel: the block it leaves, read at an index. -/

@[expose] public section

set_option maxRecDepth 16384
set_option pp.deepTerms false
set_option pp.maxSteps 1000

noncomputable section

namespace Cert.ProjAIdeal.Block

open Cert.ProjAIdeal Cert.ProjAIdeal.Gen Cert.Layer Cert.Gla
open Idealize.ShloMosaic Idealize.ShloMosaic.TcCoe Idealize.ShloMosaic.Tactic
open Idealize.ShloMosaic.Pipeline

variable (x0 : S512x1024.Idx → EReal) (x1 : S1x1024.Idx → EReal) (x2 : S4352x1024.Idx → EReal) (x3 : S1x4352.Idx → EReal)

/-- The normed row. -/
theorem pay1_at (r : Fin 512) (k : Fin 1024) : (k0_pay1 (F := Ideal) x0 x1 (ix2 r k) : EReal) = hn (fun l => x0 (ix2 r l)) (fun l => x1 (ix2 0 l)) k := by
  pointwise [k0_pay1]
  rfl

/-- The normed row through the weights, scaled. -/
theorem pay2_at (h : S512x1024.Idx → EReal) (r : Fin 512) (j : Fin 4352) :
    (k0_pay2 (F := Ideal) h x2 x3 (ix2 r j) : EReal) = dotc (fun k => h (ix2 r k)) (fun k => x2 (ix2 j k)) * x3 (ix2 0 j) := by
  pointwise [k0_pay2]
  rfl

section
variable {F : FTy → Type} [FloatOps F] (x0 : Vec F S512x1024 .f32) (x1 : Vec F S1x1024 .f32) (x2 : Vec F S4352x1024 .bf16) (x3 : Vec F S1x4352 .f32)

/-- A window's block read through a rectangle. -/
theorem readAt_whole {s : Shape} {e : EltTy} {sp : Space} (q : Memref sig .tc sp s e) (h : q.IsWhole) (X : s.Idx → Elt F e) (r : Rect s) :
    View.readAt (Elt F) q.view r.toLoadRect (h.unread X) = View.ld (Val := Elt F) X r := by
  rw [View.readAt_eq_ld, h.read_unread]

/-- The block a step leaves is its one store. -/
theorem out_eq (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S4352x1024 .bf16) (harg4 : arg4.IsWhole) (arg5 : Memref sig .tc .vmem S1x4352 .f32) (harg5 : arg5.IsWhole) (arg6 : Memref sig .tc .vmem S512x4352 .bf16) (harg6 : arg6.IsWhole) (arg7 : Memref sig .tc .vmem S512x1024 .bf16) (harg7 : arg7.IsWhole) (hc0 : cond0_0 i) :
    out0_A_4 c i arg2 harg2 arg3 harg3 arg4 harg4 arg5 harg5 arg6 harg6 arg7 harg7 hc0 x0 x1 x2 x3 = k0_pay2 (k0_pay1 x0 x1) x2 x3 := by
  have hz : (![0, 0] : Fin 2 → ℕ) = fun _ => 0 := by decide
  funext y
  unfold out0_A_4
  refine View.read_writes_apply_of_pieces VO0_4 _ (k0_pay2 (k0_pay1 x0 x1) x2 x3) _ ?_ y (cover0_A_4 c i arg2 harg2 arg3 harg3 arg4 harg4 arg5 harg5 arg6 harg6 arg7 harg7 hc0 x0 x1 x2 x3 y)
  unfold kernelRun0_A
  dsimp only
  refine List.forall_mem_cons.2 ⟨fun x => ?_, fun p hp => absurd hp List.not_mem_nil⟩
  have ex : (Rect.unit (s := S512x4352) ![0, 0] S512x4352.size inb_S512x4352_S512x4352_0_0).emb x = x := by
    funext a
    apply Fin.ext
    match a with
    | ⟨0, _⟩ => show 0 + 1 * (x 0).val = (x 0).val; omega
    | ⟨1, _⟩ => show 0 + 1 * (x 1).val = (x 1).val; omega
  refine Eq.trans ?_ (congrArg (k0_pay2 (k0_pay1 x0 x1) x2 x3) ex).symm
  refine congrFun (a := x) ?_
  have h3 : kernelRun0_A.sl.v3 c arg2 harg2 arg3 harg3 arg7 x0 x1 = k0_pay1 x0 x1 := by
    unfold kernelRun0_A.sl.v3
    refine (View.readCov_unit_zero _ hz _ _).trans ?_
    rw [readAt_whole, readAt_whole, View.ld_unit_zero (S := S512x1024) hz, View.ld_unit_zero (S := S1x1024) hz]
  show k0_pay2 _ _ _ = _
  rw [h3, readAt_whole, readAt_whole, View.ld_unit_zero (S := S4352x1024) hz, View.ld_unit_zero (S := S1x4352) hz]
end

/-- The block a step leaves, at an index. -/
theorem out_at (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S4352x1024 .bf16) (harg4 : arg4.IsWhole) (arg5 : Memref sig .tc .vmem S1x4352 .f32) (harg5 : arg5.IsWhole) (arg6 : Memref sig .tc .vmem S512x4352 .bf16) (harg6 : arg6.IsWhole) (arg7 : Memref sig .tc .vmem S512x1024 .bf16) (harg7 : arg7.IsWhole) (hc0 : cond0_0 i) (r : Fin 512) (j : Fin 4352) :
    (out0_A_4 (F := Ideal) c i arg2 harg2 arg3 harg3 arg4 harg4 arg5 harg5 arg6 harg6 arg7 harg7 hc0 x0 x1 x2 x3 (ix2 r j) : EReal)
      = dotc (hn (fun l => x0 (ix2 r l)) (fun l => x1 (ix2 0 l))) (fun k => x2 (ix2 j k)) * x3 (ix2 0 j) := by
  refine (congrFun (out_eq (F := Ideal) x0 x1 x2 x3 c i arg2 harg2 arg3 harg3 arg4 harg4 arg5 harg5 arg6 harg6 arg7 harg7 hc0) _).trans ?_
  refine (pay2_at x2 x3 _ r j).trans ?_
  simp only [pay1_at]

end Cert.ProjAIdeal.Block
-- ==== Proof.ProjAHost.lean ====
module

public import proofs.«01_k».proof.Proof.ProjABlock
public import Idealize.ShloMosaic.Lib.StableHlo.ReadAt

/-! The projecting kernel's windows, read at an index in terms of the launch's arrays, and the array it leaves. -/

@[expose] public section

set_option maxRecDepth 16384
set_option pp.deepTerms false
set_option pp.maxSteps 1000

noncomputable section

namespace Cert.ProjAIdeal.HostIn

open Cert.ProjAIdeal Cert.ProjAIdeal.Gen Cert.ProjAIdeal.Block Cert.Layer Cert.Gla
open Idealize.ShloMosaic Idealize.ShloMosaic.TcCoe Idealize.ShloMosaic.Tactic
open Idealize.ShloMosaic.Pipeline

variable (m : (ℓ : Loc nD τ sig) → Buf (Elt Ideal) ℓ) (c : Dev nD)

/-- The residual stream at launch. -/
abbrev XX : S4x4096x1024.Idx → EReal := m ((c : Thread nD τ).loc main_arg0)
/-- The gain at launch. -/
abbrev GP : S1x1024.Idx → EReal := m ((c : Thread nD τ).loc main_arg1)
/-- The input projection at launch. -/
abbrev WI : S1x1024x11352.Idx → EReal := m ((c : Thread nD τ).loc main_arg2)

/-- The residual stream's rows. -/
theorem xx_at (r : Fin 16384) (k : Fin 1024) : (V m c main_v44 : S16384x1024.Idx → EReal) (ix2 r k) = at3 (XX m c) (r.val / 4096) (r.val % 4096) k.val := by
  unfold V
  after_reads_at
  exact at3_ix (XX m c) _ _ _ _ _ _ rfl rfl rfl

/-- The gain as the kernel reads it. -/
theorem gp_at (k : Fin 1024) : (V m c main_v46 : S1x1024.Idx → EReal) (ix2 0 k) = at2 (GP m c) 0 k.val := by
  unfold V
  after_reads_at
  exact at2_ix (GP m c) _ _ _ _ rfl rfl

/-- The weights' column `J`, regrouped and padded with zeros. -/
def wcol (wi : S1x1024x11352.Idx → EReal) (J : ℕ) (k : Fin 1024) : EReal :=
  if J < 1024 then at3 wi 0 k.val (3088 + (J - 0)) else
  if J < 2048 then at3 wi 0 k.val (6232 + (J - 1024)) else
  if J < 3072 then at3 wi 0 k.val (1024 + (J - 2048)) else
  if J < 3328 then at3 wi 0 k.val (4112 + (J - 3072)) else
  if J < 3584 then at3 wi 0 k.val (4368 + (J - 3328)) else
  if J < 4096 then at3 wi 0 k.val (4624 + (J - 3584)) else
  if J < 4160 then at3 wi 0 k.val (5136 + (J - 4096)) else
  if J < 4224 then 0 else
  if J < 4288 then 0 else
  at3 wi 0 k.val (5136 + (J - 4288))

/-- The columns' scales. -/
def wsc (J : ℕ) : EReal :=
  if J < 1024 then Ideal.ofBits .f32 0x3E0293EE#32 else
  if J < 2048 then Ideal.ofBits .f32 0x3D800000#32 else
  if J < 3072 then 1 else
  if J < 3328 then 1 else
  if J < 3584 then 1 else
  if J < 4096 then 1 else
  if J < 4160 then 1 else
  if J < 4224 then 1 else
  if J < 4288 then 1 else
  1

/-- The regrouped weights' columns from 0 on. -/
theorem w_at_0 (J : Fin 4352) (k : Fin 1024) (ha : 0 ≤ J.val) (hb : J.val < 1024) : (V m c main_v22 : S4352x1024.Idx → EReal) (ix2 J k) = at3 (WI m c) 0 k.val (3088 + (J.val - 0)) := by
  unfold V
  after_reads_at
  rw [dif_pos (by omega)]
  after_reads_at
  exact at3_ix (WI m c) _ _ _ _ _ _ rfl rfl (by first | (dsimp only; omega) | omega | rfl)

/-- The regrouped weights' columns from 1024 on. -/
theorem w_at_1 (J : Fin 4352) (k : Fin 1024) (ha : 1024 ≤ J.val) (hb : J.val < 2048) : (V m c main_v22 : S4352x1024.Idx → EReal) (ix2 J k) = at3 (WI m c) 0 k.val (6232 + (J.val - 1024)) := by
  unfold V
  after_reads_at
  rw [dif_neg (by omega), dif_pos (by omega)]
  after_reads_at
  exact at3_ix (WI m c) _ _ _ _ _ _ rfl rfl (by first | (dsimp only; omega) | omega | rfl)

/-- The regrouped weights' columns from 2048 on. -/
theorem w_at_2 (J : Fin 4352) (k : Fin 1024) (ha : 2048 ≤ J.val) (hb : J.val < 3072) : (V m c main_v22 : S4352x1024.Idx → EReal) (ix2 J k) = at3 (WI m c) 0 k.val (1024 + (J.val - 2048)) := by
  unfold V
  after_reads_at
  rw [dif_neg (by omega), dif_neg (by omega), dif_pos (by omega)]
  after_reads_at
  exact at3_ix (WI m c) _ _ _ _ _ _ rfl rfl (by first | (dsimp only; omega) | omega | rfl)

/-- The regrouped weights' columns from 3072 on. -/
theorem w_at_3 (J : Fin 4352) (k : Fin 1024) (ha : 3072 ≤ J.val) (hb : J.val < 3328) : (V m c main_v22 : S4352x1024.Idx → EReal) (ix2 J k) = at3 (WI m c) 0 k.val (4112 + (J.val - 3072)) := by
  unfold V
  after_reads_at
  rw [dif_neg (by omega), dif_neg (by omega), dif_neg (by omega), dif_pos (by omega)]
  after_reads_at
  exact at3_ix (WI m c) _ _ _ _ _ _ rfl rfl (by first | (dsimp only; omega) | omega | rfl)

/-- The regrouped weights' columns from 3328 on. -/
theorem w_at_4 (J : Fin 4352) (k : Fin 1024) (ha : 3328 ≤ J.val) (hb : J.val < 3584) : (V m c main_v22 : S4352x1024.Idx → EReal) (ix2 J k) = at3 (WI m c) 0 k.val (4368 + (J.val - 3328)) := by
  unfold V
  after_reads_at
  rw [dif_neg (by omega), dif_neg (by omega), dif_neg (by omega), dif_neg (by omega), dif_pos (by omega)]
  after_reads_at
  exact at3_ix (WI m c) _ _ _ _ _ _ rfl rfl (by first | (dsimp only; omega) | omega | rfl)

/-- The regrouped weights' columns from 3584 on. -/
theorem w_at_5 (J : Fin 4352) (k : Fin 1024) (ha : 3584 ≤ J.val) (hb : J.val < 4096) : (V m c main_v22 : S4352x1024.Idx → EReal) (ix2 J k) = at3 (WI m c) 0 k.val (4624 + (J.val - 3584)) := by
  unfold V
  after_reads_at
  rw [dif_neg (by omega), dif_neg (by omega), dif_neg (by omega), dif_neg (by omega), dif_neg (by omega), dif_pos (by omega)]
  after_reads_at
  exact at3_ix (WI m c) _ _ _ _ _ _ rfl rfl (by first | (dsimp only; omega) | omega | rfl)

/-- The regrouped weights' columns from 4096 on. -/
theorem w_at_6 (J : Fin 4352) (k : Fin 1024) (ha : 4096 ≤ J.val) (hb : J.val < 4160) : (V m c main_v22 : S4352x1024.Idx → EReal) (ix2 J k) = at3 (WI m c) 0 k.val (5136 + (J.val - 4096)) := by
  unfold V
  after_reads_at
  rw [dif_neg (by omega), dif_neg (by omega), dif_neg (by omega), dif_neg (by omega), dif_neg (by omega), dif_neg (by omega), dif_pos (by omega)]
  after_reads_at
  rw [dif_pos (by omega)]
  all_goals try after_reads_at
  exact at3_ix (WI m c) _ _ _ _ _ _ rfl rfl (by first | (dsimp only; omega) | omega | rfl)

/-- The regrouped weights' columns from 4160 on. -/
theorem w_at_7 (J : Fin 4352) (k : Fin 1024) (ha : 4160 ≤ J.val) (hb : J.val < 4224) : (V m c main_v22 : S4352x1024.Idx → EReal) (ix2 J k) = (0 : EReal) := by
  unfold V
  after_reads_at
  rw [dif_neg (by omega), dif_neg (by omega), dif_neg (by omega), dif_neg (by omega), dif_neg (by omega), dif_neg (by omega), dif_pos (by omega)]
  after_reads_at
  rw [dif_neg (by omega)]
  all_goals try after_reads_at
  all_goals exact Ideal.ofBits_zero .f32

/-- The regrouped weights' columns from 4224 on. -/
theorem w_at_8 (J : Fin 4352) (k : Fin 1024) (ha : 4224 ≤ J.val) (hb : J.val < 4288) : (V m c main_v22 : S4352x1024.Idx → EReal) (ix2 J k) = (0 : EReal) := by
  unfold V
  after_reads_at
  rw [dif_neg (by omega), dif_neg (by omega), dif_neg (by omega), dif_neg (by omega), dif_neg (by omega), dif_neg (by omega), dif_neg (by omega)]
  after_reads_at
  rw [dif_pos (by omega)]
  all_goals try after_reads_at
  all_goals exact Ideal.ofBits_zero .f32

/-- The regrouped weights' columns from 4288 on. -/
theorem w_at_9 (J : Fin 4352) (k : Fin 1024) (ha : 4288 ≤ J.val) (hb : J.val < 4352) : (V m c main_v22 : S4352x1024.Idx → EReal) (ix2 J k) = at3 (WI m c) 0 k.val (5136 + (J.val - 4288)) := by
  unfold V
  after_reads_at
  rw [dif_neg (by omega), dif_neg (by omega), dif_neg (by omega), dif_neg (by omega), dif_neg (by omega), dif_neg (by omega), dif_neg (by omega)]
  after_reads_at
  rw [dif_neg (by omega)]
  all_goals try after_reads_at
  exact at3_ix (WI m c) _ _ _ _ _ _ rfl rfl (by first | (dsimp only; omega) | omega | rfl)

/-- The regrouped weights. -/
theorem w_at (J : Fin 4352) (k : Fin 1024) : (V m c main_v22 : S4352x1024.Idx → EReal) (ix2 J k) = wcol (WI m c) J.val k := by
  unfold wcol
  by_cases h0 : J.val < 1024
  · rw [if_pos h0]
    exact w_at_0 m c J k (by omega) (by omega)
  by_cases h1 : J.val < 2048
  · rw [if_neg h0, if_pos h1]
    exact w_at_1 m c J k (by omega) (by omega)
  by_cases h2 : J.val < 3072
  · rw [if_neg h0, if_neg h1, if_pos h2]
    exact w_at_2 m c J k (by omega) (by omega)
  by_cases h3 : J.val < 3328
  · rw [if_neg h0, if_neg h1, if_neg h2, if_pos h3]
    exact w_at_3 m c J k (by omega) (by omega)
  by_cases h4 : J.val < 3584
  · rw [if_neg h0, if_neg h1, if_neg h2, if_neg h3, if_pos h4]
    exact w_at_4 m c J k (by omega) (by omega)
  by_cases h5 : J.val < 4096
  · rw [if_neg h0, if_neg h1, if_neg h2, if_neg h3, if_neg h4, if_pos h5]
    exact w_at_5 m c J k (by omega) (by omega)
  by_cases h6 : J.val < 4160
  · rw [if_neg h0, if_neg h1, if_neg h2, if_neg h3, if_neg h4, if_neg h5, if_pos h6]
    exact w_at_6 m c J k (by omega) (by omega)
  by_cases h7 : J.val < 4224
  · rw [if_neg h0, if_neg h1, if_neg h2, if_neg h3, if_neg h4, if_neg h5, if_neg h6, if_pos h7]
    exact w_at_7 m c J k (by omega) (by omega)
  by_cases h8 : J.val < 4288
  · rw [if_neg h0, if_neg h1, if_neg h2, if_neg h3, if_neg h4, if_neg h5, if_neg h6, if_neg h7, if_pos h8]
    exact w_at_8 m c J k (by omega) (by omega)
  rw [if_neg h0, if_neg h1, if_neg h2, if_neg h3, if_neg h4, if_neg h5, if_neg h6, if_neg h7, if_neg h8]
  exact w_at_9 m c J k (by omega) (by omega)

/-- The columns' scales as the kernel reads them. -/
theorem s_at (J : Fin 4352) : (V m c main_v47 : S1x4352.Idx → EReal) (ix2 0 J) = wsc J.val := by
  unfold V wsc
  after_reads_at
  by_cases h0 : J.val < 1024
  · rw [if_pos h0]
    rw [dif_pos (by omega)]
    after_reads_at
  by_cases h1 : J.val < 2048
  · rw [if_neg h0, if_pos h1]
    rw [dif_neg (by omega), dif_pos (by omega)]
    after_reads_at
  by_cases h2 : J.val < 3072
  · rw [if_neg h0, if_neg h1, if_pos h2]
    rw [dif_neg (by omega), dif_neg (by omega), dif_pos (by omega)]
    after_reads_at
  by_cases h3 : J.val < 3328
  · rw [if_neg h0, if_neg h1, if_neg h2, if_pos h3]
    rw [dif_neg (by omega), dif_neg (by omega), dif_neg (by omega), dif_pos (by omega)]
    after_reads_at
  by_cases h4 : J.val < 3584
  · rw [if_neg h0, if_neg h1, if_neg h2, if_neg h3, if_pos h4]
    rw [dif_neg (by omega), dif_neg (by omega), dif_neg (by omega), dif_neg (by omega), dif_pos (by omega)]
    after_reads_at
  by_cases h5 : J.val < 4096
  · rw [if_neg h0, if_neg h1, if_neg h2, if_neg h3, if_neg h4, if_pos h5]
    rw [dif_neg (by omega), dif_neg (by omega), dif_neg (by omega), dif_neg (by omega), dif_neg (by omega), dif_pos (by omega)]
    after_reads_at
  by_cases h6 : J.val < 4160
  · rw [if_neg h0, if_neg h1, if_neg h2, if_neg h3, if_neg h4, if_neg h5, if_pos h6]
    rw [dif_neg (by omega), dif_neg (by omega), dif_neg (by omega), dif_neg (by omega), dif_neg (by omega), dif_neg (by omega), dif_pos (by omega)]
    after_reads_at
  by_cases h7 : J.val < 4224
  · rw [if_neg h0, if_neg h1, if_neg h2, if_neg h3, if_neg h4, if_neg h5, if_neg h6, if_pos h7]
    rw [dif_neg (by omega), dif_neg (by omega), dif_neg (by omega), dif_neg (by omega), dif_neg (by omega), dif_neg (by omega), dif_pos (by omega)]
    after_reads_at
  by_cases h8 : J.val < 4288
  · rw [if_neg h0, if_neg h1, if_neg h2, if_neg h3, if_neg h4, if_neg h5, if_neg h6, if_neg h7, if_pos h8]
    rw [dif_neg (by omega), dif_neg (by omega), dif_neg (by omega), dif_neg (by omega), dif_neg (by omega), dif_neg (by omega), dif_neg (by omega)]
    after_reads_at
  rw [if_neg h0, if_neg h1, if_neg h2, if_neg h3, if_neg h4, if_neg h5, if_neg h6, if_neg h7, if_neg h8]
  rw [dif_neg (by omega), dif_neg (by omega), dif_neg (by omega), dif_neg (by omega), dif_neg (by omega), dif_neg (by omega), dif_neg (by omega)]
  after_reads_at

/-- A row through the regrouped weights, scaled. -/
theorem proj_eq (h : Fin 1024 → EReal) (wi : S1x1024x11352.Idx → EReal) (J : Fin 4352) : dotc h (wcol wi J.val) * wsc J.val = projA h wi J.val := by
  unfold wcol wsc projA
  by_cases h0 : J.val < 1024
  · simp only [h0, if_true, if_false]
    rfl
  by_cases h1 : J.val < 2048
  · simp only [h0, h1, if_true, if_false]
    rfl
  by_cases h2 : J.val < 3072
  · simp only [h0, h1, h2, if_true, if_false]
    rw [mul_one]
    rfl
  by_cases h3 : J.val < 3328
  · simp only [h0, h1, h2, h3, if_true, if_false]
    rw [mul_one]
    rfl
  by_cases h4 : J.val < 3584
  · simp only [h0, h1, h2, h3, h4, if_true, if_false]
    rw [mul_one]
    rfl
  by_cases h5 : J.val < 4096
  · simp only [h0, h1, h2, h3, h4, h5, if_true, if_false]
    rw [mul_one]
    rfl
  by_cases h6 : J.val < 4160
  · simp only [h0, h1, h2, h3, h4, h5, h6, if_true, if_false]
    rw [mul_one]
    rfl
  by_cases h7 : J.val < 4224
  · simp only [h0, h1, h2, h3, h4, h5, h6, h7, if_true, if_false]
    unfold dotc
    simp only [mul_zero, Finset.sum_const_zero, zero_mul]
  by_cases h8 : J.val < 4288
  · simp only [h0, h1, h2, h3, h4, h5, h6, h7, h8, if_true, if_false]
    unfold dotc
    simp only [mul_zero, Finset.sum_const_zero, zero_mul]
  simp only [h0, h1, h2, h3, h4, h5, h6, h7, h8, if_true, if_false]
  rw [mul_one]
  rfl

/-- There are 32 points. -/
theorem point_lt (t : Fin cfg0.N) : t.val < 32 := lt_of_lt_of_eq t.isLt (show cfg0.N = 32 from N_0)

/-- Window 0's block index at a point. -/
theorem idx0 : ∀ t : Fin cfg0.N, win0_0.index t = ![t.val, 0] := by decide +kernel

/-- Window 1's block index at a point. -/
theorem idx1 : ∀ t : Fin cfg0.N, win0_1.index t = ![0, 0] := by decide +kernel

/-- Window 2's block index at a point. -/
theorem idx2 : ∀ t : Fin cfg0.N, win0_2.index t = ![0, 0] := by decide +kernel

/-- Window 3's block index at a point. -/
theorem idx3 : ∀ t : Fin cfg0.N, win0_3.index t = ![0, 0] := by decide +kernel

/-- Window 4's block index at a point. -/
theorem idx4 : ∀ t : Fin cfg0.N, win0_4.index t = ![t.val, 0] := by decide +kernel

/-- A step's block of window 0. -/
theorem x0_at (t : Fin cfg0.N) (r : Fin 512) (k : Fin 1024) : (iblk m c 0 t : S512x1024.Idx → EReal) (ix2 r k) = at3 (XX m c) ((512 * t.val + r.val) / 4096) ((512 * t.val + r.val) % 4096) k.val := by
  blk_simp [iblk]
  refine (congrArg (V m c (arrRef spec0 0)) (?_ : _ = ix2 (⟨512 * t.val + r.val, by have := point_lt t; omega⟩ : Fin 16384) k)).trans ?_
  · funext a
    apply Fin.ext
    match a with
    | ⟨0, _⟩ => show win0_0.index t 0 * 512 + 1 * r.val = 512 * t.val + r.val; rw [idx0]; show t.val * 512 + 1 * r.val = 512 * t.val + r.val; omega
    | ⟨1, _⟩ => show win0_0.index t 1 * 1024 + 1 * k.val = k.val; rw [idx0]; show 0 * 1024 + 1 * k.val = k.val; omega
  · exact xx_at m c (⟨512 * t.val + r.val, by have := point_lt t; omega⟩ : Fin 16384) k

/-- A step's block of window 1. -/
theorem x1_at (t : Fin cfg0.N) (k : Fin 1024) : (iblk m c 1 t : S1x1024.Idx → EReal) (ix2 0 k) = at2 (GP m c) 0 k.val := by
  blk_simp [iblk]
  refine (congrArg (V m c (arrRef spec0 1)) (?_ : _ = ix2 0 k)).trans ?_
  · funext a
    apply Fin.ext
    match a with
    | ⟨0, _⟩ => show win0_1.index t 0 * 1 + 1 * 0 = 0; rw [idx1]; rfl
    | ⟨1, _⟩ => show win0_1.index t 1 * 1024 + 1 * k.val = k.val; rw [idx1]; show 0 * 1024 + 1 * k.val = k.val; omega
  · exact gp_at m c k

/-- A step's block of window 2. -/
theorem x2_at (t : Fin cfg0.N) (J : Fin 4352) (k : Fin 1024) : (iblk m c 2 t : S4352x1024.Idx → EReal) (ix2 J k) = wcol (WI m c) J.val k := by
  blk_simp [iblk]
  refine (congrArg (V m c (arrRef spec0 2)) (?_ : _ = ix2 J k)).trans ?_
  · funext a
    apply Fin.ext
    match a with
    | ⟨0, _⟩ => show win0_2.index t 0 * 4352 + 1 * J.val = J.val; rw [idx2]; show 0 * 4352 + 1 * J.val = J.val; omega
    | ⟨1, _⟩ => show win0_2.index t 1 * 1024 + 1 * k.val = k.val; rw [idx2]; show 0 * 1024 + 1 * k.val = k.val; omega
  · exact w_at m c J k

/-- A step's block of window 3. -/
theorem x3_at (t : Fin cfg0.N) (J : Fin 4352) : (iblk m c 3 t : S1x4352.Idx → EReal) (ix2 0 J) = wsc J.val := by
  blk_simp [iblk]
  refine (congrArg (V m c (arrRef spec0 3)) (?_ : _ = ix2 0 J)).trans ?_
  · funext a
    apply Fin.ext
    match a with
    | ⟨0, _⟩ => show win0_3.index t 0 * 1 + 1 * 0 = 0; rw [idx3]; rfl
    | ⟨1, _⟩ => show win0_3.index t 1 * 4352 + 1 * J.val = J.val; rw [idx3]; show 0 * 4352 + 1 * J.val = J.val; omega
  · exact s_at m c J

/-- Every point writes its block back. -/
theorem flush_all : ∀ t : Fin cfg0.N, (cfg0.win 4).flush t = true := by decide +kernel

/-- What a point leaves, at an index. -/
theorem step_at (t : Fin cfg0.N) (r : Fin 512) (J : Fin 4352) (R : ℕ) (hR : 512 * t.val + r.val = R) :
    (outsAt0 (F := Ideal) m c t (ix2 r J) : EReal) = projA (hrow (XX m c) (GP m c) (R / 4096) (R % 4096)) (WI m c) J.val := by
  subst hR
  refine (out_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) scM0_0 (Memref.isWhole_whole _) (hcond0_0 t) r J).trans ?_
  have e0 : (fun l : Fin 1024 => (iblk m c 0 t : S512x1024.Idx → EReal) (ix2 r l)) = row3 (XX m c) ((512 * t.val + r.val) / 4096) ((512 * t.val + r.val) % 4096) := funext fun k => x0_at m c t r k
  have e1 : (fun l : Fin 1024 => (iblk m c 1 t : S1x1024.Idx → EReal) (ix2 0 l)) = row2 (GP m c) 0 := funext fun k => x1_at m c t k
  have e2 : (fun l : Fin 1024 => (iblk m c 2 t : S4352x1024.Idx → EReal) (ix2 J l)) = wcol (WI m c) J.val := funext fun k => x2_at m c t J k
  rw [e0, e1, e2, x3_at m c t J]
  exact proj_eq _ _ J

/-- The array the kernel leaves, at an index. -/
theorem arr_at (R : Fin 16384) (J : Fin 4352) :
    ((dats m 0 c).arrAt 4 cfg0.N : S16384x4352.Idx → EReal) (ix2 R J) = projA (hrow (XX m c) (GP m c) (R.val / 4096) (R.val % 4096)) (WI m c) J.val := by
  let t : Fin cfg0.N := ⟨R.val / 512, by rw [show cfg0.N = 32 from N_0]; omega⟩
  let r : Fin 512 := ⟨R.val % 512, by omega⟩
  have h := congrFun (Cert.ProjAIdeal.Value.blocks4 m c t (flush_all t)) (ix2 r J)
  rw [Cert.ProjAIdeal.Value.flushed4] at h
  have e : ((cfg0.win 4).blk t).view.emb (ix2 r J) = ix2 R J := by
    funext a
    apply Fin.ext
    match a with
    | ⟨0, _⟩ => show win0_4.index t 0 * 512 + 1 * r.val = R.val; rw [idx4]; show (R.val / 512) * 512 + 1 * (R.val % 512) = R.val; omega
    | ⟨1, _⟩ => show win0_4.index t 1 * 4352 + 1 * J.val = J.val; rw [idx4]; show 0 * 4352 + 1 * J.val = J.val; omega
  refine ((congrArg ((dats m 0 c).arrAt 4 cfg0.N : S16384x4352.Idx → EReal) e).symm.trans h).trans ?_
  exact step_at m c t r J R.val (by show 512 * (R.val / 512) + R.val % 512 = R.val; omega)

end Cert.ProjAIdeal.HostIn
-- ==== Proof.ProjARef.lean ====
module

public import proofs.«01_k».proof.Proof.Gen.ProjAReferenceIdeal.Run
public import proofs.«01_k».proof.Proof.Layer
public import Idealize.ShloMosaic.Lib.Claim
public import Idealize.ShloMosaic.Lib.Pointwise
public import Idealize.ShloMosaic.Lib.Pointwise.Index

/-! The projecting call's reference, read at an index in terms of the launch's arrays. -/

@[expose] public section

set_option maxRecDepth 16384
set_option pp.deepTerms false
set_option pp.maxSteps 1000

noncomputable section

namespace Cert.ProjAReferenceIdeal.RefAt

open Cert.ProjAReferenceIdeal Cert.ProjAReferenceIdeal.Gen Cert.ProjAReferenceIdeal.Value Cert.Layer Cert.Gla
open Idealize.ShloMosaic Idealize.ShloMosaic.TcCoe Idealize.ShloMosaic.Tactic

variable (m : (ℓ : Loc nD τ sig) → Buf (Elt Ideal) ℓ) (c : Dev nD)

/-- The norm of every position's row. -/
def Nm (x : FVec Ideal S4x4096x1024 .f32) (g : FVec Ideal S1x1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))

/-- The input projection of every position's row. -/
def Pr (h : FVec Ideal S4x4096x1024 .f32) (wi : FVec Ideal S1x1024x11352 .f32) : FVec Ideal S4x4096x11352 .f32 :=
  Host.dotGeneral dot_S4x4096x1024_S1024x11352_S4x4096x11352_2_0_01_1_n_n none h (shapeCast _ wi shapeCasts_S1x1024x11352_S1024x11352)

/-- The projection's columns, regrouped, scaled and padded. -/
def Ct (d : FVec Ideal S4x4096x11352 .f32) : FVec Ideal S4x4096x4352 .f32 :=
  concatenate S4x4096x4352 2 [⟨S4x4096x1024, ((mulf (extractStridedSlice S4x4096x1024 ![0, 0, 3088] d slices_S4x4096x11352_S4x4096x1024_0_0_3088) (broadcastInDim S4x4096x1024 ![] bcast_S_S4x4096x1024 (constant (F := Ideal) S_ .f32 0x3E0293EE#32))) : (⟨S4x4096x1024, .f32⟩ : BufTy).Contents (Elt Ideal)) ⟩, ⟨S4x4096x1024, ((mulf (extractStridedSlice S4x4096x1024 ![0, 0, 6232] d slices_S4x4096x11352_S4x4096x1024_0_0_6232) (broadcastInDim S4x4096x1024 ![] bcast_S_S4x4096x1024 (constant (F := Ideal) S_ .f32 0x3D800000#32))) : (⟨S4x4096x1024, .f32⟩ : BufTy).Contents (Elt Ideal)) ⟩, ⟨S4x4096x1024, ((extractStridedSlice S4x4096x1024 ![0, 0, 1024] d slices_S4x4096x11352_S4x4096x1024_0_0_1024) : (⟨S4x4096x1024, .f32⟩ : BufTy).Contents (Elt Ideal)) ⟩, ⟨S4x4096x256, ((extractStridedSlice S4x4096x256 ![0, 0, 4112] d slices_S4x4096x11352_S4x4096x256_0_0_4112) : (⟨S4x4096x256, .f32⟩ : BufTy).Contents (Elt Ideal)) ⟩, ⟨S4x4096x256, ((extractStridedSlice S4x4096x256 ![0, 0, 4368] d slices_S4x4096x11352_S4x4096x256_0_0_4368) : (⟨S4x4096x256, .f32⟩ : BufTy).Contents (Elt Ideal)) ⟩, ⟨S4x4096x512, ((extractStridedSlice S4x4096x512 ![0, 0, 4624] d slices_S4x4096x11352_S4x4096x512_0_0_4624) : (⟨S4x4096x512, .f32⟩ : BufTy).Contents (Elt Ideal)) ⟩, ⟨S4x4096x64, (((extractStridedSlice S4x4096x64 ![0, 0, 5136] d slices_S4x4096x11352_S4x4096x64_0_0_5136) : (⟨S4x4096x64, .f32⟩ : BufTy).Contents (Elt Ideal)) : FVec Ideal S4x4096x64 .f32) ⟩, ⟨S4x4096x64, (((broadcastInDim S4x4096x64 ![] bcast_S_S4x4096x64 (constant (F := Ideal) S_ .f32 0x00000000#32)) : (⟨S4x4096x64, .f32⟩ : BufTy).Contents (Elt Ideal)) : FVec Ideal S4x4096x64 .f32) ⟩, ⟨S4x4096x64, (((broadcastInDim S4x4096x64 ![] bcast_S_S4x4096x64 (constant (F := Ideal) S_ .f32 0x00000000#32)) : (⟨S4x4096x64, .f32⟩ : BufTy).Contents (Elt Ideal)) : FVec Ideal S4x4096x64 .f32) ⟩, ⟨S4x4096x64, (((extractStridedSlice S4x4096x64 ![0, 0, 5136] d slices_S4x4096x11352_S4x4096x64_0_0_5136) : (⟨S4x4096x64, .f32⟩ : BufTy).Contents (Elt Ideal)) : FVec Ideal S4x4096x64 .f32) ⟩] concatenates_S4x4096x1024_S4x4096x1024_S4x4096x1024_S4x4096x256_S4x4096x256_S4x4096x512_S4x4096x64_S4x4096x64_S4x4096x64_S4x4096x64_S4x4096x4352_d2

/-- The batches and positions as one axis of rows. -/
def Sh (z : FVec Ideal S4x4096x4352 .f32) : FVec Ideal S16384x4352 .bf16 :=
  truncf .bf16 (shapeCast S16384x4352 z shapeCasts_S4x4096x4352_S16384x4352) bitsLt_bf16_f32

/-- The result from the launch's arrays. -/
def Rs (x : FVec Ideal S4x4096x1024 .f32) (g : FVec Ideal S1x1024 .f32) (wi : FVec Ideal S1x1024x11352 .f32) : FVec Ideal S16384x4352 .bf16 :=
  Sh (Ct (Pr (Nm x g) wi))

/-- The reference's result is these, one after the other. -/
theorem res_eq : res_main_v38 (F := Ideal) m c = Rs (m ((c : Thread nD τ).loc main_arg0)) (m ((c : Thread nD τ).loc main_arg1)) (m ((c : Thread nD τ).loc main_arg2)) := rfl

variable (x h : S4x4096x1024.Idx → EReal) (g : S1x1024.Idx → EReal) (wi : S1x1024x11352.Idx → EReal) (d : S4x4096x11352.Idx → EReal)

/-- A gain at a column. -/
theorem at2_one (k : Fin 1024) : g (ix2 0 k) = row2 g 0 k := at2_ix g _ _ _ _ rfl rfl

/-- The norm at an index. -/
theorem Nm_at (b : Fin 4) (t : Fin 4096) (k : Fin 1024) : (Nm x g (ix3 b t k) : EReal) = hn (fun l => x (ix3 b t l)) (row2 g 0) k := by
  pointwise [Nm]
  unfold hn
  rw [at2_one g k]

/-- The projection at an index. -/
theorem Pr_at (b : Fin 4) (t : Fin 4096) (j : Fin 11352) : (Pr h wi (ix3 b t j) : EReal) = dotc (fun l => h (ix3 b t l)) (col3 wi j.val) := by
  pointwise [Pr]
  exact Finset.sum_congr rfl fun l _ => congrArg (fun y : EReal => h (ix3 b t l) * y) (at3_ix wi _ _ _ _ _ _ rfl rfl rfl)

/-- The regrouped columns of any projection. -/
def regroup (p : ℕ → EReal) (J : ℕ) : EReal :=
  if J < 1024 then p (3088 + (J - 0)) * Ideal.ofBits .f32 0x3E0293EE#32 else
  if J < 2048 then p (6232 + (J - 1024)) * Ideal.ofBits .f32 0x3D800000#32 else
  if J < 3072 then p (1024 + (J - 2048)) else
  if J < 3328 then p (4112 + (J - 3072)) else
  if J < 3584 then p (4368 + (J - 3328)) else
  if J < 4096 then p (4624 + (J - 3584)) else
  if J < 4160 then p (5136 + (J - 4096)) else
  if J < 4224 then 0 else
  if J < 4288 then 0 else
  p (5136 + (J - 4288))

/-- The regrouped columns from 0 on. -/
theorem Ct_at_0 (b : Fin 4) (t : Fin 4096) (J : Fin 4352) (ha : 0 ≤ J.val) (hb : J.val < 1024) : (Ct d (ix3 b t J) : EReal) = d (ix3 b t ⟨3088 + (J.val - 0), by omega⟩) * Ideal.ofBits .f32 0x3E0293EE#32 := by
  pointwise [Ct]
  rw [dif_pos (by omega)]

/-- The regrouped columns from 1024 on. -/
theorem Ct_at_1 (b : Fin 4) (t : Fin 4096) (J : Fin 4352) (ha : 1024 ≤ J.val) (hb : J.val < 2048) : (Ct d (ix3 b t J) : EReal) = d (ix3 b t ⟨6232 + (J.val - 1024), by omega⟩) * Ideal.ofBits .f32 0x3D800000#32 := by
  pointwise [Ct]
  rw [dif_neg (by omega), dif_pos (by omega)]

/-- The regrouped columns from 2048 on. -/
theorem Ct_at_2 (b : Fin 4) (t : Fin 4096) (J : Fin 4352) (ha : 2048 ≤ J.val) (hb : J.val < 3072) : (Ct d (ix3 b t J) : EReal) = d (ix3 b t ⟨1024 + (J.val - 2048), by omega⟩) := by
  pointwise [Ct]
  rw [dif_neg (by omega), dif_neg (by omega), dif_pos (by omega)]
  exact congrArg (fun y => d (ix3 b t y)) (Fin.ext (by dsimp only; omega))

/-- The regrouped columns from 3072 on. -/
theorem Ct_at_3 (b : Fin 4) (t : Fin 4096) (J : Fin 4352) (ha : 3072 ≤ J.val) (hb : J.val < 3328) : (Ct d (ix3 b t J) : EReal) = d (ix3 b t ⟨4112 + (J.val - 3072), by omega⟩) := by
  pointwise [Ct]
  rw [dif_neg (by omega), dif_neg (by omega), dif_neg (by omega), dif_pos (by omega)]
  exact congrArg (fun y => d (ix3 b t y)) (Fin.ext (by dsimp only; omega))

/-- The regrouped columns from 3328 on. -/
theorem Ct_at_4 (b : Fin 4) (t : Fin 4096) (J : Fin 4352) (ha : 3328 ≤ J.val) (hb : J.val < 3584) : (Ct d (ix3 b t J) : EReal) = d (ix3 b t ⟨4368 + (J.val - 3328), by omega⟩) := by
  pointwise [Ct]
  rw [dif_neg (by omega), dif_neg (by omega), dif_neg (by omega), dif_neg (by omega), dif_pos (by omega)]
  exact congrArg (fun y => d (ix3 b t y)) (Fin.ext (by dsimp only; omega))

/-- The regrouped columns from 3584 on. -/
theorem Ct_at_5 (b : Fin 4) (t : Fin 4096) (J : Fin 4352) (ha : 3584 ≤ J.val) (hb : J.val < 4096) : (Ct d (ix3 b t J) : EReal) = d (ix3 b t ⟨4624 + (J.val - 3584), by omega⟩) := by
  pointwise [Ct]
  rw [dif_neg (by omega), dif_neg (by omega), dif_neg (by omega), dif_neg (by omega), dif_neg (by omega), dif_pos (by omega)]
  exact congrArg (fun y => d (ix3 b t y)) (Fin.ext (by dsimp only; omega))

/-- The regrouped columns from 4096 on. -/
theorem Ct_at_6 (b : Fin 4) (t : Fin 4096) (J : Fin 4352) (ha : 4096 ≤ J.val) (hb : J.val < 4160) : (Ct d (ix3 b t J) : EReal) = d (ix3 b t ⟨5136 + (J.val - 4096), by omega⟩) := by
  pointwise [Ct]
  rw [dif_neg (by omega), dif_neg (by omega), dif_neg (by omega), dif_neg (by omega), dif_neg (by omega), dif_neg (by omega), dif_pos (by omega)]
  exact congrArg (fun y => d (ix3 b t y)) (Fin.ext (by dsimp only; omega))

/-- The regrouped columns from 4160 on. -/
theorem Ct_at_7 (b : Fin 4) (t : Fin 4096) (J : Fin 4352) (ha : 4160 ≤ J.val) (hb : J.val < 4224) : (Ct d (ix3 b t J) : EReal) = (0 : EReal) := by
  pointwise [Ct]
  rw [dif_neg (by omega), dif_neg (by omega), dif_neg (by omega), dif_neg (by omega), dif_neg (by omega), dif_neg (by omega), dif_neg (by omega), dif_pos (by omega)]

/-- The regrouped columns from 4224 on. -/
theorem Ct_at_8 (b : Fin 4) (t : Fin 4096) (J : Fin 4352) (ha : 4224 ≤ J.val) (hb : J.val < 4288) : (Ct d (ix3 b t J) : EReal) = (0 : EReal) := by
  pointwise [Ct]
  rw [dif_neg (by omega), dif_neg (by omega), dif_neg (by omega), dif_neg (by omega), dif_neg (by omega), dif_neg (by omega), dif_neg (by omega), dif_neg (by omega), dif_pos (by omega)]

/-- The regrouped columns from 4288 on. -/
theorem Ct_at_9 (b : Fin 4) (t : Fin 4096) (J : Fin 4352) (ha : 4288 ≤ J.val) (hb : J.val < 4352) : (Ct d (ix3 b t J) : EReal) = d (ix3 b t ⟨5136 + (J.val - 4288), by omega⟩) := by
  pointwise [Ct]
  rw [dif_neg (by omega), dif_neg (by omega), dif_neg (by omega), dif_neg (by omega), dif_neg (by omega), dif_neg (by omega), dif_neg (by omega), dif_neg (by omega), dif_neg (by omega)]
  exact congrArg (fun y => d (ix3 b t y)) (Fin.ext (by dsimp only; omega))

/-- The regrouped columns at an index. -/
theorem Ct_at (b : Fin 4) (t : Fin 4096) (J : Fin 4352) (p : ℕ → EReal) (hp : ∀ j : Fin 11352, d (ix3 b t j) = p j.val) : (Ct d (ix3 b t J) : EReal) = regroup p J.val := by
  unfold regroup
  by_cases h0 : J.val < 1024
  · rw [if_pos h0, Ct_at_0 d b t J (by omega) (by omega), hp]
  by_cases h1 : J.val < 2048
  · rw [if_neg h0, if_pos h1, Ct_at_1 d b t J (by omega) (by omega), hp]
  by_cases h2 : J.val < 3072
  · rw [if_neg h0, if_neg h1, if_pos h2, Ct_at_2 d b t J (by omega) (by omega), hp]
  by_cases h3 : J.val < 3328
  · rw [if_neg h0, if_neg h1, if_neg h2, if_pos h3, Ct_at_3 d b t J (by omega) (by omega), hp]
  by_cases h4 : J.val < 3584
  · rw [if_neg h0, if_neg h1, if_neg h2, if_neg h3, if_pos h4, Ct_at_4 d b t J (by omega) (by omega), hp]
  by_cases h5 : J.val < 4096
  · rw [if_neg h0, if_neg h1, if_neg h2, if_neg h3, if_neg h4, if_pos h5, Ct_at_5 d b t J (by omega) (by omega), hp]
  by_cases h6 : J.val < 4160
  · rw [if_neg h0, if_neg h1, if_neg h2, if_neg h3, if_neg h4, if_neg h5, if_pos h6, Ct_at_6 d b t J (by omega) (by omega), hp]
  by_cases h7 : J.val < 4224
  · rw [if_neg h0, if_neg h1, if_neg h2, if_neg h3, if_neg h4, if_neg h5, if_neg h6, if_pos h7, Ct_at_7 d b t J (by omega) (by omega)]
  by_cases h8 : J.val < 4288
  · rw [if_neg h0, if_neg h1, if_neg h2, if_neg h3, if_neg h4, if_neg h5, if_neg h6, if_neg h7, if_pos h8, Ct_at_8 d b t J (by omega) (by omega)]
  rw [if_neg h0, if_neg h1, if_neg h2, if_neg h3, if_neg h4, if_neg h5, if_neg h6, if_neg h7, if_neg h8, Ct_at_9 d b t J (by omega) (by omega), hp]

variable (z : S4x4096x4352.Idx → EReal)

/-- Rows are positions of batches. -/
theorem Sh_at (R : Fin 16384) (J : Fin 4352) : (Sh z (ix2 R J) : EReal) = z (ix3 ⟨R.val / 4096, by omega⟩ ⟨R.val % 4096, by omega⟩ J) := by
  pointwise [Sh]

/-- The whole result at an index. -/
theorem Rs_at (R : Fin 16384) (J : Fin 4352) : (Rs x g wi (ix2 R J) : EReal) = projA (hrow x g (R.val / 4096) (R.val % 4096)) wi J.val := by
  unfold Rs
  rw [Sh_at, Ct_at (Pr (Nm x g) wi) _ _ J (fun j => dotc (hrow x g (R.val / 4096) (R.val % 4096)) (col3 wi j))]
  · rfl
  · intro j
    rw [Pr_at]
    refine congrArg (fun q => dotc q (col3 wi j.val)) (funext fun l => ?_)
    rw [Nm_at]
    exact congrArg (fun q => hn q (row2 g 0) l) (funext fun k => at3_ix x _ _ _ _ _ _ rfl rfl rfl)

/-- The reference's result at an index. -/
theorem res_at (R : Fin 16384) (J : Fin 4352) : (res_main_v38 (F := Ideal) m c (ix2 R J) : EReal) = projA (hrow (m ((c : Thread nD τ).loc main_arg0)) (m ((c : Thread nD τ).loc main_arg1)) (R.val / 4096) (R.val % 4096)) (m ((c : Thread nD τ).loc main_arg2)) J.val := by
  rw [res_eq]
  exact Rs_at _ _ _ R J

end Cert.ProjAReferenceIdeal.RefAt
-- ==== Proof.ProjAAlg.lean ====
module

public import proofs.«01_k».proof.Defs
public import proofs.«01_k».proof.Proof.ProjAHost
public import proofs.«01_k».proof.Proof.ProjARef
public import Idealize.ShloMosaic.Lib.Claim

/-! The kernel's result against its reference's. -/

@[expose] public section

set_option maxRecDepth 16384

noncomputable section

namespace Cert.Proof

open Idealize.ShloMosaic Idealize.ShloMosaic.TcCoe Idealize.ShloMosaic.Tactic

/-- At the extended reals the kernel leaves what its reference leaves. -/
theorem algebraic_ProjA : Cert.algebraic_ProjAIdeal_ProjAReferenceIdeal (hProjAIdeal := Cert.ProjAIdeal.Gen.facts)
    (hProjAReferenceIdeal := Cert.ProjAReferenceIdeal.Gen.facts) := by
  intro m g m' g' _ hargs
  refine ⟨_, Cert.ProjAIdeal.Value.run_blocks m g, ?_⟩
  refine (θ_run Cert.ProjAReferenceIdeal.defs _ _).mono (fun r h c => ⟨(h c).1.trans ?_, (h c).2⟩) (Cert.ProjAReferenceIdeal.Value.run m' g')
  obtain ⟨e0, e1, e2⟩ := hargs c
  funext i
  obtain ⟨R, j, rfl⟩ : ∃ (R : Fin 16384) (j : Fin 4352), i = ix2 R j := ⟨i 0, i 1, by funext a; match a with | ⟨0, _⟩ => rfl | ⟨1, _⟩ => rfl⟩
  refine (Cert.ProjAReferenceIdeal.RefAt.res_at m' c R j).trans ?_
  rw [e0, e1, e2]
  exact (Cert.ProjAIdeal.HostIn.arr_at m c R j).symm

/-- The reference runs, leaves its arguments as they were, and has no semaphore whose counter could be off zero. -/
theorem frame_ProjA : Cert.quiescent_ProjAReferenceIdeal (hProjAReferenceIdeal := Cert.ProjAReferenceIdeal.Gen.facts) := fun m ρ _ =>
  (θ_run Cert.ProjAReferenceIdeal.defs _ _).mono (fun r h => ⟨fun c => (h c).2, sem_eq_zero_of_no_sems (by decide) r.2⟩)
    (Cert.ProjAReferenceIdeal.Value.run m ρ)

end Cert.Proof

end
-- ==== Proof.ProjBBlock.lean ====
module

public import proofs.«01_k».proof.Proof.Gen.ProjBIdeal.Value
public import proofs.«01_k».proof.Proof.Layer
public import Idealize.ShloMosaic.Lib.Claim
public import Idealize.ShloMosaic.Lib.Pointwise
public import Idealize.ShloMosaic.Lib.Pointwise.Index
public import Idealize.ShloMosaic.Lib.Writes
public import Idealize.ShloMosaic.Lib.Pipeline.ValueKit

/-! A step of the projecting kernel: the block it leaves, read at an index. -/

@[expose] public section

set_option maxRecDepth 16384
set_option pp.deepTerms false
set_option pp.maxSteps 1000

noncomputable section

namespace Cert.ProjBIdeal.Block

open Cert.ProjBIdeal Cert.ProjBIdeal.Gen Cert.Layer Cert.Gla
open Idealize.ShloMosaic Idealize.ShloMosaic.TcCoe Idealize.ShloMosaic.Tactic
open Idealize.ShloMosaic.Pipeline

variable (x0 : S512x1024.Idx → EReal) (x1 : S1x1024.Idx → EReal) (x2 : S4224x1024.Idx → EReal) (x3 : S1x4224.Idx → EReal)

/-- The normed row. -/
theorem pay1_at (r : Fin 512) (k : Fin 1024) : (k0_pay1 (F := Ideal) x0 x1 (ix2 r k) : EReal) = hn (fun l => x0 (ix2 r l)) (fun l => x1 (ix2 0 l)) k := by
  pointwise [k0_pay1]
  rfl

/-- The normed row through the weights, scaled. -/
theorem pay2_at (h : S512x1024.Idx → EReal) (r : Fin 512) (j : Fin 4224) :
    (k0_pay2 (F := Ideal) h x2 x3 (ix2 r j) : EReal) = dotc (fun k => h (ix2 r k)) (fun k => x2 (ix2 j k)) * x3 (ix2 0 j) := by
  pointwise [k0_pay2]
  rfl

section
variable {F : FTy → Type} [FloatOps F] (x0 : Vec F S512x1024 .f32) (x1 : Vec F S1x1024 .f32) (x2 : Vec F S4224x1024 .bf16) (x3 : Vec F S1x4224 .f32)

/-- A window's block read through a rectangle. -/
theorem readAt_whole {s : Shape} {e : EltTy} {sp : Space} (q : Memref sig .tc sp s e) (h : q.IsWhole) (X : s.Idx → Elt F e) (r : Rect s) :
    View.readAt (Elt F) q.view r.toLoadRect (h.unread X) = View.ld (Val := Elt F) X r := by
  rw [View.readAt_eq_ld, h.read_unread]

/-- The block a step leaves is its one store. -/
theorem out_eq (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S4224x1024 .bf16) (harg4 : arg4.IsWhole) (arg5 : Memref sig .tc .vmem S1x4224 .f32) (harg5 : arg5.IsWhole) (arg6 : Memref sig .tc .vmem S512x4224 .f32) (harg6 : arg6.IsWhole) (arg7 : Memref sig .tc .vmem S512x1024 .bf16) (harg7 : arg7.IsWhole) (hc0 : cond0_0 i) :
    out0_A_4 c i arg2 harg2 arg3 harg3 arg4 harg4 arg5 harg5 arg6 harg6 arg7 harg7 hc0 x0 x1 x2 x3 = k0_pay2 (k0_pay1 x0 x1) x2 x3 := by
  have hz : (![0, 0] : Fin 2 → ℕ) = fun _ => 0 := by decide
  funext y
  unfold out0_A_4
  refine View.read_writes_apply_of_pieces VO0_4 _ (k0_pay2 (k0_pay1 x0 x1) x2 x3) _ ?_ y (cover0_A_4 c i arg2 harg2 arg3 harg3 arg4 harg4 arg5 harg5 arg6 harg6 arg7 harg7 hc0 x0 x1 x2 x3 y)
  unfold kernelRun0_A
  dsimp only
  refine List.forall_mem_cons.2 ⟨fun x => ?_, fun p hp => absurd hp List.not_mem_nil⟩
  have ex : (Rect.unit (s := S512x4224) ![0, 0] S512x4224.size inb_S512x4224_S512x4224_0_0).emb x = x := by
    funext a
    apply Fin.ext
    match a with
    | ⟨0, _⟩ => show 0 + 1 * (x 0).val = (x 0).val; omega
    | ⟨1, _⟩ => show 0 + 1 * (x 1).val = (x 1).val; omega
  refine Eq.trans ?_ (congrArg (k0_pay2 (k0_pay1 x0 x1) x2 x3) ex).symm
  refine congrFun (a := x) ?_
  have h3 : kernelRun0_A.sl.v3 c arg2 harg2 arg3 harg3 arg7 x0 x1 = k0_pay1 x0 x1 := by
    unfold kernelRun0_A.sl.v3
    refine (View.readCov_unit_zero _ hz _ _).trans ?_
    rw [readAt_whole, readAt_whole, View.ld_unit_zero (S := S512x1024) hz, View.ld_unit_zero (S := S1x1024) hz]
  show k0_pay2 _ _ _ = _
  rw [h3, readAt_whole, readAt_whole, View.ld_unit_zero (S := S4224x1024) hz, View.ld_unit_zero (S := S1x4224) hz]
end

/-- The block a step leaves, at an index. -/
theorem out_at (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S4224x1024 .bf16) (harg4 : arg4.IsWhole) (arg5 : Memref sig .tc .vmem S1x4224 .f32) (harg5 : arg5.IsWhole) (arg6 : Memref sig .tc .vmem S512x4224 .f32) (harg6 : arg6.IsWhole) (arg7 : Memref sig .tc .vmem S512x1024 .bf16) (harg7 : arg7.IsWhole) (hc0 : cond0_0 i) (r : Fin 512) (j : Fin 4224) :
    (out0_A_4 (F := Ideal) c i arg2 harg2 arg3 harg3 arg4 harg4 arg5 harg5 arg6 harg6 arg7 harg7 hc0 x0 x1 x2 x3 (ix2 r j) : EReal)
      = dotc (hn (fun l => x0 (ix2 r l)) (fun l => x1 (ix2 0 l))) (fun k => x2 (ix2 j k)) * x3 (ix2 0 j) := by
  refine (congrFun (out_eq (F := Ideal) x0 x1 x2 x3 c i arg2 harg2 arg3 harg3 arg4 harg4 arg5 harg5 arg6 harg6 arg7 harg7 hc0) _).trans ?_
  refine (pay2_at x2 x3 _ r j).trans ?_
  simp only [pay1_at]

end Cert.ProjBIdeal.Block
-- ==== Proof.ProjBHost.lean ====
module

public import proofs.«01_k».proof.Proof.ProjBBlock
public import Idealize.ShloMosaic.Lib.StableHlo.ReadAt

/-! The projecting kernel's windows, read at an index in terms of the launch's arrays, and the array it leaves. -/

@[expose] public section

set_option maxRecDepth 16384
set_option pp.deepTerms false
set_option pp.maxSteps 1000

noncomputable section

namespace Cert.ProjBIdeal.HostIn

open Cert.ProjBIdeal Cert.ProjBIdeal.Gen Cert.ProjBIdeal.Block Cert.Layer Cert.Gla
open Idealize.ShloMosaic Idealize.ShloMosaic.TcCoe Idealize.ShloMosaic.Tactic
open Idealize.ShloMosaic.Pipeline

variable (m : (ℓ : Loc nD τ sig) → Buf (Elt Ideal) ℓ) (c : Dev nD)

/-- The residual stream at launch. -/
abbrev XX : S4x4096x1024.Idx → EReal := m ((c : Thread nD τ).loc main_arg0)
/-- The gain at launch. -/
abbrev GP : S1x1024.Idx → EReal := m ((c : Thread nD τ).loc main_arg1)
/-- The input projection at launch. -/
abbrev WI : S1x1024x11352.Idx → EReal := m ((c : Thread nD τ).loc main_arg2)

/-- The residual stream's rows. -/
theorem xx_at (r : Fin 16384) (k : Fin 1024) : (V m c main_v44 : S16384x1024.Idx → EReal) (ix2 r k) = at3 (XX m c) (r.val / 4096) (r.val % 4096) k.val := by
  unfold V
  after_reads_at
  exact at3_ix (XX m c) _ _ _ _ _ _ rfl rfl rfl

/-- The gain as the kernel reads it. -/
theorem gp_at (k : Fin 1024) : (V m c main_v46 : S1x1024.Idx → EReal) (ix2 0 k) = at2 (GP m c) 0 k.val := by
  unfold V
  after_reads_at
  exact at2_ix (GP m c) _ _ _ _ rfl rfl

/-- The weights' column `J`, regrouped and padded with zeros. -/
def wcol (wi : S1x1024x11352.Idx → EReal) (J : ℕ) (k : Fin 1024) : EReal :=
  if J < 1024 then at3 wi 0 k.val (2064 + (J - 0)) else
  if J < 2048 then at3 wi 0 k.val (5208 + (J - 1024)) else
  if J < 3072 then at3 wi 0 k.val (7256 + (J - 2048)) else
  if J < 3584 then at3 wi 0 k.val (0 + (J - 3072)) else
  if J < 4096 then at3 wi 0 k.val (512 + (J - 3584)) else
  if J < 4112 then at3 wi 0 k.val (2048 + (J - 4096)) else
  if J < 4120 then at3 wi 0 k.val (5200 + (J - 4112)) else
  0

/-- The columns' scales. -/
def wsc (J : ℕ) : EReal :=
  if J < 1024 then 1 else
  if J < 2048 then 1 else
  if J < 3072 then 1 else
  if J < 3584 then Ideal.ofBits .f32 0x3DB504F3#32 else
  if J < 4096 then 1 else
  if J < 4112 then 1 else
  if J < 4120 then 1 else
  1

/-- The regrouped weights' columns from 0 on. -/
theorem w_at_0 (J : Fin 4224) (k : Fin 1024) (ha : 0 ≤ J.val) (hb : J.val < 1024) : (V m c main_v40 : S4224x1024.Idx → EReal) (ix2 J k) = at3 (WI m c) 0 k.val (2064 + (J.val - 0)) := by
  unfold V
  after_reads_at
  rw [dif_pos (by omega)]
  after_reads_at
  exact at3_ix (WI m c) _ _ _ _ _ _ rfl rfl (by first | (dsimp only; omega) | omega | rfl)

/-- The regrouped weights' columns from 1024 on. -/
theorem w_at_1 (J : Fin 4224) (k : Fin 1024) (ha : 1024 ≤ J.val) (hb : J.val < 2048) : (V m c main_v40 : S4224x1024.Idx → EReal) (ix2 J k) = at3 (WI m c) 0 k.val (5208 + (J.val - 1024)) := by
  unfold V
  after_reads_at
  rw [dif_neg (by omega), dif_pos (by omega)]
  after_reads_at
  exact at3_ix (WI m c) _ _ _ _ _ _ rfl rfl (by first | (dsimp only; omega) | omega | rfl)

/-- The regrouped weights' columns from 2048 on. -/
theorem w_at_2 (J : Fin 4224) (k : Fin 1024) (ha : 2048 ≤ J.val) (hb : J.val < 3072) : (V m c main_v40 : S4224x1024.Idx → EReal) (ix2 J k) = at3 (WI m c) 0 k.val (7256 + (J.val - 2048)) := by
  unfold V
  after_reads_at
  rw [dif_neg (by omega), dif_neg (by omega), dif_pos (by omega)]
  after_reads_at
  exact at3_ix (WI m c) _ _ _ _ _ _ rfl rfl (by first | (dsimp only; omega) | omega | rfl)

/-- The regrouped weights' columns from 3072 on. -/
theorem w_at_3 (J : Fin 4224) (k : Fin 1024) (ha : 3072 ≤ J.val) (hb : J.val < 3584) : (V m c main_v40 : S4224x1024.Idx → EReal) (ix2 J k) = at3 (WI m c) 0 k.val (0 + (J.val - 3072)) := by
  unfold V
  after_reads_at
  rw [dif_neg (by omega), dif_neg (by omega), dif_neg (by omega), dif_pos (by omega)]
  after_reads_at
  exact at3_ix (WI m c) _ _ _ _ _ _ rfl rfl (by first | (dsimp only; omega) | omega | rfl)

/-- The regrouped weights' columns from 3584 on. -/
theorem w_at_4 (J : Fin 4224) (k : Fin 1024) (ha : 3584 ≤ J.val) (hb : J.val < 4096) : (V m c main_v40 : S4224x1024.Idx → EReal) (ix2 J k) = at3 (WI m c) 0 k.val (512 + (J.val - 3584)) := by
  unfold V
  after_reads_at
  rw [dif_neg (by omega), dif_neg (by omega), dif_neg (by omega), dif_neg (by omega), dif_pos (by omega)]
  after_reads_at
  exact at3_ix (WI m c) _ _ _ _ _ _ rfl rfl (by first | (dsimp only; omega) | omega | rfl)

/-- The regrouped weights' columns from 4096 on. -/
theorem w_at_5 (J : Fin 4224) (k : Fin 1024) (ha : 4096 ≤ J.val) (hb : J.val < 4112) : (V m c main_v40 : S4224x1024.Idx → EReal) (ix2 J k) = at3 (WI m c) 0 k.val (2048 + (J.val - 4096)) := by
  unfold V
  after_reads_at
  rw [dif_neg (by omega), dif_neg (by omega), dif_neg (by omega), dif_neg (by omega), dif_neg (by omega)]
  after_reads_at
  rw [dif_pos (by omega)]
  all_goals try after_reads_at
  exact at3_ix (WI m c) _ _ _ _ _ _ rfl rfl (by first | (dsimp only; omega) | omega | rfl)

/-- The regrouped weights' columns from 4112 on. -/
theorem w_at_6 (J : Fin 4224) (k : Fin 1024) (ha : 4112 ≤ J.val) (hb : J.val < 4120) : (V m c main_v40 : S4224x1024.Idx → EReal) (ix2 J k) = at3 (WI m c) 0 k.val (5200 + (J.val - 4112)) := by
  unfold V
  after_reads_at
  rw [dif_neg (by omega), dif_neg (by omega), dif_neg (by omega), dif_neg (by omega), dif_neg (by omega)]
  after_reads_at
  rw [dif_neg (by omega), dif_pos (by omega)]
  all_goals try after_reads_at
  exact at3_ix (WI m c) _ _ _ _ _ _ rfl rfl (by first | (dsimp only; omega) | omega | rfl)

/-- The regrouped weights' columns from 4120 on. -/
theorem w_at_7 (J : Fin 4224) (k : Fin 1024) (ha : 4120 ≤ J.val) (hb : J.val < 4224) : (V m c main_v40 : S4224x1024.Idx → EReal) (ix2 J k) = (0 : EReal) := by
  unfold V
  after_reads_at
  rw [dif_neg (by omega), dif_neg (by omega), dif_neg (by omega), dif_neg (by omega), dif_neg (by omega)]
  after_reads_at
  rw [dif_neg (by omega), dif_neg (by omega)]
  all_goals try after_reads_at
  all_goals exact Ideal.ofBits_zero .f32

/-- The regrouped weights. -/
theorem w_at (J : Fin 4224) (k : Fin 1024) : (V m c main_v40 : S4224x1024.Idx → EReal) (ix2 J k) = wcol (WI m c) J.val k := by
  unfold wcol
  by_cases h0 : J.val < 1024
  · rw [if_pos h0]
    exact w_at_0 m c J k (by omega) (by omega)
  by_cases h1 : J.val < 2048
  · rw [if_neg h0, if_pos h1]
    exact w_at_1 m c J k (by omega) (by omega)
  by_cases h2 : J.val < 3072
  · rw [if_neg h0, if_neg h1, if_pos h2]
    exact w_at_2 m c J k (by omega) (by omega)
  by_cases h3 : J.val < 3584
  · rw [if_neg h0, if_neg h1, if_neg h2, if_pos h3]
    exact w_at_3 m c J k (by omega) (by omega)
  by_cases h4 : J.val < 4096
  · rw [if_neg h0, if_neg h1, if_neg h2, if_neg h3, if_pos h4]
    exact w_at_4 m c J k (by omega) (by omega)
  by_cases h5 : J.val < 4112
  · rw [if_neg h0, if_neg h1, if_neg h2, if_neg h3, if_neg h4, if_pos h5]
    exact w_at_5 m c J k (by omega) (by omega)
  by_cases h6 : J.val < 4120
  · rw [if_neg h0, if_neg h1, if_neg h2, if_neg h3, if_neg h4, if_neg h5, if_pos h6]
    exact w_at_6 m c J k (by omega) (by omega)
  rw [if_neg h0, if_neg h1, if_neg h2, if_neg h3, if_neg h4, if_neg h5, if_neg h6]
  exact w_at_7 m c J k (by omega) (by omega)

/-- The columns' scales as the kernel reads them. -/
theorem s_at (J : Fin 4224) : (V m c main_v47 : S1x4224.Idx → EReal) (ix2 0 J) = wsc J.val := by
  unfold V wsc
  after_reads_at
  by_cases h0 : J.val < 1024
  · rw [if_pos h0]
    rw [dif_pos (by omega)]
    after_reads_at
  by_cases h1 : J.val < 2048
  · rw [if_neg h0, if_pos h1]
    rw [dif_neg (by omega), dif_pos (by omega)]
    after_reads_at
  by_cases h2 : J.val < 3072
  · rw [if_neg h0, if_neg h1, if_pos h2]
    rw [dif_neg (by omega), dif_neg (by omega), dif_pos (by omega)]
    after_reads_at
  by_cases h3 : J.val < 3584
  · rw [if_neg h0, if_neg h1, if_neg h2, if_pos h3]
    rw [dif_neg (by omega), dif_neg (by omega), dif_neg (by omega), dif_pos (by omega)]
    after_reads_at
  by_cases h4 : J.val < 4096
  · rw [if_neg h0, if_neg h1, if_neg h2, if_neg h3, if_pos h4]
    rw [dif_neg (by omega), dif_neg (by omega), dif_neg (by omega), dif_neg (by omega), dif_pos (by omega)]
    after_reads_at
  by_cases h5 : J.val < 4112
  · rw [if_neg h0, if_neg h1, if_neg h2, if_neg h3, if_neg h4, if_pos h5]
    rw [dif_neg (by omega), dif_neg (by omega), dif_neg (by omega), dif_neg (by omega), dif_neg (by omega)]
    after_reads_at
  by_cases h6 : J.val < 4120
  · rw [if_neg h0, if_neg h1, if_neg h2, if_neg h3, if_neg h4, if_neg h5, if_pos h6]
    rw [dif_neg (by omega), dif_neg (by omega), dif_neg (by omega), dif_neg (by omega), dif_neg (by omega)]
    after_reads_at
  rw [if_neg h0, if_neg h1, if_neg h2, if_neg h3, if_neg h4, if_neg h5, if_neg h6]
  rw [dif_neg (by omega), dif_neg (by omega), dif_neg (by omega), dif_neg (by omega), dif_neg (by omega)]
  after_reads_at

/-- A row through the regrouped weights, scaled. -/
theorem proj_eq (h : Fin 1024 → EReal) (wi : S1x1024x11352.Idx → EReal) (J : Fin 4224) : dotc h (wcol wi J.val) * wsc J.val = projB h wi J.val := by
  unfold wcol wsc projB
  by_cases h0 : J.val < 1024
  · simp only [h0, if_true, if_false]
    rw [mul_one]
    rfl
  by_cases h1 : J.val < 2048
  · simp only [h0, h1, if_true, if_false]
    rw [mul_one]
    rfl
  by_cases h2 : J.val < 3072
  · simp only [h0, h1, h2, if_true, if_false]
    rw [mul_one]
    rfl
  by_cases h3 : J.val < 3584
  · simp only [h0, h1, h2, h3, if_true, if_false]
    rfl
  by_cases h4 : J.val < 4096
  · simp only [h0, h1, h2, h3, h4, if_true, if_false]
    rw [mul_one]
    rfl
  by_cases h5 : J.val < 4112
  · simp only [h0, h1, h2, h3, h4, h5, if_true, if_false]
    rw [mul_one]
    rfl
  by_cases h6 : J.val < 4120
  · simp only [h0, h1, h2, h3, h4, h5, h6, if_true, if_false]
    rw [mul_one]
    rfl
  simp only [h0, h1, h2, h3, h4, h5, h6, if_true, if_false]
  unfold dotc
  simp only [mul_zero, Finset.sum_const_zero, zero_mul]

/-- There are 32 points. -/
theorem point_lt (t : Fin cfg0.N) : t.val < 32 := lt_of_lt_of_eq t.isLt (show cfg0.N = 32 from N_0)

/-- Window 0's block index at a point. -/
theorem idx0 : ∀ t : Fin cfg0.N, win0_0.index t = ![t.val, 0] := by decide +kernel

/-- Window 1's block index at a point. -/
theorem idx1 : ∀ t : Fin cfg0.N, win0_1.index t = ![0, 0] := by decide +kernel

/-- Window 2's block index at a point. -/
theorem idx2 : ∀ t : Fin cfg0.N, win0_2.index t = ![0, 0] := by decide +kernel

/-- Window 3's block index at a point. -/
theorem idx3 : ∀ t : Fin cfg0.N, win0_3.index t = ![0, 0] := by decide +kernel

/-- Window 4's block index at a point. -/
theorem idx4 : ∀ t : Fin cfg0.N, win0_4.index t = ![t.val, 0] := by decide +kernel

/-- A step's block of window 0. -/
theorem x0_at (t : Fin cfg0.N) (r : Fin 512) (k : Fin 1024) : (iblk m c 0 t : S512x1024.Idx → EReal) (ix2 r k) = at3 (XX m c) ((512 * t.val + r.val) / 4096) ((512 * t.val + r.val) % 4096) k.val := by
  blk_simp [iblk]
  refine (congrArg (V m c (arrRef spec0 0)) (?_ : _ = ix2 (⟨512 * t.val + r.val, by have := point_lt t; omega⟩ : Fin 16384) k)).trans ?_
  · funext a
    apply Fin.ext
    match a with
    | ⟨0, _⟩ => show win0_0.index t 0 * 512 + 1 * r.val = 512 * t.val + r.val; rw [idx0]; show t.val * 512 + 1 * r.val = 512 * t.val + r.val; omega
    | ⟨1, _⟩ => show win0_0.index t 1 * 1024 + 1 * k.val = k.val; rw [idx0]; show 0 * 1024 + 1 * k.val = k.val; omega
  · exact xx_at m c (⟨512 * t.val + r.val, by have := point_lt t; omega⟩ : Fin 16384) k

/-- A step's block of window 1. -/
theorem x1_at (t : Fin cfg0.N) (k : Fin 1024) : (iblk m c 1 t : S1x1024.Idx → EReal) (ix2 0 k) = at2 (GP m c) 0 k.val := by
  blk_simp [iblk]
  refine (congrArg (V m c (arrRef spec0 1)) (?_ : _ = ix2 0 k)).trans ?_
  · funext a
    apply Fin.ext
    match a with
    | ⟨0, _⟩ => show win0_1.index t 0 * 1 + 1 * 0 = 0; rw [idx1]; rfl
    | ⟨1, _⟩ => show win0_1.index t 1 * 1024 + 1 * k.val = k.val; rw [idx1]; show 0 * 1024 + 1 * k.val = k.val; omega
  · exact gp_at m c k

/-- A step's block of window 2. -/
theorem x2_at (t : Fin cfg0.N) (J : Fin 4224) (k : Fin 1024) : (iblk m c 2 t : S4224x1024.Idx → EReal) (ix2 J k) = wcol (WI m c) J.val k := by
  blk_simp [iblk]
  refine (congrArg (V m c (arrRef spec0 2)) (?_ : _ = ix2 J k)).trans ?_
  · funext a
    apply Fin.ext
    match a with
    | ⟨0, _⟩ => show win0_2.index t 0 * 4224 + 1 * J.val = J.val; rw [idx2]; show 0 * 4224 + 1 * J.val = J.val; omega
    | ⟨1, _⟩ => show win0_2.index t 1 * 1024 + 1 * k.val = k.val; rw [idx2]; show 0 * 1024 + 1 * k.val = k.val; omega
  · exact w_at m c J k

/-- A step's block of window 3. -/
theorem x3_at (t : Fin cfg0.N) (J : Fin 4224) : (iblk m c 3 t : S1x4224.Idx → EReal) (ix2 0 J) = wsc J.val := by
  blk_simp [iblk]
  refine (congrArg (V m c (arrRef spec0 3)) (?_ : _ = ix2 0 J)).trans ?_
  · funext a
    apply Fin.ext
    match a with
    | ⟨0, _⟩ => show win0_3.index t 0 * 1 + 1 * 0 = 0; rw [idx3]; rfl
    | ⟨1, _⟩ => show win0_3.index t 1 * 4224 + 1 * J.val = J.val; rw [idx3]; show 0 * 4224 + 1 * J.val = J.val; omega
  · exact s_at m c J

/-- Every point writes its block back. -/
theorem flush_all : ∀ t : Fin cfg0.N, (cfg0.win 4).flush t = true := by decide +kernel

/-- What a point leaves, at an index. -/
theorem step_at (t : Fin cfg0.N) (r : Fin 512) (J : Fin 4224) (R : ℕ) (hR : 512 * t.val + r.val = R) :
    (outsAt0 (F := Ideal) m c t (ix2 r J) : EReal) = projB (hrow (XX m c) (GP m c) (R / 4096) (R % 4096)) (WI m c) J.val := by
  subst hR
  refine (out_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) scM0_0 (Memref.isWhole_whole _) (hcond0_0 t) r J).trans ?_
  have e0 : (fun l : Fin 1024 => (iblk m c 0 t : S512x1024.Idx → EReal) (ix2 r l)) = row3 (XX m c) ((512 * t.val + r.val) / 4096) ((512 * t.val + r.val) % 4096) := funext fun k => x0_at m c t r k
  have e1 : (fun l : Fin 1024 => (iblk m c 1 t : S1x1024.Idx → EReal) (ix2 0 l)) = row2 (GP m c) 0 := funext fun k => x1_at m c t k
  have e2 : (fun l : Fin 1024 => (iblk m c 2 t : S4224x1024.Idx → EReal) (ix2 J l)) = wcol (WI m c) J.val := funext fun k => x2_at m c t J k
  rw [e0, e1, e2, x3_at m c t J]
  exact proj_eq _ _ J

/-- The array the kernel leaves, at an index. -/
theorem arr_at (R : Fin 16384) (J : Fin 4224) :
    ((dats m 0 c).arrAt 4 cfg0.N : S16384x4224.Idx → EReal) (ix2 R J) = projB (hrow (XX m c) (GP m c) (R.val / 4096) (R.val % 4096)) (WI m c) J.val := by
  let t : Fin cfg0.N := ⟨R.val / 512, by rw [show cfg0.N = 32 from N_0]; omega⟩
  let r : Fin 512 := ⟨R.val % 512, by omega⟩
  have h := congrFun (Cert.ProjBIdeal.Value.blocks4 m c t (flush_all t)) (ix2 r J)
  rw [Cert.ProjBIdeal.Value.flushed4] at h
  have e : ((cfg0.win 4).blk t).view.emb (ix2 r J) = ix2 R J := by
    funext a
    apply Fin.ext
    match a with
    | ⟨0, _⟩ => show win0_4.index t 0 * 512 + 1 * r.val = R.val; rw [idx4]; show (R.val / 512) * 512 + 1 * (R.val % 512) = R.val; omega
    | ⟨1, _⟩ => show win0_4.index t 1 * 4224 + 1 * J.val = J.val; rw [idx4]; show 0 * 4224 + 1 * J.val = J.val; omega
  refine ((congrArg ((dats m 0 c).arrAt 4 cfg0.N : S16384x4224.Idx → EReal) e).symm.trans h).trans ?_
  exact step_at m c t r J R.val (by show 512 * (R.val / 512) + R.val % 512 = R.val; omega)

end Cert.ProjBIdeal.HostIn
-- ==== Proof.ProjBRef.lean ====
module

public import proofs.«01_k».proof.Proof.Gen.ProjBReferenceIdeal.Run
public import proofs.«01_k».proof.Proof.Layer
public import Idealize.ShloMosaic.Lib.Claim
public import Idealize.ShloMosaic.Lib.Pointwise
public import Idealize.ShloMosaic.Lib.Pointwise.Index

/-! The projecting call's reference, read at an index in terms of the launch's arrays. -/

@[expose] public section

set_option maxRecDepth 16384
set_option pp.deepTerms false
set_option pp.maxSteps 1000

noncomputable section

namespace Cert.ProjBReferenceIdeal.RefAt

open Cert.ProjBReferenceIdeal Cert.ProjBReferenceIdeal.Gen Cert.ProjBReferenceIdeal.Value Cert.Layer Cert.Gla
open Idealize.ShloMosaic Idealize.ShloMosaic.TcCoe Idealize.ShloMosaic.Tactic

variable (m : (ℓ : Loc nD τ sig) → Buf (Elt Ideal) ℓ) (c : Dev nD)

/-- The norm of every position's row. -/
def Nm (x : FVec Ideal S4x4096x1024 .f32) (g : FVec Ideal S1x1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))

/-- The input projection of every position's row. -/
def Pr (h : FVec Ideal S4x4096x1024 .f32) (wi : FVec Ideal S1x1024x11352 .f32) : FVec Ideal S4x4096x11352 .f32 :=
  Host.dotGeneral dot_S4x4096x1024_S1024x11352_S4x4096x11352_2_0_01_1_n_n none h (shapeCast _ wi shapeCasts_S1x1024x11352_S1024x11352)

/-- The projection's columns, regrouped, scaled and padded. -/
def Ct (d : FVec Ideal S4x4096x11352 .f32) : FVec Ideal S4x4096x4224 .f32 :=
  concatenate S4x4096x4224 2 [⟨S4x4096x1024, ((extractStridedSlice S4x4096x1024 ![0, 0, 2064] d slices_S4x4096x11352_S4x4096x1024_0_0_2064) : (⟨S4x4096x1024, .f32⟩ : BufTy).Contents (Elt Ideal)) ⟩, ⟨S4x4096x1024, ((extractStridedSlice S4x4096x1024 ![0, 0, 5208] d slices_S4x4096x11352_S4x4096x1024_0_0_5208) : (⟨S4x4096x1024, .f32⟩ : BufTy).Contents (Elt Ideal)) ⟩, ⟨S4x4096x1024, ((extractStridedSlice S4x4096x1024 ![0, 0, 7256] d slices_S4x4096x11352_S4x4096x1024_0_0_7256) : (⟨S4x4096x1024, .f32⟩ : BufTy).Contents (Elt Ideal)) ⟩, ⟨S4x4096x512, ((mulf (extractStridedSlice S4x4096x512 ![0, 0, 0] d slices_S4x4096x11352_S4x4096x512_0_0_0) (broadcastInDim S4x4096x512 ![] bcast_S_S4x4096x512 (constant (F := Ideal) S_ .f32 0x3DB504F3#32))) : (⟨S4x4096x512, .f32⟩ : BufTy).Contents (Elt Ideal)) ⟩, ⟨S4x4096x512, ((extractStridedSlice S4x4096x512 ![0, 0, 512] d slices_S4x4096x11352_S4x4096x512_0_0_512) : (⟨S4x4096x512, .f32⟩ : BufTy).Contents (Elt Ideal)) ⟩, ⟨S4x4096x16, ((extractStridedSlice S4x4096x16 ![0, 0, 2048] d slices_S4x4096x11352_S4x4096x16_0_0_2048) : (⟨S4x4096x16, .f32⟩ : BufTy).Contents (Elt Ideal)) ⟩, ⟨S4x4096x8, ((extractStridedSlice S4x4096x8 ![0, 0, 5200] d slices_S4x4096x11352_S4x4096x8_0_0_5200) : (⟨S4x4096x8, .f32⟩ : BufTy).Contents (Elt Ideal)) ⟩, ⟨S4x4096x104, ((broadcastInDim S4x4096x104 ![] bcast_S_S4x4096x104 (constant (F := Ideal) S_ .f32 0x00000000#32)) : (⟨S4x4096x104, .f32⟩ : BufTy).Contents (Elt Ideal)) ⟩] concatenates_S4x4096x1024_S4x4096x1024_S4x4096x1024_S4x4096x512_S4x4096x512_S4x4096x16_S4x4096x8_S4x4096x104_S4x4096x4224_d2

/-- The batches and positions as one axis of rows. -/
def Sh (z : FVec Ideal S4x4096x4224 .f32) : FVec Ideal S16384x4224 .f32 :=
  shapeCast S16384x4224 z shapeCasts_S4x4096x4224_S16384x4224

/-- The result from the launch's arrays. -/
def Rs (x : FVec Ideal S4x4096x1024 .f32) (g : FVec Ideal S1x1024 .f32) (wi : FVec Ideal S1x1024x11352 .f32) : FVec Ideal S16384x4224 .f32 :=
  Sh (Ct (Pr (Nm x g) wi))

/-- The reference's result is these, one after the other. -/
theorem res_eq : res_main_v35 (F := Ideal) m c = Rs (m ((c : Thread nD τ).loc main_arg0)) (m ((c : Thread nD τ).loc main_arg1)) (m ((c : Thread nD τ).loc main_arg2)) := rfl

variable (x h : S4x4096x1024.Idx → EReal) (g : S1x1024.Idx → EReal) (wi : S1x1024x11352.Idx → EReal) (d : S4x4096x11352.Idx → EReal)

/-- A gain at a column. -/
theorem at2_one (k : Fin 1024) : g (ix2 0 k) = row2 g 0 k := at2_ix g _ _ _ _ rfl rfl

/-- The norm at an index. -/
theorem Nm_at (b : Fin 4) (t : Fin 4096) (k : Fin 1024) : (Nm x g (ix3 b t k) : EReal) = hn (fun l => x (ix3 b t l)) (row2 g 0) k := by
  pointwise [Nm]
  unfold hn
  rw [at2_one g k]

/-- The projection at an index. -/
theorem Pr_at (b : Fin 4) (t : Fin 4096) (j : Fin 11352) : (Pr h wi (ix3 b t j) : EReal) = dotc (fun l => h (ix3 b t l)) (col3 wi j.val) := by
  pointwise [Pr]
  exact Finset.sum_congr rfl fun l _ => congrArg (fun y : EReal => h (ix3 b t l) * y) (at3_ix wi _ _ _ _ _ _ rfl rfl rfl)

/-- The regrouped columns of any projection. -/
def regroup (p : ℕ → EReal) (J : ℕ) : EReal :=
  if J < 1024 then p (2064 + (J - 0)) else
  if J < 2048 then p (5208 + (J - 1024)) else
  if J < 3072 then p (7256 + (J - 2048)) else
  if J < 3584 then p (0 + (J - 3072)) * Ideal.ofBits .f32 0x3DB504F3#32 else
  if J < 4096 then p (512 + (J - 3584)) else
  if J < 4112 then p (2048 + (J - 4096)) else
  if J < 4120 then p (5200 + (J - 4112)) else
  0

/-- The regrouped columns from 0 on. -/
theorem Ct_at_0 (b : Fin 4) (t : Fin 4096) (J : Fin 4224) (ha : 0 ≤ J.val) (hb : J.val < 1024) : (Ct d (ix3 b t J) : EReal) = d (ix3 b t ⟨2064 + (J.val - 0), by omega⟩) := by
  pointwise [Ct]
  rw [dif_pos (by omega)]

/-- The regrouped columns from 1024 on. -/
theorem Ct_at_1 (b : Fin 4) (t : Fin 4096) (J : Fin 4224) (ha : 1024 ≤ J.val) (hb : J.val < 2048) : (Ct d (ix3 b t J) : EReal) = d (ix3 b t ⟨5208 + (J.val - 1024), by omega⟩) := by
  pointwise [Ct]
  rw [dif_neg (by omega), dif_pos (by omega)]

/-- The regrouped columns from 2048 on. -/
theorem Ct_at_2 (b : Fin 4) (t : Fin 4096) (J : Fin 4224) (ha : 2048 ≤ J.val) (hb : J.val < 3072) : (Ct d (ix3 b t J) : EReal) = d (ix3 b t ⟨7256 + (J.val - 2048), by omega⟩) := by
  pointwise [Ct]
  rw [dif_neg (by omega), dif_neg (by omega), dif_pos (by omega)]
  exact congrArg (fun y => d (ix3 b t y)) (Fin.ext (by dsimp only; omega))

/-- The regrouped columns from 3072 on. -/
theorem Ct_at_3 (b : Fin 4) (t : Fin 4096) (J : Fin 4224) (ha : 3072 ≤ J.val) (hb : J.val < 3584) : (Ct d (ix3 b t J) : EReal) = d (ix3 b t ⟨0 + (J.val - 3072), by omega⟩) * Ideal.ofBits .f32 0x3DB504F3#32 := by
  pointwise [Ct]
  rw [dif_neg (by omega), dif_neg (by omega), dif_neg (by omega), dif_pos (by omega)]
  exact congrArg (fun y => d (ix3 b t y) * Ideal.ofBits .f32 0x3DB504F3#32) (Fin.ext (by dsimp only; omega))

/-- The regrouped columns from 3584 on. -/
theorem Ct_at_4 (b : Fin 4) (t : Fin 4096) (J : Fin 4224) (ha : 3584 ≤ J.val) (hb : J.val < 4096) : (Ct d (ix3 b t J) : EReal) = d (ix3 b t ⟨512 + (J.val - 3584), by omega⟩) := by
  pointwise [Ct]
  rw [dif_neg (by omega), dif_neg (by omega), dif_neg (by omega), dif_neg (by omega), dif_pos (by omega)]
  exact congrArg (fun y => d (ix3 b t y)) (Fin.ext (by dsimp only; omega))

/-- The regrouped columns from 4096 on. -/
theorem Ct_at_5 (b : Fin 4) (t : Fin 4096) (J : Fin 4224) (ha : 4096 ≤ J.val) (hb : J.val < 4112) : (Ct d (ix3 b t J) : EReal) = d (ix3 b t ⟨2048 + (J.val - 4096), by omega⟩) := by
  pointwise [Ct]
  rw [dif_neg (by omega), dif_neg (by omega), dif_neg (by omega), dif_neg (by omega), dif_neg (by omega), dif_pos (by omega)]
  exact congrArg (fun y => d (ix3 b t y)) (Fin.ext (by dsimp only; omega))

/-- The regrouped columns from 4112 on. -/
theorem Ct_at_6 (b : Fin 4) (t : Fin 4096) (J : Fin 4224) (ha : 4112 ≤ J.val) (hb : J.val < 4120) : (Ct d (ix3 b t J) : EReal) = d (ix3 b t ⟨5200 + (J.val - 4112), by omega⟩) := by
  pointwise [Ct]
  rw [dif_neg (by omega), dif_neg (by omega), dif_neg (by omega), dif_neg (by omega), dif_neg (by omega), dif_neg (by omega), dif_pos (by omega)]
  exact congrArg (fun y => d (ix3 b t y)) (Fin.ext (by dsimp only; omega))

/-- The regrouped columns from 4120 on. -/
theorem Ct_at_7 (b : Fin 4) (t : Fin 4096) (J : Fin 4224) (ha : 4120 ≤ J.val) (hb : J.val < 4224) : (Ct d (ix3 b t J) : EReal) = (0 : EReal) := by
  pointwise [Ct]
  rw [dif_neg (by omega), dif_neg (by omega), dif_neg (by omega), dif_neg (by omega), dif_neg (by omega), dif_neg (by omega), dif_neg (by omega)]

/-- The regrouped columns at an index. -/
theorem Ct_at (b : Fin 4) (t : Fin 4096) (J : Fin 4224) (p : ℕ → EReal) (hp : ∀ j : Fin 11352, d (ix3 b t j) = p j.val) : (Ct d (ix3 b t J) : EReal) = regroup p J.val := by
  unfold regroup
  by_cases h0 : J.val < 1024
  · rw [if_pos h0, Ct_at_0 d b t J (by omega) (by omega), hp]
  by_cases h1 : J.val < 2048
  · rw [if_neg h0, if_pos h1, Ct_at_1 d b t J (by omega) (by omega), hp]
  by_cases h2 : J.val < 3072
  · rw [if_neg h0, if_neg h1, if_pos h2, Ct_at_2 d b t J (by omega) (by omega), hp]
  by_cases h3 : J.val < 3584
  · rw [if_neg h0, if_neg h1, if_neg h2, if_pos h3, Ct_at_3 d b t J (by omega) (by omega), hp]
  by_cases h4 : J.val < 4096
  · rw [if_neg h0, if_neg h1, if_neg h2, if_neg h3, if_pos h4, Ct_at_4 d b t J (by omega) (by omega), hp]
  by_cases h5 : J.val < 4112
  · rw [if_neg h0, if_neg h1, if_neg h2, if_neg h3, if_neg h4, if_pos h5, Ct_at_5 d b t J (by omega) (by omega), hp]
  by_cases h6 : J.val < 4120
  · rw [if_neg h0, if_neg h1, if_neg h2, if_neg h3, if_neg h4, if_neg h5, if_pos h6, Ct_at_6 d b t J (by omega) (by omega), hp]
  rw [if_neg h0, if_neg h1, if_neg h2, if_neg h3, if_neg h4, if_neg h5, if_neg h6, Ct_at_7 d b t J (by omega) (by omega)]

variable (z : S4x4096x4224.Idx → EReal)

/-- Rows are positions of batches. -/
theorem Sh_at (R : Fin 16384) (J : Fin 4224) : (Sh z (ix2 R J) : EReal) = z (ix3 ⟨R.val / 4096, by omega⟩ ⟨R.val % 4096, by omega⟩ J) := by
  pointwise [Sh]

/-- The whole result at an index. -/
theorem Rs_at (R : Fin 16384) (J : Fin 4224) : (Rs x g wi (ix2 R J) : EReal) = projB (hrow x g (R.val / 4096) (R.val % 4096)) wi J.val := by
  unfold Rs
  rw [Sh_at, Ct_at (Pr (Nm x g) wi) _ _ J (fun j => dotc (hrow x g (R.val / 4096) (R.val % 4096)) (col3 wi j))]
  · rfl
  · intro j
    rw [Pr_at]
    refine congrArg (fun q => dotc q (col3 wi j.val)) (funext fun l => ?_)
    rw [Nm_at]
    exact congrArg (fun q => hn q (row2 g 0) l) (funext fun k => at3_ix x _ _ _ _ _ _ rfl rfl rfl)

/-- The reference's result at an index. -/
theorem res_at (R : Fin 16384) (J : Fin 4224) : (res_main_v35 (F := Ideal) m c (ix2 R J) : EReal) = projB (hrow (m ((c : Thread nD τ).loc main_arg0)) (m ((c : Thread nD τ).loc main_arg1)) (R.val / 4096) (R.val % 4096)) (m ((c : Thread nD τ).loc main_arg2)) J.val := by
  rw [res_eq]
  exact Rs_at _ _ _ R J

end Cert.ProjBReferenceIdeal.RefAt
-- ==== Proof.ProjBAlg.lean ====
module

public import proofs.«01_k».proof.Defs
public import proofs.«01_k».proof.Proof.ProjBHost
public import proofs.«01_k».proof.Proof.ProjBRef
public import Idealize.ShloMosaic.Lib.Claim

/-! The kernel's result against its reference's. -/

@[expose] public section

set_option maxRecDepth 16384

noncomputable section

namespace Cert.Proof

open Idealize.ShloMosaic Idealize.ShloMosaic.TcCoe Idealize.ShloMosaic.Tactic

/-- At the extended reals the kernel leaves what its reference leaves. -/
theorem algebraic_ProjB : Cert.algebraic_ProjBIdeal_ProjBReferenceIdeal (hProjBIdeal := Cert.ProjBIdeal.Gen.facts)
    (hProjBReferenceIdeal := Cert.ProjBReferenceIdeal.Gen.facts) := by
  intro m g m' g' _ hargs
  refine ⟨_, Cert.ProjBIdeal.Value.run_blocks m g, ?_⟩
  refine (θ_run Cert.ProjBReferenceIdeal.defs _ _).mono (fun r h c => ⟨(h c).1.trans ?_, (h c).2⟩) (Cert.ProjBReferenceIdeal.Value.run m' g')
  obtain ⟨e0, e1, e2⟩ := hargs c
  funext i
  obtain ⟨R, j, rfl⟩ : ∃ (R : Fin 16384) (j : Fin 4224), i = ix2 R j := ⟨i 0, i 1, by funext a; match a with | ⟨0, _⟩ => rfl | ⟨1, _⟩ => rfl⟩
  refine (Cert.ProjBReferenceIdeal.RefAt.res_at m' c R j).trans ?_
  rw [e0, e1, e2]
  exact (Cert.ProjBIdeal.HostIn.arr_at m c R j).symm

/-- The reference runs, leaves its arguments as they were, and has no semaphore whose counter could be off zero. -/
theorem frame_ProjB : Cert.quiescent_ProjBReferenceIdeal (hProjBReferenceIdeal := Cert.ProjBReferenceIdeal.Gen.facts) := fun m ρ _ =>
  (θ_run Cert.ProjBReferenceIdeal.defs _ _).mono (fun r h => ⟨fun c => (h c).2, sem_eq_zero_of_no_sems (by decide) r.2⟩)
    (Cert.ProjBReferenceIdeal.Value.run m ρ)

end Cert.Proof

end
-- ==== Proof.MemBlock.lean ====
module

public import proofs.«01_k».proof.Proof.Gen.MemIdeal.Value
public import proofs.«01_k».proof.Proof.Layer
public import Idealize.ShloMosaic.Lib.Claim
public import Idealize.ShloMosaic.Lib.Pointwise
public import Idealize.ShloMosaic.Lib.Pointwise.Index
public import Idealize.ShloMosaic.Lib.Writes
public import Idealize.ShloMosaic.Lib.Pipeline.ValueKit

/-! A step of the memory's projecting kernel: the block it leaves, read at an index. -/

@[expose] public section

set_option maxRecDepth 16384
set_option pp.deepTerms false
set_option pp.maxSteps 1000

noncomputable section

namespace Cert.MemIdeal.Block

open Cert.MemIdeal Cert.MemIdeal.Gen Cert.Layer Cert.Gla
open Idealize.ShloMosaic Idealize.ShloMosaic.TcCoe Idealize.ShloMosaic.Tactic
open Idealize.ShloMosaic.Pipeline

variable (x0 : S512x1024.Idx → EReal) (x1 : S1x1024.Idx → EReal) (x2 : S2048x1024.Idx → EReal) (x3 : S1x2048.Idx → EReal)

/-- The normed row. -/
theorem pay1_at (r : Fin 512) (k : Fin 1024) : (k0_pay1 (F := Ideal) x0 x1 (ix2 r k) : EReal) = hn (fun l => x0 (ix2 r l)) (fun l => x1 (ix2 0 l)) k := by
  pointwise [k0_pay1]
  rfl

/-- The normed row through the weights, scaled. -/
theorem pay2_at (h : S512x1024.Idx → EReal) (r : Fin 512) (j : Fin 2048) :
    (k0_pay2 (F := Ideal) h x2 x3 (ix2 r j) : EReal) = dotc (fun k => h (ix2 r k)) (fun k => x2 (ix2 j k)) * x3 (ix2 0 j) := by
  pointwise [k0_pay2]
  rfl

section
variable {F : FTy → Type} [FloatOps F] (x0 : Vec F S512x1024 .f32) (x1 : Vec F S1x1024 .f32) (x2 : Vec F S2048x1024 .bf16) (x3 : Vec F S1x2048 .f32)

/-- A window's block read through a rectangle. -/
theorem readAt_whole {s : Shape} {e : EltTy} {sp : Space} (q : Memref sig .tc sp s e) (h : q.IsWhole) (X : s.Idx → Elt F e) (r : Rect s) :
    View.readAt (Elt F) q.view r.toLoadRect (h.unread X) = View.ld (Val := Elt F) X r := by
  rw [View.readAt_eq_ld, h.read_unread]

/-- The block a step leaves is its one store. -/
theorem out_eq (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .bf16) (harg6 : arg6.IsWhole) (arg7 : Memref sig .tc .vmem S512x1024 .bf16) (harg7 : arg7.IsWhole) (hc0 : cond0_0 i) :
    out0_A_4 c i arg2 harg2 arg3 harg3 arg4 harg4 arg5 harg5 arg6 harg6 arg7 harg7 hc0 x0 x1 x2 x3 = k0_pay2 (k0_pay1 x0 x1) x2 x3 := by
  have hz : (![0, 0] : Fin 2 → ℕ) = fun _ => 0 := by decide
  funext y
  unfold out0_A_4
  refine View.read_writes_apply_of_pieces VO0_4 _ (k0_pay2 (k0_pay1 x0 x1) x2 x3) _ ?_ y (cover0_A_4 c i arg2 harg2 arg3 harg3 arg4 harg4 arg5 harg5 arg6 harg6 arg7 harg7 hc0 x0 x1 x2 x3 y)
  unfold kernelRun0_A
  dsimp only
  refine List.forall_mem_cons.2 ⟨fun x => ?_, fun p hp => absurd hp List.not_mem_nil⟩
  have ex : (Rect.unit (s := S512x2048) ![0, 0] S512x2048.size inb_S512x2048_S512x2048_0_0).emb x = x := by
    funext a
    apply Fin.ext
    match a with
    | ⟨0, _⟩ => show 0 + 1 * (x 0).val = (x 0).val; omega
    | ⟨1, _⟩ => show 0 + 1 * (x 1).val = (x 1).val; omega
  refine Eq.trans ?_ (congrArg (k0_pay2 (k0_pay1 x0 x1) x2 x3) ex).symm
  refine congrFun (a := x) ?_
  have h3 : kernelRun0_A.sl.v3 c arg2 harg2 arg3 harg3 arg7 x0 x1 = k0_pay1 x0 x1 := by
    unfold kernelRun0_A.sl.v3
    refine (View.readCov_unit_zero _ hz _ _).trans ?_
    rw [readAt_whole, readAt_whole, View.ld_unit_zero (S := S512x1024) hz, View.ld_unit_zero (S := S1x1024) hz]
  show k0_pay2 _ _ _ = _
  rw [h3, readAt_whole, readAt_whole, View.ld_unit_zero (S := S2048x1024) hz, View.ld_unit_zero (S := S1x2048) hz]
end

/-- The block a step leaves, at an index. -/
theorem out_at (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .bf16) (harg6 : arg6.IsWhole) (arg7 : Memref sig .tc .vmem S512x1024 .bf16) (harg7 : arg7.IsWhole) (hc0 : cond0_0 i) (r : Fin 512) (j : Fin 2048) :
    (out0_A_4 (F := Ideal) c i arg2 harg2 arg3 harg3 arg4 harg4 arg5 harg5 arg6 harg6 arg7 harg7 hc0 x0 x1 x2 x3 (ix2 r j) : EReal)
      = dotc (hn (fun l => x0 (ix2 r l)) (fun l => x1 (ix2 0 l))) (fun k => x2 (ix2 j k)) * x3 (ix2 0 j) := by
  refine (congrFun (out_eq (F := Ideal) x0 x1 x2 x3 c i arg2 harg2 arg3 harg3 arg4 harg4 arg5 harg5 arg6 harg6 arg7 harg7 hc0) _).trans ?_
  refine (pay2_at x2 x3 _ r j).trans ?_
  simp only [pay1_at]

end Cert.MemIdeal.Block
-- ==== Proof.MemHost.lean ====
module

public import proofs.«01_k».proof.Proof.MemBlock
public import Idealize.ShloMosaic.Lib.StableHlo.ReadAt

/-! The projecting kernel's windows, read at an index in terms of the launch's arrays, and the array it leaves. -/

@[expose] public section

set_option maxRecDepth 1024
set_option pp.deepTerms false
set_option pp.maxSteps 1000

noncomputable section

namespace Cert.MemIdeal.HostIn

open Cert.MemIdeal Cert.MemIdeal.Gen Cert.MemIdeal.Block Cert.Layer Cert.Gla
open Idealize.ShloMosaic Idealize.ShloMosaic.TcCoe Idealize.ShloMosaic.Tactic
open Idealize.ShloMosaic.Pipeline

variable (m : (ℓ : Loc nD τ sig) → Buf (Elt Ideal) ℓ) (c : Dev nD)

/-- The memory at launch. -/
abbrev XX : S4x256x1024.Idx → EReal := m ((c : Thread nD τ).loc main_arg0)
/-- The gain at launch. -/
abbrev GP : S1x1024.Idx → EReal := m ((c : Thread nD τ).loc main_arg1)
/-- The memory's projection at launch. -/
abbrev WI : S1x1024x2048.Idx → EReal := m ((c : Thread nD τ).loc main_arg2)

/-- The memory's rows. -/
theorem xx_at (r : Fin 1024) (k : Fin 1024) : (V m c main_v0 : S1024x1024.Idx → EReal) (ix2 r k) = at3 (XX m c) (r.val / 256) (r.val % 256) k.val := by
  unfold V
  after_reads_at
  exact at3_ix (XX m c) _ _ _ _ _ _ rfl rfl rfl

/-- The gain as the kernel reads it. -/
theorem gp_at (k : Fin 1024) : (V m c main_v6 : S1x1024.Idx → EReal) (ix2 0 k) = at2 (GP m c) 0 k.val := by
  unfold V
  after_reads_at
  exact at2_ix (GP m c) _ _ _ _ rfl rfl

/-- The weights as the kernel reads them. -/
theorem w_at (J : Fin 2048) (k : Fin 1024) : (V m c main_v4 : S2048x1024.Idx → EReal) (ix2 J k) = at3 (WI m c) 0 k.val J.val := by
  unfold V
  after_reads_at
  exact at3_ix (WI m c) _ _ _ _ _ _ rfl rfl rfl

/-- The columns' scales as the kernel reads them. -/
theorem s_at (J : Fin 2048) : (V m c main_v7 : S1x2048.Idx → EReal) (ix2 0 J) = (1 : EReal) := by
  unfold V
  after_reads_at

/-- There are two points. -/
theorem point_lt (t : Fin cfg0.N) : t.val < 2 := lt_of_lt_of_eq t.isLt (show cfg0.N = 2 from N_0)

/-- Window 0's block index at a point. -/
theorem idx0 : ∀ t : Fin cfg0.N, win0_0.index t = ![t.val, 0] := by decide +kernel

/-- Window 1's block index at a point. -/
theorem idx1 : ∀ t : Fin cfg0.N, win0_1.index t = ![0, 0] := by decide +kernel

/-- Window 2's block index at a point. -/
theorem idx2 : ∀ t : Fin cfg0.N, win0_2.index t = ![0, 0] := by decide +kernel

/-- Window 3's block index at a point. -/
theorem idx3 : ∀ t : Fin cfg0.N, win0_3.index t = ![0, 0] := by decide +kernel

/-- Window 4's block index at a point. -/
theorem idx4 : ∀ t : Fin cfg0.N, win0_4.index t = ![t.val, 0] := by decide +kernel

/-- A step's block of window 0. -/
theorem x0_at (t : Fin cfg0.N) (r : Fin 512) (k : Fin 1024) : (iblk m c 0 t : S512x1024.Idx → EReal) (ix2 r k) = at3 (XX m c) ((512 * t.val + r.val) / 256) ((512 * t.val + r.val) % 256) k.val := by
  blk_simp [iblk]
  refine (congrArg (V m c (arrRef spec0 0)) (?_ : _ = ix2 (⟨512 * t.val + r.val, by have := point_lt t; omega⟩ : Fin 1024) k)).trans ?_
  · funext a
    apply Fin.ext
    match a with
    | ⟨0, _⟩ => show win0_0.index t 0 * 512 + 1 * r.val = 512 * t.val + r.val; rw [idx0]; show t.val * 512 + 1 * r.val = 512 * t.val + r.val; omega
    | ⟨1, _⟩ => show win0_0.index t 1 * 1024 + 1 * k.val = k.val; rw [idx0]; show 0 * 1024 + 1 * k.val = k.val; omega
  · exact xx_at m c (⟨512 * t.val + r.val, by have := point_lt t; omega⟩ : Fin 1024) k

/-- A step's block of window 1. -/
theorem x1_at (t : Fin cfg0.N) (k : Fin 1024) : (iblk m c 1 t : S1x1024.Idx → EReal) (ix2 0 k) = at2 (GP m c) 0 k.val := by
  blk_simp [iblk]
  refine (congrArg (V m c (arrRef spec0 1)) (?_ : _ = ix2 0 k)).trans ?_
  · funext a
    apply Fin.ext
    match a with
    | ⟨0, _⟩ => show win0_1.index t 0 * 1 + 1 * 0 = 0; rw [idx1]; rfl
    | ⟨1, _⟩ => show win0_1.index t 1 * 1024 + 1 * k.val = k.val; rw [idx1]; show 0 * 1024 + 1 * k.val = k.val; omega
  · exact gp_at m c k

/-- A step's block of window 2. -/
theorem x2_at (t : Fin cfg0.N) (J : Fin 2048) (k : Fin 1024) : (iblk m c 2 t : S2048x1024.Idx → EReal) (ix2 J k) = at3 (WI m c) 0 k.val J.val := by
  blk_simp [iblk]
  refine (congrArg (V m c (arrRef spec0 2)) (?_ : _ = ix2 J k)).trans ?_
  · funext a
    apply Fin.ext
    match a with
    | ⟨0, _⟩ => show win0_2.index t 0 * 2048 + 1 * J.val = J.val; rw [idx2]; show 0 * 2048 + 1 * J.val = J.val; omega
    | ⟨1, _⟩ => show win0_2.index t 1 * 1024 + 1 * k.val = k.val; rw [idx2]; show 0 * 1024 + 1 * k.val = k.val; omega
  · exact w_at m c J k

/-- A step's block of window 3. -/
theorem x3_at (t : Fin cfg0.N) (J : Fin 2048) : (iblk m c 3 t : S1x2048.Idx → EReal) (ix2 0 J) = (1 : EReal) := by
  blk_simp [iblk]
  refine (congrArg (V m c (arrRef spec0 3)) (?_ : _ = ix2 0 J)).trans ?_
  · funext a
    apply Fin.ext
    match a with
    | ⟨0, _⟩ => show win0_3.index t 0 * 1 + 1 * 0 = 0; rw [idx3]; rfl
    | ⟨1, _⟩ => show win0_3.index t 1 * 2048 + 1 * J.val = J.val; rw [idx3]; show 0 * 2048 + 1 * J.val = J.val; omega
  · exact s_at m c J

/-- Every point writes its block back. -/
theorem flush_all : ∀ t : Fin cfg0.N, (cfg0.win 4).flush t = true := by decide +kernel

/-- What a point leaves, at an index. -/
theorem step_at (t : Fin cfg0.N) (r : Fin 512) (J : Fin 2048) (R : ℕ) (hR : 512 * t.val + r.val = R) :
    (outsAt0 (F := Ideal) m c t (ix2 r J) : EReal) = memAt (XX m c) (GP m c) (WI m c) R J.val := by
  subst hR
  refine (out_at (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) scM0_0 (Memref.isWhole_whole _) (hcond0_0 t) r J).trans ?_
  have e0 : (fun l : Fin 1024 => (iblk m c 0 t : S512x1024.Idx → EReal) (ix2 r l)) = row3 (XX m c) ((512 * t.val + r.val) / 256) ((512 * t.val + r.val) % 256) := funext fun k => x0_at m c t r k
  have e1 : (fun l : Fin 1024 => (iblk m c 1 t : S1x1024.Idx → EReal) (ix2 0 l)) = row2 (GP m c) 0 := funext fun k => x1_at m c t k
  have e2 : (fun l : Fin 1024 => (iblk m c 2 t : S2048x1024.Idx → EReal) (ix2 J l)) = col3 (WI m c) J.val := funext fun k => x2_at m c t J k
  rw [e0, e1, e2, x3_at m c t J]
  exact mul_one _

/-- The array the kernel leaves, at an index. -/
theorem arr_at (R : Fin 1024) (J : Fin 2048) :
    ((dats m 0 c).arrAt 4 cfg0.N : S1024x2048.Idx → EReal) (ix2 R J) = memAt (XX m c) (GP m c) (WI m c) R.val J.val := by
  let t : Fin cfg0.N := ⟨R.val / 512, by rw [show cfg0.N = 2 from N_0]; omega⟩
  let r : Fin 512 := ⟨R.val % 512, by omega⟩
  have h := congrFun (Cert.MemIdeal.Value.blocks4 m c t (flush_all t)) (ix2 r J)
  rw [Cert.MemIdeal.Value.flushed4] at h
  have e : ((cfg0.win 4).blk t).view.emb (ix2 r J) = ix2 R J := by
    funext a
    apply Fin.ext
    match a with
    | ⟨0, _⟩ => show win0_4.index t 0 * 512 + 1 * r.val = R.val; rw [idx4]; show (R.val / 512) * 512 + 1 * (R.val % 512) = R.val; omega
    | ⟨1, _⟩ => show win0_4.index t 1 * 2048 + 1 * J.val = J.val; rw [idx4]; show 0 * 2048 + 1 * J.val = J.val; omega
  rw [View.read_apply, cast_eq, e] at h
  refine Eq.trans h ?_
  exact step_at m c t r J R.val (by show 512 * (R.val / 512) + R.val % 512 = R.val; omega)

end Cert.MemIdeal.HostIn
-- ==== Proof.MemRef.lean ====
module

public import proofs.«01_k».proof.Proof.Gen.MemReferenceIdeal.Run
public import proofs.«01_k».proof.Proof.Layer
public import Idealize.ShloMosaic.Lib.Claim
public import Idealize.ShloMosaic.Lib.Pointwise
public import Idealize.ShloMosaic.Lib.Pointwise.Index

/-! The projecting call's reference, read at an index in terms of the launch's arrays. -/

@[expose] public section

set_option maxRecDepth 1024
set_option pp.deepTerms false
set_option pp.maxSteps 1000

noncomputable section

namespace Cert.MemReferenceIdeal.RefAt

open Cert.MemReferenceIdeal Cert.MemReferenceIdeal.Gen Cert.MemReferenceIdeal.Value Cert.Layer Cert.Gla
open Idealize.ShloMosaic Idealize.ShloMosaic.TcCoe Idealize.ShloMosaic.Tactic

variable (m : (ℓ : Loc nD τ sig) → Buf (Elt Ideal) ℓ) (c : Dev nD)

/-- The norm of every position's row. -/
def Nm (x : FVec Ideal S4x256x1024 .f32) (g : FVec Ideal S1x1024 .f32) : FVec Ideal S4x256x1024 .f32 :=
  mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (shapeCast _ g shapeCasts_S1x1024_S1024)))

/-- The input projection of every position's row. -/
def Pr (h : FVec Ideal S4x256x1024 .f32) (wi : FVec Ideal S1x1024x2048 .f32) : FVec Ideal S4x256x2048 .f32 :=
  Host.dotGeneral dot_S4x256x1024_S1024x2048_S4x256x2048_2_0_01_1_n_n none h (shapeCast _ wi shapeCasts_S1x1024x2048_S1024x2048)

/-- The batches and positions as one axis of rows. -/
def Sh (z : FVec Ideal S4x256x2048 .f32) : FVec Ideal S1024x2048 .bf16 :=
  truncf .bf16 (shapeCast S1024x2048 z shapeCasts_S4x256x2048_S1024x2048) bitsLt_bf16_f32

/-- The result from the launch's arrays. -/
def Rs (x : FVec Ideal S4x256x1024 .f32) (g : FVec Ideal S1x1024 .f32) (wi : FVec Ideal S1x1024x2048 .f32) : FVec Ideal S1024x2048 .bf16 :=
  Sh (Pr (Nm x g) wi)

variable (x h : S4x256x1024.Idx → EReal) (g : S1x1024.Idx → EReal) (wi : S1x1024x2048.Idx → EReal) (d : S4x256x2048.Idx → EReal)

/-- A gain at a column. -/
theorem at2_one (k : Fin 1024) : g (ix2 0 k) = row2 g 0 k := at2_ix g _ _ _ _ rfl rfl

/-- The norm at an index. -/
theorem Nm_at (b : Fin 4) (t : Fin 256) (k : Fin 1024) : (Nm x g (ix3 b t k) : EReal) = hn (fun l => x (ix3 b t l)) (row2 g 0) k := by
  pointwise [Nm]
  unfold hn
  rw [at2_one g k]

/-- The projection at an index. -/
theorem Pr_at (b : Fin 4) (t : Fin 256) (j : Fin 2048) : (Pr h wi (ix3 b t j) : EReal) = dotc (fun l => h (ix3 b t l)) (col3 wi j.val) := by
  pointwise [Pr]
  exact Finset.sum_congr rfl fun l _ => congrArg (fun y : EReal => h (ix3 b t l) * y) (at3_ix wi _ _ _ _ _ _ rfl rfl rfl)

variable (z : S4x256x2048.Idx → EReal)

/-- Rows are positions of batches. -/
theorem Sh_at (R : Fin 1024) (J : Fin 2048) : (Sh z (ix2 R J) : EReal) = z (ix3 ⟨R.val / 256, by omega⟩ ⟨R.val % 256, by omega⟩ J) := by
  pointwise [Sh]

/-- The whole result at an index. -/
theorem Rs_at (R : Fin 1024) (J : Fin 2048) : (Rs x g wi (ix2 R J) : EReal) = memAt x g wi R.val J.val := by
  unfold Rs
  rw [Sh_at, Pr_at]
  refine congrArg (fun q => dotc q (col3 wi J.val)) (funext fun l => ?_)
  rw [Nm_at]
  exact congrArg (fun q => hn q (row2 g 0) l) (funext fun k => at3_ix x _ _ _ _ _ _ rfl rfl rfl)

end Cert.MemReferenceIdeal.RefAt
-- ==== Proof.MemAlg.lean ====
module

public import proofs.«01_k».proof.Defs
public import proofs.«01_k».proof.Proof.MemHost
public import proofs.«01_k».proof.Proof.MemRef
public import Idealize.ShloMosaic.Lib.Claim

/-! The kernel's result against its reference's. -/

@[expose] public section

set_option maxRecDepth 16384

noncomputable section

namespace Cert.Proof

open Idealize.ShloMosaic Idealize.ShloMosaic.TcCoe Idealize.ShloMosaic.Tactic

/-- At the extended reals the kernel leaves what its reference leaves. -/
theorem algebraic_Mem : Cert.algebraic_MemIdeal_MemReferenceIdeal (hMemIdeal := Cert.MemIdeal.Gen.facts)
    (hMemReferenceIdeal := Cert.MemReferenceIdeal.Gen.facts) := by
  intro m g m' g' _ hargs
  refine ⟨_, Cert.MemIdeal.Value.run_blocks m g, ?_⟩
  refine (θ_run Cert.MemReferenceIdeal.defs _ _).mono (fun r h c => ⟨(h c).1.trans ?_, (h c).2⟩) (Cert.MemReferenceIdeal.Value.run m' g')
  obtain ⟨e0, e1, e2⟩ := hargs c
  funext i
  obtain ⟨R, j, rfl⟩ : ∃ (R : Fin 1024) (j : Fin 2048), i = ix2 R j := ⟨i 0, i 1, by funext a; match a with | ⟨0, _⟩ => rfl | ⟨1, _⟩ => rfl⟩
  refine (Cert.MemReferenceIdeal.RefAt.Rs_at (m' ((c.tc : Thread Cert.MemReferenceIdeal.nD Cert.MemReferenceIdeal.τ).loc Cert.MemReferenceIdeal.main_arg0)) (m' ((c.tc : Thread Cert.MemReferenceIdeal.nD Cert.MemReferenceIdeal.τ).loc Cert.MemReferenceIdeal.main_arg1)) (m' ((c.tc : Thread Cert.MemReferenceIdeal.nD Cert.MemReferenceIdeal.τ).loc Cert.MemReferenceIdeal.main_arg2)) R j).trans ?_
  rw [e0, e1, e2]
  exact (Cert.MemIdeal.HostIn.arr_at m c R j).symm

/-- The reference runs, leaves its arguments as they were, and has no semaphore whose counter could be off zero. -/
theorem frame_Mem : Cert.quiescent_MemReferenceIdeal (hMemReferenceIdeal := Cert.MemReferenceIdeal.Gen.facts) := fun m ρ _ =>
  (θ_run Cert.MemReferenceIdeal.defs _ _).mono (fun r h => ⟨fun c => (h c).2, sem_eq_zero_of_no_sems (by decide) r.2⟩)
    (Cert.MemReferenceIdeal.Value.run m ρ)

end Cert.Proof

end
-- ==== Proof.CrossBlock.lean ====
module

public import proofs.«01_k».proof.Proof.Gen.CrossIdeal.Value
public import Idealize.ShloMosaic.Lib.Claim
public import Idealize.ShloMosaic.Lib.Pointwise.Index
public import Idealize.ShloMosaic.Lib.Writes

/-! A step of the attention over the memory: the block it leaves, head by head. -/

@[expose] public section

set_option maxRecDepth 16384

noncomputable section

namespace Cert.CrossIdeal.Block

open Cert.CrossIdeal Cert.CrossIdeal.Gen
open Idealize.ShloMosaic Idealize.ShloMosaic.TcCoe Idealize.ShloMosaic.Tactic
open Idealize.ShloMosaic.Pipeline

variable {F : FTy → Type} [FloatOps F]

/-- A head's columns lie within a block of 512 rows. -/
theorem inA (h : Fin 4) : ∀ a : Fin 2, ![0, 256 * h.val] a + S512x256.size a ≤ S512x1024.size a := by
  intro a
  match a with
  | ⟨0, _⟩ => show 0 + 512 ≤ 512; omega
  | ⟨1, _⟩ => show 256 * h.val + 256 ≤ 1024; omega

/-- A head's columns lie within a block of 256 rows. -/
theorem inB (h : Fin 4) : ∀ a : Fin 2, ![0, 256 * h.val] a + S256x256.size a ≤ S256x1024.size a := by
  intro a
  match a with
  | ⟨0, _⟩ => show 0 + 256 ≤ 256; omega
  | ⟨1, _⟩ => show 256 * h.val + 256 ≤ 1024; omega

/-- A head's output block. -/
def CH (x0 : Vec F S512x1024 .bf16) (x1 : Vec F S512x1024 .f32) (x2 x3 : Vec F S256x1024 .bf16) (h : Fin 4) : FVec F S512x256 .bf16 :=
  k0_pay2 (View.ld (Val := Elt F) (e' := .bf16) x0 (Rect.unit (s := S512x1024) ![0, 256 * h.val] S512x256.size (inA h)))
    (View.ld (Val := Elt F) (e' := .bf16) x2 (Rect.unit (s := S256x1024) ![0, 256 * h.val] S256x256.size (inB h)))
    (View.ld (Val := Elt F) (e' := .bf16) x3 (Rect.unit (s := S256x1024) ![0, 256 * h.val] S256x256.size (inB h)))
    (View.ld (Val := Elt F) (e' := .f32) x1 (Rect.unit (s := S512x1024) ![0, 256 * h.val] S512x256.size (inA h)))

/-- A step's output block, index by index. -/
def CO (x0 : Vec F S512x1024 .bf16) (x1 : Vec F S512x1024 .f32) (x2 x3 : Vec F S256x1024 .bf16) : FVec F S512x1024 .bf16 := fun y =>
  CH x0 x1 x2 x3 ⟨(y 1).val / 256, by have : (y 1).val < 1024 := (y 1).isLt; omega⟩ (ix2 (y 0) ⟨(y 1).val % 256, Nat.mod_lt _ (by decide)⟩)

/-- A head's block is the part of `CO` at its place. -/
theorem CO_block (x0 : Vec F S512x1024 .bf16) (x1 : Vec F S512x1024 .f32) (x2 x3 : Vec F S256x1024 .bf16) (h : Fin 4)
    (inb : ∀ a : Fin 2, ![0, 256 * h.val] a + S512x256.size a ≤ S512x1024.size a) (x : S512x256.Idx) :
    CH x0 x1 x2 x3 h x = CO x0 x1 x2 x3 ((Rect.unit (s := S512x1024) ![0, 256 * h.val] S512x256.size inb).emb x) := by
  have h0 : (x 0).val < 512 := (x 0).isLt
  have h1 : (x 1).val < 256 := (x 1).isLt
  have hy0 : ((Rect.unit (s := S512x1024) ![0, 256 * h.val] S512x256.size inb).emb x 0).val = 0 + 1 * (x 0).val := rfl
  have hy1 : ((Rect.unit (s := S512x1024) ![0, 256 * h.val] S512x256.size inb).emb x 1).val = 256 * h.val + 1 * (x 1).val := rfl
  have hh := h.isLt
  unfold CO
  generalize (Rect.unit (s := S512x1024) ![0, 256 * h.val] S512x256.size inb).emb x = y at *
  have e2 : (⟨(y 1).val / 256, by have : (y 1).val < 1024 := (y 1).isLt; omega⟩ : Fin 4) = h := Fin.ext (by show (y 1).val / 256 = h.val; omega)
  have e3 : ix2 (y 0 : Fin 512) (⟨(y 1).val % 256, Nat.mod_lt _ (by decide)⟩ : Fin 256) = x := by
    funext a
    apply Fin.ext
    match a with
    | ⟨0, _⟩ => show (y 0).val = (x 0).val; omega
    | ⟨1, _⟩ => show (y 1).val % 256 = (x 1).val; omega
  rw [e2]
  exact congrArg (CH x0 x1 x2 x3 h) e3.symm

/-- A load from a whole buffer's contents is the load from the contents. -/
theorem rd {sp : Space} {s : Shape} {e : EltTy} {m : Memref sig .tc sp s e} {h : m.IsWhole}
    (X : s.Idx → Elt F e) (r : Rect s) : View.readAt (Elt F) m.view r.toLoadRect (h.unread X) = View.ld (Val := Elt F) X r := by
  rw [View.readAt_eq_ld, h.read_unread]

variable {c : Dev nD} {i : grid0.Coords} {arg2 : Memref sig .tc .vmem S512x1024 .bf16} {harg2 : arg2.IsWhole} {arg3 : Memref sig .tc .vmem S512x1024 .f32} {harg3 : arg3.IsWhole} {arg4 : Memref sig .tc .vmem S256x1024 .bf16} {harg4 : arg4.IsWhole} {arg5 : Memref sig .tc .vmem S256x1024 .bf16} {harg5 : arg5.IsWhole} {arg6 : Memref sig .tc .vmem S512x1024 .bf16} {harg6 : arg6.IsWhole}
    {x0 : Vec F S512x1024 .bf16} {x1 : Vec F S512x1024 .f32} {x2 : Vec F S256x1024 .bf16} {x3 : Vec F S256x1024 .bf16}

/-- The output block of a step is `CO`. -/
theorem out_eq : out0_A_4 c i arg2 harg2 arg3 harg3 arg4 harg4 arg5 harg5 arg6 harg6 x0 x1 x2 x3 = CO x0 x1 x2 x3 := by
  funext y
  unfold out0_A_4
  refine View.read_writes_apply_of_pieces VO0_4 _ (CO x0 x1 x2 x3) _ ?_ y (cover0_A_4 c i arg2 harg2 arg3 harg3 arg4 harg4 arg5 harg5 arg6 harg6 x0 x1 x2 x3 y)
  unfold kernelRun0_A
  dsimp only
  refine List.forall_mem_cons.2 ⟨fun x => Eq.trans ?_ (CO_block x0 x1 x2 x3 3 (inA 3) x), ?_⟩
  · simp only [kernelRun0_A.sl.r, kernelRun0_A.sl.r_1, kernelRun0_A.sl.r_2, kernelRun0_A.sl.r_3, kernelRun0_A.sl.r_4, kernelRun0_A.sl.r_5, rd]
    rfl
  refine List.forall_mem_cons.2 ⟨fun x => Eq.trans ?_ (CO_block x0 x1 x2 x3 2 (inA 2) x), ?_⟩
  · simp only [kernelRun0_A.sl.r, kernelRun0_A.sl.r_1, kernelRun0_A.sl.r_2, kernelRun0_A.sl.r_3, kernelRun0_A.sl.r_4, kernelRun0_A.sl.r_5, rd]
    rfl
  refine List.forall_mem_cons.2 ⟨fun x => Eq.trans ?_ (CO_block x0 x1 x2 x3 1 (inA 1) x), ?_⟩
  · simp only [kernelRun0_A.sl.r, kernelRun0_A.sl.r_1, kernelRun0_A.sl.r_2, kernelRun0_A.sl.r_3, kernelRun0_A.sl.r_4, kernelRun0_A.sl.r_5, rd]
    rfl
  refine List.forall_mem_cons.2 ⟨fun x => Eq.trans ?_ (CO_block x0 x1 x2 x3 0 (inA 0) x), ?_⟩
  · simp only [kernelRun0_A.sl.r, kernelRun0_A.sl.r_1, kernelRun0_A.sl.r_2, kernelRun0_A.sl.r_3, kernelRun0_A.sl.r_4, kernelRun0_A.sl.r_5, rd]
    rfl
  exact fun p hp => absurd hp List.not_mem_nil

end Cert.CrossIdeal.Block
-- ==== Proof.CrossMath.lean ====
module

public import proofs.«01_k».proof.Proof.Layer

/-! The attention over the memory: a query's output, normalised after the sum or before it. -/

@[expose] public section

noncomputable section

namespace Cert.Layer

open Idealize.ShloMosaic Cert.Gla

/-- What the running maximum starts from. -/
def NI : EReal := Ideal.ofBits .f32 0xFF800000#32

/-- The largest logit. -/
def mxf (l : Fin 256 → EReal) : EReal := Finset.univ.fold max NI l

/-- A query's logits. -/
def lgt (q : Fin 256 → EReal) (k : Fin 256 → Fin 256 → EReal) (x : Fin 256) : EReal := ∑ d, q d * k x d

/-- The kernel's output: the weighted sum divided by the weights' sum, gated. -/
def crossK (l v : Fin 256 → EReal) (z : EReal) : EReal :=
  (∑ x, Ideal.exp (l x - mxf l) * v x) * Ideal.div 1 (∑ x, Ideal.exp (l x - mxf l)) * (z * sg z)

/-- The reference's output: the sum weighted by the normalised weights, gated. -/
def crossR (l v : Fin 256 → EReal) (z : EReal) : EReal :=
  (∑ x, v x * Ideal.div (Ideal.exp (l x - max NI (mxf l))) (∑ x, Ideal.exp (l x - max NI (mxf l)))) * (z * sg z)

theorem NI_eq : NI = ⊥ := by simp [NI, Ideal.ofBits, Ideal.ieee]

/-- A sum times a finite nonnegative number. -/
theorem sum_mul_real {ι : Type} (s : Finset ι) (a : ι → EReal) (c : ℝ) (hc : 0 ≤ c) : (∑ x ∈ s, a x) * (c : EReal) = ∑ x ∈ s, a x * (c : EReal) := by
  classical
  induction s using Finset.induction_on with
  | empty => simp
  | insert i s hi ih =>
    rw [Finset.sum_insert hi, Finset.sum_insert hi, EReal.right_distrib_of_nonneg_of_ne_top (by exact_mod_cast hc) (EReal.coe_ne_top _), ih]

/-- A sum of finite numbers. -/
theorem sum_real {ι : Type} (s : Finset ι) (a : ι → ℝ) : (∑ x ∈ s, (a x : EReal)) = ((∑ x ∈ s, a x : ℝ) : EReal) := by
  classical
  induction s using Finset.induction_on with
  | empty => simp
  | insert i s hi ih => rw [Finset.sum_insert hi, Finset.sum_insert hi, ih, EReal.coe_add]

/-- The largest of finite logits is finite. -/
theorem mxf_real (r : Fin 256 → ℝ) : ∃ M : ℝ, mxf (fun x => (r x : EReal)) = (M : EReal) := by
  have h1 : mxf (fun x => (r x : EReal)) ≠ ⊤ := by
    refine ne_of_lt (Finset.fold_max_lt (c := (⊤ : EReal)).2 ⟨?_, fun x _ => EReal.coe_lt_top _⟩)
    rw [NI_eq]; exact bot_lt_top
  have h2 : mxf (fun x => (r x : EReal)) ≠ ⊥ := by
    refine ne_of_gt (Finset.lt_fold_max (c := (⊥ : EReal)).2 (Or.inr ⟨0, Finset.mem_univ _, EReal.bot_lt_coe _⟩))
  exact ⟨_, (EReal.coe_toReal h1 h2).symm⟩

/-- With finite logits the two outputs agree. -/
theorem cross_eq (l v : Fin 256 → EReal) (z : EReal) (hl : ∀ x, ∃ r : ℝ, l x = (r : EReal)) : crossK l v z = crossR l v z := by
  choose r hr using hl
  obtain rfl : l = fun x => (r x : EReal) := funext hr
  obtain ⟨M, hM⟩ := mxf_real r
  unfold crossK crossR
  rw [hM, NI_eq, max_eq_right bot_le]
  have he : ∀ x, Ideal.exp ((r x : EReal) - (M : EReal)) = ((Real.exp (r x - M) : ℝ) : EReal) := fun x => by
    rw [← EReal.coe_sub, exp_coe]
  simp only [he]
  rw [sum_real]
  have hS : 0 < ∑ x : Fin 256, Real.exp (r x - M) := Finset.sum_pos (fun x _ => Real.exp_pos _) ⟨0, Finset.mem_univ _⟩
  generalize (∑ x : Fin 256, Real.exp (r x - M)) = S at hS
  have hne : (S : EReal) ≠ 0 := by exact_mod_cast hS.ne'
  congr 1
  simp only [div_ne hne, one_mul]
  rw [← EReal.coe_inv, sum_mul_real _ _ _ (inv_nonneg.2 hS.le)]
  refine Finset.sum_congr rfl fun x _ => ?_
  rw [mul_comm (v x), mul_assoc, mul_assoc, mul_comm (v x)]

/-- A sum of products of finite numbers is finite. -/
theorem lgt_real (q : Fin 256 → EReal) (k : Fin 256 → Fin 256 → EReal) (hq : ∀ d, ∃ r : ℝ, q d = (r : EReal)) (hk : ∀ x d, ∃ r : ℝ, k x d = (r : EReal)) (x : Fin 256) :
    ∃ r : ℝ, lgt q k x = (r : EReal) := by
  choose a ha using hq
  choose b hb using hk
  refine ⟨∑ d, a d * b x d, ?_⟩
  unfold lgt
  simp only [ha, hb, ← EReal.coe_mul]
  exact sum_real _ _

/-- A head's query at a position, scaled. -/
def qAt (u : (⟨3, ![4, 4096, 11352]⟩ : Shape).Idx → EReal) (b t h : ℕ) (d : Fin 256) : EReal :=
  at3 u b t (6232 + (256 * h + d.val)) * Ideal.ofBits .f32 0x3D800000#32

/-- A head's keys of a batch's memory. -/
def kAt (w : (⟨2, ![1024, 2048]⟩ : Shape).Idx → EReal) (b h : ℕ) (x d : Fin 256) : EReal := at2 w (256 * b + x.val) (256 * h + d.val)

/-- A column of the values of a batch's memory. -/
def vAt (w : (⟨2, ![1024, 2048]⟩ : Shape).Idx → EReal) (b J : ℕ) (x : Fin 256) : EReal := at2 w (256 * b + x.val) (1024 + J)

end Cert.Layer
-- ==== Proof.CrossPay.lean ====
module

public import proofs.«01_k».proof.Proof.Gen.CrossIdeal.Value
public import proofs.«01_k».proof.Proof.CrossMath
public import Idealize.ShloMosaic.Lib.Claim
public import Idealize.ShloMosaic.Lib.Pointwise
public import Idealize.ShloMosaic.Lib.Pointwise.Index

/-! A head of the attention over the memory, read at an index. -/

@[expose] public section

set_option maxRecDepth 16384

noncomputable section

namespace Cert.CrossIdeal.Block

open Cert.CrossIdeal Cert.CrossIdeal.Gen Cert.Layer Cert.Gla
open Idealize.ShloMosaic Idealize.ShloMosaic.TcCoe Idealize.ShloMosaic.Tactic

/-- A head's output, at an index. -/
theorem pay2_at (q : S512x256.Idx → EReal) (k v : S256x256.Idx → EReal) (z : S512x256.Idx → EReal) (r : Fin 512) (j : Fin 256) :
    (k0_pay2 (F := Ideal) q k v z (ix2 r j) : EReal)
      = crossK (lgt (fun d => q (ix2 r d)) (fun x d => k (ix2 x d))) (fun x => v (ix2 x j)) (z (ix2 r j)) := by
  pointwise [k0_pay2]
  rw [sigmoid_eq]
  rfl

end Cert.CrossIdeal.Block
-- ==== Proof.CrossHost.lean ====
module

public import proofs.«01_k».proof.Proof.CrossBlock
public import proofs.«01_k».proof.Proof.CrossPay
public import Idealize.ShloMosaic.Lib.StableHlo.ReadAt
public import Idealize.ShloMosaic.Lib.Pipeline.ValueKit

/-! The attention over the memory: the kernel's windows, read at an index in terms of the launch's arrays, and the array it leaves. -/

@[expose] public section

set_option maxRecDepth 16384
set_option pp.deepTerms false
set_option pp.maxSteps 1000

noncomputable section

namespace Cert.CrossIdeal.HostIn

open Cert.CrossIdeal Cert.CrossIdeal.Gen Cert.CrossIdeal.Block Cert.Layer Cert.Gla
open Idealize.ShloMosaic Idealize.ShloMosaic.TcCoe Idealize.ShloMosaic.Tactic
open Idealize.ShloMosaic.Pipeline

variable (m : (ℓ : Loc nD τ sig) → Buf (Elt Ideal) ℓ) (c : Dev nD)

/-- The projections at launch. -/
abbrev U : S4x4096x11352.Idx → EReal := m ((c : Thread nD τ).loc main_arg0)
/-- The memory's keys and values at launch. -/
abbrev KV : S1024x2048.Idx → EReal := m ((c : Thread nD τ).loc main_arg1)

/-- The queries' columns of the regrouped projections. -/
theorem xq_at (r : Fin 16384) (j : Fin 1024) :
    (V m c main_v29 : S16384x4352.Idx → EReal) (ix2 r ⟨1024 + j.val, by omega⟩) = at3 (U m c) (r.val / 4096) (r.val % 4096) (6232 + j.val) * Ideal.ofBits .f32 0x3D800000#32 := by
  unfold V
  after_reads_at
  after_reads_at
  refine congrArg (· * Ideal.ofBits .f32 0x3D800000#32) ?_
  exact at3_ix (U m c) _ _ _ _ _ _ rfl rfl (by try (first | (dsimp only; omega) | omega | rfl))

/-- The gate's columns of the regrouped projections. -/
theorem xz_at (r : Fin 16384) (j : Fin 1024) :
    (V m c main_v28 : S16384x4224.Idx → EReal) (ix2 r ⟨2048 + j.val, by omega⟩) = at3 (U m c) (r.val / 4096) (r.val % 4096) (7256 + j.val) := by
  unfold V
  after_reads_at
  rw [dif_neg (by omega), dif_neg (by omega), dif_pos (by omega)]
  after_reads_at
  exact at3_ix (U m c) _ _ _ _ _ _ rfl rfl (by try (first | (dsimp only; omega) | omega | rfl))

/-- The memory's keys and values as the kernel reads them. -/
theorem kv_at (r : Fin 1024) (J : Fin 2048) : (V m c main_arg1 : S1024x2048.Idx → EReal) (ix2 r J) = at2 (KV m c) r.val J.val :=
  (congrFun (V_main_arg1 m c) (ix2 r J)).trans (at2_ix (KV m c) _ _ _ _ rfl rfl)

/-- There are 32 points. -/
theorem point_lt (t : Fin cfg0.N) : t.val < 32 := lt_of_lt_of_eq t.isLt (show cfg0.N = 32 from N_0)

/-- Window 0's block index at a point. -/
theorem idx0 : ∀ t : Fin cfg0.N, win0_0.index t = ![t.val, 1] := by decide +kernel

/-- Window 1's block index at a point. -/
theorem idx1 : ∀ t : Fin cfg0.N, win0_1.index t = ![t.val, 2] := by decide +kernel

/-- Window 2's block index at a point. -/
theorem idx2 : ∀ t : Fin cfg0.N, win0_2.index t = ![t.val / 8, 0] := by decide +kernel

/-- Window 3's block index at a point. -/
theorem idx3 : ∀ t : Fin cfg0.N, win0_3.index t = ![t.val / 8, 1] := by decide +kernel

/-- Window 4's block index at a point. -/
theorem idx4 : ∀ t : Fin cfg0.N, win0_4.index t = ![t.val, 0] := by decide +kernel

/-- A step's block of the queries. -/
theorem x0_at (t : Fin cfg0.N) (r : Fin 512) (j : Fin 1024) : (X0_0 m c t : S512x1024.Idx → EReal) (ix2 r j) = at3 (U m c) ((512 * t.val + r.val) / 4096) ((512 * t.val + r.val) % 4096) (6232 + j.val) * Ideal.ofBits .f32 0x3D800000#32 := by
  unfold X0_0 Pipeline.Window.fill
  rw [dif_pos (moved0_0 t _)]
  blk_simp [iblk]
  refine (congrArg (V m c (arrRef spec0 0)) (?_ : _ = ix2 (⟨512 * t.val + r.val, by have := point_lt t; omega⟩ : Fin 16384) (⟨1024 + j.val, by omega⟩ : Fin 4352))).trans ?_
  · funext a
    apply Fin.ext
    match a with
    | ⟨0, _⟩ => show win0_0.index t 0 * 512 + 1 * r.val = 512 * t.val + r.val; rw [idx0]; show t.val * 512 + 1 * r.val = 512 * t.val + r.val; omega
    | ⟨1, _⟩ => show win0_0.index t 1 * 1024 + 1 * j.val = 1024 + j.val; rw [idx0]; show 1 * 1024 + 1 * j.val = 1024 + j.val; omega
  · exact xq_at m c ⟨512 * t.val + r.val, by have := point_lt t; omega⟩ j

/-- A step's block of the gate. -/
theorem x1_at (t : Fin cfg0.N) (r : Fin 512) (j : Fin 1024) : (X0_1 m c t : S512x1024.Idx → EReal) (ix2 r j) = at3 (U m c) ((512 * t.val + r.val) / 4096) ((512 * t.val + r.val) % 4096) (7256 + j.val) := by
  unfold X0_1 Pipeline.Window.fill
  rw [dif_pos (moved0_1 t _)]
  blk_simp [iblk]
  refine (congrArg (V m c (arrRef spec0 1)) (?_ : _ = ix2 (⟨512 * t.val + r.val, by have := point_lt t; omega⟩ : Fin 16384) (⟨2048 + j.val, by omega⟩ : Fin 4224))).trans ?_
  · funext a
    apply Fin.ext
    match a with
    | ⟨0, _⟩ => show win0_1.index t 0 * 512 + 1 * r.val = 512 * t.val + r.val; rw [idx1]; show t.val * 512 + 1 * r.val = 512 * t.val + r.val; omega
    | ⟨1, _⟩ => show win0_1.index t 1 * 1024 + 1 * j.val = 2048 + j.val; rw [idx1]; show 2 * 1024 + 1 * j.val = 2048 + j.val; omega
  · exact xz_at m c ⟨512 * t.val + r.val, by have := point_lt t; omega⟩ j

/-- A step's block of the keys. -/
theorem x2_at (t : Fin cfg0.N) (x : Fin 256) (j : Fin 1024) : (iblk m c 2 t : S256x1024.Idx → EReal) (ix2 x j) = at2 (KV m c) (256 * (t.val / 8) + x.val) j.val := by
  blk_simp [iblk]
  refine (congrArg (V m c (arrRef spec0 2)) (?_ : _ = ix2 (⟨256 * (t.val / 8) + x.val, by have := point_lt t; omega⟩ : Fin 1024) (⟨0 + j.val, by omega⟩ : Fin 2048))).trans ?_
  · funext a
    apply Fin.ext
    match a with
    | ⟨0, _⟩ => show win0_2.index t 0 * 256 + 1 * x.val = 256 * (t.val / 8) + x.val; rw [idx2]; show t.val / 8 * 256 + 1 * x.val = 256 * (t.val / 8) + x.val; omega
    | ⟨1, _⟩ => show win0_2.index t 1 * 1024 + 1 * j.val = 0 + j.val; rw [idx2]; show 0 * 1024 + 1 * j.val = 0 + j.val; omega
  · exact (kv_at m c ⟨256 * (t.val / 8) + x.val, by have := point_lt t; omega⟩ ⟨0 + j.val, by omega⟩).trans (congrArg (at2 (KV m c) (256 * (t.val / 8) + x.val)) (Nat.zero_add _))

/-- A step's block of the values. -/
theorem x3_at (t : Fin cfg0.N) (x : Fin 256) (j : Fin 1024) : (iblk m c 3 t : S256x1024.Idx → EReal) (ix2 x j) = at2 (KV m c) (256 * (t.val / 8) + x.val) (1024 + j.val) := by
  blk_simp [iblk]
  refine (congrArg (V m c (arrRef spec0 3)) (?_ : _ = ix2 (⟨256 * (t.val / 8) + x.val, by have := point_lt t; omega⟩ : Fin 1024) (⟨1024 + j.val, by omega⟩ : Fin 2048))).trans ?_
  · funext a
    apply Fin.ext
    match a with
    | ⟨0, _⟩ => show win0_3.index t 0 * 256 + 1 * x.val = 256 * (t.val / 8) + x.val; rw [idx3]; show t.val / 8 * 256 + 1 * x.val = 256 * (t.val / 8) + x.val; omega
    | ⟨1, _⟩ => show win0_3.index t 1 * 1024 + 1 * j.val = 1024 + j.val; rw [idx3]; show 1 * 1024 + 1 * j.val = 1024 + j.val; omega
  · exact kv_at m c ⟨256 * (t.val / 8) + x.val, by have := point_lt t; omega⟩ ⟨1024 + j.val, by omega⟩

/-- A head's columns of a block of 512 rows. -/
theorem ldA {e : EltTy} (x : S512x1024.Idx → Elt Ideal e) (h : Fin 4) (r : Fin 512) (d : Fin 256) :
    View.ld (Val := Elt Ideal) (e' := e) x (Rect.unit (s := S512x1024) ![0, 256 * h.val] S512x256.size (inA h)) (ix2 r d) = x (ix2 r ⟨256 * h.val + d.val, by omega⟩) := by
  refine congrArg x (funext fun a => Fin.ext ?_)
  match a with
  | ⟨0, _⟩ => show 0 + 1 * r.val = r.val; omega
  | ⟨1, _⟩ => show 256 * h.val + 1 * d.val = 256 * h.val + d.val; omega

/-- A head's columns of a block of 256 rows. -/
theorem ldB {e : EltTy} (x : S256x1024.Idx → Elt Ideal e) (h : Fin 4) (r : Fin 256) (d : Fin 256) :
    View.ld (Val := Elt Ideal) (e' := e) x (Rect.unit (s := S256x1024) ![0, 256 * h.val] S256x256.size (inB h)) (ix2 r d) = x (ix2 r ⟨256 * h.val + d.val, by omega⟩) := by
  refine congrArg x (funext fun a => Fin.ext ?_)
  match a with
  | ⟨0, _⟩ => show 0 + 1 * r.val = r.val; omega
  | ⟨1, _⟩ => show 256 * h.val + 1 * d.val = 256 * h.val + d.val; omega

/-- A step's output block at an index. -/
theorem CO_at (x0 x1 : S512x1024.Idx → EReal) (x2 x3 : S256x1024.Idx → EReal) (r : Fin 512) (J : Fin 1024) (h : Fin 4) (j : Fin 256) (hJ : 256 * h.val + j.val = J.val) :
    (CO (F := Ideal) x0 x1 x2 x3 (ix2 r J) : EReal)
      = crossK (lgt (fun d => x0 (ix2 r ⟨256 * h.val + d.val, by omega⟩)) (fun x d => x2 (ix2 x ⟨256 * h.val + d.val, by omega⟩))) (fun x => x3 (ix2 x J)) (x1 (ix2 r J)) := by
  have e : (CO (F := Ideal) x0 x1 x2 x3 (ix2 r J) : EReal) = (CH (F := Ideal) x0 x1 x2 x3 h (ix2 r j) : EReal) := by
    have e1 : (⟨J.val / 256, by omega⟩ : Fin 4) = h := Fin.ext (by show J.val / 256 = h.val; omega)
    have e2 : (⟨J.val % 256, by omega⟩ : Fin 256) = j := Fin.ext (by show J.val % 256 = j.val; omega)
    show (CH (F := Ideal) x0 x1 x2 x3 (⟨J.val / 256, by omega⟩ : Fin 4) (ix2 r (⟨J.val % 256, by omega⟩ : Fin 256)) : EReal) = _
    rw [e1, e2]
  have eJ : (⟨256 * h.val + j.val, by omega⟩ : Fin 1024) = J := Fin.ext hJ
  rw [e]
  unfold CH
  refine (pay2_at _ _ _ _ r j).trans ?_
  have a0 : (fun d : Fin 256 => (View.ld (Val := Elt Ideal) (e' := .bf16) x0 (Rect.unit (s := S512x1024) ![0, 256 * h.val] S512x256.size (inA h)) (ix2 r d) : EReal)) = fun d => x0 (ix2 r ⟨256 * h.val + d.val, by omega⟩) :=
    funext fun d => ldA (e := .bf16) x0 h r d
  have a2 : (fun x d : Fin 256 => (View.ld (Val := Elt Ideal) (e' := .bf16) x2 (Rect.unit (s := S256x1024) ![0, 256 * h.val] S256x256.size (inB h)) (ix2 x d) : EReal)) = fun x d => x2 (ix2 x ⟨256 * h.val + d.val, by omega⟩) :=
    funext fun x => funext fun d => ldB (e := .bf16) x2 h x d
  have a3 : (fun x : Fin 256 => (View.ld (Val := Elt Ideal) (e' := .bf16) x3 (Rect.unit (s := S256x1024) ![0, 256 * h.val] S256x256.size (inB h)) (ix2 x j) : EReal)) = fun x => x3 (ix2 x J) :=
    funext fun x => (ldB (e := .bf16) x3 h x j).trans (congrArg (fun q => x3 (ix2 x q)) eJ)
  have a1 : (View.ld (Val := Elt Ideal) (e' := .f32) x1 (Rect.unit (s := S512x1024) ![0, 256 * h.val] S512x256.size (inA h)) (ix2 r j) : EReal) = x1 (ix2 r J) :=
    (ldA (e := .f32) x1 h r j).trans (congrArg (fun q => x1 (ix2 r q)) eJ)
  rw [a0, a1, a2, a3]

/-- Every point writes its block back. -/
theorem flush_all : ∀ t : Fin cfg0.N, (cfg0.win 4).flush t = true := by decide +kernel

/-- What a point leaves, at an index. -/
theorem step_at (t : Fin cfg0.N) (r : Fin 512) (J : Fin 1024) (R : ℕ) (hR : 512 * t.val + r.val = R) :
    (outsAt0 (F := Ideal) m c t (ix2 r J) : EReal)
      = crossK (lgt (qAt (U m c) (R / 4096) (R % 4096) (J.val / 256)) (kAt (KV m c) (R / 4096) (J.val / 256))) (vAt (KV m c) (R / 4096) J.val)
          (at3 (U m c) (R / 4096) (R % 4096) (7256 + J.val)) := by
  subst hR
  have ht : (512 * t.val + r.val) / 4096 = t.val / 8 := by omega
  unfold outsAt0
  rw [out_eq]
  refine (CO_at _ _ _ _ r J ⟨J.val / 256, by omega⟩ ⟨J.val % 256, by omega⟩ (by show 256 * (J.val / 256) + J.val % 256 = J.val; omega)).trans ?_
  have e0 : (fun d : Fin 256 => (X0_0 m c t : S512x1024.Idx → EReal) (ix2 r ⟨256 * (J.val / 256) + d.val, by omega⟩)) = qAt (U m c) ((512 * t.val + r.val) / 4096) ((512 * t.val + r.val) % 4096) (J.val / 256) :=
    funext fun d => x0_at m c t r _
  have e2 : (fun x d : Fin 256 => (iblk m c 2 t : S256x1024.Idx → EReal) (ix2 x ⟨256 * (J.val / 256) + d.val, by omega⟩)) = kAt (KV m c) ((512 * t.val + r.val) / 4096) (J.val / 256) :=
    funext fun x => funext fun d => (x2_at m c t x _).trans (by unfold kAt; rw [ht])
  have e3 : (fun x : Fin 256 => (iblk m c 3 t : S256x1024.Idx → EReal) (ix2 x J)) = vAt (KV m c) ((512 * t.val + r.val) / 4096) J.val :=
    funext fun x => (x3_at m c t x J).trans (by unfold vAt; rw [ht])
  rw [x1_at m c t r J]
  exact congrArg₂ (fun l v => crossK l v (at3 (U m c) ((512 * t.val + r.val) / 4096) ((512 * t.val + r.val) % 4096) (7256 + J.val))) (congrArg₂ lgt e0 e2) e3

/-- The array the kernel leaves, at an index. -/
theorem arr_at (R : Fin 16384) (J : Fin 1024) :
    ((dats m 0 c).arrAt 4 cfg0.N : S16384x1024.Idx → EReal) (ix2 R J)
      = crossK (lgt (qAt (U m c) (R.val / 4096) (R.val % 4096) (J.val / 256)) (kAt (KV m c) (R.val / 4096) (J.val / 256))) (vAt (KV m c) (R.val / 4096) J.val)
          (at3 (U m c) (R.val / 4096) (R.val % 4096) (7256 + J.val)) := by
  let t : Fin cfg0.N := ⟨R.val / 512, by rw [show cfg0.N = 32 from N_0]; omega⟩
  let r : Fin 512 := ⟨R.val % 512, by omega⟩
  have h := congrFun (Cert.CrossIdeal.Value.blocks4 m c t (flush_all t)) (ix2 r J)
  rw [Cert.CrossIdeal.Value.flushed4] at h
  have e : ((cfg0.win 4).blk t).view.emb (ix2 r J) = ix2 R J := by
    funext a
    apply Fin.ext
    match a with
    | ⟨0, _⟩ => show win0_4.index t 0 * 512 + 1 * r.val = R.val; rw [idx4]; show (R.val / 512) * 512 + 1 * (R.val % 512) = R.val; omega
    | ⟨1, _⟩ => show win0_4.index t 1 * 1024 + 1 * J.val = J.val; rw [idx4]; show 0 * 1024 + 1 * J.val = J.val; omega
  rw [View.read_apply, cast_eq, e] at h
  refine Eq.trans h ?_
  exact step_at m c t r J R.val (by show 512 * (R.val / 512) + R.val % 512 = R.val; omega)

end Cert.CrossIdeal.HostIn
-- ==== Proof.CrossRef.lean ====
module

public import proofs.«01_k».proof.Proof.Gen.CrossReferenceIdeal.Run
public import proofs.«01_k».proof.Proof.CrossMath
public import Idealize.ShloMosaic.Lib.Claim
public import Idealize.ShloMosaic.Lib.Pointwise
public import Idealize.ShloMosaic.Lib.Pointwise.Index

/-! The attention over the memory: the reference, read at an index in terms of the launch's arrays. -/

@[expose] public section

set_option maxRecDepth 1024
set_option pp.deepTerms false
set_option pp.maxSteps 1000

noncomputable section

namespace Cert.CrossReferenceIdeal.RefAt

open Cert.CrossReferenceIdeal Cert.CrossReferenceIdeal.Gen Cert.CrossReferenceIdeal.Value Cert.Layer Cert.Gla
open Idealize.ShloMosaic Idealize.ShloMosaic.TcCoe Idealize.ShloMosaic.Tactic

variable (m : (ℓ : Loc nD τ sig) → Buf (Elt Ideal) ℓ) (c : Dev nD)

/-- The scaled queries, head by head. -/
def Qs (u : FVec Ideal S4x4096x11352 .f32) : FVec Ideal S4x4096x4x256 .f32 :=
  mulf (shapeCast _ (extractStridedSlice S4x4096x1024 ![0, 0, 6232] u slices_S4x4096x11352_S4x4096x1024_0_0_6232) shapeCasts_S4x4096x1024_S4x4096x4x256) (broadcastInDim S4x4096x4x256 ![] bcast_S_S4x4096x4x256 (constant S_ .f32 0x3D800000#32))

/-- The memory's projection, batch by batch. -/
def Mk (w : FVec Ideal S1024x2048 .bf16) : FVec Ideal S4x256x2048 .f32 :=
  shapeCast _ (extf .f32 w bitsLt_bf16_f32) shapeCasts_S1024x2048_S4x256x2048

/-- The keys, head by head. -/
def Ks (w : FVec Ideal S4x256x2048 .f32) : FVec Ideal S4x256x4x256 .f32 :=
  shapeCast _ (extractStridedSlice S4x256x1024 ![0, 0, 0] w slices_S4x256x2048_S4x256x1024_0_0_0) shapeCasts_S4x256x1024_S4x256x4x256

/-- The values, head by head. -/
def Vs (w : FVec Ideal S4x256x2048 .f32) : FVec Ideal S4x256x4x256 .f32 :=
  shapeCast _ (extractStridedSlice S4x256x1024 ![0, 0, 1024] w slices_S4x256x2048_S4x256x1024_0_0_1024) shapeCasts_S4x256x1024_S4x256x4x256

/-- The logits. -/
def Ls (q : FVec Ideal S4x4096x4x256 .f32) (k : FVec Ideal S4x256x4x256 .f32) : FVec Ideal S4x4x4096x256 .f32 :=
  Host.dotGeneral dot_S4x4096x4x256_S4x256x4x256_S4x4x4096x256_3_3_1_1_02_02 none q k

/-- The largest logit of every query. -/
def M0 (l : FVec Ideal S4x4x4096x256 .f32) : FVec Ideal S4x4x4096 .f32 :=
  Host.reduce FloatOps.maximumf l (constant S_ .f32 0xFF800000#32) reducesTo_S4x4x4096x256_S4x4x4096_d3 h_S_

/-- The same, at least the initial value. -/
def M1 (l : FVec Ideal S4x4x4096 .f32) : FVec Ideal S4x4x4096 .f32 :=
  maximumf (broadcastInDim S4x4x4096 ![] bcast_S_S4x4x4096 (constant S_ .f32 0xFF800000#32)) l

/-- A number per query, repeated over the memory. -/
def Bc (x : FVec Ideal S4x4x4096 .f32) : FVec Ideal S4x4x4096x256 .f32 :=
  broadcastInDim S4x4x4096x256 ![0, 1, 2, 3] bcast_S4x4x4096x1_S4x4x4096x256_0_1_2_3 (broadcastInDim S4x4x4096x1 ![0, 1, 2] bcast_S4x4x4096_S4x4x4096x1_0_1_2 x)

/-- The unnormalised weights. -/
def Es (l b : FVec Ideal S4x4x4096x256 .f32) : FVec Ideal S4x4x4096x256 .f32 := Host.exp (subf l b)

/-- The weights' sum. -/
def Ss (e : FVec Ideal S4x4x4096x256 .f32) : FVec Ideal S4x4x4096 .f32 :=
  Host.reduceAdd e (constant S_ .f32 0x00000000#32) reducesTo_S4x4x4096x256_S4x4x4096_d3 h_S_

/-- The attention's output, positions before heads. -/
def Os (v : FVec Ideal S4x256x4x256 .f32) (e b : FVec Ideal S4x4x4096x256 .f32) : FVec Ideal S4x4x256x4096 .f32 :=
  Host.dotGeneral dot_S4x256x4x256_S4x4x4096x256_S4x4x256x4096_1_3_3_2_02_01 none v (Host.divf e b)

/-- The heads side by side. -/
def Ts (o : FVec Ideal S4x4x256x4096 .f32) : FVec Ideal S4x4096x1024 .f32 :=
  shapeCast _ (transpose S4x4096x4x256 [0, 3, 1, 2] o transposes_S4x4x256x4096_S4x4096x4x256_0_3_1_2) shapeCasts_S4x4096x4x256_S4x4096x1024

/-- The gate's argument. -/
def Zs (u : FVec Ideal S4x4096x11352 .f32) : FVec Ideal S4x4096x1024 .f32 :=
  extractStridedSlice S4x4096x1024 ![0, 0, 7256] u slices_S4x4096x11352_S4x4096x1024_0_0_7256

/-- The gated output. -/
def Gs (o z : FVec Ideal S4x4096x1024 .f32) : FVec Ideal S4x4096x1024 .f32 :=
  mulf o (mulf z (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf z)))))

/-- The batches and positions as one axis of rows. -/
def Sh (z : FVec Ideal S4x4096x1024 .f32) : FVec Ideal S16384x1024 .bf16 :=
  truncf .bf16 (shapeCast S16384x1024 z shapeCasts_S4x4096x1024_S16384x1024) bitsLt_bf16_f32

/-- The logits from the launch's arrays. -/
def Lq (u : FVec Ideal S4x4096x11352 .f32) (w : FVec Ideal S1024x2048 .bf16) : FVec Ideal S4x4x4096x256 .f32 := Ls (Qs u) (Ks (Mk w))

/-- The unnormalised weights from the logits. -/
def Eq' (l : FVec Ideal S4x4x4096x256 .f32) : FVec Ideal S4x4x4096x256 .f32 := Es l (Bc (M1 (M0 l)))

/-- The result from the launch's arrays. -/
def Rs (u : FVec Ideal S4x4096x11352 .f32) (w : FVec Ideal S1024x2048 .bf16) : FVec Ideal S16384x1024 .bf16 :=
  Sh (Gs (Ts (Os (Vs (Mk w)) (Eq' (Lq u w)) (Bc (Ss (Eq' (Lq u w)))))) (Zs u))

/-- The reference's result is that. -/
theorem res_eq : res_main_v42 (F := Ideal) m c = Rs (m ((c.tc : Thread nD τ).loc main_arg0)) (m ((c.tc : Thread nD τ).loc main_arg1)) := rfl

variable (u : S4x4096x11352.Idx → EReal) (w : S1024x2048.Idx → EReal) (w' : S4x256x2048.Idx → EReal) (q : S4x4096x4x256.Idx → EReal)
  (k : S4x256x4x256.Idx → EReal) (l e bb : S4x4x4096x256.Idx → EReal) (y : S4x4x4096.Idx → EReal) (o : S4x4x256x4096.Idx → EReal) (z p : S4x4096x1024.Idx → EReal)

/-- A query's element. -/
theorem Qs_at (b h : Fin 4) (t : Fin 4096) (d : Fin 256) : (Qs u (ix4 b t h d) : EReal) = qAt u b.val t.val h.val d := by
  pointwise [Qs]
  unfold qAt
  exact congrArg (fun y : EReal => y * Ideal.ofBits .f32 0x3D800000#32) (at3_ix u _ _ _ _ _ _ rfl rfl (by first | rfl | (dsimp only; omega) | omega | trace_state))

/-- The memory's projection at an index. -/
theorem Mk_at (b : Fin 4) (x : Fin 256) (J : Fin 2048) : (Mk w (ix3 b x J) : EReal) = at2 w (256 * b.val + x.val) J.val := by
  pointwise [Mk]
  exact at2_ix w _ _ _ _ (by first | rfl | (dsimp only; omega) | omega | trace_state) (by first | rfl | (dsimp only; omega) | omega | trace_state)

/-- A key's element. -/
theorem Ks_at (b h : Fin 4) (x d : Fin 256) : (Ks w' (ix4 b x h d) : EReal) = w' (ix3 b x ⟨256 * h.val + d.val, by omega⟩) := by
  pointwise [Ks]
  exact congrArg (fun q => w' (ix3 b x q)) (Fin.ext (by first | rfl | (dsimp only; omega) | omega | trace_state))

/-- A value's element. -/
theorem Vs_at (b h : Fin 4) (x d : Fin 256) : (Vs w' (ix4 b x h d) : EReal) = w' (ix3 b x ⟨1024 + (256 * h.val + d.val), by omega⟩) := by
  pointwise [Vs]
  exact congrArg (fun q => w' (ix3 b x q)) (Fin.ext (by first | rfl | (dsimp only; omega) | omega | trace_state))

/-- A logit. -/
theorem Ls_at (b h : Fin 4) (t : Fin 4096) (x : Fin 256) : (Ls q k (ix4 b h t x) : EReal) = ∑ d : Fin 256, q (ix4 b t h d) * k (ix4 b x h d) := by
  pointwise [Ls]

/-- The largest logit at an index. -/
theorem M0_at (b h : Fin 4) (t : Fin 4096) : (M0 l (ix3 b h t) : EReal) = mxf (fun x => l (ix4 b h t x)) := by
  pointwise [M0]
  rfl

/-- The same, at least the initial value. -/
theorem M1_at (b h : Fin 4) (t : Fin 4096) : (M1 y (ix3 b h t) : EReal) = max NI (y (ix3 b h t)) := rfl

/-- A repeated number at an index. -/
theorem Bc_at (b h : Fin 4) (t : Fin 4096) (x : Fin 256) : (Bc y (ix4 b h t x) : EReal) = y (ix3 b h t) := by
  pointwise [Bc]

/-- A weight at an index. -/
theorem Es_at (b h : Fin 4) (t : Fin 4096) (x : Fin 256) : (Es l bb (ix4 b h t x) : EReal) = Ideal.exp (l (ix4 b h t x) - bb (ix4 b h t x)) := by
  pointwise [Es]

/-- The weights' sum at an index. -/
theorem Ss_at (b h : Fin 4) (t : Fin 4096) : (Ss e (ix3 b h t) : EReal) = ∑ x : Fin 256, e (ix4 b h t x) := by
  pointwise [Ss]

/-- The attention's output at an index. -/
theorem Os_at (b h : Fin 4) (t : Fin 4096) (j : Fin 256) : (Os k e bb (ix4 b h j t) : EReal) = ∑ x : Fin 256, k (ix4 b x h j) * Ideal.div (e (ix4 b h t x)) (bb (ix4 b h t x)) := by
  pointwise [Os]

/-- The heads side by side, at an index. -/
theorem Ts_at (b : Fin 4) (t : Fin 4096) (J : Fin 1024) : (Ts o (ix3 b t J) : EReal) = o (ix4 b ⟨J.val / 256, by omega⟩ ⟨J.val % 256, by omega⟩ t) := by
  pointwise [Ts]

/-- The gate's argument at an index. -/
theorem Zs_at (b : Fin 4) (t : Fin 4096) (J : Fin 1024) : (Zs u (ix3 b t J) : EReal) = at3 u b.val t.val (7256 + J.val) := by
  pointwise [Zs]
  exact at3_ix u _ _ _ _ _ _ rfl rfl (by first | rfl | (dsimp only; omega) | omega | trace_state)

/-- The gated output at an index. -/
theorem Gs_at (b : Fin 4) (t : Fin 4096) (J : Fin 1024) : (Gs p z (ix3 b t J) : EReal) = p (ix3 b t J) * (z (ix3 b t J) * sg (z (ix3 b t J))) := by
  pointwise [Gs]
  rfl

/-- Rows are positions of batches. -/
theorem Sh_at (R : Fin 16384) (J : Fin 1024) : (Sh z (ix2 R J) : EReal) = z (ix3 ⟨R.val / 4096, by omega⟩ ⟨R.val % 4096, by omega⟩ J) := by
  pointwise [Sh]

/-- A logit from the launch's arrays. -/
theorem Lq_at (b h : Fin 4) (t : Fin 4096) (x : Fin 256) : (Lq u w (ix4 b h t x) : EReal) = lgt (qAt u b.val t.val h.val) (kAt w b.val h.val) x := by
  unfold Lq lgt
  rw [Ls_at]
  refine Finset.sum_congr rfl fun d _ => ?_
  rw [Qs_at, Ks_at, Mk_at]
  rfl

/-- A weight from the logits. -/
theorem Eq_at (b h : Fin 4) (t : Fin 4096) (x : Fin 256) : (Eq' l (ix4 b h t x) : EReal) = Ideal.exp (l (ix4 b h t x) - max NI (mxf (fun x => l (ix4 b h t x)))) := by
  unfold Eq'
  rw [Es_at, Bc_at, M1_at, M0_at]

/-- The whole result at an index. -/
theorem Rs_at (R : Fin 16384) (J : Fin 1024) : (Rs u w (ix2 R J) : EReal)
    = crossR (lgt (qAt u (R.val / 4096) (R.val % 4096) (J.val / 256)) (kAt w (R.val / 4096) (J.val / 256))) (vAt w (R.val / 4096) J.val)
        (at3 u (R.val / 4096) (R.val % 4096) (7256 + J.val)) := by
  unfold Rs crossR
  rw [Sh_at, Gs_at, Zs_at, Ts_at, Os_at]
  refine congrArg (fun y : EReal => y * (at3 u (R.val / 4096) (R.val % 4096) (7256 + J.val) * sg (at3 u (R.val / 4096) (R.val % 4096) (7256 + J.val)))) (Finset.sum_congr rfl fun x _ => ?_)
  rw [Vs_at, Mk_at, Bc_at, Ss_at]
  simp only [Eq_at, Lq_at]
  refine congrArg (fun y : EReal => y * _) ?_
  exact congrArg (at2 w (256 * (R.val / 4096) + x.val)) (by show 1024 + (256 * (J.val / 256) + J.val % 256) = 1024 + J.val; omega)

end Cert.CrossReferenceIdeal.RefAt
-- ==== Proof.CrossAlg.lean ====
module

public import proofs.«01_k».proof.Defs
public import proofs.«01_k».proof.Proof.CrossHost
public import proofs.«01_k».proof.Proof.CrossRef
public import proofs.«01_k».proof.Proof.Gen.Pre_finite_logits
public import Idealize.ShloMosaic.Lib.Claim
public import Idealize.ShloMosaic.Lib.Pointwise
public import Idealize.ShloMosaic.Lib.Pointwise.Index

/-! The attention over the memory: the kernel's result against its reference's. -/

@[expose] public section

set_option maxRecDepth 1024

noncomputable section

namespace Cert.Proof

open Idealize.ShloMosaic Idealize.ShloMosaic.TcCoe Idealize.ShloMosaic.Tactic Cert.Layer Cert.Gla

/-- A number whose absolute value is below infinity is finite. -/
theorem real_of {φ : FTy} (x : EReal) (y : EReal) (h : BitVec.ofBool (decide (FloatOps.absf (F := Ideal) (φ := φ) x < y)) = 1#1) : ∃ r : ℝ, x = (r : EReal) := by
  have hlt : max x (-x) < y := by
    by_contra hn
    have e : decide (FloatOps.absf (F := Ideal) (φ := φ) x < y) = false := decide_eq_false hn
    rw [e] at h
    exact absurd h (by decide)
  induction x using EReal.rec with
  | bot => exact absurd (lt_of_le_of_lt (le_max_right _ _) hlt) (by rw [EReal.neg_bot]; exact not_top_lt)
  | top => exact absurd (lt_of_le_of_lt (le_max_left _ _) hlt) not_top_lt
  | coe r => exact ⟨r, rfl⟩

/-- Under the precondition the queries are finite. -/
theorem pre_q (u : (⟨3, ![4, 4096, 11352]⟩ : Shape).Idx → EReal) (w : (⟨2, ![1024, 2048]⟩ : Shape).Idx → EReal) (b : Fin 4) (t : Fin 4096) (J : Fin 1024)
    (h : (Cert.Pre_finite_logits.fn (F := Ideal) u w).1 (ix3 b t J) = 1#1) : ∃ r : ℝ, at3 u b.val t.val (6232 + J.val) = (r : EReal) := by
  rw [← at3_ix u b t (⟨6232 + J.val, by omega⟩ : Fin 11352) b.val t.val (6232 + J.val) rfl rfl rfl]
  revert h
  unfold Cert.Pre_finite_logits.fn
  dsimp only
  pointwise []
  exact real_of _ _

/-- Under the precondition the keys are finite. -/
theorem pre_k (u : (⟨3, ![4, 4096, 11352]⟩ : Shape).Idx → EReal) (w : (⟨2, ![1024, 2048]⟩ : Shape).Idx → EReal) (R J : Fin 1024)
    (h : (Cert.Pre_finite_logits.fn (F := Ideal) u w).2 (ix2 R J) = 1#1) : ∃ r : ℝ, at2 w R.val J.val = (r : EReal) := by
  rw [← at2_ix w R (⟨J.val, by omega⟩ : Fin 2048) R.val J.val rfl rfl]
  revert h
  unfold Cert.Pre_finite_logits.fn
  dsimp only
  pointwise []
  exact real_of _ _

/-- The constant that scales the queries is finite. -/
theorem scale_real : ∃ r : ℝ, Ideal.ofBits .f32 0x3D800000#32 = (r : EReal) := ⟨_, cSixteenth⟩

/-- At the extended reals, with finite queries and keys, the kernel leaves what its reference leaves. -/
theorem algebraic_Cross : Cert.algebraic_CrossIdeal_CrossReferenceIdeal_pre_finite_logits (hCrossIdeal := Cert.CrossIdeal.Gen.facts)
    (hCrossReferenceIdeal := Cert.CrossReferenceIdeal.Gen.facts) (hPre_finite_logits := Cert.Pre_finite_logits.Gen.facts) := by
  intro m g m' g' hpre hargs
  refine ⟨_, Cert.CrossIdeal.Value.run_blocks m g, ?_⟩
  refine (θ_run Cert.CrossReferenceIdeal.defs _ _).mono (fun r h c => ⟨(h c).1.trans ?_, (h c).2⟩) (Cert.CrossReferenceIdeal.Value.run m' g')
  obtain ⟨e0, e1⟩ := hargs c
  obtain ⟨p0, p1⟩ := hpre c
  funext i
  obtain ⟨R, J, rfl⟩ : ∃ (R : Fin 16384) (J : Fin 1024), i = ix2 R J := ⟨i 0, i 1, by funext a; match a with | ⟨0, _⟩ => rfl | ⟨1, _⟩ => rfl⟩
  rw [Cert.CrossReferenceIdeal.RefAt.res_eq m' c, e0, e1]
  refine (Cert.CrossReferenceIdeal.RefAt.Rs_at (Cert.CrossIdeal.HostIn.U m c) (Cert.CrossIdeal.HostIn.KV m c) R J).trans ?_
  refine Eq.trans ?_ (Cert.CrossIdeal.HostIn.arr_at m c R J).symm
  have hJ : J.val / 256 < 4 := by omega
  have hR : R.val / 4096 < 4 := by omega
  refine (cross_eq _ _ _ (lgt_real _ _ (fun d => ?_) fun x d => ?_)).symm
  · obtain ⟨a, ha⟩ := pre_q (Cert.CrossIdeal.HostIn.U m c) (Cert.CrossIdeal.HostIn.KV m c) ⟨R.val / 4096, hR⟩ ⟨R.val % 4096, by omega⟩ ⟨256 * (J.val / 256) + d.val, by omega⟩ (congrFun p0 _)
    obtain ⟨s, hs⟩ := scale_real
    refine ⟨a * s, ?_⟩
    unfold qAt
    rw [EReal.coe_mul, ← hs, ← ha]
  · exact pre_k (Cert.CrossIdeal.HostIn.U m c) (Cert.CrossIdeal.HostIn.KV m c) ⟨256 * (R.val / 4096) + x.val, by omega⟩ ⟨256 * (J.val / 256) + d.val, by omega⟩ (congrFun p1 _)

/-- The reference runs, leaves its arguments as they were, and has no semaphore whose counter could be off zero. -/
theorem frame_Cross : Cert.quiescent_CrossReferenceIdeal (hCrossReferenceIdeal := Cert.CrossReferenceIdeal.Gen.facts) := fun m ρ _ =>
  (θ_run Cert.CrossReferenceIdeal.defs _ _).mono (fun r h => ⟨fun c => (h c).2, sem_eq_zero_of_no_sems (by decide) r.2⟩)
    (Cert.CrossReferenceIdeal.Value.run m ρ)

/-- The same under the precondition. -/
theorem frame_Cross_pre : Cert.quiescent_CrossReferenceIdeal_pre_finite_logits (hCrossReferenceIdeal := Cert.CrossReferenceIdeal.Gen.facts)
    (hPre_finite_logits := Cert.Pre_finite_logits.Gen.facts) := fun m ρ _ => frame_Cross m ρ trivial

end Cert.Proof

end
-- ==== Proof.BiasMath.lean ====
module

public import proofs.«01_k».proof.Proof.Math
public import Mathlib.Analysis.SpecialFunctions.Log.Basic
public import Mathlib.Analysis.Complex.Exponential

/-! The buckets of distances: the logarithmic formula, truncated to an integer, is a step function with known steps. -/

@[expose] public section

noncomputable section

namespace Cert.Bias

open Idealize.ShloMosaic Cert.Gla

/-- The bucket of a distance: itself below 16, then a step function. -/
abbrev bkt (d : ℕ) : ℕ :=
  if d < 16 then d else if d < 19 then 16 else if d < 21 then 17 else if d < 24 then 18 else if d < 27 then 19
  else if d < 31 then 20 else if d < 35 then 21 else if d < 40 then 22 else if d < 46 then 23 else if d < 52 then 24
  else if d < 59 then 25 else if d < 67 then 26 else if d < 77 then 27 else if d < 87 then 28 else if d < 99 then 29
  else if d < 113 then 30 else 31

theorem bkt_lt (d : ℕ) (h : d < 512) : bkt d < 32 :=
  (by decide +kernel : ∀ x : Fin 512, bkt x.val < 32) ⟨d, h⟩

/-- The constant that divides the logarithm: log 8, rounded. -/
def l8 : ℝ := 8721810 / 4194304

/-- The word of that constant. -/
theorem cLog8 : Ideal.ofBits .f32 0x40051592#32 = ((l8 : ℝ) : EReal) := by
  unfold l8
  simp [Ideal.ofBits, Ideal.ieee, -EReal.coe_mul]; norm_num

theorem l8_pos : 0 < l8 := by unfold l8; norm_num

/-- The constant's exponential is 8, nearly: a third of it is the logarithm of 2, nearly. -/
theorem exp_third : |Real.exp (l8 / 3) - 2| ≤ 1 / 10000000 ∧ 2 ≤ Real.exp (l8 / 3) := by
  have h := Real.exp_bound (x := l8 / 3) (by unfold l8; rw [abs_of_pos (by norm_num)]; norm_num) (n := 12) (by norm_num)
  simp only [Finset.sum_range_succ, Finset.sum_range_zero, Nat.factorial, l8] at h
  rw [abs_of_pos (by norm_num : (0 : ℝ) < 8721810 / 4194304 / 3)] at h
  rw [abs_le] at h
  obtain ⟨ha, hb⟩ := h
  unfold l8
  norm_num at ha hb ⊢
  rw [abs_le]
  refine ⟨⟨?_, ?_⟩, ?_⟩ <;> linarith

theorem log2_le : Real.log 2 ≤ l8 / 3 := by
  rw [Real.log_le_iff_le_exp (by norm_num)]
  exact exp_third.2

theorem log2_ge : l8 / 3 ≤ Real.log 2 + 1 / 10000000 := by
  have h := (abs_le.1 exp_third.1).2
  have h1 : l8 / 3 ≤ Real.log (2 * (1 + 1 / 10000000)) := by
    rw [Real.le_log_iff_exp_le (by norm_num)]
    linarith
  rw [Real.log_mul (by norm_num) (by norm_num)] at h1
  have h2 := Real.log_le_sub_one_of_pos (show (0 : ℝ) < 1 + 1 / 10000000 by norm_num)
  linarith

/-- The logarithmic formula. -/
def lv (d : ℕ) : ℝ := Real.log ((d : ℝ) / 16) / l8 * 16

theorem lv_mono {a b : ℕ} (ha : 0 < a) (h : a ≤ b) : lv a ≤ lv b := by
  unfold lv
  have h1 : Real.log ((a : ℝ) / 16) ≤ Real.log ((b : ℝ) / 16) :=
    Real.log_le_log (by positivity) (by gcongr)
  have := l8_pos
  gcongr

/-- Sixteen times the logarithm is the logarithm of the sixteenth power. -/
theorem log_pow16 (x : ℝ) : Real.log x * 16 = Real.log (x ^ 16) := by
  rw [Real.log_pow]; push_cast; ring

theorem log8k (k : ℕ) : Real.log ((8 : ℝ) ^ k) = k * (3 * Real.log 2) := by
  rw [Real.log_pow, show (8 : ℝ) = 2 ^ 3 by norm_num, Real.log_pow]; push_cast; ring

/-- From a distance whose sixteenth power is large enough on, the formula is at least `k`. -/
theorem lv_ge (T k : ℕ) (hT : 0 < T) (hk : k ≤ 15) (h : 1001 * (16 ^ 16 * 8 ^ k) ≤ 1000 * T ^ 16) : (k : ℝ) ≤ lv T := by
  have hT' : (0 : ℝ) < T := by exact_mod_cast hT
  have hr : (1001 / 1000 : ℝ) * 8 ^ k ≤ ((T : ℝ) / 16) ^ 16 := by
    rw [div_pow, le_div_iff₀ (by positivity)]
    have h' : (1001 : ℝ) * (16 ^ 16 * 8 ^ k) ≤ 1000 * (T : ℝ) ^ 16 := by exact_mod_cast h
    linarith
  have hl := Real.log_le_log (by positivity) hr
  rw [Real.log_mul (by norm_num) (by positivity), log8k, ← log_pow16] at hl
  have h1 : (1 : ℝ) - (1001 / 1000)⁻¹ ≤ Real.log (1001 / 1000) := Real.one_sub_inv_le_log_of_pos (by norm_num)
  have hk' : (k : ℝ) ≤ 15 := by exact_mod_cast hk
  have hk0 : (0 : ℝ) ≤ k := Nat.cast_nonneg k
  have h3 : (k : ℝ) * l8 ≤ k * (3 * Real.log 2 + 3 / 10000000) := by
    apply mul_le_mul_of_nonneg_left _ hk0
    linarith [log2_ge]
  have h4 : (k : ℝ) * (3 / 10000000) ≤ (1 : ℝ) - (1001 / 1000)⁻¹ := by
    norm_num
    linarith
  have h5 : (k : ℝ) * (3 * Real.log 2 + 3 / 10000000) = k * (3 * Real.log 2) + k * (3 / 10000000) := by ring
  unfold lv
  rw [div_mul_eq_mul_div, le_div_iff₀ l8_pos]
  linarith

/-- Up to a distance whose sixteenth power is small enough, the formula is below `k`. -/
theorem lv_lt (T k : ℕ) (hT : 0 < T) (h : T ^ 16 < 16 ^ 16 * 8 ^ k) : lv T < (k : ℝ) := by
  have hT' : (0 : ℝ) < T := by exact_mod_cast hT
  have hr : ((T : ℝ) / 16) ^ 16 < 8 ^ k := by
    rw [div_pow, div_lt_iff₀ (by positivity)]
    have h' : (T : ℝ) ^ 16 < 16 ^ 16 * 8 ^ k := by exact_mod_cast h
    linarith
  have hl := Real.log_lt_log (by positivity) hr
  rw [log8k, ← log_pow16] at hl
  have h3 : (k : ℝ) * (3 * Real.log 2) ≤ k * l8 := by
    apply mul_le_mul_of_nonneg_left _ (Nat.cast_nonneg k)
    linarith [log2_le]
  unfold lv
  rw [div_mul_eq_mul_div, div_lt_iff₀ l8_pos]
  linarith

theorem lv_zero : lv 16 = 0 := by unfold lv; norm_num

/-- The distances at which the formula reaches the next integer. -/
def lo (k : ℕ) : ℕ := [16, 19, 21, 24, 27, 31, 35, 40, 46, 52, 59, 67, 77, 87, 99, 113].getD k 0

theorem lo_bounds : ∀ k : Fin 16, 16 ≤ lo k.val ∧ (k.val ≠ 0 → 1001 * (16 ^ 16 * 8 ^ k.val) ≤ 1000 * lo k.val ^ 16)
    ∧ (k.val < 15 → (lo (k.val + 1) - 1) ^ 16 < 16 ^ 16 * 8 ^ (k.val + 1)) := by decide +kernel

/-- Every distance lies between two of them, and its bucket is counted by them. -/
theorem lo_find : ∀ x : Fin 512, 16 ≤ x.val → x.val < 113 →
    ∃ k : Fin 15, lo k.val ≤ x.val ∧ x.val ≤ lo (k.val + 1) - 1 ∧ min (16 + k.val) 31 = bkt x.val := by decide +kernel

theorem far : ∀ x : Fin 512, 113 ≤ x.val → 31 = bkt x.val := by decide +kernel

/-- The formula is at least `k` at the `k`th of them. -/
theorem lv_lo (k : ℕ) (hk : k < 16) : (k : ℝ) ≤ lv (lo k) := by
  obtain ⟨h0, h1, -⟩ := lo_bounds ⟨k, hk⟩
  dsimp only at h0 h1
  by_cases e : k = 0
  · subst e
    show ((0 : ℕ) : ℝ) ≤ lv 16
    rw [lv_zero, Nat.cast_zero]
  · exact lv_ge _ _ (by omega) (by omega) (h1 e)

/-- The formula's integer part. -/
theorem floor_eq (d : ℕ) (h16 : 16 ≤ d) (h : d < 512) : ∃ w : ℕ, ⌊lv d⌋ = (w : ℤ) ∧ w < 100 ∧ min (16 + w) 31 = bkt d := by
  by_cases c : d < 113
  · obtain ⟨k, h1, h2, h3⟩ := lo_find ⟨d, h⟩ h16 c
    obtain ⟨h0, -, hu⟩ := lo_bounds ⟨k.val, by omega⟩
    dsimp only at h0 h1 h2 h3 hu
    refine ⟨k.val, ?_, by omega, h3⟩
    rw [Int.floor_eq_iff]
    refine ⟨le_trans (by exact_mod_cast lv_lo k.val (by omega)) (lv_mono (by omega) h1), lt_of_le_of_lt (lv_mono (by omega) h2) ?_⟩
    have := lv_lt (lo (k.val + 1) - 1) (k.val + 1) (by omega) (hu (by omega))
    push_cast at this ⊢
    exact this
  · have hl : (15 : ℝ) ≤ lv d := le_trans (by exact_mod_cast lv_lo 15 (by norm_num)) (lv_mono (by decide) (show lo 15 ≤ d by show 113 ≤ d; omega))
    have hu : lv d < 27 := lt_of_le_of_lt (lv_mono (by omega) (by omega : d ≤ 511)) (by exact_mod_cast lv_lt 511 27 (by norm_num) (by norm_num))
    have f1 : 15 ≤ ⌊lv d⌋ := Int.le_floor.2 (by exact_mod_cast hl)
    have f2 : ⌊lv d⌋ < 27 := Int.floor_lt.2 (by exact_mod_cast hu)
    refine ⟨⌊lv d⌋.toNat, (Int.toNat_of_nonneg (by omega)).symm, by omega, ?_⟩
    rw [min_eq_right (by omega)]
    exact far ⟨d, h⟩ (by dsimp only; omega)

/-- The formula at the extended reals, truncated. -/
theorem trunc_eq (d : ℕ) (h16 : 16 ≤ d) (h : d < 512) : ∃ w : ℕ,
    Ideal.fptosi 32 (Ideal.div (Ideal.log (Ideal.div ((d : ℝ) : EReal) (Ideal.ofBits .f32 0x41800000#32))) (Ideal.ofBits .f32 0x40051592#32) * Ideal.ofBits .f32 0x41800000#32) = BitVec.ofNat 32 w
      ∧ w < 100 ∧ min (16 + w) 31 = bkt d := by
  obtain ⟨w, hw, h1, h2⟩ := floor_eq d h16 h
  refine ⟨w, ?_, h1, h2⟩
  have hd : (0 : ℝ) < d := by exact_mod_cast (by omega : 0 < d)
  have e1 : Ideal.div ((d : ℝ) : EReal) ((16 : ℝ) : EReal) = (((d : ℝ) / 16 : ℝ) : EReal) := by
    rw [div_ne (by norm_cast), ← EReal.coe_inv, ← EReal.coe_mul, div_eq_mul_inv]
  have e2 : Ideal.log (((d : ℝ) / 16 : ℝ) : EReal) = ((Real.log ((d : ℝ) / 16) : ℝ) : EReal) := by
    show (if (d : ℝ) / 16 ≤ 0 then ⊥ else _) = _
    rw [if_neg (not_le.2 (by positivity))]
  rw [c16, cLog8, e1, e2, div_ne (by exact_mod_cast l8_pos.ne'), ← EReal.coe_inv, ← EReal.coe_mul, ← EReal.coe_mul, ← div_eq_mul_inv]
  show Ideal.fptosi 32 ((lv d : ℝ) : EReal) = _
  have hp : 0 ≤ lv d := by
    have := Int.floor_le (lv d)
    rw [hw] at this
    exact le_trans (by positivity) this
  rw [Ideal.fptosi, Ideal.toIntClamped_coe, if_pos hp, hw, min_eq_right (by norm_num <;> omega), max_eq_right (by norm_num <;> omega)]
  exact BitVec.ofInt_natCast _ _

end Cert.Bias
-- ==== Proof.BiasBlock.lean ====
module

public import proofs.«01_k».proof.Proof.Gen.BiasIdeal.Value
public import proofs.«01_k».proof.Proof.BiasMath
public import proofs.«01_k».proof.Proof.Layer
public import Idealize.ShloMosaic.Lib.Claim
public import Idealize.ShloMosaic.Lib.Pointwise
public import Idealize.ShloMosaic.Lib.Pointwise.Index
public import Idealize.ShloMosaic.Lib.Writes
public import Idealize.ShloMosaic.Lib.Pipeline.ValueKit

/-! A step of the bias kernel: the block it leaves, read at an index. -/

@[expose] public section

set_option maxRecDepth 16384
set_option pp.deepTerms false
set_option pp.maxSteps 1000

noncomputable section

namespace Cert.BiasIdeal.Block

open Cert.BiasIdeal Cert.BiasIdeal.Gen Cert.Layer Cert.Gla
open Idealize.ShloMosaic Idealize.ShloMosaic.TcCoe Idealize.ShloMosaic.Tactic
open Idealize.ShloMosaic.Pipeline

/-- The chain of selects: the last bucket below `n` that the word names, else zero. -/
def pick (e : ℕ → EReal) (w : BitVec 32) (n : ℕ) : EReal :=
  Nat.rec (Ideal.ofBits .f32 0x00000000#32 : EReal) (fun k a => Scalar.select (IntOp.cmpi .eq w (BitVec.ofNat 32 k)) (e k) a) n

theorem pick_succ (e : ℕ → EReal) (w : BitVec 32) (n : ℕ) :
    pick e w (n + 1) = Scalar.select (IntOp.cmpi .eq w (BitVec.ofNat 32 n)) (e n) (pick e w n) := rfl

/-- The chain picks the entry of the bucket. -/
theorem pick_at (e : ℕ → EReal) (b : ℕ) (n : ℕ) (hb : b < n) (hn : n ≤ 32) : pick e (BitVec.ofNat 32 b) n = e b := by
  induction n with
  | zero => omega
  | succ n ih =>
    rw [pick_succ]
    by_cases h : b = n
    · subst h
      simp [Scalar.select, IntOp.cmpi]
    · have hne : BitVec.ofNat 32 b ≠ BitVec.ofNat 32 n := by
        intro h'
        have := congrArg BitVec.toNat h'
        rw [BitVec.toNat_ofNat, BitVec.toNat_ofNat] at this
        omega
      have : Scalar.select (IntOp.cmpi .eq (BitVec.ofNat 32 b) (BitVec.ofNat 32 n)) (e n) (pick e (BitVec.ofNat 32 b) n) = pick e (BitVec.ofNat 32 b) n := by
        simp [Scalar.select, IntOp.cmpi, beq_eq_false_iff_ne.2 hne]
      rw [this]
      exact ih (by omega) (by omega)

/-- The payloads, one inside the other, at a table and the step's biases. -/
def pays {F : FTy → Type} [FloatOps F] (X : Vec F S2x256x256 .i32) (e : ℕ → F .f32) : FVec F S2x256x256 .f32 :=
  k0_pay1 X (k0_pay7 X (k0_pay5 X (k0_pay4 X (k0_pay2 X (e 0) (e 1) (e 2) (e 3) (e 4) (e 5)) (k0_pay3 X) (e 6) (e 7) (e 8) (e 9) (e 10) (e 11) (e 12) (e 13)) 14#32 (e 14) (e 15) (e 16) (e 17) (e 18) (e 19) (e 20)) (k0_pay6 X) (e 21) (e 22) (e 23) (e 24) (e 25) (e 26) (e 27) (e 28)) 29#32 (e 29) (e 30) (e 31) (e 31)

/-- At an index: the bias of the word's bucket less that of the farthest, times the constant. -/
theorem pays_at (X : S2x256x256.Idx → BitVec 32) (e : ℕ → EReal) (y : S2x256x256.Idx) (b : ℕ) (hb : b < 32) (h : X y = BitVec.ofNat 32 b) :
    pays (F := Ideal) X e y = (e b - e 31) * Ideal.ofBits .f32 0x3FB8AA3B#32 := by
  have hp : pays (F := Ideal) X e y = (pick e (X y) 32 - e 31) * Ideal.ofBits .f32 0x3FB8AA3B#32 := rfl
  rw [hp, h, pick_at e b 32 hb le_rfl]

section
variable {F : FTy → Type} [FloatOps F] (x0 : Vec F S2x256x256 .i32) (x1 : Vec F S32x8 .f32)

/-- A scalar's load: the word at the offsets. -/
theorem word_at (q : Memref sig .tc .smem S32x8 .f32) (hq : q.IsWhole) (off : Fin 2 → ℕ) (inb : ∀ a, off a + S1x1.size a ≤ S32x8.size a)
    (p : 0 < (Rect.unit (s := S32x8) off S1x1.size inb).toLoadRect.shape.numel) (k : Fin 32) (h : Fin 8) (hk : off = ![k.val, h.val]) :
    View.readAt (Elt F) q.view (Rect.unit (s := S32x8) off S1x1.size inb).toLoadRect (hq.unread x1) (Shape.Idx.first p) = x1 (ix2 k h) := by
  subst hk
  rw [View.readAt_eq_ld, hq.read_unread]
  refine congrArg x1 ?_
  funext a
  apply Fin.ext
  match a with
  | ⟨0, _⟩ => show k.val + 1 * _ = k.val; simp [Shape.Idx.first]
  | ⟨1, _⟩ => show h.val + 1 * _ = h.val; simp [Shape.Idx.first]

/-- The block a step leaves is its one store. -/
theorem out_eq (c : Dev nD) (i : grid0.Coords) (arg1 : Memref sig .tc .vmem S2x256x256 .i32) (harg1 : arg1.IsWhole) (arg2 : Memref sig .tc .smem S32x8 .f32) (harg2 : arg2.IsWhole) (arg3 : Memref sig .tc .vmem S2x256x256 .f32) (harg3 : arg3.IsWhole)
    (h : Fin 8) (hi : (BitVec.ofNat 32 (i 0).val).toNat = h.val) :
    out0_A_2 c i arg1 harg1 arg2 harg2 arg3 harg3 x0 x1 = pays x0 (fun k => x1 (ix2 (Fin.ofNat 32 k) h)) := by
  have hz : (![0, 0, 0] : Fin 3 → ℕ) = fun _ => 0 := by decide
  funext y
  unfold out0_A_2
  refine View.read_writes_apply_of_pieces VO0_2 _ (pays x0 (fun k => x1 (ix2 (Fin.ofNat 32 k) h))) _ ?_ y (cover0_A_2 c i arg1 harg1 arg2 harg2 arg3 harg3 x0 x1 y)
  unfold kernelRun0_A
  dsimp only
  refine List.forall_mem_cons.2 ⟨fun x => ?_, fun p hp => absurd hp List.not_mem_nil⟩
  have ex : (Rect.unit (s := S2x256x256) ![0, 0, 0] S2x256x256.size inb_S2x256x256_S2x256x256_0_0_0).emb x = x := by
    funext a
    apply Fin.ext
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
  refine Eq.trans ?_ (congrArg (pays x0 (fun k => x1 (ix2 (Fin.ofNat 32 k) h))) ex).symm
  refine congrFun (a := x) ?_
  have h6 : View.readAt (Elt F) arg1.view (Rect.unit (s := S2x256x256) ![0, 0, 0] S2x256x256.size inb_S2x256x256_S2x256x256_0_0_0).toLoadRect (harg1.unread x0) = x0 := by
    rw [View.readAt_eq_ld, harg1.read_unread, View.ld_unit_zero (S := S2x256x256) hz]
  have w := fun (off : Fin 2 → ℕ) inb p (k : Fin 32) hk => word_at x1 arg2 harg2 off inb p k h hk
  have o : ∀ k : ℕ, ![k, (Scalar.indexCast (BitVec.ofNat 32 (i 0).val) : Index).toNat] = (![k, h.val] : Fin 2 → ℕ) := fun k => congrArg (fun v => ![k, v]) hi
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38]
  rw [h6]
  simp only [w (k0_off1 i) (k0_off1_inb i) _ 0 (o 0),
    w (k0_off2 i) (k0_off2_inb i) _ 1 (o 1),
    w (k0_off3 i) (k0_off3_inb i) _ 2 (o 2),
    w (k0_off4 i) (k0_off4_inb i) _ 3 (o 3),
    w (k0_off5 i) (k0_off5_inb i) _ 4 (o 4),
    w (k0_off6 i) (k0_off6_inb i) _ 5 (o 5),
    w (k0_off7 i) (k0_off7_inb i) _ 6 (o 6),
    w (k0_off8 i) (k0_off8_inb i) _ 7 (o 7),
    w (k0_off9 i) (k0_off9_inb i) _ 8 (o 8),
    w (k0_off10 i) (k0_off10_inb i) _ 9 (o 9),
    w (k0_off11 i) (k0_off11_inb i) _ 10 (o 10),
    w (k0_off12 i) (k0_off12_inb i) _ 11 (o 11),
    w (k0_off13 i) (k0_off13_inb i) _ 12 (o 12),
    w (k0_off14 i) (k0_off14_inb i) _ 13 (o 13),
    w (k0_off15 i) (k0_off15_inb i) _ 14 (o 14),
    w (k0_off16 i) (k0_off16_inb i) _ 15 (o 15),
    w (k0_off17 i) (k0_off17_inb i) _ 16 (o 16),
    w (k0_off18 i) (k0_off18_inb i) _ 17 (o 17),
    w (k0_off19 i) (k0_off19_inb i) _ 18 (o 18),
    w (k0_off20 i) (k0_off20_inb i) _ 19 (o 19),
    w (k0_off21 i) (k0_off21_inb i) _ 20 (o 20),
    w (k0_off22 i) (k0_off22_inb i) _ 21 (o 21),
    w (k0_off23 i) (k0_off23_inb i) _ 22 (o 22),
    w (k0_off24 i) (k0_off24_inb i) _ 23 (o 23),
    w (k0_off25 i) (k0_off25_inb i) _ 24 (o 24),
    w (k0_off26 i) (k0_off26_inb i) _ 25 (o 25),
    w (k0_off27 i) (k0_off27_inb i) _ 26 (o 26),
    w (k0_off28 i) (k0_off28_inb i) _ 27 (o 27),
    w (k0_off29 i) (k0_off29_inb i) _ 28 (o 28),
    w (k0_off30 i) (k0_off30_inb i) _ 29 (o 29),
    w (k0_off31 i) (k0_off31_inb i) _ 30 (o 30),
    w (k0_off32 i) (k0_off32_inb i) _ 31 (o 31)]
  rfl
end

/-- The block a step leaves, at an index whose word is a bucket. -/
theorem out_at (x0 : S2x256x256.Idx → BitVec 32) (x1 : S32x8.Idx → EReal) (c : Dev nD) (i : grid0.Coords) (arg1 : Memref sig .tc .vmem S2x256x256 .i32) (harg1 : arg1.IsWhole) (arg2 : Memref sig .tc .smem S32x8 .f32) (harg2 : arg2.IsWhole) (arg3 : Memref sig .tc .vmem S2x256x256 .f32) (harg3 : arg3.IsWhole)
    (h : Fin 8) (hi : (BitVec.ofNat 32 (i 0).val).toNat = h.val) (y : S2x256x256.Idx) (b : ℕ) (hb : b < 32) (hy : x0 y = BitVec.ofNat 32 b) :
    (out0_A_2 (F := Ideal) c i arg1 harg1 arg2 harg2 arg3 harg3 x0 x1 y : EReal) = (at2 x1 b h.val - at2 x1 31 h.val) * Ideal.ofBits .f32 0x3FB8AA3B#32 := by
  refine (congrFun (out_eq (F := Ideal) x0 x1 c i arg1 harg1 arg2 harg2 arg3 harg3 h hi) y).trans ?_
  refine (pays_at x0 _ y b hb hy).trans ?_
  rw [at2_ix x1 (Fin.ofNat 32 b) h b h.val (Nat.mod_eq_of_lt hb) rfl, at2_ix x1 (Fin.ofNat 32 31) h 31 h.val rfl rfl]

end Cert.BiasIdeal.Block
-- ==== Proof.BiasTable.lean ====
module

public import proofs.«01_k».proof.BiasIdeal
public import proofs.«01_k».proof.Proof.BiasMath

/-! The kernel's table of buckets against the buckets of the distances: the test of its rows. -/

@[expose] public section

noncomputable section

namespace Cert.BiasIdeal.Table

open Cert.BiasIdeal Cert.Bias

/-- A test of all numbers below a bound. -/
def allB (f : ℕ → Bool) (n : ℕ) : Bool := Nat.rec true (fun k b => f k && b) n

theorem allB_spec (f : ℕ → Bool) (n : ℕ) (h : allB f n = true) (k : ℕ) (hk : k < n) : f k = true := by
  induction n with
  | zero => omega
  | succ n ih =>
    have h' : (f n && allB f n) = true := h
    rw [Bool.and_eq_true] at h'
    by_cases e : k = n
    · exact e ▸ h'.1
    · exact ih h'.2 (by omega)

/-- An entry of a row of the table, both tiles' rows counted on: it is the bucket of the distance. -/
def entryOk (m t : ℕ) : Bool := Nat.beq (lit0t (256 * m + t)).toNat (bkt (256 * (m / 256) + t - m % 256))

/-- The test of four rows. -/
def rowsOk (k : ℕ) : Bool := allB (fun m => allB (entryOk (4 * k + m)) 256) 4

end Cert.BiasIdeal.Table
-- ==== Proof.BiasRows0.lean ====
module

public import proofs.«01_k».proof.Proof.BiasTable
public import Mathlib.Tactic.IntervalCases

/-! The test of rows 0 to 63 of the table of buckets. -/

@[expose] public section

set_option maxHeartbeats 0

namespace Cert.BiasIdeal.Table

theorem rows0 (k : ℕ) (hk : k < 16) : rowsOk (0 + k) = true := by
  interval_cases k <;> decide +kernel

end Cert.BiasIdeal.Table
-- ==== Proof.BiasRows1.lean ====
module

public import proofs.«01_k».proof.Proof.BiasTable
public import Mathlib.Tactic.IntervalCases

/-! The test of rows 64 to 127 of the table of buckets. -/

@[expose] public section

set_option maxHeartbeats 0

namespace Cert.BiasIdeal.Table

theorem rows1 (k : ℕ) (hk : k < 16) : rowsOk (16 + k) = true := by
  interval_cases k <;> decide +kernel

end Cert.BiasIdeal.Table
-- ==== Proof.BiasRows2.lean ====
module

public import proofs.«01_k».proof.Proof.BiasTable
public import Mathlib.Tactic.IntervalCases

/-! The test of rows 128 to 191 of the table of buckets. -/

@[expose] public section

set_option maxHeartbeats 0

namespace Cert.BiasIdeal.Table

theorem rows2 (k : ℕ) (hk : k < 16) : rowsOk (32 + k) = true := by
  interval_cases k <;> decide +kernel

end Cert.BiasIdeal.Table
-- ==== Proof.BiasRows3.lean ====
module

public import proofs.«01_k».proof.Proof.BiasTable
public import Mathlib.Tactic.IntervalCases

/-! The test of rows 192 to 255 of the table of buckets. -/

@[expose] public section

set_option maxHeartbeats 0

namespace Cert.BiasIdeal.Table

theorem rows3 (k : ℕ) (hk : k < 16) : rowsOk (48 + k) = true := by
  interval_cases k <;> decide +kernel

end Cert.BiasIdeal.Table
-- ==== Proof.BiasRows4.lean ====
module

public import proofs.«01_k».proof.Proof.BiasTable
public import Mathlib.Tactic.IntervalCases

/-! The test of rows 256 to 319 of the table of buckets. -/

@[expose] public section

set_option maxHeartbeats 0

namespace Cert.BiasIdeal.Table

theorem rows4 (k : ℕ) (hk : k < 16) : rowsOk (64 + k) = true := by
  interval_cases k <;> decide +kernel

end Cert.BiasIdeal.Table
-- ==== Proof.BiasRows5.lean ====
module

public import proofs.«01_k».proof.Proof.BiasTable
public import Mathlib.Tactic.IntervalCases

/-! The test of rows 320 to 383 of the table of buckets. -/

@[expose] public section

set_option maxHeartbeats 0

namespace Cert.BiasIdeal.Table

theorem rows5 (k : ℕ) (hk : k < 16) : rowsOk (80 + k) = true := by
  interval_cases k <;> decide +kernel

end Cert.BiasIdeal.Table
-- ==== Proof.BiasRows6.lean ====
module

public import proofs.«01_k».proof.Proof.BiasTable
public import Mathlib.Tactic.IntervalCases

/-! The test of rows 384 to 447 of the table of buckets. -/

@[expose] public section

set_option maxHeartbeats 0

namespace Cert.BiasIdeal.Table

theorem rows6 (k : ℕ) (hk : k < 16) : rowsOk (96 + k) = true := by
  interval_cases k <;> decide +kernel

end Cert.BiasIdeal.Table
-- ==== Proof.BiasRows7.lean ====
module

public import proofs.«01_k».proof.Proof.BiasTable
public import Mathlib.Tactic.IntervalCases

/-! The test of rows 448 to 511 of the table of buckets. -/

@[expose] public section

set_option maxHeartbeats 0

namespace Cert.BiasIdeal.Table

theorem rows7 (k : ℕ) (hk : k < 16) : rowsOk (112 + k) = true := by
  interval_cases k <;> decide +kernel

end Cert.BiasIdeal.Table
-- ==== Proof.BiasTableAt.lean ====
module

public import proofs.«01_k».proof.Proof.BiasRows0
public import proofs.«01_k».proof.Proof.BiasRows1
public import proofs.«01_k».proof.Proof.BiasRows2
public import proofs.«01_k».proof.Proof.BiasRows3
public import proofs.«01_k».proof.Proof.BiasRows4
public import proofs.«01_k».proof.Proof.BiasRows5
public import proofs.«01_k».proof.Proof.BiasRows6
public import proofs.«01_k».proof.Proof.BiasRows7

/-! The kernel's table of buckets is the bucket of the distance, at every index. -/

@[expose] public section

noncomputable section

namespace Cert.BiasIdeal.Table

open Cert.BiasIdeal Cert.Bias

theorem rows (k : ℕ) (hk : k < 128) : rowsOk k = true := by
  rw [← Nat.div_add_mod k 16]
  have hm : k % 16 < 16 := by omega
  have hd : k / 16 < 8 := by omega
  generalize k / 16 = q at *
  match q, hd with
  | 0, _ => exact rows0 _ hm
  | 1, _ => exact rows1 _ hm
  | 2, _ => exact rows2 _ hm
  | 3, _ => exact rows3 _ hm
  | 4, _ => exact rows4 _ hm
  | 5, _ => exact rows5 _ hm
  | 6, _ => exact rows6 _ hm
  | 7, _ => exact rows7 _ hm

/-- The table at tile `o`, key `s` and query `t`. -/
theorem table_at (o s t : ℕ) (ho : o < 2) (hs : s < 256) (ht : t < 256) :
    lit0t (256 * (256 * o + s) + t) = BitVec.ofNat 32 (bkt (256 * o + t - s)) := by
  have h := allB_spec _ _ (allB_spec _ _ (rows ((256 * o + s) / 4) (by omega)) ((256 * o + s) % 4) (by omega)) t ht
  have e : 4 * ((256 * o + s) / 4) + (256 * o + s) % 4 = 256 * o + s := by omega
  rw [e] at h
  have h' := Nat.eq_of_beq_eq_true h
  rw [show (256 * o + s) / 256 = o by omega, show (256 * o + s) % 256 = s by omega] at h'
  rw [← h', BitVec.ofNat_toNat, BitVec.setWidth_eq]

end Cert.BiasIdeal.Table
-- ==== Proof.BiasHost.lean ====
module

public import proofs.«01_k».proof.Proof.BiasBlock
public import proofs.«01_k».proof.Proof.BiasTableAt
public import Idealize.ShloMosaic.Lib.StableHlo.ReadAt

/-! The bias kernel's windows, read at an index in terms of the launch's arrays, and the array it leaves. -/

@[expose] public section

set_option maxRecDepth 1024
set_option pp.deepTerms false
set_option pp.maxSteps 1000

noncomputable section

namespace Cert.BiasIdeal.HostIn

open Cert.BiasIdeal Cert.BiasIdeal.Gen Cert.BiasIdeal.Block Cert.Layer Cert.Gla Cert.Bias
open Idealize.ShloMosaic Idealize.ShloMosaic.TcCoe Idealize.ShloMosaic.Tactic
open Idealize.ShloMosaic.Pipeline

variable (m : (ℓ : Loc nD τ sig) → Buf (Elt Ideal) ℓ) (c : Dev nD)

/-- The relative bias at launch. -/
abbrev RB : S32x8.Idx → EReal := m ((c : Thread nD τ).loc main_arg0)

/-- The host's table is the literal. -/
theorem table_eq : (V m c main_c : S2x256x256.Idx → BitVec 32) = fun i => lit0 (S2x256x256.rowMajor i) := by
  unfold V
  after_reads_at
  rfl

/-- The table of buckets as the kernel reads it. -/
theorem table_at (o : Fin 2) (s t : Fin 256) :
    (V m c main_c : S2x256x256.Idx → BitVec 32) (ix3 o s t) = BitVec.ofNat 32 (bkt (256 * o.val + t.val - s.val)) := by
  refine (congrFun (table_eq m c) (ix3 o s t)).trans ?_
  refine Eq.trans ?_ (Table.table_at o.val s.val t.val o.isLt s.isLt t.isLt)
  refine congrArg lit0t ?_
  refine (Shape.rowMajor_val_three (d := ![2, 256, 256]) (ix3 o s t)).trans ?_
  show (o.val * 256 + s.val) * 256 + t.val = 256 * (256 * o.val + s.val) + t.val
  omega

/-- The bias as the kernel reads it. -/
theorem rb_at (k : Fin 32) (h : Fin 8) : (V m c main_arg0 : S32x8.Idx → EReal) (ix2 k h) = RB m c (ix2 k h) :=
  congrFun (V_main_arg0 m c) (ix2 k h)

/-- There are eight points. -/
theorem point_lt (t : Fin cfg0.N) : t.val < 8 := lt_of_lt_of_eq t.isLt (show cfg0.N = 8 from N_0)

/-- Window 0's block index at a point. -/
theorem idx0 : ∀ t : Fin cfg0.N, win0_0.index t = ![0, 0, 0] := by decide +kernel

/-- Window 1's block index at a point. -/
theorem idx1 : ∀ t : Fin cfg0.N, win0_1.index t = ![0, 0] := by decide +kernel

/-- Window 2's block index at a point. -/
theorem idx2 : ∀ t : Fin cfg0.N, win0_2.index t = ![0, 0, t.val] := by decide +kernel

/-- The grid coordinate at a point. -/
theorem coord_at : ∀ t : Fin cfg0.N, (BitVec.ofNat 32 (grid0.coords t 0).val).toNat = t.val := by decide +kernel

/-- A step's block of window 0. -/
theorem x0_at (t : Fin cfg0.N) (o : Fin 2) (s q : Fin 256) :
    (iblk m c 0 t : S2x256x256.Idx → BitVec 32) (ix3 o s q) = BitVec.ofNat 32 (bkt (256 * o.val + q.val - s.val)) := by
  blk_simp [iblk]
  refine (congrArg (V m c (arrRef spec0 0)) (?_ : _ = ix3 o s q)).trans ?_
  · funext a
    apply Fin.ext
    match a with
    | ⟨0, _⟩ => show win0_0.index t 0 * 2 + 1 * o.val = o.val; rw [idx0]; show 0 * 2 + 1 * o.val = o.val; omega
    | ⟨1, _⟩ => show win0_0.index t 1 * 256 + 1 * s.val = s.val; rw [idx0]; show 0 * 256 + 1 * s.val = s.val; omega
    | ⟨2, _⟩ => show win0_0.index t 2 * 256 + 1 * q.val = q.val; rw [idx0]; show 0 * 256 + 1 * q.val = q.val; omega
  · exact table_at m c o s q

/-- A step's block of window 1. -/
theorem x1_at (t : Fin cfg0.N) (k : Fin 32) (h : Fin 8) : (iblk m c 1 t : S32x8.Idx → EReal) (ix2 k h) = RB m c (ix2 k h) := by
  blk_simp [iblk]
  refine (congrArg (V m c (arrRef spec0 1)) (?_ : _ = ix2 k h)).trans ?_
  · funext a
    apply Fin.ext
    match a with
    | ⟨0, _⟩ => show win0_1.index t 0 * 32 + 1 * k.val = k.val; rw [idx1]; show 0 * 32 + 1 * k.val = k.val; omega
    | ⟨1, _⟩ => show win0_1.index t 1 * 8 + 1 * h.val = h.val; rw [idx1]; show 0 * 8 + 1 * h.val = h.val; omega
  · exact rb_at m c k h

/-- Every point writes its block back. -/
theorem flush_all : ∀ t : Fin cfg0.N, (cfg0.win 2).flush t = true := by decide +kernel

/-- What a point leaves, at an index. -/
theorem step_at (t : Fin cfg0.N) (o : Fin 2) (s q : Fin 256) :
    (outsAt0 (F := Ideal) m c t (ix3 o s q) : EReal)
      = (at2 (RB m c) (bkt (256 * o.val + q.val - s.val)) t.val - at2 (RB m c) 31 t.val) * Ideal.ofBits .f32 0x3FB8AA3B#32 := by
  have e1 : (iblk m c 1 t : S32x8.Idx → EReal) = RB m c := by
    funext i
    obtain ⟨k, h, rfl⟩ : ∃ (k : Fin 32) (h : Fin 8), i = ix2 k h := ⟨i 0, i 1, by funext a; match a with | ⟨0, _⟩ => rfl | ⟨1, _⟩ => rfl⟩
    exact x1_at m c t k h
  refine (out_at (iblk m c 0 t) (iblk m c 1 t) c (grid0.coords t) (ms0_0 t) (hs0_0 t) (ms0_1 t) (hs0_1 t) (ms0_2 t) (hs0_2 t)
    ⟨t.val, point_lt t⟩ (coord_at t) (ix3 o s q) (bkt (256 * o.val + q.val - s.val)) (bkt_lt _ (by omega)) (x0_at m c t o s q)).trans ?_
  rw [e1]

/-- The array the kernel leaves, at an index. -/
theorem arr_at (o : Fin 2) (s : Fin 256) (J : Fin 2048) :
    ((dats m 0 c).arrAt 2 cfg0.N : S2x256x2048.Idx → EReal) (ix3 o s J)
      = (at2 (RB m c) (bkt (256 * o.val + J.val % 256 - s.val)) (J.val / 256) - at2 (RB m c) 31 (J.val / 256)) * Ideal.ofBits .f32 0x3FB8AA3B#32 := by
  let t : Fin cfg0.N := ⟨J.val / 256, by rw [show cfg0.N = 8 from N_0]; omega⟩
  let q : Fin 256 := ⟨J.val % 256, by omega⟩
  have h := congrFun (Cert.BiasIdeal.Value.blocks2 m c t (flush_all t)) (ix3 o s q)
  rw [Cert.BiasIdeal.Value.flushed2] at h
  have e : ((cfg0.win 2).blk t).view.emb (ix3 o s q) = ix3 o s J := by
    funext a
    apply Fin.ext
    match a with
    | ⟨0, _⟩ => show win0_2.index t 0 * 2 + 1 * o.val = o.val; rw [idx2]; show 0 * 2 + 1 * o.val = o.val; omega
    | ⟨1, _⟩ => show win0_2.index t 1 * 256 + 1 * s.val = s.val; rw [idx2]; show 0 * 256 + 1 * s.val = s.val; omega
    | ⟨2, _⟩ => show win0_2.index t 2 * 256 + 1 * q.val = J.val; rw [idx2]; show (J.val / 256) * 256 + 1 * (J.val % 256) = J.val; omega
  rw [View.read_apply, cast_eq, e] at h
  refine Eq.trans h ?_
  exact step_at m c t o s q

end Cert.BiasIdeal.HostIn
-- ==== Proof.BiasRef.lean ====
module

public import proofs.«01_k».proof.Proof.Gen.BiasReferenceIdeal.Run
public import proofs.«01_k».proof.Proof.BiasMath
public import proofs.«01_k».proof.Proof.Layer
public import Idealize.ShloMosaic.Lib.Claim
public import Idealize.ShloMosaic.Lib.Pointwise
public import Idealize.ShloMosaic.Lib.Pointwise.Index

/-! The relative bias: the reference, read at an index in terms of the launch's array. -/

@[expose] public section

set_option maxRecDepth 1024
set_option pp.deepTerms false
set_option pp.maxSteps 1000

noncomputable section

namespace Cert.BiasReferenceIdeal.RefAt

open Cert.BiasReferenceIdeal Cert.BiasReferenceIdeal.Gen Cert.BiasReferenceIdeal.Value Cert.Layer Cert.Gla Cert.Bias
open Idealize.ShloMosaic Idealize.ShloMosaic.TcCoe Idealize.ShloMosaic.Tactic

variable (m : (ℓ : Loc nD τ sig) → Buf (Elt Ideal) ℓ) (c : Dev nD)

/-- The distances, none below zero. -/
def Ds : IVec S2x256x256 32 :=
  maxsi (subi (broadcastInDim S2x256x256 ![0, 1, 2] bcast_S2x1x256_S2x256x256_0_1_2 (shapeCast _ (iotaInDim S512 32 0) shapeCasts_S512_S2x1x256))
    (broadcastInDim S2x256x256 ![0, 1, 2] bcast_S1x256x1_S2x256x256_0_1_2 (shapeCast _ (iotaInDim S256 32 0) shapeCasts_S256_S1x256x1)))
    (broadcastInDim S2x256x256 ![] bcast_S_S2x256x256 (constantI S_ 32 0#32))

/-- A number at every index. -/
def Cf (w : BitVec 32) : FVec Ideal S2x256x256 .f32 := broadcastInDim S2x256x256 ![] bcast_S_S2x256x256 (constant S_ .f32 w)

/-- A word at every index. -/
def Ci (w : BitVec 32) : IVec S2x256x256 32 := broadcastInDim S2x256x256 ![] bcast_S_S2x256x256 (constantI S_ 32 w)

/-- The steps above the sixteenth bucket, from the logarithm. -/
def Ws (d : IVec S2x256x256 32) : IVec S2x256x256 32 :=
  fptosi 32 (mulf (Host.divf (Host.log (Host.divf (sitofp (F := Ideal) .f32 (maxsi d (Ci 1#32))) (Cf 0x41800000#32))) (Cf 0x40051592#32)) (Cf 0x41800000#32))

/-- The buckets. -/
def Bs (d w : IVec S2x256x256 32) : IVec S2x256x256 32 := select (cmpi .slt d (Ci 16#32)) d (minsi (addi (Ci 16#32) w) (Ci 31#32))

/-- An index below zero counted from the end. -/
def Ns (b : IVec S2x256x256 32) : IVec S2x256x256 32 := select (cmpi .slt b (Ci 0#32)) (addi b (Ci 32#32)) b

/-- The buckets' rows of the bias. -/
def Tk (x : FVec Ideal S32x8 .f32) (b : IVec S2x256x256 32) : FVec Ideal S2x256x256x8 .f32 :=
  Host.gather gather_S32x8_S2x256x256x1_S2x256x256x8_3_0_n_n_0_3_18 x (broadcastInDim S2x256x256x1 ![0, 1, 2] bcast_S2x256x256_S2x256x256x1_0_1_2 b)

/-- The farthest bucket's row, at every index. -/
def Fr (x : FVec Ideal S32x8 .f32) : FVec Ideal S2x256x256x8 .f32 :=
  broadcastInDim S2x256x256x8 ![0, 1, 2, 3] bcast_S1x1x1x8_S2x256x256x8_0_1_2_3 (broadcastInDim S1x1x1x8 ![3] bcast_S8_S1x1x1x8_3
    (shapeCast _ (extractStridedSlice S1x8 ![31, 0] x slices_S32x8_S1x8_31_0) shapeCasts_S1x8_S8))

/-- The difference times the constant, the heads side by side. -/
def Os (y z : FVec Ideal S2x256x256x8 .f32) : FVec Ideal S2x256x2048 .f32 :=
  shapeCast _ (transpose S2x256x8x256 [0, 1, 3, 2] (mulf (subf y z) (broadcastInDim S2x256x256x8 ![] bcast_S_S2x256x256x8 (constant S_ .f32 0x3FB8AA3B#32))) transposes_S2x256x256x8_S2x256x8x256_0_1_3_2) shapeCasts_S2x256x8x256_S2x256x2048

/-- The result from the launch's array. -/
def Rs (x : FVec Ideal S32x8 .f32) : FVec Ideal S2x256x2048 .f32 := Os (Tk x (Ns (Bs Ds (Ws Ds)))) (Fr x)

/-- The reference's result is that. -/
theorem res_eq : res_main_v42 (F := Ideal) m c = Rs (m ((c.tc : Thread nD τ).loc main_arg0)) := rfl

variable (x : S32x8.Idx → EReal) (d w b : S2x256x256.Idx → BitVec 32) (y z : S2x256x256x8.Idx → EReal)

/-- A small word's signed value. -/
theorem toInt_of (n : ℕ) (h : n < 2048) : (BitVec.ofNat 32 n).toInt = (n : ℤ) := by
  rw [BitVec.toInt_eq_toNat_cond, BitVec.toNat_ofNat, Nat.mod_eq_of_lt (by omega), if_pos (by omega)]

/-- Small words compared. -/
theorem slt_of (a b : ℕ) (ha : a < 2048) (hb : b < 2048) : (BitVec.ofNat 32 a).slt (BitVec.ofNat 32 b) = decide (a < b) := by
  rw [BitVec.slt, toInt_of a ha, toInt_of b hb]
  exact decide_eq_decide.2 Int.ofNat_lt

/-- The larger of two small words. -/
theorem maxsi_of (a b : ℕ) (ha : a < 2048) (hb : b < 2048) : IntOp.maxsi (BitVec.ofNat 32 a) (BitVec.ofNat 32 b) = BitVec.ofNat 32 (max a b) := by
  rw [IntOp.maxsi, slt_of b a hb ha]
  by_cases h : b < a
  · rw [if_pos (decide_eq_true h), max_eq_left h.le]
  · rw [if_neg (by simpa using h), max_eq_right (by omega)]

/-- The smaller of two small words. -/
theorem minsi_of (a b : ℕ) (ha : a < 2048) (hb : b < 2048) : IntOp.minsi (BitVec.ofNat 32 a) (BitVec.ofNat 32 b) = BitVec.ofNat 32 (min a b) := by
  rw [IntOp.minsi, slt_of a b ha hb]
  by_cases h : a < b
  · rw [if_pos (decide_eq_true h), min_eq_left h.le]
  · rw [if_neg (by simpa using h), min_eq_right (by omega)]

/-- The choice at a comparison of small words. -/
theorem select_slt {α : Type} (a b : ℕ) (ha : a < 2048) (hb : b < 2048) (p q : α) :
    Scalar.select (IntOp.cmpi .slt (BitVec.ofNat 32 a) (BitVec.ofNat 32 b)) p q = if a < b then p else q := by
  show Scalar.select (BitVec.ofBool ((BitVec.ofNat 32 a).slt (BitVec.ofNat 32 b))) p q = _
  rw [slt_of a b ha hb]
  by_cases h : a < b
  · rw [if_pos h, decide_eq_true h]; rfl
  · rw [if_neg h, decide_eq_false h]; rfl

/-- The difference of two small words, none below zero. -/
theorem dist_of (a b : ℕ) (ha : a < 1024) (hb : b < 1024) : IntOp.maxsi (IntOp.subi (BitVec.ofNat 32 a) (BitVec.ofNat 32 b)) 0#32 = BitVec.ofNat 32 (a - b) := by
  have hs : (IntOp.subi (BitVec.ofNat 32 a) (BitVec.ofNat 32 b)).toNat = (2 ^ 32 - b + a) % 2 ^ 32 := by
    show (BitVec.ofNat 32 a - BitVec.ofNat 32 b).toNat = _
    rw [BitVec.toNat_sub, BitVec.toNat_ofNat, BitVec.toNat_ofNat, Nat.mod_eq_of_lt (by omega : a < 2 ^ 32), Nat.mod_eq_of_lt (by omega : b < 2 ^ 32)]
  by_cases h : b ≤ a
  · have e : IntOp.subi (BitVec.ofNat 32 a) (BitVec.ofNat 32 b) = BitVec.ofNat 32 (a - b) := by
      apply BitVec.eq_of_toNat_eq
      rw [hs, BitVec.toNat_ofNat]
      omega
    rw [e]
    exact (maxsi_of (a - b) 0 (by omega) (by omega)).trans (by rw [max_eq_left (by omega)])
  · rw [IntOp.maxsi, if_neg, show a - b = 0 by omega]
    rw [BitVec.slt, BitVec.toInt_eq_toNat_cond (IntOp.subi _ _), hs, if_neg (by omega)]
    simp only [decide_eq_true_eq]
    show ¬ (0 : ℤ) < _
    omega

/-- A distance. -/
theorem Ds_at (o : Fin 2) (s t : Fin 256) : Ds (ix3 o s t) = BitVec.ofNat 32 (256 * o.val + t.val - s.val) := by
  pointwise [Ds]
  rw [dist_of _ _ (by omega) (by omega), Nat.mul_comm]

/-- The steps above the sixteenth bucket. -/
theorem Ws_at (i : S2x256x256.Idx) (n : ℕ) (h : 16 ≤ n) (hn : n < 512) (hd : d i = BitVec.ofNat 32 n) :
    ∃ v : ℕ, Ws d i = BitVec.ofNat 32 v ∧ v < 100 ∧ min (16 + v) 31 = bkt n := by
  obtain ⟨v, hv, h1, h2⟩ := trunc_eq n h hn
  refine ⟨v, ?_, h1, h2⟩
  rw [← hv]
  pointwise [Ws, Ci, Cf]
  have e : (FloatOps.sitofp (F := Ideal) .f32 (IntOp.maxsi (d i) 1#32) : EReal) = ((n : ℝ) : EReal) := by
    rw [hd, show IntOp.maxsi (BitVec.ofNat 32 n) 1#32 = BitVec.ofNat 32 n from (maxsi_of n 1 (by omega) (by omega)).trans (by rw [max_eq_left (by omega)])]
    show (((BitVec.ofNat 32 n).toInt : ℝ) : EReal) = _
    rw [toInt_of n (by omega)]
    norm_cast
  rw [e]
  rfl

/-- A bucket. -/
theorem Bs_at (i : S2x256x256.Idx) (n : ℕ) (hn : n < 512) (hd : d i = BitVec.ofNat 32 n) : Bs d (Ws d) i = BitVec.ofNat 32 (bkt n) := by
  pointwise [Bs, Ci]
  rw [hd]
  refine (select_slt n 16 (by omega) (by omega) _ _).trans ?_
  by_cases h : n < 16
  · rw [if_pos h]
    exact congrArg (BitVec.ofNat 32) ((by decide +kernel : ∀ x : Fin 16, x.val = bkt x.val) ⟨n, h⟩)
  · obtain ⟨v, hv, h1, h2⟩ := Ws_at d i n (by omega) hn hd
    rw [if_neg h, hv, show IntOp.addi (16#32) (BitVec.ofNat 32 v) = BitVec.ofNat 32 (16 + v) from (BitVec.ofNat_add 16 v).symm]
    exact (minsi_of (16 + v) 31 (by omega) (by omega)).trans (by rw [h2])

/-- A bucket as an index: it is not below zero. -/
theorem Ns_at (i : S2x256x256.Idx) (n : ℕ) (hn : n < 2048) (hb : b i = BitVec.ofNat 32 n) : Ns b i = BitVec.ofNat 32 n := by
  pointwise [Ns, Ci]
  rw [hb]
  exact (select_slt n 0 hn (by omega) _ _).trans (if_neg (by omega))

/-- The index of a bucket among the rows' numbers. -/
abbrev rowIdx (o : Fin 2) (s t : Fin 256) : S2x256x256x1.Idx := ix4 o s t 0

/-- A bucket's row of the bias. -/
theorem gather_at (j : S2x256x256x1.Idx → BitVec 32) (o : Fin 2) (s t : Fin 256) (h : Fin 8) :
    (Host.gather gather_S32x8_S2x256x256x1_S2x256x256x8_3_0_n_n_0_3_18 x j (ix4 o s t h) : EReal)
      = x (ix2 ⟨min (j (rowIdx o s t)).toInt.toNat (32 - 1), by omega⟩ h) := by
  unfold Host.gather
  congr 1
  funext a
  refine Fin.ext ?_
  show gather_S32x8_S2x256x256x1_S2x256x256x8_3_0_n_n_0_3_18.start (ix4 o s t h) j a + gather_S32x8_S2x256x256x1_S2x256x256x8_3_0_n_n_0_3_18.batchCoord (ix4 o s t h) a
      + gather_S32x8_S2x256x256x1_S2x256x256x8_3_0_n_n_0_3_18.offCoord (ix4 o s t h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S2x256x256x1_S2x256x256x8_3_0_n_n_0_3_18.startIndexMap from List.mem_singleton.mpr rfl)]
    have hsi : gather_S32x8_S2x256x256x1_S2x256x256x8_3_0_n_n_0_3_18.siIdx (ix4 o s t h) ⟨List.idxOf (0 : Fin 2) gather_S32x8_S2x256x256x1_S2x256x256x8_3_0_n_n_0_3_18.startIndexMap,
        List.idxOf_lt_length_iff.2 (List.mem_singleton.mpr rfl)⟩ = rowIdx o s t := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    unfold GatherDims.start
    rw [dif_neg (by decide)]
    simp only [Nat.zero_add, Nat.add_zero]
    rfl

/-- The rows, the buckets known. -/
theorem Tk_at (o : Fin 2) (s t : Fin 256) (h : Fin 8) (n : ℕ) (hn : n < 32) (hb : b (ix3 o s t) = BitVec.ofNat 32 n) :
    (Tk x b (ix4 o s t h) : EReal) = at2 x n h.val := by
  unfold Tk
  refine (gather_at x _ o s t h).trans ?_
  have e : (broadcastInDim S2x256x256x1 ![0, 1, 2] bcast_S2x256x256_S2x256x256x1_0_1_2 b : S2x256x256x1.Idx → BitVec 32) (rowIdx o s t) = b (ix3 o s t) := by
    pointwise
  refine at2_ix x _ _ _ _ ?_ rfl
  show min (_ : BitVec 32).toInt.toNat (32 - 1) = n
  rw [e, hb, toInt_of n (by omega), Int.toNat_natCast]
  omega

/-- The farthest bucket's row. -/
theorem Fr_at (o : Fin 2) (s t : Fin 256) (h : Fin 8) : (Fr x (ix4 o s t h) : EReal) = at2 x 31 h.val := by
  pointwise [Fr]
  exact at2_ix x _ _ _ _ (by first | rfl | (dsimp only; omega) | omega | trace_state) (by first | rfl | (dsimp only; omega) | omega | trace_state)

/-- The result from the rows. -/
theorem Os_at (o : Fin 2) (s : Fin 256) (J : Fin 2048) : (Os y z (ix3 o s J) : EReal)
    = (y (ix4 o s ⟨J.val % 256, by omega⟩ ⟨J.val / 256, by omega⟩) - z (ix4 o s ⟨J.val % 256, by omega⟩ ⟨J.val / 256, by omega⟩)) * Ideal.ofBits .f32 0x3FB8AA3B#32 := by
  pointwise [Os]

/-- The reference's result, at an index. -/
theorem Rs_at (o : Fin 2) (s : Fin 256) (J : Fin 2048) : (Rs x (ix3 o s J) : EReal)
    = (at2 x (bkt (256 * o.val + J.val % 256 - s.val)) (J.val / 256) - at2 x 31 (J.val / 256)) * Ideal.ofBits .f32 0x3FB8AA3B#32 := by
  unfold Rs
  rw [Os_at, Fr_at]
  have hk : 256 * o.val + J.val % 256 - s.val < 512 := by omega
  have hd : Ds (ix3 o s (⟨J.val % 256, by omega⟩ : Fin 256)) = BitVec.ofNat 32 (256 * o.val + J.val % 256 - s.val) := Ds_at o s ⟨J.val % 256, by omega⟩
  have hb := Ns_at _ _ _ (lt_trans (bkt_lt _ hk) (by norm_num)) (Bs_at Ds _ _ hk hd)
  rw [Tk_at x _ o s ⟨J.val % 256, by omega⟩ ⟨J.val / 256, by omega⟩ _ (bkt_lt _ hk) hb]

end Cert.BiasReferenceIdeal.RefAt
-- ==== Proof.BiasAlg.lean ====
module

public import proofs.«01_k».proof.Defs
public import proofs.«01_k».proof.Proof.BiasHost
public import proofs.«01_k».proof.Proof.BiasRef
public import Idealize.ShloMosaic.Lib.Claim

/-! The kernel's result against its reference's. -/

@[expose] public section

set_option maxRecDepth 16384

noncomputable section

namespace Cert.Proof

open Idealize.ShloMosaic Idealize.ShloMosaic.TcCoe Idealize.ShloMosaic.Tactic

/-- At the extended reals the kernel leaves what its reference leaves. -/
theorem algebraic_Bias : Cert.algebraic_BiasIdeal_BiasReferenceIdeal (hBiasIdeal := Cert.BiasIdeal.Gen.facts)
    (hBiasReferenceIdeal := Cert.BiasReferenceIdeal.Gen.facts) := by
  intro m g m' g' _ hargs
  refine ⟨_, Cert.BiasIdeal.Value.run_blocks m g, ?_⟩
  refine (θ_run Cert.BiasReferenceIdeal.defs _ _).mono (fun r h c => ⟨(h c).1.trans ?_, (h c).2⟩) (Cert.BiasReferenceIdeal.Value.run m' g')
  have e0 := hargs c
  funext i
  obtain ⟨o, s, J, rfl⟩ : ∃ (o : Fin 2) (s : Fin 256) (J : Fin 2048), i = ix3 o s J := ⟨i 0, i 1, i 2, by funext a; match a with | ⟨0, _⟩ => rfl | ⟨1, _⟩ => rfl | ⟨2, _⟩ => rfl⟩
  refine (Cert.BiasReferenceIdeal.RefAt.Rs_at (m' ((c.tc : Thread Cert.BiasReferenceIdeal.nD Cert.BiasReferenceIdeal.τ).loc Cert.BiasReferenceIdeal.main_arg0)) o s J).trans ?_
  rw [e0]
  exact (Cert.BiasIdeal.HostIn.arr_at m c o s J).symm

/-- The reference runs, leaves its arguments as they were, and has no semaphore whose counter could be off zero. -/
theorem frame_Bias : Cert.quiescent_BiasReferenceIdeal (hBiasReferenceIdeal := Cert.BiasReferenceIdeal.Gen.facts) := fun m ρ _ =>
  (θ_run Cert.BiasReferenceIdeal.defs _ _).mono (fun r h => ⟨fun c => (h c).2, sem_eq_zero_of_no_sems (by decide) r.2⟩)
    (Cert.BiasReferenceIdeal.Value.run m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.LoopRun
public import proofs.«01_k».proof.Proof.Fold
public import proofs.«01_k».proof.Proof.RefIdeal
public import proofs.«01_k».proof.Proof.MergeAlg
public import proofs.«01_k».proof.Proof.ProjAAlg
public import proofs.«01_k».proof.Proof.ProjBAlg
public import proofs.«01_k».proof.Proof.MemAlg
public import proofs.«01_k».proof.Proof.CrossAlg
public import proofs.«01_k».proof.Proof.BiasAlg
public import proofs.«01_k».proof.Proof.Gen.ReferenceIdeal.Step
public import proofs.«01_k».proof.Proof.Gen.ReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjAIdeal.Value
public import proofs.«01_k».proof.Proof.Gen.ProjAReferenceIdeal
public import proofs.«01_k».proof.Proof.Gen.ProjAReferenceIdeal.Run
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBReferenceIdeal
public import proofs.«01_k».proof.Proof.Gen.ProjBReferenceIdeal.Run
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemIdeal.Value
public import proofs.«01_k».proof.Proof.Gen.MemReferenceIdeal
public import proofs.«01_k».proof.Proof.Gen.MemReferenceIdeal.Run
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossIdeal.Value
public import proofs.«01_k».proof.Proof.Gen.CrossReferenceIdeal
public import proofs.«01_k».proof.Proof.Gen.CrossReferenceIdeal.Run
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasReferenceIdeal
public import proofs.«01_k».proof.Proof.Gen.BiasReferenceIdeal.Run
public import proofs.«01_k».proof.Proof.Gen.Pre_finite_logits
public import Idealize.ShloMosaic.Adequacy
public import Idealize.ShloMosaic.Init

@[expose] public section

noncomputable section

namespace Cert.Proof

open Idealize.ShloMosaic Idealize.SL.Sem Cert.Kernel

/-- The reference's iterations on a device: the state after `n` steps of its loop, from the launch's arrays. -/
def refIter (m : (ℓ : Loc Cert.ReferenceIdeal.nD Cert.ReferenceIdeal.τ Cert.ReferenceIdeal.sig) → Buf (Elt Ideal) ℓ)
    (c : Dev Cert.ReferenceIdeal.nD) (n : ℕ) : Cert.ReferenceIdeal.Step.State Ideal :=
  Nat.rec (Cert.ReferenceIdeal.StepRun.initState m c) (fun n s => Cert.ReferenceIdeal.Step.step n s) n

/-- At the ideal instance the kernel's result array and the reference's are equal: both are the chunked recurrence's
outputs, read at a row and a column. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G8 m c, Cert.KernelIdeal.Value.run m g, ?_⟩
  refine (θ_run Cert.ReferenceIdeal.defs _ _).mono (fun r h c => ⟨(h c).1.trans ?_, (h c).2⟩)
    (Cert.ReferenceIdeal.StepRun.run_iter m' g' (refIter m') (fun _ => rfl) (fun _ _ => rfl))
  obtain ⟨e0, e1, e2, e3⟩ := hargs c
  rw [e0, e3]
  funext i
  refine (Cert.ReferenceIdeal.RefIdeal.result_at _ (Cert.KernelIdeal.HostIn.WA m c) (Cert.KernelIdeal.HostIn.BA m c) _ (refIter m' c) ?_ (fun _ => rfl) i).trans
    (Cert.KernelIdeal.Fold.result_at m c i).symm
  show Cert.ReferenceIdeal.StepRun.initState m' c = _
  unfold Cert.ReferenceIdeal.StepRun.initState
  rw [e0, e1, e2]

/-- The reference runs, leaves its arguments as they were, and has no semaphore whose counter could be off zero. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.StepRun.run_iter m ρ (refIter m) (fun _ => rfl) (fun _ _ => rfl))

/-- Every claim of the certificate. -/
theorem claim : Cert.Claim := ⟨
  Cert.Kernel.Gen.facts, Cert.KernelIdeal.Gen.facts, Cert.ReferenceIdeal.Gen.facts,
  Cert.Merge.Gen.facts, Cert.MergeIdeal.Gen.facts, Cert.MergeReferenceIdeal.Gen.facts,
  Cert.ProjA.Gen.facts, Cert.ProjAIdeal.Gen.facts, Cert.ProjAReferenceIdeal.Gen.facts,
  Cert.ProjB.Gen.facts, Cert.ProjBIdeal.Gen.facts, Cert.ProjBReferenceIdeal.Gen.facts,
  Cert.Mem.Gen.facts, Cert.MemIdeal.Gen.facts, Cert.MemReferenceIdeal.Gen.facts,
  Cert.Cross.Gen.facts, Cert.CrossIdeal.Gen.facts, Cert.CrossReferenceIdeal.Gen.facts,
  Cert.Bias.Gen.facts, Cert.BiasIdeal.Gen.facts, Cert.BiasReferenceIdeal.Gen.facts, Cert.Pre_finite_logits.Gen.facts,
  fun m ρ _ => Cert.Kernel.Gen.frame m ρ, fun m ρ _ => Cert.KernelIdeal.Gen.frame m ρ, frame_ref,
  fun m ρ _ => Cert.Merge.Gen.frame m ρ, fun m ρ _ => Cert.MergeIdeal.Gen.frame m ρ, frame_Merge,
  fun m ρ _ => Cert.ProjA.Gen.frame m ρ, fun m ρ _ => Cert.ProjAIdeal.Gen.frame m ρ, frame_ProjA,
  fun m ρ _ => Cert.ProjB.Gen.frame m ρ, fun m ρ _ => Cert.ProjBIdeal.Gen.frame m ρ, frame_ProjB,
  fun m ρ _ => Cert.Mem.Gen.frame m ρ, fun m ρ _ => Cert.MemIdeal.Gen.frame m ρ, frame_Mem,
  fun m ρ _ => Cert.Cross.Gen.frame m ρ, fun m ρ _ => Cert.CrossIdeal.Gen.frame m ρ, fun m ρ _ => Cert.CrossIdeal.Gen.frame m ρ,
  frame_Cross, frame_Cross_pre,
  fun m ρ _ => Cert.Bias.Gen.frame m ρ, fun m ρ _ => Cert.BiasIdeal.Gen.frame m ρ, frame_Bias,
  trivial, algebraic,
  trivial, algebraic_Merge,
  trivial, algebraic_ProjA,
  trivial, algebraic_ProjB,
  trivial, algebraic_Mem,
  trivial, algebraic_Cross,
  trivial, algebraic_Bias⟩

end Cert.Proof

end
